-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S100000x32 : Shape := ⟨2, ![100000, 32]⟩
abbrev S1000000x32 : Shape := ⟨2, ![1000000, 32]⟩
abbrev S1000x32 : Shape := ⟨2, ![1000, 32]⟩
abbrev S292x512 : Shape := ⟨2, ![292, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn_part3 {F : FTy → Type} [FloatOps F] (main_arg7 : IVec S16384 32) (main_arg8 : IVec S16384 32) (main_v47 : IVec S_ 1) (main_v49 : IVec S16384 1) : IVec S_ 1 :=
  let main_c_21 : IVec S_ 32 := constantI S_ 32 1000#32
  let main_v50 : IVec S16384 32 := broadcastInDim S16384 ![] bcast_S_S16384 main_c_21
  let main_v51 : IVec S16384 1 := cmpi .slt main_arg7 main_v50
  let main_v52 : IVec S16384 1 := andi main_v49 main_v51
  let main_c_22 : IVec S_ 1 := constantI S_ 1 1#1
  let main_v53 : IVec S_ 1 := (fun x v => Host.reduce IntOp.andi x v reducesTo_S16384_S_d0 h_S_) main_v52 main_c_22
  let main_v54 : IVec S_ 1 := andi main_v47 main_v53
  let main_c_23 : IVec S_ 32 := constantI S_ 32 0#32
  let main_v55 : IVec S16384 32 := broadcastInDim S16384 ![] bcast_S_S16384 main_c_23
  let main_v56 : IVec S16384 1 := cmpi .sge main_arg8 main_v55
  let main_c_24 : IVec S_ 32 := constantI S_ 32 1000#32
  let main_v57 : IVec S16384 32 := broadcastInDim S16384 ![] bcast_S_S16384 main_c_24
  let main_v58 : IVec S16384 1 := cmpi .slt main_arg8 main_v57
  let main_v59 : IVec S16384 1 := andi main_v56 main_v58
  let main_c_25 : IVec S_ 1 := constantI S_ 1 1#1
  let main_v60 : IVec S_ 1 := (fun x v => Host.reduce IntOp.andi x v reducesTo_S16384_S_d0 h_S_) main_v59 main_c_25
  let main_v61 : IVec S_ 1 := andi main_v54 main_v60
  main_v61

def fn_part2 {F : FTy → Type} [FloatOps F] (main_arg2 : IVec S16384 32) (main_arg6 : IVec S16384 32) (main_arg7 : IVec S16384 32) (main_arg8 : IVec S16384 32) (main_v26 : IVec S_ 1) (main_v32 : IVec S_ 1) : IVec S_ 1 :=
  let main_v33 : IVec S_ 1 := andi main_v26 main_v32
  let main_c_14 : IVec S_ 32 := constantI S_ 32 0#32
  let main_v34 : IVec S16384 32 := broadcastInDim S16384 ![] bcast_S_S16384 main_c_14
  let main_v35 : IVec S16384 1 := cmpi .sge main_arg2 main_v34
  let main_c_15 : IVec S_ 32 := constantI S_ 32 1000#32
  let main_v36 : IVec S16384 32 := broadcastInDim S16384 ![] bcast_S_S16384 main_c_15
  let main_v37 : IVec S16384 1 := cmpi .slt main_arg2 main_v36
  let main_v38 : IVec S16384 1 := andi main_v35 main_v37
  let main_c_16 : IVec S_ 1 := constantI S_ 1 1#1
  let main_v39 : IVec S_ 1 := (fun x v => Host.reduce IntOp.andi x v reducesTo_S16384_S_d0 h_S_) main_v38 main_c_16
  let main_v40 : IVec S_ 1 := andi main_v33 main_v39
  let main_c_17 : IVec S_ 32 := constantI S_ 32 0#32
  let main_v41 : IVec S16384 32 := broadcastInDim S16384 ![] bcast_S_S16384 main_c_17
  let main_v42 : IVec S16384 1 := cmpi .sge main_arg6 main_v41
  let main_c_18 : IVec S_ 32 := constantI S_ 32 1000#32
  let main_v43 : IVec S16384 32 := broadcastInDim S16384 ![] bcast_S_S16384 main_c_18
  let main_v44 : IVec S16384 1 := cmpi .slt main_arg6 main_v43
  let main_v45 : IVec S16384 1 := andi main_v42 main_v44
  let main_c_19 : IVec S_ 1 := constantI S_ 1 1#1
  let main_v46 : IVec S_ 1 := (fun x v => Host.reduce IntOp.andi x v reducesTo_S16384_S_d0 h_S_) main_v45 main_c_19
  let main_v47 : IVec S_ 1 := andi main_v40 main_v46
  let main_c_20 : IVec S_ 32 := constantI S_ 32 0#32
  let main_v48 : IVec S16384 32 := broadcastInDim S16384 ![] bcast_S_S16384 main_c_20
  let main_v49 : IVec S16384 1 := cmpi .sge main_arg7 main_v48
  fn_part3 (F := F) main_arg7 main_arg8 main_v47 main_v49

def fn_part1 {F : FTy → Type} [FloatOps F] (main_arg2 : IVec S16384 32) (main_arg3 : IVec S16384 32) (main_arg4 : IVec S16384 32) (main_arg5 : IVec S16384 32) (main_arg6 : IVec S16384 32) (main_arg7 : IVec S16384 32) (main_arg8 : IVec S16384 32) (main_v12 : IVec S_ 1) (main_v14 : IVec S16384 1) (main_v15 : IVec S16384 32) : IVec S_ 1 :=
  let main_v16 : IVec S16384 1 := cmpi .slt main_arg3 main_v15
  let main_v17 : IVec S16384 1 := andi main_v14 main_v16
  let main_c_7 : IVec S_ 1 := constantI S_ 1 1#1
  let main_v18 : IVec S_ 1 := (fun x v => Host.reduce IntOp.andi x v reducesTo_S16384_S_d0 h_S_) main_v17 main_c_7
  let main_v19 : IVec S_ 1 := andi main_v12 main_v18
  let main_c_8 : IVec S_ 32 := constantI S_ 32 0#32
  let main_v20 : IVec S16384 32 := broadcastInDim S16384 ![] bcast_S_S16384 main_c_8
  let main_v21 : IVec S16384 1 := cmpi .sge main_arg4 main_v20
  let main_c_9 : IVec S_ 32 := constantI S_ 32 1000000#32
  let main_v22 : IVec S16384 32 := broadcastInDim S16384 ![] bcast_S_S16384 main_c_9
  let main_v23 : IVec S16384 1 := cmpi .slt main_arg4 main_v22
  let main_v24 : IVec S16384 1 := andi main_v21 main_v23
  let main_c_10 : IVec S_ 1 := constantI S_ 1 1#1
  let main_v25 : IVec S_ 1 := (fun x v => Host.reduce IntOp.andi x v reducesTo_S16384_S_d0 h_S_) main_v24 main_c_10
  let main_v26 : IVec S_ 1 := andi main_v19 main_v25
  let main_c_11 : IVec S_ 32 := constantI S_ 32 0#32
  let main_v27 : IVec S16384 32 := broadcastInDim S16384 ![] bcast_S_S16384 main_c_11
  let main_v28 : IVec S16384 1 := cmpi .sge main_arg5 main_v27
  let main_c_12 : IVec S_ 32 := constantI S_ 32 1000000#32
  let main_v29 : IVec S16384 32 := broadcastInDim S16384 ![] bcast_S_S16384 main_c_12
  let main_v30 : IVec S16384 1 := cmpi .slt main_arg5 main_v29
  let main_v31 : IVec S16384 1 := andi main_v28 main_v30
  let main_c_13 : IVec S_ 1 := constantI S_ 1 1#1
  let main_v32 : IVec S_ 1 := (fun x v => Host.reduce IntOp.andi x v reducesTo_S16384_S_d0 h_S_) main_v31 main_c_13
  fn_part2 (F := F) main_arg2 main_arg6 main_arg7 main_arg8 main_v26 main_v32

def fn {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg9 : FVec F S16384 .f32) (main_arg10 : FVec F S16384 .f32) (main_arg11 : FVec F S16384 .f32) (main_arg12 : FVec F S16384 .f32) (main_arg13 : FVec F S100000x32 .f32) (main_arg14 : FVec F S1000000x32 .f32) (main_arg15 : FVec F S1000x32 .f32) (main_arg16 : FVec F S1000000x32 .f32) (main_arg17 : FVec F S292x512 .f32) (main_arg18 : FVec F S512 .f32) (main_arg19 : FVec F S512x256 .f32) (main_arg20 : FVec F S256 .f32) (main_arg21 : FVec F S256x128 .f32) (main_arg22 : FVec F S128 .f32) (main_arg23 : FVec F S128x1 .f32) (main_arg24 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 1000000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_c_5 : IVec S_ 32 := constantI S_ 32 0#32
  let main_v13 : IVec S16384 32 := broadcastInDim S16384 ![] bcast_S_S16384 main_c_5
  let main_v14 : IVec S16384 1 := cmpi .sge main_arg3 main_v13
  let main_c_6 : IVec S_ 32 := constantI S_ 32 1000000#32
  let main_v15 : IVec S16384 32 := broadcastInDim S16384 ![] bcast_S_S16384 main_c_6
  fn_part1 (F := F) main_arg2 main_arg3 main_arg4 main_arg5 main_arg6 main_arg7 main_arg8 main_v12 main_v14 main_v15
-- ==== Kernel.lean ====
abbrev S16384 : Shape := ⟨1, ![16384]⟩
abbrev S100000x32 : Shape := ⟨2, ![100000, 32]⟩
abbrev S1000000x32 : Shape := ⟨2, ![1000000, 32]⟩
abbrev S1000x32 : Shape := ⟨2, ![1000, 32]⟩
abbrev S292x512 : Shape := ⟨2, ![292, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x16384 : Shape := ⟨2, ![1, 16384]⟩
abbrev S9x16384 : Shape := ⟨2, ![9, 16384]⟩
abbrev S288x4x128 : Shape := ⟨3, ![288, 4, 128]⟩
abbrev S12500x8x32 : Shape := ⟨3, ![12500, 8, 32]⟩
abbrev S125000x8x32 : Shape := ⟨3, ![125000, 8, 32]⟩
abbrev S125x8x32 : Shape := ⟨3, ![125, 8, 32]⟩
abbrev S9x16384x32 : Shape := ⟨3, ![9, 16384, 32]⟩
abbrev S4x128 : Shape := ⟨2, ![4, 128]⟩
abbrev S16x8x32 : Shape := ⟨3, ![16, 8, 32]⟩
abbrev S128x32 : Shape := ⟨2, ![128, 32]⟩
abbrev S_ : Shape := ⟨0, ![]⟩
abbrev S1x4x128 : Shape := ⟨3, ![1, 4, 128]⟩
abbrev S16 : Shape := ⟨1, ![16]⟩
abbrev S1x16 : Shape := ⟨2, ![1, 16]⟩
abbrev S1x8x32 : Shape := ⟨3, ![1, 8, 32]⟩
abbrev S8x32 : Shape := ⟨2, ![8, 32]⟩
abbrev S1x1x16 : Shape := ⟨3, ![1, 1, 16]⟩
abbrev S1x128x32 : Shape := ⟨3, ![1, 128, 32]⟩
abbrev S16384x1 : Shape := ⟨2, ![16384, 1]⟩
abbrev S16384x4 : Shape := ⟨2, ![16384, 4]⟩
abbrev S1x512 : Shape := ⟨2, ![1, 512]⟩
abbrev S1x256 : Shape := ⟨2, ![1, 256]⟩
abbrev S1x128 : Shape := ⟨2, ![1, 128]⟩
abbrev S1x1 : Shape := ⟨2, ![1, 1]⟩
abbrev S9x1024x32 : Shape := ⟨3, ![9, 1024, 32]⟩
abbrev S1024x4 : Shape := ⟨2, ![1024, 4]⟩
abbrev S1024x1 : Shape := ⟨2, ![1024, 1]⟩
abbrev S1x1024x32 : Shape := ⟨3, ![1, 1024, 32]⟩
abbrev S1024x32 : Shape := ⟨2, ![1024, 32]⟩
abbrev S1024x292 : Shape := ⟨2, ![1024, 292]⟩
abbrev S1024x512 : Shape := ⟨2, ![1024, 512]⟩
abbrev S1024x256 : Shape := ⟨2, ![1024, 256]⟩
abbrev S1024x128 : Shape := ⟨2, ![1024, 128]⟩

abbrev nBuf : Table → Nat
  | .hbm => 52
  | .local .tc .vmem => 14
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S16384, .f32⟩
  | .hbm, ⟨13, _⟩ => ⟨S100000x32, .f32⟩
  | .hbm, ⟨14, _⟩ => ⟨S1000000x32, .f32⟩
  | .hbm, ⟨15, _⟩ => ⟨S1000x32, .f32⟩
  | .hbm, ⟨16, _⟩ => ⟨S1000000x32, .f32⟩
  | .hbm, ⟨17, _⟩ => ⟨S292x512, .f32⟩
  | .hbm, ⟨18, _⟩ => ⟨S512, .f32⟩
  | .hbm, ⟨19, _⟩ => ⟨S512x256, .f32⟩
  | .hbm, ⟨20, _⟩ => ⟨S256, .f32⟩
  | .hbm, ⟨21, _⟩ => ⟨S256x128, .f32⟩
  | .hbm, ⟨22, _⟩ => ⟨S128, .f32⟩
  | .hbm, ⟨23, _⟩ => ⟨S128x1, .f32⟩
  | .hbm, ⟨24, _⟩ => ⟨S1, .f32⟩
  | .hbm, ⟨25, _⟩ => ⟨S1x16384, .i32⟩
  | .hbm, ⟨26, _⟩ => ⟨S1x16384, .i32⟩
  | .hbm, ⟨27, _⟩ => ⟨S1x16384, .i32⟩
  | .hbm, ⟨28, _⟩ => ⟨S1x16384, .i32⟩
  | .hbm, ⟨29, _⟩ => ⟨S1x16384, .i32⟩
  | .hbm, ⟨30, _⟩ => ⟨S1x16384, .i32⟩
  | .hbm, ⟨31, _⟩ => ⟨S1x16384, .i32⟩
  | .hbm, ⟨32, _⟩ => ⟨S1x16384, .i32⟩
  | .hbm, ⟨33, _⟩ => ⟨S1x16384, .i32⟩
  | .hbm, ⟨34, _⟩ => ⟨S9x16384, .i32⟩
  | .hbm, ⟨35, _⟩ => ⟨S288x4x128, .i32⟩
  | .hbm, ⟨36, _⟩ => ⟨S12500x8x32, .f32⟩
  | .hbm, ⟨37, _⟩ => ⟨S125000x8x32, .f32⟩
  | .hbm, ⟨38, _⟩ => ⟨S125x8x32, .f32⟩
  | .hbm, ⟨39, _⟩ => ⟨S125000x8x32, .f32⟩
  | .hbm, ⟨40, _⟩ => ⟨S9x16384x32, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x4, .f32⟩
  | .hbm, ⟨46, _⟩ => ⟨S1x512, .f32⟩
  | .hbm, ⟨47, _⟩ => ⟨S1x256, .f32⟩
  | .hbm, ⟨48, _⟩ => ⟨S1x128, .f32⟩
  | .hbm, ⟨49, _⟩ => ⟨S1x1, .f32⟩
  | .hbm, ⟨50, _⟩ => ⟨S16384x1, .f32⟩
  | .hbm, ⟨51, _⟩ => ⟨S16384, .f32⟩
  | .local .tc .vmem, ⟨0, _⟩ => ⟨S9x1024x32, .f32⟩
  | .local .tc .vmem, ⟨1, _⟩ => ⟨S9x1024x32, .f32⟩
  | .local .tc .vmem, ⟨2, _⟩ => ⟨S1024x4, .f32⟩
  | .local .tc .vmem, ⟨3, _⟩ => ⟨S1024x4, .f32⟩
  | .local .tc .vmem, ⟨4, _⟩ => ⟨S292x512, .f32⟩
  | .local .tc .vmem, ⟨5, _⟩ => ⟨S1x512, .f32⟩
  | .local .tc .vmem, ⟨6, _⟩ => ⟨S512x256, .f32⟩
  | .local .tc .vmem, ⟨7, _⟩ => ⟨S1x256, .f32⟩
  | .local .tc .vmem, ⟨8, _⟩ => ⟨S256x128, .f32⟩
  | .local .tc .vmem, ⟨9, _⟩ => ⟨S1x128, .f32⟩
  | .local .tc .vmem, ⟨10, _⟩ => ⟨S128x1, .f32⟩
  | .local .tc .vmem, ⟨11, _⟩ => ⟨S1x1, .f32⟩
  | .local .tc .vmem, ⟨12, _⟩ => ⟨S1024x1, .f32⟩
  | .local .tc .vmem, ⟨13, _⟩ => ⟨S1024x1, .f32⟩
  | .local .scVector .vmem, ⟨0, _⟩ => ⟨S4x128, .i32⟩
  | .local .scVector .vmem, ⟨1, _⟩ => ⟨S16x8x32, .f32⟩
  | .local .scVector .vmem, ⟨2, _⟩ => ⟨S128x32, .f32⟩
  | .local .scVector .vmem, ⟨3, _⟩ => ⟨S4x128, .i32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v11_scv : Ref sig .scVector := ⟨.hbm, 36, rfl⟩
abbrev main_v12_scv : Ref sig .scVector := ⟨.hbm, 37, rfl⟩
abbrev main_v13_scv : Ref sig .scVector := ⟨.hbm, 38, rfl⟩
abbrev main_v14_scv : Ref sig .scVector := ⟨.hbm, 39, rfl⟩
abbrev main_v10_scv : Ref sig .scVector := ⟨.hbm, 35, rfl⟩
abbrev main_v15_scv : Ref sig .scVector := ⟨.hbm, 40, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg10_1 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem10_1 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.addi c0_i32 v1
  let c0_i32_43_r0 : BitVec 32 := 0#32
  let c0_i32_44_r0 : BitVec 32 := 0#32
  ![v3.toNat, 0, 0]
@[reducible] def k0_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
@[reducible] def k0_t2_loop : Scf.Loop 32 :=
  let c0_i32_44 : BitVec 32 := 0#32
  let c8_i32 : BitVec 32 := 8#32
  let v30 : BitVec 32 := Scalar.addi c0_i32_44 c8_i32
  let c1_i32_45 : BitVec 32 := 1#32
  ⟨c0_i32_44, v30, c1_i32_45⟩
def k0_off2 (k0_t1 : Fin k0_t1_loop.trips) (k0_t2 : Fin k0_t2_loop.trips) : Fin 2 → Nat :=
  let c0_i32_1 : BitVec 32 := 0#32
  let c1_i32 : BitVec 32 := 1#32
  let arg13 : BitVec 32 := Scf.iv c0_i32_1 c1_i32 k0_t1
  let v35 : Index := Scalar.indexCast arg13
  let c0_i32_44 : BitVec 32 := 0#32
  let c1_i32_45 : BitVec 32 := 1#32
  let arg15 : BitVec 32 := Scf.iv c0_i32_44 c1_i32_45 k0_t2
  let c16_i32 : BitVec 32 := 16#32
  let v34 : BitVec 32 := Scalar.muli arg15 c16_i32
  let v36 : Index := Scalar.indexCast v34
  ![v35.toNat, v36.toNat]
def k0_off3 (v43 : BitVec 32) : Fin 3 → Nat :=
  let c0_i32_53 : BitVec 32 := 0#32
  let c0_i32_54 : BitVec 32 := 0#32
  ![v43.toNat, 0, 0]

def k0_chk1 (v43 : BitVec 32) : Prop :=
  (∀ a, (k0_off3 v43) a + S1x8x32.size a ≤ S12500x8x32.size a)
theorem k0_off3_inb : ∀ (v43 : BitVec 32) (k0_hw1 : k0_chk1 v43), ∀ a, (k0_off3 v43) a + S1x8x32.size a ≤ S12500x8x32.size a := fun v43 k0_hw1 => k0_hw1

def k0_off4 (v53 : BitVec 32) : Fin 3 → Nat :=
  let c0_i32_62 : BitVec 32 := 0#32
  let c0_i32_63 : BitVec 32 := 0#32
  ![v53.toNat, 0, 0]

def k0_chk2 (v53 : BitVec 32) : Prop :=
  (∀ a, (k0_off4 v53) a + S1x8x32.size a ≤ S12500x8x32.size a)
theorem k0_off4_inb : ∀ (v53 : BitVec 32) (k0_hw2 : k0_chk2 v53), ∀ a, (k0_off4 v53) a + S1x8x32.size a ≤ S12500x8x32.size a := fun v53 k0_hw2 => k0_hw2

def k0_off5 (v63 : BitVec 32) : Fin 3 → Nat :=
  let c0_i32_71 : BitVec 32 := 0#32
  let c0_i32_72 : BitVec 32 := 0#32
  ![v63.toNat, 0, 0]

def k0_chk3 (v63 : BitVec 32) : Prop :=
  (∀ a, (k0_off5 v63) a + S1x8x32.size a ≤ S12500x8x32.size a)
theorem k0_off5_inb : ∀ (v63 : BitVec 32) (k0_hw3 : k0_chk3 v63), ∀ a, (k0_off5 v63) a + S1x8x32.size a ≤ S12500x8x32.size a := fun v63 k0_hw3 => k0_hw3

def k0_off6 (v73 : BitVec 32) : Fin 3 → Nat :=
  let c0_i32_80 : BitVec 32 := 0#32
  let c0_i32_81 : BitVec 32 := 0#32
  ![v73.toNat, 0, 0]

def k0_chk4 (v73 : BitVec 32) : Prop :=
  (∀ a, (k0_off6 v73) a + S1x8x32.size a ≤ S12500x8x32.size a)
theorem k0_off6_inb : ∀ (v73 : BitVec 32) (k0_hw4 : k0_chk4 v73), ∀ a, (k0_off6 v73) a + S1x8x32.size a ≤ S12500x8x32.size a := fun v73 k0_hw4 => k0_hw4

def k0_off7 (v83 : BitVec 32) : Fin 3 → Nat :=
  let c0_i32_89 : BitVec 32 := 0#32
  let c0_i32_90 : BitVec 32 := 0#32
  ![v83.toNat, 0, 0]

def k0_chk5 (v83 : BitVec 32) : Prop :=
  (∀ a, (k0_off7 v83) a + S1x8x32.size a ≤ S12500x8x32.size a)
theorem k0_off7_inb : ∀ (v83 : BitVec 32) (k0_hw5 : k0_chk5 v83), ∀ a, (k0_off7 v83) a + S1x8x32.size a ≤ S12500x8x32.size a := fun v83 k0_hw5 => k0_hw5

def k0_off8 (v93 : BitVec 32) : Fin 3 → Nat :=
  let c0_i32_97 : BitVec 32 := 0#32
  let c0_i32_98 : BitVec 32 := 0#32
  ![v93.toNat, 0, 0]

def k0_chk6 (v93 : BitVec 32) : Prop :=
  (∀ a, (k0_off8 v93) a + S1x8x32.size a ≤ S12500x8x32.size a)
theorem k0_off8_inb : ∀ (v93 : BitVec 32) (k0_hw6 : k0_chk6 v93), ∀ a, (k0_off8 v93) a + S1x8x32.size a ≤ S12500x8x32.size a := fun v93 k0_hw6 => k0_hw6

def k0_off9 (v103 : BitVec 32) : Fin 3 → Nat :=
  let c0_i32_105 : BitVec 32 := 0#32
  let c0_i32_106 : BitVec 32 := 0#32
  ![v103.toNat, 0, 0]

def k0_chk7 (v103 : BitVec 32) : Prop :=
  (∀ a, (k0_off9 v103) a + S1x8x32.size a ≤ S12500x8x32.size a)
theorem k0_off9_inb : ∀ (v103 : BitVec 32) (k0_hw7 : k0_chk7 v103), ∀ a, (k0_off9 v103) a + S1x8x32.size a ≤ S12500x8x32.size a := fun v103 k0_hw7 => k0_hw7

def k0_off10 (v113 : BitVec 32) : Fin 3 → Nat :=
  let c0_i32_114 : BitVec 32 := 0#32
  let c0_i32_115 : BitVec 32 := 0#32
  ![v113.toNat, 0, 0]

def k0_chk8 (v113 : BitVec 32) : Prop :=
  (∀ a, (k0_off10 v113) a + S1x8x32.size a ≤ S12500x8x32.size a)
theorem k0_off10_inb : ∀ (v113 : BitVec 32) (k0_hw8 : k0_chk8 v113), ∀ a, (k0_off10 v113) a + S1x8x32.size a ≤ S12500x8x32.size a := fun v113 k0_hw8 => k0_hw8

def k0_off11 (v123 : BitVec 32) : Fin 3 → Nat :=
  let c0_i32_123 : BitVec 32 := 0#32
  let c0_i32_124 : BitVec 32 := 0#32
  ![v123.toNat, 0, 0]

def k0_chk9 (v123 : BitVec 32) : Prop :=
  (∀ a, (k0_off11 v123) a + S1x8x32.size a ≤ S12500x8x32.size a)
theorem k0_off11_inb : ∀ (v123 : BitVec 32) (k0_hw9 : k0_chk9 v123), ∀ a, (k0_off11 v123) a + S1x8x32.size a ≤ S12500x8x32.size a := fun v123 k0_hw9 => k0_hw9

def k0_off12 (v133 : BitVec 32) : Fin 3 → Nat :=
  let c0_i32_131 : BitVec 32 := 0#32
  let c0_i32_132 : BitVec 32 := 0#32
  ![v133.toNat, 0, 0]

def k0_chk10 (v133 : BitVec 32) : Prop :=
  (∀ a, (k0_off12 v133) a + S1x8x32.size a ≤ S12500x8x32.size a)
theorem k0_off12_inb : ∀ (v133 : BitVec 32) (k0_hw10 : k0_chk10 v133), ∀ a, (k0_off12 v133) a + S1x8x32.size a ≤ S12500x8x32.size a := fun v133 k0_hw10 => k0_hw10

def k0_off13 (v143 : BitVec 32) : Fin 3 → Nat :=
  let c0_i32_139 : BitVec 32 := 0#32
  let c0_i32_140 : BitVec 32 := 0#32
  ![v143.toNat, 0, 0]

def k0_chk11 (v143 : BitVec 32) : Prop :=
  (∀ a, (k0_off13 v143) a + S1x8x32.size a ≤ S12500x8x32.size a)
theorem k0_off13_inb : ∀ (v143 : BitVec 32) (k0_hw11 : k0_chk11 v143), ∀ a, (k0_off13 v143) a + S1x8x32.size a ≤ S12500x8x32.size a := fun v143 k0_hw11 => k0_hw11

def k0_off14 (v153 : BitVec 32) : Fin 3 → Nat :=
  let c0_i32_147 : BitVec 32 := 0#32
  let c0_i32_148 : BitVec 32 := 0#32
  ![v153.toNat, 0, 0]

def k0_chk12 (v153 : BitVec 32) : Prop :=
  (∀ a, (k0_off14 v153) a + S1x8x32.size a ≤ S12500x8x32.size a)
theorem k0_off14_inb : ∀ (v153 : BitVec 32) (k0_hw12 : k0_chk12 v153), ∀ a, (k0_off14 v153) a + S1x8x32.size a ≤ S12500x8x32.size a := fun v153 k0_hw12 => k0_hw12

def k0_off15 (v163 : BitVec 32) : Fin 3 → Nat :=
  let c0_i32_155 : BitVec 32 := 0#32
  let c0_i32_156 : BitVec 32 := 0#32
  ![v163.toNat, 0, 0]

def k0_chk13 (v163 : BitVec 32) : Prop :=
  (∀ a, (k0_off15 v163) a + S1x8x32.size a ≤ S12500x8x32.size a)
theorem k0_off15_inb : ∀ (v163 : BitVec 32) (k0_hw13 : k0_chk13 v163), ∀ a, (k0_off15 v163) a + S1x8x32.size a ≤ S12500x8x32.size a := fun v163 k0_hw13 => k0_hw13

def k0_off16 (v173 : BitVec 32) : Fin 3 → Nat :=
  let c0_i32_163 : BitVec 32 := 0#32
  let c0_i32_164 : BitVec 32 := 0#32
  ![v173.toNat, 0, 0]

def k0_chk14 (v173 : BitVec 32) : Prop :=
  (∀ a, (k0_off16 v173) a + S1x8x32.size a ≤ S12500x8x32.size a)
theorem k0_off16_inb : ∀ (v173 : BitVec 32) (k0_hw14 : k0_chk14 v173), ∀ a, (k0_off16 v173) a + S1x8x32.size a ≤ S12500x8x32.size a := fun v173 k0_hw14 => k0_hw14

def k0_off17 (v183 : BitVec 32) : Fin 3 → Nat :=
  let c0_i32_171 : BitVec 32 := 0#32
  let c0_i32_172 : BitVec 32 := 0#32
  ![v183.toNat, 0, 0]

def k0_chk15 (v183 : BitVec 32) : Prop :=
  (∀ a, (k0_off17 v183) a + S1x8x32.size a ≤ S12500x8x32.size a)
theorem k0_off17_inb : ∀ (v183 : BitVec 32) (k0_hw15 : k0_chk15 v183), ∀ a, (k0_off17 v183) a + S1x8x32.size a ≤ S12500x8x32.size a := fun v183 k0_hw15 => k0_hw15

def k0_off18 (v193 : BitVec 32) : Fin 3 → Nat :=
  let c0_i32_179 : BitVec 32 := 0#32
  let c0_i32_180 : BitVec 32 := 0#32
  ![v193.toNat, 0, 0]

def k0_chk16 (v193 : BitVec 32) : Prop :=
  (∀ a, (k0_off18 v193) a + S1x8x32.size a ≤ S12500x8x32.size a)
theorem k0_off18_inb : ∀ (v193 : BitVec 32) (k0_hw16 : k0_chk16 v193), ∀ a, (k0_off18 v193) a + S1x8x32.size a ≤ S12500x8x32.size a := fun v193 k0_hw16 => k0_hw16

def k0_off19 (v331 : BitVec 32) : Fin 3 → Nat :=
  let c0_i32_347 : BitVec 32 := 0#32
  let v334 : Index := Scalar.indexCast c0_i32_347
  let v335 : Index := Scalar.indexCast v331
  let c0 : Index := 0#32
  ![0, v335.toNat, 0]

def k0_off20 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_345 : BitVec 32 := 16#32
  let v332 : BitVec 32 := Scalar.muli arg15 c16_i32_345
  let c0_i32_346 : BitVec 32 := 0#32
  let v333 : BitVec 32 := Scalar.addi v332 c0_i32_346
  let v337 : Index := Scalar.indexCast v333
  let c0_348 : Index := 0#32
  ![v337.toNat, 0]
def k0_off21 (v331 : BitVec 32) : Fin 3 → Nat :=
  let c0_i32_349 : BitVec 32 := 0#32
  let v339 : Index := Scalar.indexCast c0_i32_349
  let v340 : Index := Scalar.indexCast v331
  let c16 : Index := 16#32
  ![0, v340.toNat, 16]

def k0_chk17 (v331 : BitVec 32) : Prop :=
  (∀ a, (k0_off19 v331) a + S1x1x16.size a ≤ S16x8x32.size a) ∧
  (∀ a, (k0_off21 v331) a + S1x1x16.size a ≤ S16x8x32.size a)
theorem k0_off19_inb : ∀ (v331 : BitVec 32) (k0_hw17 : k0_chk17 v331), ∀ a, (k0_off19 v331) a + S1x1x16.size a ≤ S16x8x32.size a := fun v331 k0_hw17 => k0_hw17.1
theorem k0_off21_inb : ∀ (v331 : BitVec 32) (k0_hw17 : k0_chk17 v331), ∀ a, (k0_off21 v331) a + S1x1x16.size a ≤ S16x8x32.size a := fun v331 k0_hw17 => k0_hw17.2

def k0_off22 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_345 : BitVec 32 := 16#32
  let v332 : BitVec 32 := Scalar.muli arg15 c16_i32_345
  let c0_i32_346 : BitVec 32 := 0#32
  let v333 : BitVec 32 := Scalar.addi v332 c0_i32_346
  let v342 : Index := Scalar.indexCast v333
  let c16_350 : Index := 16#32
  ![v342.toNat, 16]
def k0_off23 (v345 : BitVec 32) : Fin 3 → Nat :=
  let c1_i32_353 : BitVec 32 := 1#32
  let v348 : Index := Scalar.indexCast c1_i32_353
  let v349 : Index := Scalar.indexCast v345
  let c0_354 : Index := 0#32
  ![1, v349.toNat, 0]

def k0_off24 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_351 : BitVec 32 := 16#32
  let v346 : BitVec 32 := Scalar.muli arg15 c16_i32_351
  let c1_i32_352 : BitVec 32 := 1#32
  let v347 : BitVec 32 := Scalar.addi v346 c1_i32_352
  let v351 : Index := Scalar.indexCast v347
  let c0_355 : Index := 0#32
  ![v351.toNat, 0]
def k0_off25 (v345 : BitVec 32) : Fin 3 → Nat :=
  let c1_i32_356 : BitVec 32 := 1#32
  let v353 : Index := Scalar.indexCast c1_i32_356
  let v354 : Index := Scalar.indexCast v345
  let c16_357 : Index := 16#32
  ![1, v354.toNat, 16]

def k0_chk18 (v345 : BitVec 32) : Prop :=
  (∀ a, (k0_off23 v345) a + S1x1x16.size a ≤ S16x8x32.size a) ∧
  (∀ a, (k0_off25 v345) a + S1x1x16.size a ≤ S16x8x32.size a)
theorem k0_off23_inb : ∀ (v345 : BitVec 32) (k0_hw18 : k0_chk18 v345), ∀ a, (k0_off23 v345) a + S1x1x16.size a ≤ S16x8x32.size a := fun v345 k0_hw18 => k0_hw18.1
theorem k0_off25_inb : ∀ (v345 : BitVec 32) (k0_hw18 : k0_chk18 v345), ∀ a, (k0_off25 v345) a + S1x1x16.size a ≤ S16x8x32.size a := fun v345 k0_hw18 => k0_hw18.2

def k0_off26 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_351 : BitVec 32 := 16#32
  let v346 : BitVec 32 := Scalar.muli arg15 c16_i32_351
  let c1_i32_352 : BitVec 32 := 1#32
  let v347 : BitVec 32 := Scalar.addi v346 c1_i32_352
  let v356 : Index := Scalar.indexCast v347
  let c16_358 : Index := 16#32
  ![v356.toNat, 16]
def k0_off27 (v359 : BitVec 32) : Fin 3 → Nat :=
  let c2_i32_361 : BitVec 32 := 2#32
  let v362 : Index := Scalar.indexCast c2_i32_361
  let v363 : Index := Scalar.indexCast v359
  let c0_362 : Index := 0#32
  ![2, v363.toNat, 0]

def k0_off28 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_359 : BitVec 32 := 16#32
  let v360 : BitVec 32 := Scalar.muli arg15 c16_i32_359
  let c2_i32_360 : BitVec 32 := 2#32
  let v361 : BitVec 32 := Scalar.addi v360 c2_i32_360
  let v365 : Index := Scalar.indexCast v361
  let c0_363 : Index := 0#32
  ![v365.toNat, 0]
def k0_off29 (v359 : BitVec 32) : Fin 3 → Nat :=
  let c2_i32_364 : BitVec 32 := 2#32
  let v367 : Index := Scalar.indexCast c2_i32_364
  let v368 : Index := Scalar.indexCast v359
  let c16_365 : Index := 16#32
  ![2, v368.toNat, 16]

def k0_chk19 (v359 : BitVec 32) : Prop :=
  (∀ a, (k0_off27 v359) a + S1x1x16.size a ≤ S16x8x32.size a) ∧
  (∀ a, (k0_off29 v359) a + S1x1x16.size a ≤ S16x8x32.size a)
theorem k0_off27_inb : ∀ (v359 : BitVec 32) (k0_hw19 : k0_chk19 v359), ∀ a, (k0_off27 v359) a + S1x1x16.size a ≤ S16x8x32.size a := fun v359 k0_hw19 => k0_hw19.1
theorem k0_off29_inb : ∀ (v359 : BitVec 32) (k0_hw19 : k0_chk19 v359), ∀ a, (k0_off29 v359) a + S1x1x16.size a ≤ S16x8x32.size a := fun v359 k0_hw19 => k0_hw19.2

def k0_off30 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_359 : BitVec 32 := 16#32
  let v360 : BitVec 32 := Scalar.muli arg15 c16_i32_359
  let c2_i32_360 : BitVec 32 := 2#32
  let v361 : BitVec 32 := Scalar.addi v360 c2_i32_360
  let v370 : Index := Scalar.indexCast v361
  let c16_366 : Index := 16#32
  ![v370.toNat, 16]
def k0_off31 (v373 : BitVec 32) : Fin 3 → Nat :=
  let c3_i32_369 : BitVec 32 := 3#32
  let v376 : Index := Scalar.indexCast c3_i32_369
  let v377 : Index := Scalar.indexCast v373
  let c0_370 : Index := 0#32
  ![3, v377.toNat, 0]

def k0_off32 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_367 : BitVec 32 := 16#32
  let v374 : BitVec 32 := Scalar.muli arg15 c16_i32_367
  let c3_i32_368 : BitVec 32 := 3#32
  let v375 : BitVec 32 := Scalar.addi v374 c3_i32_368
  let v379 : Index := Scalar.indexCast v375
  let c0_371 : Index := 0#32
  ![v379.toNat, 0]
def k0_off33 (v373 : BitVec 32) : Fin 3 → Nat :=
  let c3_i32_372 : BitVec 32 := 3#32
  let v381 : Index := Scalar.indexCast c3_i32_372
  let v382 : Index := Scalar.indexCast v373
  let c16_373 : Index := 16#32
  ![3, v382.toNat, 16]

def k0_chk20 (v373 : BitVec 32) : Prop :=
  (∀ a, (k0_off31 v373) a + S1x1x16.size a ≤ S16x8x32.size a) ∧
  (∀ a, (k0_off33 v373) a + S1x1x16.size a ≤ S16x8x32.size a)
theorem k0_off31_inb : ∀ (v373 : BitVec 32) (k0_hw20 : k0_chk20 v373), ∀ a, (k0_off31 v373) a + S1x1x16.size a ≤ S16x8x32.size a := fun v373 k0_hw20 => k0_hw20.1
theorem k0_off33_inb : ∀ (v373 : BitVec 32) (k0_hw20 : k0_chk20 v373), ∀ a, (k0_off33 v373) a + S1x1x16.size a ≤ S16x8x32.size a := fun v373 k0_hw20 => k0_hw20.2

def k0_off34 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_367 : BitVec 32 := 16#32
  let v374 : BitVec 32 := Scalar.muli arg15 c16_i32_367
  let c3_i32_368 : BitVec 32 := 3#32
  let v375 : BitVec 32 := Scalar.addi v374 c3_i32_368
  let v384 : Index := Scalar.indexCast v375
  let c16_374 : Index := 16#32
  ![v384.toNat, 16]
def k0_off35 (v387 : BitVec 32) : Fin 3 → Nat :=
  let c4_i32_377 : BitVec 32 := 4#32
  let v390 : Index := Scalar.indexCast c4_i32_377
  let v391 : Index := Scalar.indexCast v387
  let c0_378 : Index := 0#32
  ![4, v391.toNat, 0]

def k0_off36 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_375 : BitVec 32 := 16#32
  let v388 : BitVec 32 := Scalar.muli arg15 c16_i32_375
  let c4_i32_376 : BitVec 32 := 4#32
  let v389 : BitVec 32 := Scalar.addi v388 c4_i32_376
  let v393 : Index := Scalar.indexCast v389
  let c0_379 : Index := 0#32
  ![v393.toNat, 0]
def k0_off37 (v387 : BitVec 32) : Fin 3 → Nat :=
  let c4_i32_380 : BitVec 32 := 4#32
  let v395 : Index := Scalar.indexCast c4_i32_380
  let v396 : Index := Scalar.indexCast v387
  let c16_381 : Index := 16#32
  ![4, v396.toNat, 16]

def k0_chk21 (v387 : BitVec 32) : Prop :=
  (∀ a, (k0_off35 v387) a + S1x1x16.size a ≤ S16x8x32.size a) ∧
  (∀ a, (k0_off37 v387) a + S1x1x16.size a ≤ S16x8x32.size a)
theorem k0_off35_inb : ∀ (v387 : BitVec 32) (k0_hw21 : k0_chk21 v387), ∀ a, (k0_off35 v387) a + S1x1x16.size a ≤ S16x8x32.size a := fun v387 k0_hw21 => k0_hw21.1
theorem k0_off37_inb : ∀ (v387 : BitVec 32) (k0_hw21 : k0_chk21 v387), ∀ a, (k0_off37 v387) a + S1x1x16.size a ≤ S16x8x32.size a := fun v387 k0_hw21 => k0_hw21.2

def k0_off38 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_375 : BitVec 32 := 16#32
  let v388 : BitVec 32 := Scalar.muli arg15 c16_i32_375
  let c4_i32_376 : BitVec 32 := 4#32
  let v389 : BitVec 32 := Scalar.addi v388 c4_i32_376
  let v398 : Index := Scalar.indexCast v389
  let c16_382 : Index := 16#32
  ![v398.toNat, 16]
def k0_off39 (v401 : BitVec 32) : Fin 3 → Nat :=
  let c5_i32_385 : BitVec 32 := 5#32
  let v404 : Index := Scalar.indexCast c5_i32_385
  let v405 : Index := Scalar.indexCast v401
  let c0_386 : Index := 0#32
  ![5, v405.toNat, 0]

def k0_off40 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_383 : BitVec 32 := 16#32
  let v402 : BitVec 32 := Scalar.muli arg15 c16_i32_383
  let c5_i32_384 : BitVec 32 := 5#32
  let v403 : BitVec 32 := Scalar.addi v402 c5_i32_384
  let v407 : Index := Scalar.indexCast v403
  let c0_387 : Index := 0#32
  ![v407.toNat, 0]
def k0_off41 (v401 : BitVec 32) : Fin 3 → Nat :=
  let c5_i32_388 : BitVec 32 := 5#32
  let v409 : Index := Scalar.indexCast c5_i32_388
  let v410 : Index := Scalar.indexCast v401
  let c16_389 : Index := 16#32
  ![5, v410.toNat, 16]

def k0_chk22 (v401 : BitVec 32) : Prop :=
  (∀ a, (k0_off39 v401) a + S1x1x16.size a ≤ S16x8x32.size a) ∧
  (∀ a, (k0_off41 v401) a + S1x1x16.size a ≤ S16x8x32.size a)
theorem k0_off39_inb : ∀ (v401 : BitVec 32) (k0_hw22 : k0_chk22 v401), ∀ a, (k0_off39 v401) a + S1x1x16.size a ≤ S16x8x32.size a := fun v401 k0_hw22 => k0_hw22.1
theorem k0_off41_inb : ∀ (v401 : BitVec 32) (k0_hw22 : k0_chk22 v401), ∀ a, (k0_off41 v401) a + S1x1x16.size a ≤ S16x8x32.size a := fun v401 k0_hw22 => k0_hw22.2

def k0_off42 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_383 : BitVec 32 := 16#32
  let v402 : BitVec 32 := Scalar.muli arg15 c16_i32_383
  let c5_i32_384 : BitVec 32 := 5#32
  let v403 : BitVec 32 := Scalar.addi v402 c5_i32_384
  let v412 : Index := Scalar.indexCast v403
  let c16_390 : Index := 16#32
  ![v412.toNat, 16]
def k0_off43 (v415 : BitVec 32) : Fin 3 → Nat :=
  let c6_i32_393 : BitVec 32 := 6#32
  let v418 : Index := Scalar.indexCast c6_i32_393
  let v419 : Index := Scalar.indexCast v415
  let c0_394 : Index := 0#32
  ![6, v419.toNat, 0]

def k0_off44 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_391 : BitVec 32 := 16#32
  let v416 : BitVec 32 := Scalar.muli arg15 c16_i32_391
  let c6_i32_392 : BitVec 32 := 6#32
  let v417 : BitVec 32 := Scalar.addi v416 c6_i32_392
  let v421 : Index := Scalar.indexCast v417
  let c0_395 : Index := 0#32
  ![v421.toNat, 0]
def k0_off45 (v415 : BitVec 32) : Fin 3 → Nat :=
  let c6_i32_396 : BitVec 32 := 6#32
  let v423 : Index := Scalar.indexCast c6_i32_396
  let v424 : Index := Scalar.indexCast v415
  let c16_397 : Index := 16#32
  ![6, v424.toNat, 16]

def k0_chk23 (v415 : BitVec 32) : Prop :=
  (∀ a, (k0_off43 v415) a + S1x1x16.size a ≤ S16x8x32.size a) ∧
  (∀ a, (k0_off45 v415) a + S1x1x16.size a ≤ S16x8x32.size a)
theorem k0_off43_inb : ∀ (v415 : BitVec 32) (k0_hw23 : k0_chk23 v415), ∀ a, (k0_off43 v415) a + S1x1x16.size a ≤ S16x8x32.size a := fun v415 k0_hw23 => k0_hw23.1
theorem k0_off45_inb : ∀ (v415 : BitVec 32) (k0_hw23 : k0_chk23 v415), ∀ a, (k0_off45 v415) a + S1x1x16.size a ≤ S16x8x32.size a := fun v415 k0_hw23 => k0_hw23.2

def k0_off46 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_391 : BitVec 32 := 16#32
  let v416 : BitVec 32 := Scalar.muli arg15 c16_i32_391
  let c6_i32_392 : BitVec 32 := 6#32
  let v417 : BitVec 32 := Scalar.addi v416 c6_i32_392
  let v426 : Index := Scalar.indexCast v417
  let c16_398 : Index := 16#32
  ![v426.toNat, 16]
def k0_off47 (v429 : BitVec 32) : Fin 3 → Nat :=
  let c7_i32_401 : BitVec 32 := 7#32
  let v432 : Index := Scalar.indexCast c7_i32_401
  let v433 : Index := Scalar.indexCast v429
  let c0_402 : Index := 0#32
  ![7, v433.toNat, 0]

def k0_off48 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_399 : BitVec 32 := 16#32
  let v430 : BitVec 32 := Scalar.muli arg15 c16_i32_399
  let c7_i32_400 : BitVec 32 := 7#32
  let v431 : BitVec 32 := Scalar.addi v430 c7_i32_400
  let v435 : Index := Scalar.indexCast v431
  let c0_403 : Index := 0#32
  ![v435.toNat, 0]
def k0_off49 (v429 : BitVec 32) : Fin 3 → Nat :=
  let c7_i32_404 : BitVec 32 := 7#32
  let v437 : Index := Scalar.indexCast c7_i32_404
  let v438 : Index := Scalar.indexCast v429
  let c16_405 : Index := 16#32
  ![7, v438.toNat, 16]

def k0_chk24 (v429 : BitVec 32) : Prop :=
  (∀ a, (k0_off47 v429) a + S1x1x16.size a ≤ S16x8x32.size a) ∧
  (∀ a, (k0_off49 v429) a + S1x1x16.size a ≤ S16x8x32.size a)
theorem k0_off47_inb : ∀ (v429 : BitVec 32) (k0_hw24 : k0_chk24 v429), ∀ a, (k0_off47 v429) a + S1x1x16.size a ≤ S16x8x32.size a := fun v429 k0_hw24 => k0_hw24.1
theorem k0_off49_inb : ∀ (v429 : BitVec 32) (k0_hw24 : k0_chk24 v429), ∀ a, (k0_off49 v429) a + S1x1x16.size a ≤ S16x8x32.size a := fun v429 k0_hw24 => k0_hw24.2

def k0_off50 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_399 : BitVec 32 := 16#32
  let v430 : BitVec 32 := Scalar.muli arg15 c16_i32_399
  let c7_i32_400 : BitVec 32 := 7#32
  let v431 : BitVec 32 := Scalar.addi v430 c7_i32_400
  let v440 : Index := Scalar.indexCast v431
  let c16_406 : Index := 16#32
  ![v440.toNat, 16]
def k0_off51 (v443 : BitVec 32) : Fin 3 → Nat :=
  let c8_i32_409 : BitVec 32 := 8#32
  let v446 : Index := Scalar.indexCast c8_i32_409
  let v447 : Index := Scalar.indexCast v443
  let c0_410 : Index := 0#32
  ![8, v447.toNat, 0]

def k0_off52 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_407 : BitVec 32 := 16#32
  let v444 : BitVec 32 := Scalar.muli arg15 c16_i32_407
  let c8_i32_408 : BitVec 32 := 8#32
  let v445 : BitVec 32 := Scalar.addi v444 c8_i32_408
  let v449 : Index := Scalar.indexCast v445
  let c0_411 : Index := 0#32
  ![v449.toNat, 0]
def k0_off53 (v443 : BitVec 32) : Fin 3 → Nat :=
  let c8_i32_412 : BitVec 32 := 8#32
  let v451 : Index := Scalar.indexCast c8_i32_412
  let v452 : Index := Scalar.indexCast v443
  let c16_413 : Index := 16#32
  ![8, v452.toNat, 16]

def k0_chk25 (v443 : BitVec 32) : Prop :=
  (∀ a, (k0_off51 v443) a + S1x1x16.size a ≤ S16x8x32.size a) ∧
  (∀ a, (k0_off53 v443) a + S1x1x16.size a ≤ S16x8x32.size a)
theorem k0_off51_inb : ∀ (v443 : BitVec 32) (k0_hw25 : k0_chk25 v443), ∀ a, (k0_off51 v443) a + S1x1x16.size a ≤ S16x8x32.size a := fun v443 k0_hw25 => k0_hw25.1
theorem k0_off53_inb : ∀ (v443 : BitVec 32) (k0_hw25 : k0_chk25 v443), ∀ a, (k0_off53 v443) a + S1x1x16.size a ≤ S16x8x32.size a := fun v443 k0_hw25 => k0_hw25.2

def k0_off54 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_407 : BitVec 32 := 16#32
  let v444 : BitVec 32 := Scalar.muli arg15 c16_i32_407
  let c8_i32_408 : BitVec 32 := 8#32
  let v445 : BitVec 32 := Scalar.addi v444 c8_i32_408
  let v454 : Index := Scalar.indexCast v445
  let c16_414 : Index := 16#32
  ![v454.toNat, 16]
def k0_off55 (v457 : BitVec 32) : Fin 3 → Nat :=
  let c9_i32_417 : BitVec 32 := 9#32
  let v460 : Index := Scalar.indexCast c9_i32_417
  let v461 : Index := Scalar.indexCast v457
  let c0_418 : Index := 0#32
  ![9, v461.toNat, 0]

def k0_off56 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_415 : BitVec 32 := 16#32
  let v458 : BitVec 32 := Scalar.muli arg15 c16_i32_415
  let c9_i32_416 : BitVec 32 := 9#32
  let v459 : BitVec 32 := Scalar.addi v458 c9_i32_416
  let v463 : Index := Scalar.indexCast v459
  let c0_419 : Index := 0#32
  ![v463.toNat, 0]
def k0_off57 (v457 : BitVec 32) : Fin 3 → Nat :=
  let c9_i32_420 : BitVec 32 := 9#32
  let v465 : Index := Scalar.indexCast c9_i32_420
  let v466 : Index := Scalar.indexCast v457
  let c16_421 : Index := 16#32
  ![9, v466.toNat, 16]

def k0_chk26 (v457 : BitVec 32) : Prop :=
  (∀ a, (k0_off55 v457) a + S1x1x16.size a ≤ S16x8x32.size a) ∧
  (∀ a, (k0_off57 v457) a + S1x1x16.size a ≤ S16x8x32.size a)
theorem k0_off55_inb : ∀ (v457 : BitVec 32) (k0_hw26 : k0_chk26 v457), ∀ a, (k0_off55 v457) a + S1x1x16.size a ≤ S16x8x32.size a := fun v457 k0_hw26 => k0_hw26.1
theorem k0_off57_inb : ∀ (v457 : BitVec 32) (k0_hw26 : k0_chk26 v457), ∀ a, (k0_off57 v457) a + S1x1x16.size a ≤ S16x8x32.size a := fun v457 k0_hw26 => k0_hw26.2

def k0_off58 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_415 : BitVec 32 := 16#32
  let v458 : BitVec 32 := Scalar.muli arg15 c16_i32_415
  let c9_i32_416 : BitVec 32 := 9#32
  let v459 : BitVec 32 := Scalar.addi v458 c9_i32_416
  let v468 : Index := Scalar.indexCast v459
  let c16_422 : Index := 16#32
  ![v468.toNat, 16]
def k0_off59 (v471 : BitVec 32) : Fin 3 → Nat :=
  let c10_i32_425 : BitVec 32 := 10#32
  let v474 : Index := Scalar.indexCast c10_i32_425
  let v475 : Index := Scalar.indexCast v471
  let c0_426 : Index := 0#32
  ![10, v475.toNat, 0]

def k0_off60 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_423 : BitVec 32 := 16#32
  let v472 : BitVec 32 := Scalar.muli arg15 c16_i32_423
  let c10_i32_424 : BitVec 32 := 10#32
  let v473 : BitVec 32 := Scalar.addi v472 c10_i32_424
  let v477 : Index := Scalar.indexCast v473
  let c0_427 : Index := 0#32
  ![v477.toNat, 0]
def k0_off61 (v471 : BitVec 32) : Fin 3 → Nat :=
  let c10_i32_428 : BitVec 32 := 10#32
  let v479 : Index := Scalar.indexCast c10_i32_428
  let v480 : Index := Scalar.indexCast v471
  let c16_429 : Index := 16#32
  ![10, v480.toNat, 16]

def k0_chk27 (v471 : BitVec 32) : Prop :=
  (∀ a, (k0_off59 v471) a + S1x1x16.size a ≤ S16x8x32.size a) ∧
  (∀ a, (k0_off61 v471) a + S1x1x16.size a ≤ S16x8x32.size a)
theorem k0_off59_inb : ∀ (v471 : BitVec 32) (k0_hw27 : k0_chk27 v471), ∀ a, (k0_off59 v471) a + S1x1x16.size a ≤ S16x8x32.size a := fun v471 k0_hw27 => k0_hw27.1
theorem k0_off61_inb : ∀ (v471 : BitVec 32) (k0_hw27 : k0_chk27 v471), ∀ a, (k0_off61 v471) a + S1x1x16.size a ≤ S16x8x32.size a := fun v471 k0_hw27 => k0_hw27.2

def k0_off62 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_423 : BitVec 32 := 16#32
  let v472 : BitVec 32 := Scalar.muli arg15 c16_i32_423
  let c10_i32_424 : BitVec 32 := 10#32
  let v473 : BitVec 32 := Scalar.addi v472 c10_i32_424
  let v482 : Index := Scalar.indexCast v473
  let c16_430 : Index := 16#32
  ![v482.toNat, 16]
def k0_off63 (v485 : BitVec 32) : Fin 3 → Nat :=
  let c11_i32_433 : BitVec 32 := 11#32
  let v488 : Index := Scalar.indexCast c11_i32_433
  let v489 : Index := Scalar.indexCast v485
  let c0_434 : Index := 0#32
  ![11, v489.toNat, 0]

def k0_off64 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_431 : BitVec 32 := 16#32
  let v486 : BitVec 32 := Scalar.muli arg15 c16_i32_431
  let c11_i32_432 : BitVec 32 := 11#32
  let v487 : BitVec 32 := Scalar.addi v486 c11_i32_432
  let v491 : Index := Scalar.indexCast v487
  let c0_435 : Index := 0#32
  ![v491.toNat, 0]
def k0_off65 (v485 : BitVec 32) : Fin 3 → Nat :=
  let c11_i32_436 : BitVec 32 := 11#32
  let v493 : Index := Scalar.indexCast c11_i32_436
  let v494 : Index := Scalar.indexCast v485
  let c16_437 : Index := 16#32
  ![11, v494.toNat, 16]

def k0_chk28 (v485 : BitVec 32) : Prop :=
  (∀ a, (k0_off63 v485) a + S1x1x16.size a ≤ S16x8x32.size a) ∧
  (∀ a, (k0_off65 v485) a + S1x1x16.size a ≤ S16x8x32.size a)
theorem k0_off63_inb : ∀ (v485 : BitVec 32) (k0_hw28 : k0_chk28 v485), ∀ a, (k0_off63 v485) a + S1x1x16.size a ≤ S16x8x32.size a := fun v485 k0_hw28 => k0_hw28.1
theorem k0_off65_inb : ∀ (v485 : BitVec 32) (k0_hw28 : k0_chk28 v485), ∀ a, (k0_off65 v485) a + S1x1x16.size a ≤ S16x8x32.size a := fun v485 k0_hw28 => k0_hw28.2

def k0_off66 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_431 : BitVec 32 := 16#32
  let v486 : BitVec 32 := Scalar.muli arg15 c16_i32_431
  let c11_i32_432 : BitVec 32 := 11#32
  let v487 : BitVec 32 := Scalar.addi v486 c11_i32_432
  let v496 : Index := Scalar.indexCast v487
  let c16_438 : Index := 16#32
  ![v496.toNat, 16]
def k0_off67 (v499 : BitVec 32) : Fin 3 → Nat :=
  let c12_i32_441 : BitVec 32 := 12#32
  let v502 : Index := Scalar.indexCast c12_i32_441
  let v503 : Index := Scalar.indexCast v499
  let c0_442 : Index := 0#32
  ![12, v503.toNat, 0]

def k0_off68 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_439 : BitVec 32 := 16#32
  let v500 : BitVec 32 := Scalar.muli arg15 c16_i32_439
  let c12_i32_440 : BitVec 32 := 12#32
  let v501 : BitVec 32 := Scalar.addi v500 c12_i32_440
  let v505 : Index := Scalar.indexCast v501
  let c0_443 : Index := 0#32
  ![v505.toNat, 0]
def k0_off69 (v499 : BitVec 32) : Fin 3 → Nat :=
  let c12_i32_444 : BitVec 32 := 12#32
  let v507 : Index := Scalar.indexCast c12_i32_444
  let v508 : Index := Scalar.indexCast v499
  let c16_445 : Index := 16#32
  ![12, v508.toNat, 16]

def k0_chk29 (v499 : BitVec 32) : Prop :=
  (∀ a, (k0_off67 v499) a + S1x1x16.size a ≤ S16x8x32.size a) ∧
  (∀ a, (k0_off69 v499) a + S1x1x16.size a ≤ S16x8x32.size a)
theorem k0_off67_inb : ∀ (v499 : BitVec 32) (k0_hw29 : k0_chk29 v499), ∀ a, (k0_off67 v499) a + S1x1x16.size a ≤ S16x8x32.size a := fun v499 k0_hw29 => k0_hw29.1
theorem k0_off69_inb : ∀ (v499 : BitVec 32) (k0_hw29 : k0_chk29 v499), ∀ a, (k0_off69 v499) a + S1x1x16.size a ≤ S16x8x32.size a := fun v499 k0_hw29 => k0_hw29.2

def k0_off70 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_439 : BitVec 32 := 16#32
  let v500 : BitVec 32 := Scalar.muli arg15 c16_i32_439
  let c12_i32_440 : BitVec 32 := 12#32
  let v501 : BitVec 32 := Scalar.addi v500 c12_i32_440
  let v510 : Index := Scalar.indexCast v501
  let c16_446 : Index := 16#32
  ![v510.toNat, 16]
def k0_off71 (v513 : BitVec 32) : Fin 3 → Nat :=
  let c13_i32_449 : BitVec 32 := 13#32
  let v516 : Index := Scalar.indexCast c13_i32_449
  let v517 : Index := Scalar.indexCast v513
  let c0_450 : Index := 0#32
  ![13, v517.toNat, 0]

def k0_off72 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_447 : BitVec 32 := 16#32
  let v514 : BitVec 32 := Scalar.muli arg15 c16_i32_447
  let c13_i32_448 : BitVec 32 := 13#32
  let v515 : BitVec 32 := Scalar.addi v514 c13_i32_448
  let v519 : Index := Scalar.indexCast v515
  let c0_451 : Index := 0#32
  ![v519.toNat, 0]
def k0_off73 (v513 : BitVec 32) : Fin 3 → Nat :=
  let c13_i32_452 : BitVec 32 := 13#32
  let v521 : Index := Scalar.indexCast c13_i32_452
  let v522 : Index := Scalar.indexCast v513
  let c16_453 : Index := 16#32
  ![13, v522.toNat, 16]

def k0_chk30 (v513 : BitVec 32) : Prop :=
  (∀ a, (k0_off71 v513) a + S1x1x16.size a ≤ S16x8x32.size a) ∧
  (∀ a, (k0_off73 v513) a + S1x1x16.size a ≤ S16x8x32.size a)
theorem k0_off71_inb : ∀ (v513 : BitVec 32) (k0_hw30 : k0_chk30 v513), ∀ a, (k0_off71 v513) a + S1x1x16.size a ≤ S16x8x32.size a := fun v513 k0_hw30 => k0_hw30.1
theorem k0_off73_inb : ∀ (v513 : BitVec 32) (k0_hw30 : k0_chk30 v513), ∀ a, (k0_off73 v513) a + S1x1x16.size a ≤ S16x8x32.size a := fun v513 k0_hw30 => k0_hw30.2

def k0_off74 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_447 : BitVec 32 := 16#32
  let v514 : BitVec 32 := Scalar.muli arg15 c16_i32_447
  let c13_i32_448 : BitVec 32 := 13#32
  let v515 : BitVec 32 := Scalar.addi v514 c13_i32_448
  let v524 : Index := Scalar.indexCast v515
  let c16_454 : Index := 16#32
  ![v524.toNat, 16]
def k0_off75 (v527 : BitVec 32) : Fin 3 → Nat :=
  let c14_i32_457 : BitVec 32 := 14#32
  let v530 : Index := Scalar.indexCast c14_i32_457
  let v531 : Index := Scalar.indexCast v527
  let c0_458 : Index := 0#32
  ![14, v531.toNat, 0]

def k0_off76 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_455 : BitVec 32 := 16#32
  let v528 : BitVec 32 := Scalar.muli arg15 c16_i32_455
  let c14_i32_456 : BitVec 32 := 14#32
  let v529 : BitVec 32 := Scalar.addi v528 c14_i32_456
  let v533 : Index := Scalar.indexCast v529
  let c0_459 : Index := 0#32
  ![v533.toNat, 0]
def k0_off77 (v527 : BitVec 32) : Fin 3 → Nat :=
  let c14_i32_460 : BitVec 32 := 14#32
  let v535 : Index := Scalar.indexCast c14_i32_460
  let v536 : Index := Scalar.indexCast v527
  let c16_461 : Index := 16#32
  ![14, v536.toNat, 16]

def k0_chk31 (v527 : BitVec 32) : Prop :=
  (∀ a, (k0_off75 v527) a + S1x1x16.size a ≤ S16x8x32.size a) ∧
  (∀ a, (k0_off77 v527) a + S1x1x16.size a ≤ S16x8x32.size a)
theorem k0_off75_inb : ∀ (v527 : BitVec 32) (k0_hw31 : k0_chk31 v527), ∀ a, (k0_off75 v527) a + S1x1x16.size a ≤ S16x8x32.size a := fun v527 k0_hw31 => k0_hw31.1
theorem k0_off77_inb : ∀ (v527 : BitVec 32) (k0_hw31 : k0_chk31 v527), ∀ a, (k0_off77 v527) a + S1x1x16.size a ≤ S16x8x32.size a := fun v527 k0_hw31 => k0_hw31.2

def k0_off78 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_455 : BitVec 32 := 16#32
  let v528 : BitVec 32 := Scalar.muli arg15 c16_i32_455
  let c14_i32_456 : BitVec 32 := 14#32
  let v529 : BitVec 32 := Scalar.addi v528 c14_i32_456
  let v538 : Index := Scalar.indexCast v529
  let c16_462 : Index := 16#32
  ![v538.toNat, 16]
def k0_off79 (v541 : BitVec 32) : Fin 3 → Nat :=
  let c15_i32_465 : BitVec 32 := 15#32
  let v544 : Index := Scalar.indexCast c15_i32_465
  let v545 : Index := Scalar.indexCast v541
  let c0_466 : Index := 0#32
  ![15, v545.toNat, 0]

def k0_off80 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_463 : BitVec 32 := 16#32
  let v542 : BitVec 32 := Scalar.muli arg15 c16_i32_463
  let c15_i32_464 : BitVec 32 := 15#32
  let v543 : BitVec 32 := Scalar.addi v542 c15_i32_464
  let v547 : Index := Scalar.indexCast v543
  let c0_467 : Index := 0#32
  ![v547.toNat, 0]
def k0_off81 (v541 : BitVec 32) : Fin 3 → Nat :=
  let c15_i32_468 : BitVec 32 := 15#32
  let v549 : Index := Scalar.indexCast c15_i32_468
  let v550 : Index := Scalar.indexCast v541
  let c16_469 : Index := 16#32
  ![15, v550.toNat, 16]

def k0_chk32 (v541 : BitVec 32) : Prop :=
  (∀ a, (k0_off79 v541) a + S1x1x16.size a ≤ S16x8x32.size a) ∧
  (∀ a, (k0_off81 v541) a + S1x1x16.size a ≤ S16x8x32.size a)
theorem k0_off79_inb : ∀ (v541 : BitVec 32) (k0_hw32 : k0_chk32 v541), ∀ a, (k0_off79 v541) a + S1x1x16.size a ≤ S16x8x32.size a := fun v541 k0_hw32 => k0_hw32.1
theorem k0_off81_inb : ∀ (v541 : BitVec 32) (k0_hw32 : k0_chk32 v541), ∀ a, (k0_off81 v541) a + S1x1x16.size a ≤ S16x8x32.size a := fun v541 k0_hw32 => k0_hw32.2

def k0_off82 (k0_t2 : Fin k0_t2_loop.trips) : Fin 2 → Nat :=
  let c0_i32_44 : BitVec 32 := 0#32
  let c1_i32_45 : BitVec 32 := 1#32
  let arg15 : BitVec 32 := Scf.iv c0_i32_44 c1_i32_45 k0_t2
  let c16_i32_463 : BitVec 32 := 16#32
  let v542 : BitVec 32 := Scalar.muli arg15 c16_i32_463
  let c15_i32_464 : BitVec 32 := 15#32
  let v543 : BitVec 32 := Scalar.addi v542 c15_i32_464
  let v552 : Index := Scalar.indexCast v543
  let c16_470 : Index := 16#32
  ![v552.toNat, 16]
def k0_off83 (i : grid0.Coords) (k0_t1 : Fin k0_t1_loop.trips) : Fin 3 → Nat :=
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_1 : BitVec 32 := 0#32
  let c1_i32 : BitVec 32 := 1#32
  let arg13 : BitVec 32 := Scf.iv c0_i32_1 c1_i32 k0_t1
  let c128_i32_47 : BitVec 32 := 128#32
  let v32 : BitVec 32 := Scalar.muli arg13 c128_i32_47
  let v33 : BitVec 32 := Scalar.addi v2 v32
  let c0_i32_50_r1 : BitVec 32 := 0#32
  ![0, v33.toNat, 0]
@[reducible] def k0_t3_loop : Scf.Loop 32 :=
  let c0_i32_4 : BitVec 32 := 0#32
  let c4_i32_5 : BitVec 32 := 4#32
  let v7 : BitVec 32 := Scalar.addi c0_i32_4 c4_i32_5
  let c1_i32_6 : BitVec 32 := 1#32
  ⟨c0_i32_4, v7, c1_i32_6⟩
@[reducible] def k0_t4_loop : Scf.Loop 32 :=
  let c0_i32_44 : BitVec 32 := 0#32
  let c8_i32 : BitVec 32 := 8#32
  let v30 : BitVec 32 := Scalar.addi c0_i32_44 c8_i32
  let c1_i32_45 : BitVec 32 := 1#32
  ⟨c0_i32_44, v30, c1_i32_45⟩
def k0_off84 (k0_t3 : Fin k0_t3_loop.trips) (k0_t4 : Fin k0_t4_loop.trips) : Fin 2 → Nat :=
  let c0_i32_4 : BitVec 32 := 0#32
  let c1_i32_6 : BitVec 32 := 1#32
  let arg13 : BitVec 32 := Scf.iv c0_i32_4 c1_i32_6 k0_t3
  let v35 : Index := Scalar.indexCast arg13
  let c0_i32_44 : BitVec 32 := 0#32
  let c1_i32_45 : BitVec 32 := 1#32
  let arg15 : BitVec 32 := Scf.iv c0_i32_44 c1_i32_45 k0_t4
  let c16_i32 : BitVec 32 := 16#32
  let v34 : BitVec 32 := Scalar.muli arg15 c16_i32
  let v36 : Index := Scalar.indexCast v34
  ![v35.toNat, v36.toNat]
def k0_off85 (v43 : BitVec 32) : Fin 3 → Nat :=
  let c0_i32_53 : BitVec 32 := 0#32
  let c0_i32_54 : BitVec 32 := 0#32
  ![v43.toNat, 0, 0]

def k0_chk33 (v43 : BitVec 32) : Prop :=
  (∀ a, (k0_off85 v43) a + S1x8x32.size a ≤ S125000x8x32.size a)
theorem k0_off85_inb : ∀ (v43 : BitVec 32) (k0_hw33 : k0_chk33 v43), ∀ a, (k0_off85 v43) a + S1x8x32.size a ≤ S125000x8x32.size a := fun v43 k0_hw33 => k0_hw33

def k0_off86 (v53 : BitVec 32) : Fin 3 → Nat :=
  let c0_i32_62 : BitVec 32 := 0#32
  let c0_i32_63 : BitVec 32 := 0#32
  ![v53.toNat, 0, 0]

def k0_chk34 (v53 : BitVec 32) : Prop :=
  (∀ a, (k0_off86 v53) a + S1x8x32.size a ≤ S125000x8x32.size a)
theorem k0_off86_inb : ∀ (v53 : BitVec 32) (k0_hw34 : k0_chk34 v53), ∀ a, (k0_off86 v53) a + S1x8x32.size a ≤ S125000x8x32.size a := fun v53 k0_hw34 => k0_hw34

def k0_off87 (v63 : BitVec 32) : Fin 3 → Nat :=
  let c0_i32_71 : BitVec 32 := 0#32
  let c0_i32_72 : BitVec 32 := 0#32
  ![v63.toNat, 0, 0]

def k0_chk35 (v63 : BitVec 32) : Prop :=
  (∀ a, (k0_off87 v63) a + S1x8x32.size a ≤ S125000x8x32.size a)
theorem k0_off87_inb : ∀ (v63 : BitVec 32) (k0_hw35 : k0_chk35 v63), ∀ a, (k0_off87 v63) a + S1x8x32.size a ≤ S125000x8x32.size a := fun v63 k0_hw35 => k0_hw35

def k0_off88 (v73 : BitVec 32) : Fin 3 → Nat :=
  let c0_i32_80 : BitVec 32 := 0#32
  let c0_i32_81 : BitVec 32 := 0#32
  ![v73.toNat, 0, 0]

def k0_chk36 (v73 : BitVec 32) : Prop :=
  (∀ a, (k0_off88 v73) a + S1x8x32.size a ≤ S125000x8x32.size a)
theorem k0_off88_inb : ∀ (v73 : BitVec 32) (k0_hw36 : k0_chk36 v73), ∀ a, (k0_off88 v73) a + S1x8x32.size a ≤ S125000x8x32.size a := fun v73 k0_hw36 => k0_hw36

def k0_off89 (v83 : BitVec 32) : Fin 3 → Nat :=
  let c0_i32_89 : BitVec 32 := 0#32
  let c0_i32_90 : BitVec 32 := 0#32
  ![v83.toNat, 0, 0]

def k0_chk37 (v83 : BitVec 32) : Prop :=
  (∀ a, (k0_off89 v83) a + S1x8x32.size a ≤ S125000x8x32.size a)
theorem k0_off89_inb : ∀ (v83 : BitVec 32) (k0_hw37 : k0_chk37 v83), ∀ a, (k0_off89 v83) a + S1x8x32.size a ≤ S125000x8x32.size a := fun v83 k0_hw37 => k0_hw37

def k0_off90 (v93 : BitVec 32) : Fin 3 → Nat :=
  let c0_i32_97 : BitVec 32 := 0#32
  let c0_i32_98 : BitVec 32 := 0#32
  ![v93.toNat, 0, 0]

def k0_chk38 (v93 : BitVec 32) : Prop :=
  (∀ a, (k0_off90 v93) a + S1x8x32.size a ≤ S125000x8x32.size a)
theorem k0_off90_inb : ∀ (v93 : BitVec 32) (k0_hw38 : k0_chk38 v93), ∀ a, (k0_off90 v93) a + S1x8x32.size a ≤ S125000x8x32.size a := fun v93 k0_hw38 => k0_hw38

def k0_off91 (v103 : BitVec 32) : Fin 3 → Nat :=
  let c0_i32_105 : BitVec 32 := 0#32
  let c0_i32_106 : BitVec 32 := 0#32
  ![v103.toNat, 0, 0]

def k0_chk39 (v103 : BitVec 32) : Prop :=
  (∀ a, (k0_off91 v103) a + S1x8x32.size a ≤ S125000x8x32.size a)
theorem k0_off91_inb : ∀ (v103 : BitVec 32) (k0_hw39 : k0_chk39 v103), ∀ a, (k0_off91 v103) a + S1x8x32.size a ≤ S125000x8x32.size a := fun v103 k0_hw39 => k0_hw39

def k0_off92 (v113 : BitVec 32) : Fin 3 → Nat :=
  let c0_i32_114 : BitVec 32 := 0#32
  let c0_i32_115 : BitVec 32 := 0#32
  ![v113.toNat, 0, 0]

def k0_chk40 (v113 : BitVec 32) : Prop :=
  (∀ a, (k0_off92 v113) a + S1x8x32.size a ≤ S125000x8x32.size a)
theorem k0_off92_inb : ∀ (v113 : BitVec 32) (k0_hw40 : k0_chk40 v113), ∀ a, (k0_off92 v113) a + S1x8x32.size a ≤ S125000x8x32.size a := fun v113 k0_hw40 => k0_hw40

def k0_off93 (v123 : BitVec 32) : Fin 3 → Nat :=
  let c0_i32_123 : BitVec 32 := 0#32
  let c0_i32_124 : BitVec 32 := 0#32
  ![v123.toNat, 0, 0]

def k0_chk41 (v123 : BitVec 32) : Prop :=
  (∀ a, (k0_off93 v123) a + S1x8x32.size a ≤ S125000x8x32.size a)
theorem k0_off93_inb : ∀ (v123 : BitVec 32) (k0_hw41 : k0_chk41 v123), ∀ a, (k0_off93 v123) a + S1x8x32.size a ≤ S125000x8x32.size a := fun v123 k0_hw41 => k0_hw41

def k0_off94 (v133 : BitVec 32) : Fin 3 → Nat :=
  let c0_i32_131 : BitVec 32 := 0#32
  let c0_i32_132 : BitVec 32 := 0#32
  ![v133.toNat, 0, 0]

def k0_chk42 (v133 : BitVec 32) : Prop :=
  (∀ a, (k0_off94 v133) a + S1x8x32.size a ≤ S125000x8x32.size a)
theorem k0_off94_inb : ∀ (v133 : BitVec 32) (k0_hw42 : k0_chk42 v133), ∀ a, (k0_off94 v133) a + S1x8x32.size a ≤ S125000x8x32.size a := fun v133 k0_hw42 => k0_hw42

def k0_off95 (v143 : BitVec 32) : Fin 3 → Nat :=
  let c0_i32_139 : BitVec 32 := 0#32
  let c0_i32_140 : BitVec 32 := 0#32
  ![v143.toNat, 0, 0]

def k0_chk43 (v143 : BitVec 32) : Prop :=
  (∀ a, (k0_off95 v143) a + S1x8x32.size a ≤ S125000x8x32.size a)
theorem k0_off95_inb : ∀ (v143 : BitVec 32) (k0_hw43 : k0_chk43 v143), ∀ a, (k0_off95 v143) a + S1x8x32.size a ≤ S125000x8x32.size a := fun v143 k0_hw43 => k0_hw43

def k0_off96 (v153 : BitVec 32) : Fin 3 → Nat :=
  let c0_i32_147 : BitVec 32 := 0#32
  let c0_i32_148 : BitVec 32 := 0#32
  ![v153.toNat, 0, 0]

def k0_chk44 (v153 : BitVec 32) : Prop :=
  (∀ a, (k0_off96 v153) a + S1x8x32.size a ≤ S125000x8x32.size a)
theorem k0_off96_inb : ∀ (v153 : BitVec 32) (k0_hw44 : k0_chk44 v153), ∀ a, (k0_off96 v153) a + S1x8x32.size a ≤ S125000x8x32.size a := fun v153 k0_hw44 => k0_hw44

def k0_off97 (v163 : BitVec 32) : Fin 3 → Nat :=
  let c0_i32_155 : BitVec 32 := 0#32
  let c0_i32_156 : BitVec 32 := 0#32
  ![v163.toNat, 0, 0]

def k0_chk45 (v163 : BitVec 32) : Prop :=
  (∀ a, (k0_off97 v163) a + S1x8x32.size a ≤ S125000x8x32.size a)
theorem k0_off97_inb : ∀ (v163 : BitVec 32) (k0_hw45 : k0_chk45 v163), ∀ a, (k0_off97 v163) a + S1x8x32.size a ≤ S125000x8x32.size a := fun v163 k0_hw45 => k0_hw45

def k0_off98 (v173 : BitVec 32) : Fin 3 → Nat :=
  let c0_i32_163 : BitVec 32 := 0#32
  let c0_i32_164 : BitVec 32 := 0#32
  ![v173.toNat, 0, 0]

def k0_chk46 (v173 : BitVec 32) : Prop :=
  (∀ a, (k0_off98 v173) a + S1x8x32.size a ≤ S125000x8x32.size a)
theorem k0_off98_inb : ∀ (v173 : BitVec 32) (k0_hw46 : k0_chk46 v173), ∀ a, (k0_off98 v173) a + S1x8x32.size a ≤ S125000x8x32.size a := fun v173 k0_hw46 => k0_hw46

def k0_off99 (v183 : BitVec 32) : Fin 3 → Nat :=
  let c0_i32_171 : BitVec 32 := 0#32
  let c0_i32_172 : BitVec 32 := 0#32
  ![v183.toNat, 0, 0]

def k0_chk47 (v183 : BitVec 32) : Prop :=
  (∀ a, (k0_off99 v183) a + S1x8x32.size a ≤ S125000x8x32.size a)
theorem k0_off99_inb : ∀ (v183 : BitVec 32) (k0_hw47 : k0_chk47 v183), ∀ a, (k0_off99 v183) a + S1x8x32.size a ≤ S125000x8x32.size a := fun v183 k0_hw47 => k0_hw47

def k0_off100 (v193 : BitVec 32) : Fin 3 → Nat :=
  let c0_i32_179 : BitVec 32 := 0#32
  let c0_i32_180 : BitVec 32 := 0#32
  ![v193.toNat, 0, 0]

def k0_chk48 (v193 : BitVec 32) : Prop :=
  (∀ a, (k0_off100 v193) a + S1x8x32.size a ≤ S125000x8x32.size a)
theorem k0_off100_inb : ∀ (v193 : BitVec 32) (k0_hw48 : k0_chk48 v193), ∀ a, (k0_off100 v193) a + S1x8x32.size a ≤ S125000x8x32.size a := fun v193 k0_hw48 => k0_hw48

def k0_off101 (v331 : BitVec 32) : Fin 3 → Nat :=
  let c0_i32_347 : BitVec 32 := 0#32
  let v334 : Index := Scalar.indexCast c0_i32_347
  let v335 : Index := Scalar.indexCast v331
  let c0 : Index := 0#32
  ![0, v335.toNat, 0]

def k0_off102 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_345 : BitVec 32 := 16#32
  let v332 : BitVec 32 := Scalar.muli arg15 c16_i32_345
  let c0_i32_346 : BitVec 32 := 0#32
  let v333 : BitVec 32 := Scalar.addi v332 c0_i32_346
  let v337 : Index := Scalar.indexCast v333
  let c0_348 : Index := 0#32
  ![v337.toNat, 0]
def k0_off103 (v331 : BitVec 32) : Fin 3 → Nat :=
  let c0_i32_349 : BitVec 32 := 0#32
  let v339 : Index := Scalar.indexCast c0_i32_349
  let v340 : Index := Scalar.indexCast v331
  let c16 : Index := 16#32
  ![0, v340.toNat, 16]

def k0_chk49 (v331 : BitVec 32) : Prop :=
  (∀ a, (k0_off101 v331) a + S1x1x16.size a ≤ S16x8x32.size a) ∧
  (∀ a, (k0_off103 v331) a + S1x1x16.size a ≤ S16x8x32.size a)
theorem k0_off101_inb : ∀ (v331 : BitVec 32) (k0_hw49 : k0_chk49 v331), ∀ a, (k0_off101 v331) a + S1x1x16.size a ≤ S16x8x32.size a := fun v331 k0_hw49 => k0_hw49.1
theorem k0_off103_inb : ∀ (v331 : BitVec 32) (k0_hw49 : k0_chk49 v331), ∀ a, (k0_off103 v331) a + S1x1x16.size a ≤ S16x8x32.size a := fun v331 k0_hw49 => k0_hw49.2

def k0_off104 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_345 : BitVec 32 := 16#32
  let v332 : BitVec 32 := Scalar.muli arg15 c16_i32_345
  let c0_i32_346 : BitVec 32 := 0#32
  let v333 : BitVec 32 := Scalar.addi v332 c0_i32_346
  let v342 : Index := Scalar.indexCast v333
  let c16_350 : Index := 16#32
  ![v342.toNat, 16]
def k0_off105 (v345 : BitVec 32) : Fin 3 → Nat :=
  let c1_i32_353 : BitVec 32 := 1#32
  let v348 : Index := Scalar.indexCast c1_i32_353
  let v349 : Index := Scalar.indexCast v345
  let c0_354 : Index := 0#32
  ![1, v349.toNat, 0]

def k0_off106 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_351 : BitVec 32 := 16#32
  let v346 : BitVec 32 := Scalar.muli arg15 c16_i32_351
  let c1_i32_352 : BitVec 32 := 1#32
  let v347 : BitVec 32 := Scalar.addi v346 c1_i32_352
  let v351 : Index := Scalar.indexCast v347
  let c0_355 : Index := 0#32
  ![v351.toNat, 0]
def k0_off107 (v345 : BitVec 32) : Fin 3 → Nat :=
  let c1_i32_356 : BitVec 32 := 1#32
  let v353 : Index := Scalar.indexCast c1_i32_356
  let v354 : Index := Scalar.indexCast v345
  let c16_357 : Index := 16#32
  ![1, v354.toNat, 16]

def k0_chk50 (v345 : BitVec 32) : Prop :=
  (∀ a, (k0_off105 v345) a + S1x1x16.size a ≤ S16x8x32.size a) ∧
  (∀ a, (k0_off107 v345) a + S1x1x16.size a ≤ S16x8x32.size a)
theorem k0_off105_inb : ∀ (v345 : BitVec 32) (k0_hw50 : k0_chk50 v345), ∀ a, (k0_off105 v345) a + S1x1x16.size a ≤ S16x8x32.size a := fun v345 k0_hw50 => k0_hw50.1
theorem k0_off107_inb : ∀ (v345 : BitVec 32) (k0_hw50 : k0_chk50 v345), ∀ a, (k0_off107 v345) a + S1x1x16.size a ≤ S16x8x32.size a := fun v345 k0_hw50 => k0_hw50.2

def k0_off108 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_351 : BitVec 32 := 16#32
  let v346 : BitVec 32 := Scalar.muli arg15 c16_i32_351
  let c1_i32_352 : BitVec 32 := 1#32
  let v347 : BitVec 32 := Scalar.addi v346 c1_i32_352
  let v356 : Index := Scalar.indexCast v347
  let c16_358 : Index := 16#32
  ![v356.toNat, 16]
def k0_off109 (v359 : BitVec 32) : Fin 3 → Nat :=
  let c2_i32_361 : BitVec 32 := 2#32
  let v362 : Index := Scalar.indexCast c2_i32_361
  let v363 : Index := Scalar.indexCast v359
  let c0_362 : Index := 0#32
  ![2, v363.toNat, 0]

def k0_off110 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_359 : BitVec 32 := 16#32
  let v360 : BitVec 32 := Scalar.muli arg15 c16_i32_359
  let c2_i32_360 : BitVec 32 := 2#32
  let v361 : BitVec 32 := Scalar.addi v360 c2_i32_360
  let v365 : Index := Scalar.indexCast v361
  let c0_363 : Index := 0#32
  ![v365.toNat, 0]
def k0_off111 (v359 : BitVec 32) : Fin 3 → Nat :=
  let c2_i32_364 : BitVec 32 := 2#32
  let v367 : Index := Scalar.indexCast c2_i32_364
  let v368 : Index := Scalar.indexCast v359
  let c16_365 : Index := 16#32
  ![2, v368.toNat, 16]

def k0_chk51 (v359 : BitVec 32) : Prop :=
  (∀ a, (k0_off109 v359) a + S1x1x16.size a ≤ S16x8x32.size a) ∧
  (∀ a, (k0_off111 v359) a + S1x1x16.size a ≤ S16x8x32.size a)
theorem k0_off109_inb : ∀ (v359 : BitVec 32) (k0_hw51 : k0_chk51 v359), ∀ a, (k0_off109 v359) a + S1x1x16.size a ≤ S16x8x32.size a := fun v359 k0_hw51 => k0_hw51.1
theorem k0_off111_inb : ∀ (v359 : BitVec 32) (k0_hw51 : k0_chk51 v359), ∀ a, (k0_off111 v359) a + S1x1x16.size a ≤ S16x8x32.size a := fun v359 k0_hw51 => k0_hw51.2

def k0_off112 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_359 : BitVec 32 := 16#32
  let v360 : BitVec 32 := Scalar.muli arg15 c16_i32_359
  let c2_i32_360 : BitVec 32 := 2#32
  let v361 : BitVec 32 := Scalar.addi v360 c2_i32_360
  let v370 : Index := Scalar.indexCast v361
  let c16_366 : Index := 16#32
  ![v370.toNat, 16]
def k0_off113 (v373 : BitVec 32) : Fin 3 → Nat :=
  let c3_i32_369 : BitVec 32 := 3#32
  let v376 : Index := Scalar.indexCast c3_i32_369
  let v377 : Index := Scalar.indexCast v373
  let c0_370 : Index := 0#32
  ![3, v377.toNat, 0]

def k0_off114 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_367 : BitVec 32 := 16#32
  let v374 : BitVec 32 := Scalar.muli arg15 c16_i32_367
  let c3_i32_368 : BitVec 32 := 3#32
  let v375 : BitVec 32 := Scalar.addi v374 c3_i32_368
  let v379 : Index := Scalar.indexCast v375
  let c0_371 : Index := 0#32
  ![v379.toNat, 0]
def k0_off115 (v373 : BitVec 32) : Fin 3 → Nat :=
  let c3_i32_372 : BitVec 32 := 3#32
  let v381 : Index := Scalar.indexCast c3_i32_372
  let v382 : Index := Scalar.indexCast v373
  let c16_373 : Index := 16#32
  ![3, v382.toNat, 16]

def k0_chk52 (v373 : BitVec 32) : Prop :=
  (∀ a, (k0_off113 v373) a + S1x1x16.size a ≤ S16x8x32.size a) ∧
  (∀ a, (k0_off115 v373) a + S1x1x16.size a ≤ S16x8x32.size a)
theorem k0_off113_inb : ∀ (v373 : BitVec 32) (k0_hw52 : k0_chk52 v373), ∀ a, (k0_off113 v373) a + S1x1x16.size a ≤ S16x8x32.size a := fun v373 k0_hw52 => k0_hw52.1
theorem k0_off115_inb : ∀ (v373 : BitVec 32) (k0_hw52 : k0_chk52 v373), ∀ a, (k0_off115 v373) a + S1x1x16.size a ≤ S16x8x32.size a := fun v373 k0_hw52 => k0_hw52.2

def k0_off116 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_367 : BitVec 32 := 16#32
  let v374 : BitVec 32 := Scalar.muli arg15 c16_i32_367
  let c3_i32_368 : BitVec 32 := 3#32
  let v375 : BitVec 32 := Scalar.addi v374 c3_i32_368
  let v384 : Index := Scalar.indexCast v375
  let c16_374 : Index := 16#32
  ![v384.toNat, 16]
def k0_off117 (v387 : BitVec 32) : Fin 3 → Nat :=
  let c4_i32_377 : BitVec 32 := 4#32
  let v390 : Index := Scalar.indexCast c4_i32_377
  let v391 : Index := Scalar.indexCast v387
  let c0_378 : Index := 0#32
  ![4, v391.toNat, 0]

def k0_off118 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_375 : BitVec 32 := 16#32
  let v388 : BitVec 32 := Scalar.muli arg15 c16_i32_375
  let c4_i32_376 : BitVec 32 := 4#32
  let v389 : BitVec 32 := Scalar.addi v388 c4_i32_376
  let v393 : Index := Scalar.indexCast v389
  let c0_379 : Index := 0#32
  ![v393.toNat, 0]
def k0_off119 (v387 : BitVec 32) : Fin 3 → Nat :=
  let c4_i32_380 : BitVec 32 := 4#32
  let v395 : Index := Scalar.indexCast c4_i32_380
  let v396 : Index := Scalar.indexCast v387
  let c16_381 : Index := 16#32
  ![4, v396.toNat, 16]

def k0_chk53 (v387 : BitVec 32) : Prop :=
  (∀ a, (k0_off117 v387) a + S1x1x16.size a ≤ S16x8x32.size a) ∧
  (∀ a, (k0_off119 v387) a + S1x1x16.size a ≤ S16x8x32.size a)
theorem k0_off117_inb : ∀ (v387 : BitVec 32) (k0_hw53 : k0_chk53 v387), ∀ a, (k0_off117 v387) a + S1x1x16.size a ≤ S16x8x32.size a := fun v387 k0_hw53 => k0_hw53.1
theorem k0_off119_inb : ∀ (v387 : BitVec 32) (k0_hw53 : k0_chk53 v387), ∀ a, (k0_off119 v387) a + S1x1x16.size a ≤ S16x8x32.size a := fun v387 k0_hw53 => k0_hw53.2

def k0_off120 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_375 : BitVec 32 := 16#32
  let v388 : BitVec 32 := Scalar.muli arg15 c16_i32_375
  let c4_i32_376 : BitVec 32 := 4#32
  let v389 : BitVec 32 := Scalar.addi v388 c4_i32_376
  let v398 : Index := Scalar.indexCast v389
  let c16_382 : Index := 16#32
  ![v398.toNat, 16]
def k0_off121 (v401 : BitVec 32) : Fin 3 → Nat :=
  let c5_i32_385 : BitVec 32 := 5#32
  let v404 : Index := Scalar.indexCast c5_i32_385
  let v405 : Index := Scalar.indexCast v401
  let c0_386 : Index := 0#32
  ![5, v405.toNat, 0]

def k0_off122 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_383 : BitVec 32 := 16#32
  let v402 : BitVec 32 := Scalar.muli arg15 c16_i32_383
  let c5_i32_384 : BitVec 32 := 5#32
  let v403 : BitVec 32 := Scalar.addi v402 c5_i32_384
  let v407 : Index := Scalar.indexCast v403
  let c0_387 : Index := 0#32
  ![v407.toNat, 0]
def k0_off123 (v401 : BitVec 32) : Fin 3 → Nat :=
  let c5_i32_388 : BitVec 32 := 5#32
  let v409 : Index := Scalar.indexCast c5_i32_388
  let v410 : Index := Scalar.indexCast v401
  let c16_389 : Index := 16#32
  ![5, v410.toNat, 16]

def k0_chk54 (v401 : BitVec 32) : Prop :=
  (∀ a, (k0_off121 v401) a + S1x1x16.size a ≤ S16x8x32.size a) ∧
  (∀ a, (k0_off123 v401) a + S1x1x16.size a ≤ S16x8x32.size a)
theorem k0_off121_inb : ∀ (v401 : BitVec 32) (k0_hw54 : k0_chk54 v401), ∀ a, (k0_off121 v401) a + S1x1x16.size a ≤ S16x8x32.size a := fun v401 k0_hw54 => k0_hw54.1
theorem k0_off123_inb : ∀ (v401 : BitVec 32) (k0_hw54 : k0_chk54 v401), ∀ a, (k0_off123 v401) a + S1x1x16.size a ≤ S16x8x32.size a := fun v401 k0_hw54 => k0_hw54.2

def k0_off124 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_383 : BitVec 32 := 16#32
  let v402 : BitVec 32 := Scalar.muli arg15 c16_i32_383
  let c5_i32_384 : BitVec 32 := 5#32
  let v403 : BitVec 32 := Scalar.addi v402 c5_i32_384
  let v412 : Index := Scalar.indexCast v403
  let c16_390 : Index := 16#32
  ![v412.toNat, 16]
def k0_off125 (v415 : BitVec 32) : Fin 3 → Nat :=
  let c6_i32_393 : BitVec 32 := 6#32
  let v418 : Index := Scalar.indexCast c6_i32_393
  let v419 : Index := Scalar.indexCast v415
  let c0_394 : Index := 0#32
  ![6, v419.toNat, 0]

def k0_off126 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_391 : BitVec 32 := 16#32
  let v416 : BitVec 32 := Scalar.muli arg15 c16_i32_391
  let c6_i32_392 : BitVec 32 := 6#32
  let v417 : BitVec 32 := Scalar.addi v416 c6_i32_392
  let v421 : Index := Scalar.indexCast v417
  let c0_395 : Index := 0#32
  ![v421.toNat, 0]
def k0_off127 (v415 : BitVec 32) : Fin 3 → Nat :=
  let c6_i32_396 : BitVec 32 := 6#32
  let v423 : Index := Scalar.indexCast c6_i32_396
  let v424 : Index := Scalar.indexCast v415
  let c16_397 : Index := 16#32
  ![6, v424.toNat, 16]

def k0_chk55 (v415 : BitVec 32) : Prop :=
  (∀ a, (k0_off125 v415) a + S1x1x16.size a ≤ S16x8x32.size a) ∧
  (∀ a, (k0_off127 v415) a + S1x1x16.size a ≤ S16x8x32.size a)
theorem k0_off125_inb : ∀ (v415 : BitVec 32) (k0_hw55 : k0_chk55 v415), ∀ a, (k0_off125 v415) a + S1x1x16.size a ≤ S16x8x32.size a := fun v415 k0_hw55 => k0_hw55.1
theorem k0_off127_inb : ∀ (v415 : BitVec 32) (k0_hw55 : k0_chk55 v415), ∀ a, (k0_off127 v415) a + S1x1x16.size a ≤ S16x8x32.size a := fun v415 k0_hw55 => k0_hw55.2

def k0_off128 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_391 : BitVec 32 := 16#32
  let v416 : BitVec 32 := Scalar.muli arg15 c16_i32_391
  let c6_i32_392 : BitVec 32 := 6#32
  let v417 : BitVec 32 := Scalar.addi v416 c6_i32_392
  let v426 : Index := Scalar.indexCast v417
  let c16_398 : Index := 16#32
  ![v426.toNat, 16]
def k0_off129 (v429 : BitVec 32) : Fin 3 → Nat :=
  let c7_i32_401 : BitVec 32 := 7#32
  let v432 : Index := Scalar.indexCast c7_i32_401
  let v433 : Index := Scalar.indexCast v429
  let c0_402 : Index := 0#32
  ![7, v433.toNat, 0]

def k0_off130 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_399 : BitVec 32 := 16#32
  let v430 : BitVec 32 := Scalar.muli arg15 c16_i32_399
  let c7_i32_400 : BitVec 32 := 7#32
  let v431 : BitVec 32 := Scalar.addi v430 c7_i32_400
  let v435 : Index := Scalar.indexCast v431
  let c0_403 : Index := 0#32
  ![v435.toNat, 0]
def k0_off131 (v429 : BitVec 32) : Fin 3 → Nat :=
  let c7_i32_404 : BitVec 32 := 7#32
  let v437 : Index := Scalar.indexCast c7_i32_404
  let v438 : Index := Scalar.indexCast v429
  let c16_405 : Index := 16#32
  ![7, v438.toNat, 16]

def k0_chk56 (v429 : BitVec 32) : Prop :=
  (∀ a, (k0_off129 v429) a + S1x1x16.size a ≤ S16x8x32.size a) ∧
  (∀ a, (k0_off131 v429) a + S1x1x16.size a ≤ S16x8x32.size a)
theorem k0_off129_inb : ∀ (v429 : BitVec 32) (k0_hw56 : k0_chk56 v429), ∀ a, (k0_off129 v429) a + S1x1x16.size a ≤ S16x8x32.size a := fun v429 k0_hw56 => k0_hw56.1
theorem k0_off131_inb : ∀ (v429 : BitVec 32) (k0_hw56 : k0_chk56 v429), ∀ a, (k0_off131 v429) a + S1x1x16.size a ≤ S16x8x32.size a := fun v429 k0_hw56 => k0_hw56.2

def k0_off132 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_399 : BitVec 32 := 16#32
  let v430 : BitVec 32 := Scalar.muli arg15 c16_i32_399
  let c7_i32_400 : BitVec 32 := 7#32
  let v431 : BitVec 32 := Scalar.addi v430 c7_i32_400
  let v440 : Index := Scalar.indexCast v431
  let c16_406 : Index := 16#32
  ![v440.toNat, 16]
def k0_off133 (v443 : BitVec 32) : Fin 3 → Nat :=
  let c8_i32_409 : BitVec 32 := 8#32
  let v446 : Index := Scalar.indexCast c8_i32_409
  let v447 : Index := Scalar.indexCast v443
  let c0_410 : Index := 0#32
  ![8, v447.toNat, 0]

def k0_off134 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_407 : BitVec 32 := 16#32
  let v444 : BitVec 32 := Scalar.muli arg15 c16_i32_407
  let c8_i32_408 : BitVec 32 := 8#32
  let v445 : BitVec 32 := Scalar.addi v444 c8_i32_408
  let v449 : Index := Scalar.indexCast v445
  let c0_411 : Index := 0#32
  ![v449.toNat, 0]
def k0_off135 (v443 : BitVec 32) : Fin 3 → Nat :=
  let c8_i32_412 : BitVec 32 := 8#32
  let v451 : Index := Scalar.indexCast c8_i32_412
  let v452 : Index := Scalar.indexCast v443
  let c16_413 : Index := 16#32
  ![8, v452.toNat, 16]

def k0_chk57 (v443 : BitVec 32) : Prop :=
  (∀ a, (k0_off133 v443) a + S1x1x16.size a ≤ S16x8x32.size a) ∧
  (∀ a, (k0_off135 v443) a + S1x1x16.size a ≤ S16x8x32.size a)
theorem k0_off133_inb : ∀ (v443 : BitVec 32) (k0_hw57 : k0_chk57 v443), ∀ a, (k0_off133 v443) a + S1x1x16.size a ≤ S16x8x32.size a := fun v443 k0_hw57 => k0_hw57.1
theorem k0_off135_inb : ∀ (v443 : BitVec 32) (k0_hw57 : k0_chk57 v443), ∀ a, (k0_off135 v443) a + S1x1x16.size a ≤ S16x8x32.size a := fun v443 k0_hw57 => k0_hw57.2

def k0_off136 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_407 : BitVec 32 := 16#32
  let v444 : BitVec 32 := Scalar.muli arg15 c16_i32_407
  let c8_i32_408 : BitVec 32 := 8#32
  let v445 : BitVec 32 := Scalar.addi v444 c8_i32_408
  let v454 : Index := Scalar.indexCast v445
  let c16_414 : Index := 16#32
  ![v454.toNat, 16]
def k0_off137 (v457 : BitVec 32) : Fin 3 → Nat :=
  let c9_i32_417 : BitVec 32 := 9#32
  let v460 : Index := Scalar.indexCast c9_i32_417
  let v461 : Index := Scalar.indexCast v457
  let c0_418 : Index := 0#32
  ![9, v461.toNat, 0]

def k0_off138 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_415 : BitVec 32 := 16#32
  let v458 : BitVec 32 := Scalar.muli arg15 c16_i32_415
  let c9_i32_416 : BitVec 32 := 9#32
  let v459 : BitVec 32 := Scalar.addi v458 c9_i32_416
  let v463 : Index := Scalar.indexCast v459
  let c0_419 : Index := 0#32
  ![v463.toNat, 0]
def k0_off139 (v457 : BitVec 32) : Fin 3 → Nat :=
  let c9_i32_420 : BitVec 32 := 9#32
  let v465 : Index := Scalar.indexCast c9_i32_420
  let v466 : Index := Scalar.indexCast v457
  let c16_421 : Index := 16#32
  ![9, v466.toNat, 16]

def k0_chk58 (v457 : BitVec 32) : Prop :=
  (∀ a, (k0_off137 v457) a + S1x1x16.size a ≤ S16x8x32.size a) ∧
  (∀ a, (k0_off139 v457) a + S1x1x16.size a ≤ S16x8x32.size a)
theorem k0_off137_inb : ∀ (v457 : BitVec 32) (k0_hw58 : k0_chk58 v457), ∀ a, (k0_off137 v457) a + S1x1x16.size a ≤ S16x8x32.size a := fun v457 k0_hw58 => k0_hw58.1
theorem k0_off139_inb : ∀ (v457 : BitVec 32) (k0_hw58 : k0_chk58 v457), ∀ a, (k0_off139 v457) a + S1x1x16.size a ≤ S16x8x32.size a := fun v457 k0_hw58 => k0_hw58.2

def k0_off140 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_415 : BitVec 32 := 16#32
  let v458 : BitVec 32 := Scalar.muli arg15 c16_i32_415
  let c9_i32_416 : BitVec 32 := 9#32
  let v459 : BitVec 32 := Scalar.addi v458 c9_i32_416
  let v468 : Index := Scalar.indexCast v459
  let c16_422 : Index := 16#32
  ![v468.toNat, 16]
def k0_off141 (v471 : BitVec 32) : Fin 3 → Nat :=
  let c10_i32_425 : BitVec 32 := 10#32
  let v474 : Index := Scalar.indexCast c10_i32_425
  let v475 : Index := Scalar.indexCast v471
  let c0_426 : Index := 0#32
  ![10, v475.toNat, 0]

def k0_off142 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_423 : BitVec 32 := 16#32
  let v472 : BitVec 32 := Scalar.muli arg15 c16_i32_423
  let c10_i32_424 : BitVec 32 := 10#32
  let v473 : BitVec 32 := Scalar.addi v472 c10_i32_424
  let v477 : Index := Scalar.indexCast v473
  let c0_427 : Index := 0#32
  ![v477.toNat, 0]
def k0_off143 (v471 : BitVec 32) : Fin 3 → Nat :=
  let c10_i32_428 : BitVec 32 := 10#32
  let v479 : Index := Scalar.indexCast c10_i32_428
  let v480 : Index := Scalar.indexCast v471
  let c16_429 : Index := 16#32
  ![10, v480.toNat, 16]

def k0_chk59 (v471 : BitVec 32) : Prop :=
  (∀ a, (k0_off141 v471) a + S1x1x16.size a ≤ S16x8x32.size a) ∧
  (∀ a, (k0_off143 v471) a + S1x1x16.size a ≤ S16x8x32.size a)
theorem k0_off141_inb : ∀ (v471 : BitVec 32) (k0_hw59 : k0_chk59 v471), ∀ a, (k0_off141 v471) a + S1x1x16.size a ≤ S16x8x32.size a := fun v471 k0_hw59 => k0_hw59.1
theorem k0_off143_inb : ∀ (v471 : BitVec 32) (k0_hw59 : k0_chk59 v471), ∀ a, (k0_off143 v471) a + S1x1x16.size a ≤ S16x8x32.size a := fun v471 k0_hw59 => k0_hw59.2

def k0_off144 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_423 : BitVec 32 := 16#32
  let v472 : BitVec 32 := Scalar.muli arg15 c16_i32_423
  let c10_i32_424 : BitVec 32 := 10#32
  let v473 : BitVec 32 := Scalar.addi v472 c10_i32_424
  let v482 : Index := Scalar.indexCast v473
  let c16_430 : Index := 16#32
  ![v482.toNat, 16]
def k0_off145 (v485 : BitVec 32) : Fin 3 → Nat :=
  let c11_i32_433 : BitVec 32 := 11#32
  let v488 : Index := Scalar.indexCast c11_i32_433
  let v489 : Index := Scalar.indexCast v485
  let c0_434 : Index := 0#32
  ![11, v489.toNat, 0]

def k0_off146 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_431 : BitVec 32 := 16#32
  let v486 : BitVec 32 := Scalar.muli arg15 c16_i32_431
  let c11_i32_432 : BitVec 32 := 11#32
  let v487 : BitVec 32 := Scalar.addi v486 c11_i32_432
  let v491 : Index := Scalar.indexCast v487
  let c0_435 : Index := 0#32
  ![v491.toNat, 0]
def k0_off147 (v485 : BitVec 32) : Fin 3 → Nat :=
  let c11_i32_436 : BitVec 32 := 11#32
  let v493 : Index := Scalar.indexCast c11_i32_436
  let v494 : Index := Scalar.indexCast v485
  let c16_437 : Index := 16#32
  ![11, v494.toNat, 16]

def k0_chk60 (v485 : BitVec 32) : Prop :=
  (∀ a, (k0_off145 v485) a + S1x1x16.size a ≤ S16x8x32.size a) ∧
  (∀ a, (k0_off147 v485) a + S1x1x16.size a ≤ S16x8x32.size a)
theorem k0_off145_inb : ∀ (v485 : BitVec 32) (k0_hw60 : k0_chk60 v485), ∀ a, (k0_off145 v485) a + S1x1x16.size a ≤ S16x8x32.size a := fun v485 k0_hw60 => k0_hw60.1
theorem k0_off147_inb : ∀ (v485 : BitVec 32) (k0_hw60 : k0_chk60 v485), ∀ a, (k0_off147 v485) a + S1x1x16.size a ≤ S16x8x32.size a := fun v485 k0_hw60 => k0_hw60.2

def k0_off148 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_431 : BitVec 32 := 16#32
  let v486 : BitVec 32 := Scalar.muli arg15 c16_i32_431
  let c11_i32_432 : BitVec 32 := 11#32
  let v487 : BitVec 32 := Scalar.addi v486 c11_i32_432
  let v496 : Index := Scalar.indexCast v487
  let c16_438 : Index := 16#32
  ![v496.toNat, 16]
def k0_off149 (v499 : BitVec 32) : Fin 3 → Nat :=
  let c12_i32_441 : BitVec 32 := 12#32
  let v502 : Index := Scalar.indexCast c12_i32_441
  let v503 : Index := Scalar.indexCast v499
  let c0_442 : Index := 0#32
  ![12, v503.toNat, 0]

def k0_off150 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_439 : BitVec 32 := 16#32
  let v500 : BitVec 32 := Scalar.muli arg15 c16_i32_439
  let c12_i32_440 : BitVec 32 := 12#32
  let v501 : BitVec 32 := Scalar.addi v500 c12_i32_440
  let v505 : Index := Scalar.indexCast v501
  let c0_443 : Index := 0#32
  ![v505.toNat, 0]
def k0_off151 (v499 : BitVec 32) : Fin 3 → Nat :=
  let c12_i32_444 : BitVec 32 := 12#32
  let v507 : Index := Scalar.indexCast c12_i32_444
  let v508 : Index := Scalar.indexCast v499
  let c16_445 : Index := 16#32
  ![12, v508.toNat, 16]

def k0_chk61 (v499 : BitVec 32) : Prop :=
  (∀ a, (k0_off149 v499) a + S1x1x16.size a ≤ S16x8x32.size a) ∧
  (∀ a, (k0_off151 v499) a + S1x1x16.size a ≤ S16x8x32.size a)
theorem k0_off149_inb : ∀ (v499 : BitVec 32) (k0_hw61 : k0_chk61 v499), ∀ a, (k0_off149 v499) a + S1x1x16.size a ≤ S16x8x32.size a := fun v499 k0_hw61 => k0_hw61.1
theorem k0_off151_inb : ∀ (v499 : BitVec 32) (k0_hw61 : k0_chk61 v499), ∀ a, (k0_off151 v499) a + S1x1x16.size a ≤ S16x8x32.size a := fun v499 k0_hw61 => k0_hw61.2

def k0_off152 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_439 : BitVec 32 := 16#32
  let v500 : BitVec 32 := Scalar.muli arg15 c16_i32_439
  let c12_i32_440 : BitVec 32 := 12#32
  let v501 : BitVec 32 := Scalar.addi v500 c12_i32_440
  let v510 : Index := Scalar.indexCast v501
  let c16_446 : Index := 16#32
  ![v510.toNat, 16]
def k0_off153 (v513 : BitVec 32) : Fin 3 → Nat :=
  let c13_i32_449 : BitVec 32 := 13#32
  let v516 : Index := Scalar.indexCast c13_i32_449
  let v517 : Index := Scalar.indexCast v513
  let c0_450 : Index := 0#32
  ![13, v517.toNat, 0]

def k0_off154 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_447 : BitVec 32 := 16#32
  let v514 : BitVec 32 := Scalar.muli arg15 c16_i32_447
  let c13_i32_448 : BitVec 32 := 13#32
  let v515 : BitVec 32 := Scalar.addi v514 c13_i32_448
  let v519 : Index := Scalar.indexCast v515
  let c0_451 : Index := 0#32
  ![v519.toNat, 0]
def k0_off155 (v513 : BitVec 32) : Fin 3 → Nat :=
  let c13_i32_452 : BitVec 32 := 13#32
  let v521 : Index := Scalar.indexCast c13_i32_452
  let v522 : Index := Scalar.indexCast v513
  let c16_453 : Index := 16#32
  ![13, v522.toNat, 16]

def k0_chk62 (v513 : BitVec 32) : Prop :=
  (∀ a, (k0_off153 v513) a + S1x1x16.size a ≤ S16x8x32.size a) ∧
  (∀ a, (k0_off155 v513) a + S1x1x16.size a ≤ S16x8x32.size a)
theorem k0_off153_inb : ∀ (v513 : BitVec 32) (k0_hw62 : k0_chk62 v513), ∀ a, (k0_off153 v513) a + S1x1x16.size a ≤ S16x8x32.size a := fun v513 k0_hw62 => k0_hw62.1
theorem k0_off155_inb : ∀ (v513 : BitVec 32) (k0_hw62 : k0_chk62 v513), ∀ a, (k0_off155 v513) a + S1x1x16.size a ≤ S16x8x32.size a := fun v513 k0_hw62 => k0_hw62.2

def k0_off156 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_447 : BitVec 32 := 16#32
  let v514 : BitVec 32 := Scalar.muli arg15 c16_i32_447
  let c13_i32_448 : BitVec 32 := 13#32
  let v515 : BitVec 32 := Scalar.addi v514 c13_i32_448
  let v524 : Index := Scalar.indexCast v515
  let c16_454 : Index := 16#32
  ![v524.toNat, 16]
def k0_off157 (v527 : BitVec 32) : Fin 3 → Nat :=
  let c14_i32_457 : BitVec 32 := 14#32
  let v530 : Index := Scalar.indexCast c14_i32_457
  let v531 : Index := Scalar.indexCast v527
  let c0_458 : Index := 0#32
  ![14, v531.toNat, 0]

def k0_off158 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_455 : BitVec 32 := 16#32
  let v528 : BitVec 32 := Scalar.muli arg15 c16_i32_455
  let c14_i32_456 : BitVec 32 := 14#32
  let v529 : BitVec 32 := Scalar.addi v528 c14_i32_456
  let v533 : Index := Scalar.indexCast v529
  let c0_459 : Index := 0#32
  ![v533.toNat, 0]
def k0_off159 (v527 : BitVec 32) : Fin 3 → Nat :=
  let c14_i32_460 : BitVec 32 := 14#32
  let v535 : Index := Scalar.indexCast c14_i32_460
  let v536 : Index := Scalar.indexCast v527
  let c16_461 : Index := 16#32
  ![14, v536.toNat, 16]

def k0_chk63 (v527 : BitVec 32) : Prop :=
  (∀ a, (k0_off157 v527) a + S1x1x16.size a ≤ S16x8x32.size a) ∧
  (∀ a, (k0_off159 v527) a + S1x1x16.size a ≤ S16x8x32.size a)
theorem k0_off157_inb : ∀ (v527 : BitVec 32) (k0_hw63 : k0_chk63 v527), ∀ a, (k0_off157 v527) a + S1x1x16.size a ≤ S16x8x32.size a := fun v527 k0_hw63 => k0_hw63.1
theorem k0_off159_inb : ∀ (v527 : BitVec 32) (k0_hw63 : k0_chk63 v527), ∀ a, (k0_off159 v527) a + S1x1x16.size a ≤ S16x8x32.size a := fun v527 k0_hw63 => k0_hw63.2

def k0_off160 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_455 : BitVec 32 := 16#32
  let v528 : BitVec 32 := Scalar.muli arg15 c16_i32_455
  let c14_i32_456 : BitVec 32 := 14#32
  let v529 : BitVec 32 := Scalar.addi v528 c14_i32_456
  let v538 : Index := Scalar.indexCast v529
  let c16_462 : Index := 16#32
  ![v538.toNat, 16]
def k0_off161 (v541 : BitVec 32) : Fin 3 → Nat :=
  let c15_i32_465 : BitVec 32 := 15#32
  let v544 : Index := Scalar.indexCast c15_i32_465
  let v545 : Index := Scalar.indexCast v541
  let c0_466 : Index := 0#32
  ![15, v545.toNat, 0]

def k0_off162 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_463 : BitVec 32 := 16#32
  let v542 : BitVec 32 := Scalar.muli arg15 c16_i32_463
  let c15_i32_464 : BitVec 32 := 15#32
  let v543 : BitVec 32 := Scalar.addi v542 c15_i32_464
  let v547 : Index := Scalar.indexCast v543
  let c0_467 : Index := 0#32
  ![v547.toNat, 0]
def k0_off163 (v541 : BitVec 32) : Fin 3 → Nat :=
  let c15_i32_468 : BitVec 32 := 15#32
  let v549 : Index := Scalar.indexCast c15_i32_468
  let v550 : Index := Scalar.indexCast v541
  let c16_469 : Index := 16#32
  ![15, v550.toNat, 16]

def k0_chk64 (v541 : BitVec 32) : Prop :=
  (∀ a, (k0_off161 v541) a + S1x1x16.size a ≤ S16x8x32.size a) ∧
  (∀ a, (k0_off163 v541) a + S1x1x16.size a ≤ S16x8x32.size a)
theorem k0_off161_inb : ∀ (v541 : BitVec 32) (k0_hw64 : k0_chk64 v541), ∀ a, (k0_off161 v541) a + S1x1x16.size a ≤ S16x8x32.size a := fun v541 k0_hw64 => k0_hw64.1
theorem k0_off163_inb : ∀ (v541 : BitVec 32) (k0_hw64 : k0_chk64 v541), ∀ a, (k0_off163 v541) a + S1x1x16.size a ≤ S16x8x32.size a := fun v541 k0_hw64 => k0_hw64.2

def k0_off164 (k0_t4 : Fin k0_t4_loop.trips) : Fin 2 → Nat :=
  let c0_i32_44 : BitVec 32 := 0#32
  let c1_i32_45 : BitVec 32 := 1#32
  let arg15 : BitVec 32 := Scf.iv c0_i32_44 c1_i32_45 k0_t4
  let c16_i32_463 : BitVec 32 := 16#32
  let v542 : BitVec 32 := Scalar.muli arg15 c16_i32_463
  let c15_i32_464 : BitVec 32 := 15#32
  let v543 : BitVec 32 := Scalar.addi v542 c15_i32_464
  let v552 : Index := Scalar.indexCast v543
  let c16_470 : Index := 16#32
  ![v552.toNat, 16]
def k0_off165 (i : grid0.Coords) (k0_t3 : Fin k0_t3_loop.trips) : Fin 3 → Nat :=
  let c1_i32_48 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32_6 : BitVec 32 := 1#32
  let arg13 : BitVec 32 := Scf.iv c0_i32_4 c1_i32_6 k0_t3
  let c128_i32_47 : BitVec 32 := 128#32
  let v32 : BitVec 32 := Scalar.muli arg13 c128_i32_47
  let v33 : BitVec 32 := Scalar.addi v2 v32
  let c0_i32_50_r3 : BitVec 32 := 0#32
  ![1, v33.toNat, 0]
@[reducible] def k0_t5_loop : Scf.Loop 32 :=
  let c0_i32_9 : BitVec 32 := 0#32
  let c4_i32_10 : BitVec 32 := 4#32
  let v10 : BitVec 32 := Scalar.addi c0_i32_9 c4_i32_10
  let c1_i32_11 : BitVec 32 := 1#32
  ⟨c0_i32_9, v10, c1_i32_11⟩
@[reducible] def k0_t6_loop : Scf.Loop 32 :=
  let c0_i32_44 : BitVec 32 := 0#32
  let c8_i32 : BitVec 32 := 8#32
  let v30 : BitVec 32 := Scalar.addi c0_i32_44 c8_i32
  let c1_i32_45 : BitVec 32 := 1#32
  ⟨c0_i32_44, v30, c1_i32_45⟩
def k0_off166 (k0_t5 : Fin k0_t5_loop.trips) (k0_t6 : Fin k0_t6_loop.trips) : Fin 2 → Nat :=
  let c0_i32_9 : BitVec 32 := 0#32
  let c1_i32_11 : BitVec 32 := 1#32
  let arg13 : BitVec 32 := Scf.iv c0_i32_9 c1_i32_11 k0_t5
  let v35 : Index := Scalar.indexCast arg13
  let c0_i32_44 : BitVec 32 := 0#32
  let c1_i32_45 : BitVec 32 := 1#32
  let arg15 : BitVec 32 := Scf.iv c0_i32_44 c1_i32_45 k0_t6
  let c16_i32 : BitVec 32 := 16#32
  let v34 : BitVec 32 := Scalar.muli arg15 c16_i32
  let v36 : Index := Scalar.indexCast v34
  ![v35.toNat, v36.toNat]
def k0_off167 (v43 : BitVec 32) : Fin 3 → Nat :=
  let c0_i32_53 : BitVec 32 := 0#32
  let c0_i32_54 : BitVec 32 := 0#32
  ![v43.toNat, 0, 0]

def k0_chk65 (v43 : BitVec 32) : Prop :=
  (∀ a, (k0_off167 v43) a + S1x8x32.size a ≤ S125x8x32.size a)
theorem k0_off167_inb : ∀ (v43 : BitVec 32) (k0_hw65 : k0_chk65 v43), ∀ a, (k0_off167 v43) a + S1x8x32.size a ≤ S125x8x32.size a := fun v43 k0_hw65 => k0_hw65

def k0_off168 (v53 : BitVec 32) : Fin 3 → Nat :=
  let c0_i32_62 : BitVec 32 := 0#32
  let c0_i32_63 : BitVec 32 := 0#32
  ![v53.toNat, 0, 0]

def k0_chk66 (v53 : BitVec 32) : Prop :=
  (∀ a, (k0_off168 v53) a + S1x8x32.size a ≤ S125x8x32.size a)
theorem k0_off168_inb : ∀ (v53 : BitVec 32) (k0_hw66 : k0_chk66 v53), ∀ a, (k0_off168 v53) a + S1x8x32.size a ≤ S125x8x32.size a := fun v53 k0_hw66 => k0_hw66

def k0_off169 (v63 : BitVec 32) : Fin 3 → Nat :=
  let c0_i32_71 : BitVec 32 := 0#32
  let c0_i32_72 : BitVec 32 := 0#32
  ![v63.toNat, 0, 0]

def k0_chk67 (v63 : BitVec 32) : Prop :=
  (∀ a, (k0_off169 v63) a + S1x8x32.size a ≤ S125x8x32.size a)
theorem k0_off169_inb : ∀ (v63 : BitVec 32) (k0_hw67 : k0_chk67 v63), ∀ a, (k0_off169 v63) a + S1x8x32.size a ≤ S125x8x32.size a := fun v63 k0_hw67 => k0_hw67

def k0_off170 (v73 : BitVec 32) : Fin 3 → Nat :=
  let c0_i32_80 : BitVec 32 := 0#32
  let c0_i32_81 : BitVec 32 := 0#32
  ![v73.toNat, 0, 0]

def k0_chk68 (v73 : BitVec 32) : Prop :=
  (∀ a, (k0_off170 v73) a + S1x8x32.size a ≤ S125x8x32.size a)
theorem k0_off170_inb : ∀ (v73 : BitVec 32) (k0_hw68 : k0_chk68 v73), ∀ a, (k0_off170 v73) a + S1x8x32.size a ≤ S125x8x32.size a := fun v73 k0_hw68 => k0_hw68

def k0_off171 (v83 : BitVec 32) : Fin 3 → Nat :=
  let c0_i32_89 : BitVec 32 := 0#32
  let c0_i32_90 : BitVec 32 := 0#32
  ![v83.toNat, 0, 0]

def k0_chk69 (v83 : BitVec 32) : Prop :=
  (∀ a, (k0_off171 v83) a + S1x8x32.size a ≤ S125x8x32.size a)
theorem k0_off171_inb : ∀ (v83 : BitVec 32) (k0_hw69 : k0_chk69 v83), ∀ a, (k0_off171 v83) a + S1x8x32.size a ≤ S125x8x32.size a := fun v83 k0_hw69 => k0_hw69

def k0_off172 (v93 : BitVec 32) : Fin 3 → Nat :=
  let c0_i32_97 : BitVec 32 := 0#32
  let c0_i32_98 : BitVec 32 := 0#32
  ![v93.toNat, 0, 0]

def k0_chk70 (v93 : BitVec 32) : Prop :=
  (∀ a, (k0_off172 v93) a + S1x8x32.size a ≤ S125x8x32.size a)
theorem k0_off172_inb : ∀ (v93 : BitVec 32) (k0_hw70 : k0_chk70 v93), ∀ a, (k0_off172 v93) a + S1x8x32.size a ≤ S125x8x32.size a := fun v93 k0_hw70 => k0_hw70

def k0_off173 (v103 : BitVec 32) : Fin 3 → Nat :=
  let c0_i32_105 : BitVec 32 := 0#32
  let c0_i32_106 : BitVec 32 := 0#32
  ![v103.toNat, 0, 0]

def k0_chk71 (v103 : BitVec 32) : Prop :=
  (∀ a, (k0_off173 v103) a + S1x8x32.size a ≤ S125x8x32.size a)
theorem k0_off173_inb : ∀ (v103 : BitVec 32) (k0_hw71 : k0_chk71 v103), ∀ a, (k0_off173 v103) a + S1x8x32.size a ≤ S125x8x32.size a := fun v103 k0_hw71 => k0_hw71

def k0_off174 (v113 : BitVec 32) : Fin 3 → Nat :=
  let c0_i32_114 : BitVec 32 := 0#32
  let c0_i32_115 : BitVec 32 := 0#32
  ![v113.toNat, 0, 0]

def k0_chk72 (v113 : BitVec 32) : Prop :=
  (∀ a, (k0_off174 v113) a + S1x8x32.size a ≤ S125x8x32.size a)
theorem k0_off174_inb : ∀ (v113 : BitVec 32) (k0_hw72 : k0_chk72 v113), ∀ a, (k0_off174 v113) a + S1x8x32.size a ≤ S125x8x32.size a := fun v113 k0_hw72 => k0_hw72

def k0_off175 (v123 : BitVec 32) : Fin 3 → Nat :=
  let c0_i32_123 : BitVec 32 := 0#32
  let c0_i32_124 : BitVec 32 := 0#32
  ![v123.toNat, 0, 0]

def k0_chk73 (v123 : BitVec 32) : Prop :=
  (∀ a, (k0_off175 v123) a + S1x8x32.size a ≤ S125x8x32.size a)
theorem k0_off175_inb : ∀ (v123 : BitVec 32) (k0_hw73 : k0_chk73 v123), ∀ a, (k0_off175 v123) a + S1x8x32.size a ≤ S125x8x32.size a := fun v123 k0_hw73 => k0_hw73

def k0_off176 (v133 : BitVec 32) : Fin 3 → Nat :=
  let c0_i32_131 : BitVec 32 := 0#32
  let c0_i32_132 : BitVec 32 := 0#32
  ![v133.toNat, 0, 0]

def k0_chk74 (v133 : BitVec 32) : Prop :=
  (∀ a, (k0_off176 v133) a + S1x8x32.size a ≤ S125x8x32.size a)
theorem k0_off176_inb : ∀ (v133 : BitVec 32) (k0_hw74 : k0_chk74 v133), ∀ a, (k0_off176 v133) a + S1x8x32.size a ≤ S125x8x32.size a := fun v133 k0_hw74 => k0_hw74

def k0_off177 (v143 : BitVec 32) : Fin 3 → Nat :=
  let c0_i32_139 : BitVec 32 := 0#32
  let c0_i32_140 : BitVec 32 := 0#32
  ![v143.toNat, 0, 0]

def k0_chk75 (v143 : BitVec 32) : Prop :=
  (∀ a, (k0_off177 v143) a + S1x8x32.size a ≤ S125x8x32.size a)
theorem k0_off177_inb : ∀ (v143 : BitVec 32) (k0_hw75 : k0_chk75 v143), ∀ a, (k0_off177 v143) a + S1x8x32.size a ≤ S125x8x32.size a := fun v143 k0_hw75 => k0_hw75

def k0_off178 (v153 : BitVec 32) : Fin 3 → Nat :=
  let c0_i32_147 : BitVec 32 := 0#32
  let c0_i32_148 : BitVec 32 := 0#32
  ![v153.toNat, 0, 0]

def k0_chk76 (v153 : BitVec 32) : Prop :=
  (∀ a, (k0_off178 v153) a + S1x8x32.size a ≤ S125x8x32.size a)
theorem k0_off178_inb : ∀ (v153 : BitVec 32) (k0_hw76 : k0_chk76 v153), ∀ a, (k0_off178 v153) a + S1x8x32.size a ≤ S125x8x32.size a := fun v153 k0_hw76 => k0_hw76

def k0_off179 (v163 : BitVec 32) : Fin 3 → Nat :=
  let c0_i32_155 : BitVec 32 := 0#32
  let c0_i32_156 : BitVec 32 := 0#32
  ![v163.toNat, 0, 0]

def k0_chk77 (v163 : BitVec 32) : Prop :=
  (∀ a, (k0_off179 v163) a + S1x8x32.size a ≤ S125x8x32.size a)
theorem k0_off179_inb : ∀ (v163 : BitVec 32) (k0_hw77 : k0_chk77 v163), ∀ a, (k0_off179 v163) a + S1x8x32.size a ≤ S125x8x32.size a := fun v163 k0_hw77 => k0_hw77

def k0_off180 (v173 : BitVec 32) : Fin 3 → Nat :=
  let c0_i32_163 : BitVec 32 := 0#32
  let c0_i32_164 : BitVec 32 := 0#32
  ![v173.toNat, 0, 0]

def k0_chk78 (v173 : BitVec 32) : Prop :=
  (∀ a, (k0_off180 v173) a + S1x8x32.size a ≤ S125x8x32.size a)
theorem k0_off180_inb : ∀ (v173 : BitVec 32) (k0_hw78 : k0_chk78 v173), ∀ a, (k0_off180 v173) a + S1x8x32.size a ≤ S125x8x32.size a := fun v173 k0_hw78 => k0_hw78

def k0_off181 (v183 : BitVec 32) : Fin 3 → Nat :=
  let c0_i32_171 : BitVec 32 := 0#32
  let c0_i32_172 : BitVec 32 := 0#32
  ![v183.toNat, 0, 0]

def k0_chk79 (v183 : BitVec 32) : Prop :=
  (∀ a, (k0_off181 v183) a + S1x8x32.size a ≤ S125x8x32.size a)
theorem k0_off181_inb : ∀ (v183 : BitVec 32) (k0_hw79 : k0_chk79 v183), ∀ a, (k0_off181 v183) a + S1x8x32.size a ≤ S125x8x32.size a := fun v183 k0_hw79 => k0_hw79

def k0_off182 (v193 : BitVec 32) : Fin 3 → Nat :=
  let c0_i32_179 : BitVec 32 := 0#32
  let c0_i32_180 : BitVec 32 := 0#32
  ![v193.toNat, 0, 0]

def k0_chk80 (v193 : BitVec 32) : Prop :=
  (∀ a, (k0_off182 v193) a + S1x8x32.size a ≤ S125x8x32.size a)
theorem k0_off182_inb : ∀ (v193 : BitVec 32) (k0_hw80 : k0_chk80 v193), ∀ a, (k0_off182 v193) a + S1x8x32.size a ≤ S125x8x32.size a := fun v193 k0_hw80 => k0_hw80

def k0_off183 (v331 : BitVec 32) : Fin 3 → Nat :=
  let c0_i32_347 : BitVec 32 := 0#32
  let v334 : Index := Scalar.indexCast c0_i32_347
  let v335 : Index := Scalar.indexCast v331
  let c0 : Index := 0#32
  ![0, v335.toNat, 0]

def k0_off184 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_345 : BitVec 32 := 16#32
  let v332 : BitVec 32 := Scalar.muli arg15 c16_i32_345
  let c0_i32_346 : BitVec 32 := 0#32
  let v333 : BitVec 32 := Scalar.addi v332 c0_i32_346
  let v337 : Index := Scalar.indexCast v333
  let c0_348 : Index := 0#32
  ![v337.toNat, 0]
def k0_off185 (v331 : BitVec 32) : Fin 3 → Nat :=
  let c0_i32_349 : BitVec 32 := 0#32
  let v339 : Index := Scalar.indexCast c0_i32_349
  let v340 : Index := Scalar.indexCast v331
  let c16 : Index := 16#32
  ![0, v340.toNat, 16]

def k0_chk81 (v331 : BitVec 32) : Prop :=
  (∀ a, (k0_off183 v331) a + S1x1x16.size a ≤ S16x8x32.size a) ∧
  (∀ a, (k0_off185 v331) a + S1x1x16.size a ≤ S16x8x32.size a)
theorem k0_off183_inb : ∀ (v331 : BitVec 32) (k0_hw81 : k0_chk81 v331), ∀ a, (k0_off183 v331) a + S1x1x16.size a ≤ S16x8x32.size a := fun v331 k0_hw81 => k0_hw81.1
theorem k0_off185_inb : ∀ (v331 : BitVec 32) (k0_hw81 : k0_chk81 v331), ∀ a, (k0_off185 v331) a + S1x1x16.size a ≤ S16x8x32.size a := fun v331 k0_hw81 => k0_hw81.2

def k0_off186 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_345 : BitVec 32 := 16#32
  let v332 : BitVec 32 := Scalar.muli arg15 c16_i32_345
  let c0_i32_346 : BitVec 32 := 0#32
  let v333 : BitVec 32 := Scalar.addi v332 c0_i32_346
  let v342 : Index := Scalar.indexCast v333
  let c16_350 : Index := 16#32
  ![v342.toNat, 16]
def k0_off187 (v345 : BitVec 32) : Fin 3 → Nat :=
  let c1_i32_353 : BitVec 32 := 1#32
  let v348 : Index := Scalar.indexCast c1_i32_353
  let v349 : Index := Scalar.indexCast v345
  let c0_354 : Index := 0#32
  ![1, v349.toNat, 0]

def k0_off188 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_351 : BitVec 32 := 16#32
  let v346 : BitVec 32 := Scalar.muli arg15 c16_i32_351
  let c1_i32_352 : BitVec 32 := 1#32
  let v347 : BitVec 32 := Scalar.addi v346 c1_i32_352
  let v351 : Index := Scalar.indexCast v347
  let c0_355 : Index := 0#32
  ![v351.toNat, 0]
def k0_off189 (v345 : BitVec 32) : Fin 3 → Nat :=
  let c1_i32_356 : BitVec 32 := 1#32
  let v353 : Index := Scalar.indexCast c1_i32_356
  let v354 : Index := Scalar.indexCast v345
  let c16_357 : Index := 16#32
  ![1, v354.toNat, 16]

def k0_chk82 (v345 : BitVec 32) : Prop :=
  (∀ a, (k0_off187 v345) a + S1x1x16.size a ≤ S16x8x32.size a) ∧
  (∀ a, (k0_off189 v345) a + S1x1x16.size a ≤ S16x8x32.size a)
theorem k0_off187_inb : ∀ (v345 : BitVec 32) (k0_hw82 : k0_chk82 v345), ∀ a, (k0_off187 v345) a + S1x1x16.size a ≤ S16x8x32.size a := fun v345 k0_hw82 => k0_hw82.1
theorem k0_off189_inb : ∀ (v345 : BitVec 32) (k0_hw82 : k0_chk82 v345), ∀ a, (k0_off189 v345) a + S1x1x16.size a ≤ S16x8x32.size a := fun v345 k0_hw82 => k0_hw82.2

def k0_off190 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_351 : BitVec 32 := 16#32
  let v346 : BitVec 32 := Scalar.muli arg15 c16_i32_351
  let c1_i32_352 : BitVec 32 := 1#32
  let v347 : BitVec 32 := Scalar.addi v346 c1_i32_352
  let v356 : Index := Scalar.indexCast v347
  let c16_358 : Index := 16#32
  ![v356.toNat, 16]
def k0_off191 (v359 : BitVec 32) : Fin 3 → Nat :=
  let c2_i32_361 : BitVec 32 := 2#32
  let v362 : Index := Scalar.indexCast c2_i32_361
  let v363 : Index := Scalar.indexCast v359
  let c0_362 : Index := 0#32
  ![2, v363.toNat, 0]

def k0_off192 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_359 : BitVec 32 := 16#32
  let v360 : BitVec 32 := Scalar.muli arg15 c16_i32_359
  let c2_i32_360 : BitVec 32 := 2#32
  let v361 : BitVec 32 := Scalar.addi v360 c2_i32_360
  let v365 : Index := Scalar.indexCast v361
  let c0_363 : Index := 0#32
  ![v365.toNat, 0]
def k0_off193 (v359 : BitVec 32) : Fin 3 → Nat :=
  let c2_i32_364 : BitVec 32 := 2#32
  let v367 : Index := Scalar.indexCast c2_i32_364
  let v368 : Index := Scalar.indexCast v359
  let c16_365 : Index := 16#32
  ![2, v368.toNat, 16]

def k0_chk83 (v359 : BitVec 32) : Prop :=
  (∀ a, (k0_off191 v359) a + S1x1x16.size a ≤ S16x8x32.size a) ∧
  (∀ a, (k0_off193 v359) a + S1x1x16.size a ≤ S16x8x32.size a)
theorem k0_off191_inb : ∀ (v359 : BitVec 32) (k0_hw83 : k0_chk83 v359), ∀ a, (k0_off191 v359) a + S1x1x16.size a ≤ S16x8x32.size a := fun v359 k0_hw83 => k0_hw83.1
theorem k0_off193_inb : ∀ (v359 : BitVec 32) (k0_hw83 : k0_chk83 v359), ∀ a, (k0_off193 v359) a + S1x1x16.size a ≤ S16x8x32.size a := fun v359 k0_hw83 => k0_hw83.2

def k0_off194 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_359 : BitVec 32 := 16#32
  let v360 : BitVec 32 := Scalar.muli arg15 c16_i32_359
  let c2_i32_360 : BitVec 32 := 2#32
  let v361 : BitVec 32 := Scalar.addi v360 c2_i32_360
  let v370 : Index := Scalar.indexCast v361
  let c16_366 : Index := 16#32
  ![v370.toNat, 16]
def k0_off195 (v373 : BitVec 32) : Fin 3 → Nat :=
  let c3_i32_369 : BitVec 32 := 3#32
  let v376 : Index := Scalar.indexCast c3_i32_369
  let v377 : Index := Scalar.indexCast v373
  let c0_370 : Index := 0#32
  ![3, v377.toNat, 0]

def k0_off196 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_367 : BitVec 32 := 16#32
  let v374 : BitVec 32 := Scalar.muli arg15 c16_i32_367
  let c3_i32_368 : BitVec 32 := 3#32
  let v375 : BitVec 32 := Scalar.addi v374 c3_i32_368
  let v379 : Index := Scalar.indexCast v375
  let c0_371 : Index := 0#32
  ![v379.toNat, 0]
def k0_off197 (v373 : BitVec 32) : Fin 3 → Nat :=
  let c3_i32_372 : BitVec 32 := 3#32
  let v381 : Index := Scalar.indexCast c3_i32_372
  let v382 : Index := Scalar.indexCast v373
  let c16_373 : Index := 16#32
  ![3, v382.toNat, 16]

def k0_chk84 (v373 : BitVec 32) : Prop :=
  (∀ a, (k0_off195 v373) a + S1x1x16.size a ≤ S16x8x32.size a) ∧
  (∀ a, (k0_off197 v373) a + S1x1x16.size a ≤ S16x8x32.size a)
theorem k0_off195_inb : ∀ (v373 : BitVec 32) (k0_hw84 : k0_chk84 v373), ∀ a, (k0_off195 v373) a + S1x1x16.size a ≤ S16x8x32.size a := fun v373 k0_hw84 => k0_hw84.1
theorem k0_off197_inb : ∀ (v373 : BitVec 32) (k0_hw84 : k0_chk84 v373), ∀ a, (k0_off197 v373) a + S1x1x16.size a ≤ S16x8x32.size a := fun v373 k0_hw84 => k0_hw84.2

def k0_off198 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_367 : BitVec 32 := 16#32
  let v374 : BitVec 32 := Scalar.muli arg15 c16_i32_367
  let c3_i32_368 : BitVec 32 := 3#32
  let v375 : BitVec 32 := Scalar.addi v374 c3_i32_368
  let v384 : Index := Scalar.indexCast v375
  let c16_374 : Index := 16#32
  ![v384.toNat, 16]
def k0_off199 (v387 : BitVec 32) : Fin 3 → Nat :=
  let c4_i32_377 : BitVec 32 := 4#32
  let v390 : Index := Scalar.indexCast c4_i32_377
  let v391 : Index := Scalar.indexCast v387
  let c0_378 : Index := 0#32
  ![4, v391.toNat, 0]

def k0_off200 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_375 : BitVec 32 := 16#32
  let v388 : BitVec 32 := Scalar.muli arg15 c16_i32_375
  let c4_i32_376 : BitVec 32 := 4#32
  let v389 : BitVec 32 := Scalar.addi v388 c4_i32_376
  let v393 : Index := Scalar.indexCast v389
  let c0_379 : Index := 0#32
  ![v393.toNat, 0]
def k0_off201 (v387 : BitVec 32) : Fin 3 → Nat :=
  let c4_i32_380 : BitVec 32 := 4#32
  let v395 : Index := Scalar.indexCast c4_i32_380
  let v396 : Index := Scalar.indexCast v387
  let c16_381 : Index := 16#32
  ![4, v396.toNat, 16]

def k0_chk85 (v387 : BitVec 32) : Prop :=
  (∀ a, (k0_off199 v387) a + S1x1x16.size a ≤ S16x8x32.size a) ∧
  (∀ a, (k0_off201 v387) a + S1x1x16.size a ≤ S16x8x32.size a)
theorem k0_off199_inb : ∀ (v387 : BitVec 32) (k0_hw85 : k0_chk85 v387), ∀ a, (k0_off199 v387) a + S1x1x16.size a ≤ S16x8x32.size a := fun v387 k0_hw85 => k0_hw85.1
theorem k0_off201_inb : ∀ (v387 : BitVec 32) (k0_hw85 : k0_chk85 v387), ∀ a, (k0_off201 v387) a + S1x1x16.size a ≤ S16x8x32.size a := fun v387 k0_hw85 => k0_hw85.2

def k0_off202 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_375 : BitVec 32 := 16#32
  let v388 : BitVec 32 := Scalar.muli arg15 c16_i32_375
  let c4_i32_376 : BitVec 32 := 4#32
  let v389 : BitVec 32 := Scalar.addi v388 c4_i32_376
  let v398 : Index := Scalar.indexCast v389
  let c16_382 : Index := 16#32
  ![v398.toNat, 16]
def k0_off203 (v401 : BitVec 32) : Fin 3 → Nat :=
  let c5_i32_385 : BitVec 32 := 5#32
  let v404 : Index := Scalar.indexCast c5_i32_385
  let v405 : Index := Scalar.indexCast v401
  let c0_386 : Index := 0#32
  ![5, v405.toNat, 0]

def k0_off204 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_383 : BitVec 32 := 16#32
  let v402 : BitVec 32 := Scalar.muli arg15 c16_i32_383
  let c5_i32_384 : BitVec 32 := 5#32
  let v403 : BitVec 32 := Scalar.addi v402 c5_i32_384
  let v407 : Index := Scalar.indexCast v403
  let c0_387 : Index := 0#32
  ![v407.toNat, 0]
def k0_off205 (v401 : BitVec 32) : Fin 3 → Nat :=
  let c5_i32_388 : BitVec 32 := 5#32
  let v409 : Index := Scalar.indexCast c5_i32_388
  let v410 : Index := Scalar.indexCast v401
  let c16_389 : Index := 16#32
  ![5, v410.toNat, 16]

def k0_chk86 (v401 : BitVec 32) : Prop :=
  (∀ a, (k0_off203 v401) a + S1x1x16.size a ≤ S16x8x32.size a) ∧
  (∀ a, (k0_off205 v401) a + S1x1x16.size a ≤ S16x8x32.size a)
theorem k0_off203_inb : ∀ (v401 : BitVec 32) (k0_hw86 : k0_chk86 v401), ∀ a, (k0_off203 v401) a + S1x1x16.size a ≤ S16x8x32.size a := fun v401 k0_hw86 => k0_hw86.1
theorem k0_off205_inb : ∀ (v401 : BitVec 32) (k0_hw86 : k0_chk86 v401), ∀ a, (k0_off205 v401) a + S1x1x16.size a ≤ S16x8x32.size a := fun v401 k0_hw86 => k0_hw86.2

def k0_off206 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_383 : BitVec 32 := 16#32
  let v402 : BitVec 32 := Scalar.muli arg15 c16_i32_383
  let c5_i32_384 : BitVec 32 := 5#32
  let v403 : BitVec 32 := Scalar.addi v402 c5_i32_384
  let v412 : Index := Scalar.indexCast v403
  let c16_390 : Index := 16#32
  ![v412.toNat, 16]
def k0_off207 (v415 : BitVec 32) : Fin 3 → Nat :=
  let c6_i32_393 : BitVec 32 := 6#32
  let v418 : Index := Scalar.indexCast c6_i32_393
  let v419 : Index := Scalar.indexCast v415
  let c0_394 : Index := 0#32
  ![6, v419.toNat, 0]

def k0_off208 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_391 : BitVec 32 := 16#32
  let v416 : BitVec 32 := Scalar.muli arg15 c16_i32_391
  let c6_i32_392 : BitVec 32 := 6#32
  let v417 : BitVec 32 := Scalar.addi v416 c6_i32_392
  let v421 : Index := Scalar.indexCast v417
  let c0_395 : Index := 0#32
  ![v421.toNat, 0]
def k0_off209 (v415 : BitVec 32) : Fin 3 → Nat :=
  let c6_i32_396 : BitVec 32 := 6#32
  let v423 : Index := Scalar.indexCast c6_i32_396
  let v424 : Index := Scalar.indexCast v415
  let c16_397 : Index := 16#32
  ![6, v424.toNat, 16]

def k0_chk87 (v415 : BitVec 32) : Prop :=
  (∀ a, (k0_off207 v415) a + S1x1x16.size a ≤ S16x8x32.size a) ∧
  (∀ a, (k0_off209 v415) a + S1x1x16.size a ≤ S16x8x32.size a)
theorem k0_off207_inb : ∀ (v415 : BitVec 32) (k0_hw87 : k0_chk87 v415), ∀ a, (k0_off207 v415) a + S1x1x16.size a ≤ S16x8x32.size a := fun v415 k0_hw87 => k0_hw87.1
theorem k0_off209_inb : ∀ (v415 : BitVec 32) (k0_hw87 : k0_chk87 v415), ∀ a, (k0_off209 v415) a + S1x1x16.size a ≤ S16x8x32.size a := fun v415 k0_hw87 => k0_hw87.2

def k0_off210 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_391 : BitVec 32 := 16#32
  let v416 : BitVec 32 := Scalar.muli arg15 c16_i32_391
  let c6_i32_392 : BitVec 32 := 6#32
  let v417 : BitVec 32 := Scalar.addi v416 c6_i32_392
  let v426 : Index := Scalar.indexCast v417
  let c16_398 : Index := 16#32
  ![v426.toNat, 16]
def k0_off211 (v429 : BitVec 32) : Fin 3 → Nat :=
  let c7_i32_401 : BitVec 32 := 7#32
  let v432 : Index := Scalar.indexCast c7_i32_401
  let v433 : Index := Scalar.indexCast v429
  let c0_402 : Index := 0#32
  ![7, v433.toNat, 0]

def k0_off212 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_399 : BitVec 32 := 16#32
  let v430 : BitVec 32 := Scalar.muli arg15 c16_i32_399
  let c7_i32_400 : BitVec 32 := 7#32
  let v431 : BitVec 32 := Scalar.addi v430 c7_i32_400
  let v435 : Index := Scalar.indexCast v431
  let c0_403 : Index := 0#32
  ![v435.toNat, 0]
def k0_off213 (v429 : BitVec 32) : Fin 3 → Nat :=
  let c7_i32_404 : BitVec 32 := 7#32
  let v437 : Index := Scalar.indexCast c7_i32_404
  let v438 : Index := Scalar.indexCast v429
  let c16_405 : Index := 16#32
  ![7, v438.toNat, 16]

def k0_chk88 (v429 : BitVec 32) : Prop :=
  (∀ a, (k0_off211 v429) a + S1x1x16.size a ≤ S16x8x32.size a) ∧
  (∀ a, (k0_off213 v429) a + S1x1x16.size a ≤ S16x8x32.size a)
theorem k0_off211_inb : ∀ (v429 : BitVec 32) (k0_hw88 : k0_chk88 v429), ∀ a, (k0_off211 v429) a + S1x1x16.size a ≤ S16x8x32.size a := fun v429 k0_hw88 => k0_hw88.1
theorem k0_off213_inb : ∀ (v429 : BitVec 32) (k0_hw88 : k0_chk88 v429), ∀ a, (k0_off213 v429) a + S1x1x16.size a ≤ S16x8x32.size a := fun v429 k0_hw88 => k0_hw88.2

def k0_off214 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_399 : BitVec 32 := 16#32
  let v430 : BitVec 32 := Scalar.muli arg15 c16_i32_399
  let c7_i32_400 : BitVec 32 := 7#32
  let v431 : BitVec 32 := Scalar.addi v430 c7_i32_400
  let v440 : Index := Scalar.indexCast v431
  let c16_406 : Index := 16#32
  ![v440.toNat, 16]
def k0_off215 (v443 : BitVec 32) : Fin 3 → Nat :=
  let c8_i32_409 : BitVec 32 := 8#32
  let v446 : Index := Scalar.indexCast c8_i32_409
  let v447 : Index := Scalar.indexCast v443
  let c0_410 : Index := 0#32
  ![8, v447.toNat, 0]

def k0_off216 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_407 : BitVec 32 := 16#32
  let v444 : BitVec 32 := Scalar.muli arg15 c16_i32_407
  let c8_i32_408 : BitVec 32 := 8#32
  let v445 : BitVec 32 := Scalar.addi v444 c8_i32_408
  let v449 : Index := Scalar.indexCast v445
  let c0_411 : Index := 0#32
  ![v449.toNat, 0]
def k0_off217 (v443 : BitVec 32) : Fin 3 → Nat :=
  let c8_i32_412 : BitVec 32 := 8#32
  let v451 : Index := Scalar.indexCast c8_i32_412
  let v452 : Index := Scalar.indexCast v443
  let c16_413 : Index := 16#32
  ![8, v452.toNat, 16]

def k0_chk89 (v443 : BitVec 32) : Prop :=
  (∀ a, (k0_off215 v443) a + S1x1x16.size a ≤ S16x8x32.size a) ∧
  (∀ a, (k0_off217 v443) a + S1x1x16.size a ≤ S16x8x32.size a)
theorem k0_off215_inb : ∀ (v443 : BitVec 32) (k0_hw89 : k0_chk89 v443), ∀ a, (k0_off215 v443) a + S1x1x16.size a ≤ S16x8x32.size a := fun v443 k0_hw89 => k0_hw89.1
theorem k0_off217_inb : ∀ (v443 : BitVec 32) (k0_hw89 : k0_chk89 v443), ∀ a, (k0_off217 v443) a + S1x1x16.size a ≤ S16x8x32.size a := fun v443 k0_hw89 => k0_hw89.2

def k0_off218 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_407 : BitVec 32 := 16#32
  let v444 : BitVec 32 := Scalar.muli arg15 c16_i32_407
  let c8_i32_408 : BitVec 32 := 8#32
  let v445 : BitVec 32 := Scalar.addi v444 c8_i32_408
  let v454 : Index := Scalar.indexCast v445
  let c16_414 : Index := 16#32
  ![v454.toNat, 16]
def k0_off219 (v457 : BitVec 32) : Fin 3 → Nat :=
  let c9_i32_417 : BitVec 32 := 9#32
  let v460 : Index := Scalar.indexCast c9_i32_417
  let v461 : Index := Scalar.indexCast v457
  let c0_418 : Index := 0#32
  ![9, v461.toNat, 0]

def k0_off220 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_415 : BitVec 32 := 16#32
  let v458 : BitVec 32 := Scalar.muli arg15 c16_i32_415
  let c9_i32_416 : BitVec 32 := 9#32
  let v459 : BitVec 32 := Scalar.addi v458 c9_i32_416
  let v463 : Index := Scalar.indexCast v459
  let c0_419 : Index := 0#32
  ![v463.toNat, 0]
def k0_off221 (v457 : BitVec 32) : Fin 3 → Nat :=
  let c9_i32_420 : BitVec 32 := 9#32
  let v465 : Index := Scalar.indexCast c9_i32_420
  let v466 : Index := Scalar.indexCast v457
  let c16_421 : Index := 16#32
  ![9, v466.toNat, 16]

def k0_chk90 (v457 : BitVec 32) : Prop :=
  (∀ a, (k0_off219 v457) a + S1x1x16.size a ≤ S16x8x32.size a) ∧
  (∀ a, (k0_off221 v457) a + S1x1x16.size a ≤ S16x8x32.size a)
theorem k0_off219_inb : ∀ (v457 : BitVec 32) (k0_hw90 : k0_chk90 v457), ∀ a, (k0_off219 v457) a + S1x1x16.size a ≤ S16x8x32.size a := fun v457 k0_hw90 => k0_hw90.1
theorem k0_off221_inb : ∀ (v457 : BitVec 32) (k0_hw90 : k0_chk90 v457), ∀ a, (k0_off221 v457) a + S1x1x16.size a ≤ S16x8x32.size a := fun v457 k0_hw90 => k0_hw90.2

def k0_off222 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_415 : BitVec 32 := 16#32
  let v458 : BitVec 32 := Scalar.muli arg15 c16_i32_415
  let c9_i32_416 : BitVec 32 := 9#32
  let v459 : BitVec 32 := Scalar.addi v458 c9_i32_416
  let v468 : Index := Scalar.indexCast v459
  let c16_422 : Index := 16#32
  ![v468.toNat, 16]
def k0_off223 (v471 : BitVec 32) : Fin 3 → Nat :=
  let c10_i32_425 : BitVec 32 := 10#32
  let v474 : Index := Scalar.indexCast c10_i32_425
  let v475 : Index := Scalar.indexCast v471
  let c0_426 : Index := 0#32
  ![10, v475.toNat, 0]

def k0_off224 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_423 : BitVec 32 := 16#32
  let v472 : BitVec 32 := Scalar.muli arg15 c16_i32_423
  let c10_i32_424 : BitVec 32 := 10#32
  let v473 : BitVec 32 := Scalar.addi v472 c10_i32_424
  let v477 : Index := Scalar.indexCast v473
  let c0_427 : Index := 0#32
  ![v477.toNat, 0]
def k0_off225 (v471 : BitVec 32) : Fin 3 → Nat :=
  let c10_i32_428 : BitVec 32 := 10#32
  let v479 : Index := Scalar.indexCast c10_i32_428
  let v480 : Index := Scalar.indexCast v471
  let c16_429 : Index := 16#32
  ![10, v480.toNat, 16]

def k0_chk91 (v471 : BitVec 32) : Prop :=
  (∀ a, (k0_off223 v471) a + S1x1x16.size a ≤ S16x8x32.size a) ∧
  (∀ a, (k0_off225 v471) a + S1x1x16.size a ≤ S16x8x32.size a)
theorem k0_off223_inb : ∀ (v471 : BitVec 32) (k0_hw91 : k0_chk91 v471), ∀ a, (k0_off223 v471) a + S1x1x16.size a ≤ S16x8x32.size a := fun v471 k0_hw91 => k0_hw91.1
theorem k0_off225_inb : ∀ (v471 : BitVec 32) (k0_hw91 : k0_chk91 v471), ∀ a, (k0_off225 v471) a + S1x1x16.size a ≤ S16x8x32.size a := fun v471 k0_hw91 => k0_hw91.2

def k0_off226 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_423 : BitVec 32 := 16#32
  let v472 : BitVec 32 := Scalar.muli arg15 c16_i32_423
  let c10_i32_424 : BitVec 32 := 10#32
  let v473 : BitVec 32 := Scalar.addi v472 c10_i32_424
  let v482 : Index := Scalar.indexCast v473
  let c16_430 : Index := 16#32
  ![v482.toNat, 16]
def k0_off227 (v485 : BitVec 32) : Fin 3 → Nat :=
  let c11_i32_433 : BitVec 32 := 11#32
  let v488 : Index := Scalar.indexCast c11_i32_433
  let v489 : Index := Scalar.indexCast v485
  let c0_434 : Index := 0#32
  ![11, v489.toNat, 0]

def k0_off228 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_431 : BitVec 32 := 16#32
  let v486 : BitVec 32 := Scalar.muli arg15 c16_i32_431
  let c11_i32_432 : BitVec 32 := 11#32
  let v487 : BitVec 32 := Scalar.addi v486 c11_i32_432
  let v491 : Index := Scalar.indexCast v487
  let c0_435 : Index := 0#32
  ![v491.toNat, 0]
def k0_off229 (v485 : BitVec 32) : Fin 3 → Nat :=
  let c11_i32_436 : BitVec 32 := 11#32
  let v493 : Index := Scalar.indexCast c11_i32_436
  let v494 : Index := Scalar.indexCast v485
  let c16_437 : Index := 16#32
  ![11, v494.toNat, 16]

def k0_chk92 (v485 : BitVec 32) : Prop :=
  (∀ a, (k0_off227 v485) a + S1x1x16.size a ≤ S16x8x32.size a) ∧
  (∀ a, (k0_off229 v485) a + S1x1x16.size a ≤ S16x8x32.size a)
theorem k0_off227_inb : ∀ (v485 : BitVec 32) (k0_hw92 : k0_chk92 v485), ∀ a, (k0_off227 v485) a + S1x1x16.size a ≤ S16x8x32.size a := fun v485 k0_hw92 => k0_hw92.1
theorem k0_off229_inb : ∀ (v485 : BitVec 32) (k0_hw92 : k0_chk92 v485), ∀ a, (k0_off229 v485) a + S1x1x16.size a ≤ S16x8x32.size a := fun v485 k0_hw92 => k0_hw92.2

def k0_off230 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_431 : BitVec 32 := 16#32
  let v486 : BitVec 32 := Scalar.muli arg15 c16_i32_431
  let c11_i32_432 : BitVec 32 := 11#32
  let v487 : BitVec 32 := Scalar.addi v486 c11_i32_432
  let v496 : Index := Scalar.indexCast v487
  let c16_438 : Index := 16#32
  ![v496.toNat, 16]
def k0_off231 (v499 : BitVec 32) : Fin 3 → Nat :=
  let c12_i32_441 : BitVec 32 := 12#32
  let v502 : Index := Scalar.indexCast c12_i32_441
  let v503 : Index := Scalar.indexCast v499
  let c0_442 : Index := 0#32
  ![12, v503.toNat, 0]

def k0_off232 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_439 : BitVec 32 := 16#32
  let v500 : BitVec 32 := Scalar.muli arg15 c16_i32_439
  let c12_i32_440 : BitVec 32 := 12#32
  let v501 : BitVec 32 := Scalar.addi v500 c12_i32_440
  let v505 : Index := Scalar.indexCast v501
  let c0_443 : Index := 0#32
  ![v505.toNat, 0]
def k0_off233 (v499 : BitVec 32) : Fin 3 → Nat :=
  let c12_i32_444 : BitVec 32 := 12#32
  let v507 : Index := Scalar.indexCast c12_i32_444
  let v508 : Index := Scalar.indexCast v499
  let c16_445 : Index := 16#32
  ![12, v508.toNat, 16]

def k0_chk93 (v499 : BitVec 32) : Prop :=
  (∀ a, (k0_off231 v499) a + S1x1x16.size a ≤ S16x8x32.size a) ∧
  (∀ a, (k0_off233 v499) a + S1x1x16.size a ≤ S16x8x32.size a)
theorem k0_off231_inb : ∀ (v499 : BitVec 32) (k0_hw93 : k0_chk93 v499), ∀ a, (k0_off231 v499) a + S1x1x16.size a ≤ S16x8x32.size a := fun v499 k0_hw93 => k0_hw93.1
theorem k0_off233_inb : ∀ (v499 : BitVec 32) (k0_hw93 : k0_chk93 v499), ∀ a, (k0_off233 v499) a + S1x1x16.size a ≤ S16x8x32.size a := fun v499 k0_hw93 => k0_hw93.2

def k0_off234 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_439 : BitVec 32 := 16#32
  let v500 : BitVec 32 := Scalar.muli arg15 c16_i32_439
  let c12_i32_440 : BitVec 32 := 12#32
  let v501 : BitVec 32 := Scalar.addi v500 c12_i32_440
  let v510 : Index := Scalar.indexCast v501
  let c16_446 : Index := 16#32
  ![v510.toNat, 16]
def k0_off235 (v513 : BitVec 32) : Fin 3 → Nat :=
  let c13_i32_449 : BitVec 32 := 13#32
  let v516 : Index := Scalar.indexCast c13_i32_449
  let v517 : Index := Scalar.indexCast v513
  let c0_450 : Index := 0#32
  ![13, v517.toNat, 0]

def k0_off236 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_447 : BitVec 32 := 16#32
  let v514 : BitVec 32 := Scalar.muli arg15 c16_i32_447
  let c13_i32_448 : BitVec 32 := 13#32
  let v515 : BitVec 32 := Scalar.addi v514 c13_i32_448
  let v519 : Index := Scalar.indexCast v515
  let c0_451 : Index := 0#32
  ![v519.toNat, 0]
def k0_off237 (v513 : BitVec 32) : Fin 3 → Nat :=
  let c13_i32_452 : BitVec 32 := 13#32
  let v521 : Index := Scalar.indexCast c13_i32_452
  let v522 : Index := Scalar.indexCast v513
  let c16_453 : Index := 16#32
  ![13, v522.toNat, 16]

def k0_chk94 (v513 : BitVec 32) : Prop :=
  (∀ a, (k0_off235 v513) a + S1x1x16.size a ≤ S16x8x32.size a) ∧
  (∀ a, (k0_off237 v513) a + S1x1x16.size a ≤ S16x8x32.size a)
theorem k0_off235_inb : ∀ (v513 : BitVec 32) (k0_hw94 : k0_chk94 v513), ∀ a, (k0_off235 v513) a + S1x1x16.size a ≤ S16x8x32.size a := fun v513 k0_hw94 => k0_hw94.1
theorem k0_off237_inb : ∀ (v513 : BitVec 32) (k0_hw94 : k0_chk94 v513), ∀ a, (k0_off237 v513) a + S1x1x16.size a ≤ S16x8x32.size a := fun v513 k0_hw94 => k0_hw94.2

def k0_off238 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_447 : BitVec 32 := 16#32
  let v514 : BitVec 32 := Scalar.muli arg15 c16_i32_447
  let c13_i32_448 : BitVec 32 := 13#32
  let v515 : BitVec 32 := Scalar.addi v514 c13_i32_448
  let v524 : Index := Scalar.indexCast v515
  let c16_454 : Index := 16#32
  ![v524.toNat, 16]
def k0_off239 (v527 : BitVec 32) : Fin 3 → Nat :=
  let c14_i32_457 : BitVec 32 := 14#32
  let v530 : Index := Scalar.indexCast c14_i32_457
  let v531 : Index := Scalar.indexCast v527
  let c0_458 : Index := 0#32
  ![14, v531.toNat, 0]

def k0_off240 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_455 : BitVec 32 := 16#32
  let v528 : BitVec 32 := Scalar.muli arg15 c16_i32_455
  let c14_i32_456 : BitVec 32 := 14#32
  let v529 : BitVec 32 := Scalar.addi v528 c14_i32_456
  let v533 : Index := Scalar.indexCast v529
  let c0_459 : Index := 0#32
  ![v533.toNat, 0]
def k0_off241 (v527 : BitVec 32) : Fin 3 → Nat :=
  let c14_i32_460 : BitVec 32 := 14#32
  let v535 : Index := Scalar.indexCast c14_i32_460
  let v536 : Index := Scalar.indexCast v527
  let c16_461 : Index := 16#32
  ![14, v536.toNat, 16]

def k0_chk95 (v527 : BitVec 32) : Prop :=
  (∀ a, (k0_off239 v527) a + S1x1x16.size a ≤ S16x8x32.size a) ∧
  (∀ a, (k0_off241 v527) a + S1x1x16.size a ≤ S16x8x32.size a)
theorem k0_off239_inb : ∀ (v527 : BitVec 32) (k0_hw95 : k0_chk95 v527), ∀ a, (k0_off239 v527) a + S1x1x16.size a ≤ S16x8x32.size a := fun v527 k0_hw95 => k0_hw95.1
theorem k0_off241_inb : ∀ (v527 : BitVec 32) (k0_hw95 : k0_chk95 v527), ∀ a, (k0_off241 v527) a + S1x1x16.size a ≤ S16x8x32.size a := fun v527 k0_hw95 => k0_hw95.2

def k0_off242 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_455 : BitVec 32 := 16#32
  let v528 : BitVec 32 := Scalar.muli arg15 c16_i32_455
  let c14_i32_456 : BitVec 32 := 14#32
  let v529 : BitVec 32 := Scalar.addi v528 c14_i32_456
  let v538 : Index := Scalar.indexCast v529
  let c16_462 : Index := 16#32
  ![v538.toNat, 16]
def k0_off243 (v541 : BitVec 32) : Fin 3 → Nat :=
  let c15_i32_465 : BitVec 32 := 15#32
  let v544 : Index := Scalar.indexCast c15_i32_465
  let v545 : Index := Scalar.indexCast v541
  let c0_466 : Index := 0#32
  ![15, v545.toNat, 0]

def k0_off244 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_463 : BitVec 32 := 16#32
  let v542 : BitVec 32 := Scalar.muli arg15 c16_i32_463
  let c15_i32_464 : BitVec 32 := 15#32
  let v543 : BitVec 32 := Scalar.addi v542 c15_i32_464
  let v547 : Index := Scalar.indexCast v543
  let c0_467 : Index := 0#32
  ![v547.toNat, 0]
def k0_off245 (v541 : BitVec 32) : Fin 3 → Nat :=
  let c15_i32_468 : BitVec 32 := 15#32
  let v549 : Index := Scalar.indexCast c15_i32_468
  let v550 : Index := Scalar.indexCast v541
  let c16_469 : Index := 16#32
  ![15, v550.toNat, 16]

def k0_chk96 (v541 : BitVec 32) : Prop :=
  (∀ a, (k0_off243 v541) a + S1x1x16.size a ≤ S16x8x32.size a) ∧
  (∀ a, (k0_off245 v541) a + S1x1x16.size a ≤ S16x8x32.size a)
theorem k0_off243_inb : ∀ (v541 : BitVec 32) (k0_hw96 : k0_chk96 v541), ∀ a, (k0_off243 v541) a + S1x1x16.size a ≤ S16x8x32.size a := fun v541 k0_hw96 => k0_hw96.1
theorem k0_off245_inb : ∀ (v541 : BitVec 32) (k0_hw96 : k0_chk96 v541), ∀ a, (k0_off245 v541) a + S1x1x16.size a ≤ S16x8x32.size a := fun v541 k0_hw96 => k0_hw96.2

def k0_off246 (k0_t6 : Fin k0_t6_loop.trips) : Fin 2 → Nat :=
  let c0_i32_44 : BitVec 32 := 0#32
  let c1_i32_45 : BitVec 32 := 1#32
  let arg15 : BitVec 32 := Scf.iv c0_i32_44 c1_i32_45 k0_t6
  let c16_i32_463 : BitVec 32 := 16#32
  let v542 : BitVec 32 := Scalar.muli arg15 c16_i32_463
  let c15_i32_464 : BitVec 32 := 15#32
  let v543 : BitVec 32 := Scalar.addi v542 c15_i32_464
  let v552 : Index := Scalar.indexCast v543
  let c16_470 : Index := 16#32
  ![v552.toNat, 16]
def k0_off247 (i : grid0.Coords) (k0_t5 : Fin k0_t5_loop.trips) : Fin 3 → Nat :=
  let c2_i32_48 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_9 : BitVec 32 := 0#32
  let c1_i32_11 : BitVec 32 := 1#32
  let arg13 : BitVec 32 := Scf.iv c0_i32_9 c1_i32_11 k0_t5
  let c128_i32_47 : BitVec 32 := 128#32
  let v32 : BitVec 32 := Scalar.muli arg13 c128_i32_47
  let v33 : BitVec 32 := Scalar.addi v2 v32
  let c0_i32_50_r5 : BitVec 32 := 0#32
  ![2, v33.toNat, 0]
@[reducible] def k0_t7_loop : Scf.Loop 32 :=
  let c0_i32_14 : BitVec 32 := 0#32
  let c4_i32_15 : BitVec 32 := 4#32
  let v13 : BitVec 32 := Scalar.addi c0_i32_14 c4_i32_15
  let c1_i32_16 : BitVec 32 := 1#32
  ⟨c0_i32_14, v13, c1_i32_16⟩
@[reducible] def k0_t8_loop : Scf.Loop 32 :=
  let c0_i32_44 : BitVec 32 := 0#32
  let c8_i32 : BitVec 32 := 8#32
  let v30 : BitVec 32 := Scalar.addi c0_i32_44 c8_i32
  let c1_i32_45 : BitVec 32 := 1#32
  ⟨c0_i32_44, v30, c1_i32_45⟩
def k0_off248 (k0_t7 : Fin k0_t7_loop.trips) (k0_t8 : Fin k0_t8_loop.trips) : Fin 2 → Nat :=
  let c0_i32_14 : BitVec 32 := 0#32
  let c1_i32_16 : BitVec 32 := 1#32
  let arg13 : BitVec 32 := Scf.iv c0_i32_14 c1_i32_16 k0_t7
  let v35 : Index := Scalar.indexCast arg13
  let c0_i32_44 : BitVec 32 := 0#32
  let c1_i32_45 : BitVec 32 := 1#32
  let arg15 : BitVec 32 := Scf.iv c0_i32_44 c1_i32_45 k0_t8
  let c16_i32 : BitVec 32 := 16#32
  let v34 : BitVec 32 := Scalar.muli arg15 c16_i32
  let v36 : Index := Scalar.indexCast v34
  ![v35.toNat, v36.toNat]
def k0_off249 (v43 : BitVec 32) : Fin 3 → Nat :=
  let c0_i32_53 : BitVec 32 := 0#32
  let c0_i32_54 : BitVec 32 := 0#32
  ![v43.toNat, 0, 0]

def k0_chk97 (v43 : BitVec 32) : Prop :=
  (∀ a, (k0_off249 v43) a + S1x8x32.size a ≤ S125x8x32.size a)
theorem k0_off249_inb : ∀ (v43 : BitVec 32) (k0_hw97 : k0_chk97 v43), ∀ a, (k0_off249 v43) a + S1x8x32.size a ≤ S125x8x32.size a := fun v43 k0_hw97 => k0_hw97

def k0_off250 (v53 : BitVec 32) : Fin 3 → Nat :=
  let c0_i32_62 : BitVec 32 := 0#32
  let c0_i32_63 : BitVec 32 := 0#32
  ![v53.toNat, 0, 0]

def k0_chk98 (v53 : BitVec 32) : Prop :=
  (∀ a, (k0_off250 v53) a + S1x8x32.size a ≤ S125x8x32.size a)
theorem k0_off250_inb : ∀ (v53 : BitVec 32) (k0_hw98 : k0_chk98 v53), ∀ a, (k0_off250 v53) a + S1x8x32.size a ≤ S125x8x32.size a := fun v53 k0_hw98 => k0_hw98

def k0_off251 (v63 : BitVec 32) : Fin 3 → Nat :=
  let c0_i32_71 : BitVec 32 := 0#32
  let c0_i32_72 : BitVec 32 := 0#32
  ![v63.toNat, 0, 0]

def k0_chk99 (v63 : BitVec 32) : Prop :=
  (∀ a, (k0_off251 v63) a + S1x8x32.size a ≤ S125x8x32.size a)
theorem k0_off251_inb : ∀ (v63 : BitVec 32) (k0_hw99 : k0_chk99 v63), ∀ a, (k0_off251 v63) a + S1x8x32.size a ≤ S125x8x32.size a := fun v63 k0_hw99 => k0_hw99

def k0_off252 (v73 : BitVec 32) : Fin 3 → Nat :=
  let c0_i32_80 : BitVec 32 := 0#32
  let c0_i32_81 : BitVec 32 := 0#32
  ![v73.toNat, 0, 0]

def k0_chk100 (v73 : BitVec 32) : Prop :=
  (∀ a, (k0_off252 v73) a + S1x8x32.size a ≤ S125x8x32.size a)
theorem k0_off252_inb : ∀ (v73 : BitVec 32) (k0_hw100 : k0_chk100 v73), ∀ a, (k0_off252 v73) a + S1x8x32.size a ≤ S125x8x32.size a := fun v73 k0_hw100 => k0_hw100

def k0_off253 (v83 : BitVec 32) : Fin 3 → Nat :=
  let c0_i32_89 : BitVec 32 := 0#32
  let c0_i32_90 : BitVec 32 := 0#32
  ![v83.toNat, 0, 0]

def k0_chk101 (v83 : BitVec 32) : Prop :=
  (∀ a, (k0_off253 v83) a + S1x8x32.size a ≤ S125x8x32.size a)
theorem k0_off253_inb : ∀ (v83 : BitVec 32) (k0_hw101 : k0_chk101 v83), ∀ a, (k0_off253 v83) a + S1x8x32.size a ≤ S125x8x32.size a := fun v83 k0_hw101 => k0_hw101

def k0_off254 (v93 : BitVec 32) : Fin 3 → Nat :=
  let c0_i32_97 : BitVec 32 := 0#32
  let c0_i32_98 : BitVec 32 := 0#32
  ![v93.toNat, 0, 0]

def k0_chk102 (v93 : BitVec 32) : Prop :=
  (∀ a, (k0_off254 v93) a + S1x8x32.size a ≤ S125x8x32.size a)
theorem k0_off254_inb : ∀ (v93 : BitVec 32) (k0_hw102 : k0_chk102 v93), ∀ a, (k0_off254 v93) a + S1x8x32.size a ≤ S125x8x32.size a := fun v93 k0_hw102 => k0_hw102

def k0_off255 (v103 : BitVec 32) : Fin 3 → Nat :=
  let c0_i32_105 : BitVec 32 := 0#32
  let c0_i32_106 : BitVec 32 := 0#32
  ![v103.toNat, 0, 0]

def k0_chk103 (v103 : BitVec 32) : Prop :=
  (∀ a, (k0_off255 v103) a + S1x8x32.size a ≤ S125x8x32.size a)
theorem k0_off255_inb : ∀ (v103 : BitVec 32) (k0_hw103 : k0_chk103 v103), ∀ a, (k0_off255 v103) a + S1x8x32.size a ≤ S125x8x32.size a := fun v103 k0_hw103 => k0_hw103

def k0_off256 (v113 : BitVec 32) : Fin 3 → Nat :=
  let c0_i32_114 : BitVec 32 := 0#32
  let c0_i32_115 : BitVec 32 := 0#32
  ![v113.toNat, 0, 0]

def k0_chk104 (v113 : BitVec 32) : Prop :=
  (∀ a, (k0_off256 v113) a + S1x8x32.size a ≤ S125x8x32.size a)
theorem k0_off256_inb : ∀ (v113 : BitVec 32) (k0_hw104 : k0_chk104 v113), ∀ a, (k0_off256 v113) a + S1x8x32.size a ≤ S125x8x32.size a := fun v113 k0_hw104 => k0_hw104

def k0_off257 (v123 : BitVec 32) : Fin 3 → Nat :=
  let c0_i32_123 : BitVec 32 := 0#32
  let c0_i32_124 : BitVec 32 := 0#32
  ![v123.toNat, 0, 0]

def k0_chk105 (v123 : BitVec 32) : Prop :=
  (∀ a, (k0_off257 v123) a + S1x8x32.size a ≤ S125x8x32.size a)
theorem k0_off257_inb : ∀ (v123 : BitVec 32) (k0_hw105 : k0_chk105 v123), ∀ a, (k0_off257 v123) a + S1x8x32.size a ≤ S125x8x32.size a := fun v123 k0_hw105 => k0_hw105

def k0_off258 (v133 : BitVec 32) : Fin 3 → Nat :=
  let c0_i32_131 : BitVec 32 := 0#32
  let c0_i32_132 : BitVec 32 := 0#32
  ![v133.toNat, 0, 0]

def k0_chk106 (v133 : BitVec 32) : Prop :=
  (∀ a, (k0_off258 v133) a + S1x8x32.size a ≤ S125x8x32.size a)
theorem k0_off258_inb : ∀ (v133 : BitVec 32) (k0_hw106 : k0_chk106 v133), ∀ a, (k0_off258 v133) a + S1x8x32.size a ≤ S125x8x32.size a := fun v133 k0_hw106 => k0_hw106

def k0_off259 (v143 : BitVec 32) : Fin 3 → Nat :=
  let c0_i32_139 : BitVec 32 := 0#32
  let c0_i32_140 : BitVec 32 := 0#32
  ![v143.toNat, 0, 0]

def k0_chk107 (v143 : BitVec 32) : Prop :=
  (∀ a, (k0_off259 v143) a + S1x8x32.size a ≤ S125x8x32.size a)
theorem k0_off259_inb : ∀ (v143 : BitVec 32) (k0_hw107 : k0_chk107 v143), ∀ a, (k0_off259 v143) a + S1x8x32.size a ≤ S125x8x32.size a := fun v143 k0_hw107 => k0_hw107

def k0_off260 (v153 : BitVec 32) : Fin 3 → Nat :=
  let c0_i32_147 : BitVec 32 := 0#32
  let c0_i32_148 : BitVec 32 := 0#32
  ![v153.toNat, 0, 0]

def k0_chk108 (v153 : BitVec 32) : Prop :=
  (∀ a, (k0_off260 v153) a + S1x8x32.size a ≤ S125x8x32.size a)
theorem k0_off260_inb : ∀ (v153 : BitVec 32) (k0_hw108 : k0_chk108 v153), ∀ a, (k0_off260 v153) a + S1x8x32.size a ≤ S125x8x32.size a := fun v153 k0_hw108 => k0_hw108

def k0_off261 (v163 : BitVec 32) : Fin 3 → Nat :=
  let c0_i32_155 : BitVec 32 := 0#32
  let c0_i32_156 : BitVec 32 := 0#32
  ![v163.toNat, 0, 0]

def k0_chk109 (v163 : BitVec 32) : Prop :=
  (∀ a, (k0_off261 v163) a + S1x8x32.size a ≤ S125x8x32.size a)
theorem k0_off261_inb : ∀ (v163 : BitVec 32) (k0_hw109 : k0_chk109 v163), ∀ a, (k0_off261 v163) a + S1x8x32.size a ≤ S125x8x32.size a := fun v163 k0_hw109 => k0_hw109

def k0_off262 (v173 : BitVec 32) : Fin 3 → Nat :=
  let c0_i32_163 : BitVec 32 := 0#32
  let c0_i32_164 : BitVec 32 := 0#32
  ![v173.toNat, 0, 0]

def k0_chk110 (v173 : BitVec 32) : Prop :=
  (∀ a, (k0_off262 v173) a + S1x8x32.size a ≤ S125x8x32.size a)
theorem k0_off262_inb : ∀ (v173 : BitVec 32) (k0_hw110 : k0_chk110 v173), ∀ a, (k0_off262 v173) a + S1x8x32.size a ≤ S125x8x32.size a := fun v173 k0_hw110 => k0_hw110

def k0_off263 (v183 : BitVec 32) : Fin 3 → Nat :=
  let c0_i32_171 : BitVec 32 := 0#32
  let c0_i32_172 : BitVec 32 := 0#32
  ![v183.toNat, 0, 0]

def k0_chk111 (v183 : BitVec 32) : Prop :=
  (∀ a, (k0_off263 v183) a + S1x8x32.size a ≤ S125x8x32.size a)
theorem k0_off263_inb : ∀ (v183 : BitVec 32) (k0_hw111 : k0_chk111 v183), ∀ a, (k0_off263 v183) a + S1x8x32.size a ≤ S125x8x32.size a := fun v183 k0_hw111 => k0_hw111

def k0_off264 (v193 : BitVec 32) : Fin 3 → Nat :=
  let c0_i32_179 : BitVec 32 := 0#32
  let c0_i32_180 : BitVec 32 := 0#32
  ![v193.toNat, 0, 0]

def k0_chk112 (v193 : BitVec 32) : Prop :=
  (∀ a, (k0_off264 v193) a + S1x8x32.size a ≤ S125x8x32.size a)
theorem k0_off264_inb : ∀ (v193 : BitVec 32) (k0_hw112 : k0_chk112 v193), ∀ a, (k0_off264 v193) a + S1x8x32.size a ≤ S125x8x32.size a := fun v193 k0_hw112 => k0_hw112

def k0_off265 (v331 : BitVec 32) : Fin 3 → Nat :=
  let c0_i32_347 : BitVec 32 := 0#32
  let v334 : Index := Scalar.indexCast c0_i32_347
  let v335 : Index := Scalar.indexCast v331
  let c0 : Index := 0#32
  ![0, v335.toNat, 0]

def k0_off266 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_345 : BitVec 32 := 16#32
  let v332 : BitVec 32 := Scalar.muli arg15 c16_i32_345
  let c0_i32_346 : BitVec 32 := 0#32
  let v333 : BitVec 32 := Scalar.addi v332 c0_i32_346
  let v337 : Index := Scalar.indexCast v333
  let c0_348 : Index := 0#32
  ![v337.toNat, 0]
def k0_off267 (v331 : BitVec 32) : Fin 3 → Nat :=
  let c0_i32_349 : BitVec 32 := 0#32
  let v339 : Index := Scalar.indexCast c0_i32_349
  let v340 : Index := Scalar.indexCast v331
  let c16 : Index := 16#32
  ![0, v340.toNat, 16]

def k0_chk113 (v331 : BitVec 32) : Prop :=
  (∀ a, (k0_off265 v331) a + S1x1x16.size a ≤ S16x8x32.size a) ∧
  (∀ a, (k0_off267 v331) a + S1x1x16.size a ≤ S16x8x32.size a)
theorem k0_off265_inb : ∀ (v331 : BitVec 32) (k0_hw113 : k0_chk113 v331), ∀ a, (k0_off265 v331) a + S1x1x16.size a ≤ S16x8x32.size a := fun v331 k0_hw113 => k0_hw113.1
theorem k0_off267_inb : ∀ (v331 : BitVec 32) (k0_hw113 : k0_chk113 v331), ∀ a, (k0_off267 v331) a + S1x1x16.size a ≤ S16x8x32.size a := fun v331 k0_hw113 => k0_hw113.2

def k0_off268 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_345 : BitVec 32 := 16#32
  let v332 : BitVec 32 := Scalar.muli arg15 c16_i32_345
  let c0_i32_346 : BitVec 32 := 0#32
  let v333 : BitVec 32 := Scalar.addi v332 c0_i32_346
  let v342 : Index := Scalar.indexCast v333
  let c16_350 : Index := 16#32
  ![v342.toNat, 16]
def k0_off269 (v345 : BitVec 32) : Fin 3 → Nat :=
  let c1_i32_353 : BitVec 32 := 1#32
  let v348 : Index := Scalar.indexCast c1_i32_353
  let v349 : Index := Scalar.indexCast v345
  let c0_354 : Index := 0#32
  ![1, v349.toNat, 0]

def k0_off270 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_351 : BitVec 32 := 16#32
  let v346 : BitVec 32 := Scalar.muli arg15 c16_i32_351
  let c1_i32_352 : BitVec 32 := 1#32
  let v347 : BitVec 32 := Scalar.addi v346 c1_i32_352
  let v351 : Index := Scalar.indexCast v347
  let c0_355 : Index := 0#32
  ![v351.toNat, 0]
def k0_off271 (v345 : BitVec 32) : Fin 3 → Nat :=
  let c1_i32_356 : BitVec 32 := 1#32
  let v353 : Index := Scalar.indexCast c1_i32_356
  let v354 : Index := Scalar.indexCast v345
  let c16_357 : Index := 16#32
  ![1, v354.toNat, 16]

def k0_chk114 (v345 : BitVec 32) : Prop :=
  (∀ a, (k0_off269 v345) a + S1x1x16.size a ≤ S16x8x32.size a) ∧
  (∀ a, (k0_off271 v345) a + S1x1x16.size a ≤ S16x8x32.size a)
theorem k0_off269_inb : ∀ (v345 : BitVec 32) (k0_hw114 : k0_chk114 v345), ∀ a, (k0_off269 v345) a + S1x1x16.size a ≤ S16x8x32.size a := fun v345 k0_hw114 => k0_hw114.1
theorem k0_off271_inb : ∀ (v345 : BitVec 32) (k0_hw114 : k0_chk114 v345), ∀ a, (k0_off271 v345) a + S1x1x16.size a ≤ S16x8x32.size a := fun v345 k0_hw114 => k0_hw114.2

def k0_off272 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_351 : BitVec 32 := 16#32
  let v346 : BitVec 32 := Scalar.muli arg15 c16_i32_351
  let c1_i32_352 : BitVec 32 := 1#32
  let v347 : BitVec 32 := Scalar.addi v346 c1_i32_352
  let v356 : Index := Scalar.indexCast v347
  let c16_358 : Index := 16#32
  ![v356.toNat, 16]
def k0_off273 (v359 : BitVec 32) : Fin 3 → Nat :=
  let c2_i32_361 : BitVec 32 := 2#32
  let v362 : Index := Scalar.indexCast c2_i32_361
  let v363 : Index := Scalar.indexCast v359
  let c0_362 : Index := 0#32
  ![2, v363.toNat, 0]

def k0_off274 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_359 : BitVec 32 := 16#32
  let v360 : BitVec 32 := Scalar.muli arg15 c16_i32_359
  let c2_i32_360 : BitVec 32 := 2#32
  let v361 : BitVec 32 := Scalar.addi v360 c2_i32_360
  let v365 : Index := Scalar.indexCast v361
  let c0_363 : Index := 0#32
  ![v365.toNat, 0]
def k0_off275 (v359 : BitVec 32) : Fin 3 → Nat :=
  let c2_i32_364 : BitVec 32 := 2#32
  let v367 : Index := Scalar.indexCast c2_i32_364
  let v368 : Index := Scalar.indexCast v359
  let c16_365 : Index := 16#32
  ![2, v368.toNat, 16]

def k0_chk115 (v359 : BitVec 32) : Prop :=
  (∀ a, (k0_off273 v359) a + S1x1x16.size a ≤ S16x8x32.size a) ∧
  (∀ a, (k0_off275 v359) a + S1x1x16.size a ≤ S16x8x32.size a)
theorem k0_off273_inb : ∀ (v359 : BitVec 32) (k0_hw115 : k0_chk115 v359), ∀ a, (k0_off273 v359) a + S1x1x16.size a ≤ S16x8x32.size a := fun v359 k0_hw115 => k0_hw115.1
theorem k0_off275_inb : ∀ (v359 : BitVec 32) (k0_hw115 : k0_chk115 v359), ∀ a, (k0_off275 v359) a + S1x1x16.size a ≤ S16x8x32.size a := fun v359 k0_hw115 => k0_hw115.2

def k0_off276 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_359 : BitVec 32 := 16#32
  let v360 : BitVec 32 := Scalar.muli arg15 c16_i32_359
  let c2_i32_360 : BitVec 32 := 2#32
  let v361 : BitVec 32 := Scalar.addi v360 c2_i32_360
  let v370 : Index := Scalar.indexCast v361
  let c16_366 : Index := 16#32
  ![v370.toNat, 16]
def k0_off277 (v373 : BitVec 32) : Fin 3 → Nat :=
  let c3_i32_369 : BitVec 32 := 3#32
  let v376 : Index := Scalar.indexCast c3_i32_369
  let v377 : Index := Scalar.indexCast v373
  let c0_370 : Index := 0#32
  ![3, v377.toNat, 0]

def k0_off278 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_367 : BitVec 32 := 16#32
  let v374 : BitVec 32 := Scalar.muli arg15 c16_i32_367
  let c3_i32_368 : BitVec 32 := 3#32
  let v375 : BitVec 32 := Scalar.addi v374 c3_i32_368
  let v379 : Index := Scalar.indexCast v375
  let c0_371 : Index := 0#32
  ![v379.toNat, 0]
def k0_off279 (v373 : BitVec 32) : Fin 3 → Nat :=
  let c3_i32_372 : BitVec 32 := 3#32
  let v381 : Index := Scalar.indexCast c3_i32_372
  let v382 : Index := Scalar.indexCast v373
  let c16_373 : Index := 16#32
  ![3, v382.toNat, 16]

def k0_chk116 (v373 : BitVec 32) : Prop :=
  (∀ a, (k0_off277 v373) a + S1x1x16.size a ≤ S16x8x32.size a) ∧
  (∀ a, (k0_off279 v373) a + S1x1x16.size a ≤ S16x8x32.size a)
theorem k0_off277_inb : ∀ (v373 : BitVec 32) (k0_hw116 : k0_chk116 v373), ∀ a, (k0_off277 v373) a + S1x1x16.size a ≤ S16x8x32.size a := fun v373 k0_hw116 => k0_hw116.1
theorem k0_off279_inb : ∀ (v373 : BitVec 32) (k0_hw116 : k0_chk116 v373), ∀ a, (k0_off279 v373) a + S1x1x16.size a ≤ S16x8x32.size a := fun v373 k0_hw116 => k0_hw116.2

def k0_off280 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_367 : BitVec 32 := 16#32
  let v374 : BitVec 32 := Scalar.muli arg15 c16_i32_367
  let c3_i32_368 : BitVec 32 := 3#32
  let v375 : BitVec 32 := Scalar.addi v374 c3_i32_368
  let v384 : Index := Scalar.indexCast v375
  let c16_374 : Index := 16#32
  ![v384.toNat, 16]
def k0_off281 (v387 : BitVec 32) : Fin 3 → Nat :=
  let c4_i32_377 : BitVec 32 := 4#32
  let v390 : Index := Scalar.indexCast c4_i32_377
  let v391 : Index := Scalar.indexCast v387
  let c0_378 : Index := 0#32
  ![4, v391.toNat, 0]

def k0_off282 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_375 : BitVec 32 := 16#32
  let v388 : BitVec 32 := Scalar.muli arg15 c16_i32_375
  let c4_i32_376 : BitVec 32 := 4#32
  let v389 : BitVec 32 := Scalar.addi v388 c4_i32_376
  let v393 : Index := Scalar.indexCast v389
  let c0_379 : Index := 0#32
  ![v393.toNat, 0]
def k0_off283 (v387 : BitVec 32) : Fin 3 → Nat :=
  let c4_i32_380 : BitVec 32 := 4#32
  let v395 : Index := Scalar.indexCast c4_i32_380
  let v396 : Index := Scalar.indexCast v387
  let c16_381 : Index := 16#32
  ![4, v396.toNat, 16]

def k0_chk117 (v387 : BitVec 32) : Prop :=
  (∀ a, (k0_off281 v387) a + S1x1x16.size a ≤ S16x8x32.size a) ∧
  (∀ a, (k0_off283 v387) a + S1x1x16.size a ≤ S16x8x32.size a)
theorem k0_off281_inb : ∀ (v387 : BitVec 32) (k0_hw117 : k0_chk117 v387), ∀ a, (k0_off281 v387) a + S1x1x16.size a ≤ S16x8x32.size a := fun v387 k0_hw117 => k0_hw117.1
theorem k0_off283_inb : ∀ (v387 : BitVec 32) (k0_hw117 : k0_chk117 v387), ∀ a, (k0_off283 v387) a + S1x1x16.size a ≤ S16x8x32.size a := fun v387 k0_hw117 => k0_hw117.2

def k0_off284 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_375 : BitVec 32 := 16#32
  let v388 : BitVec 32 := Scalar.muli arg15 c16_i32_375
  let c4_i32_376 : BitVec 32 := 4#32
  let v389 : BitVec 32 := Scalar.addi v388 c4_i32_376
  let v398 : Index := Scalar.indexCast v389
  let c16_382 : Index := 16#32
  ![v398.toNat, 16]
def k0_off285 (v401 : BitVec 32) : Fin 3 → Nat :=
  let c5_i32_385 : BitVec 32 := 5#32
  let v404 : Index := Scalar.indexCast c5_i32_385
  let v405 : Index := Scalar.indexCast v401
  let c0_386 : Index := 0#32
  ![5, v405.toNat, 0]

def k0_off286 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_383 : BitVec 32 := 16#32
  let v402 : BitVec 32 := Scalar.muli arg15 c16_i32_383
  let c5_i32_384 : BitVec 32 := 5#32
  let v403 : BitVec 32 := Scalar.addi v402 c5_i32_384
  let v407 : Index := Scalar.indexCast v403
  let c0_387 : Index := 0#32
  ![v407.toNat, 0]
def k0_off287 (v401 : BitVec 32) : Fin 3 → Nat :=
  let c5_i32_388 : BitVec 32 := 5#32
  let v409 : Index := Scalar.indexCast c5_i32_388
  let v410 : Index := Scalar.indexCast v401
  let c16_389 : Index := 16#32
  ![5, v410.toNat, 16]

def k0_chk118 (v401 : BitVec 32) : Prop :=
  (∀ a, (k0_off285 v401) a + S1x1x16.size a ≤ S16x8x32.size a) ∧
  (∀ a, (k0_off287 v401) a + S1x1x16.size a ≤ S16x8x32.size a)
theorem k0_off285_inb : ∀ (v401 : BitVec 32) (k0_hw118 : k0_chk118 v401), ∀ a, (k0_off285 v401) a + S1x1x16.size a ≤ S16x8x32.size a := fun v401 k0_hw118 => k0_hw118.1
theorem k0_off287_inb : ∀ (v401 : BitVec 32) (k0_hw118 : k0_chk118 v401), ∀ a, (k0_off287 v401) a + S1x1x16.size a ≤ S16x8x32.size a := fun v401 k0_hw118 => k0_hw118.2

def k0_off288 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_383 : BitVec 32 := 16#32
  let v402 : BitVec 32 := Scalar.muli arg15 c16_i32_383
  let c5_i32_384 : BitVec 32 := 5#32
  let v403 : BitVec 32 := Scalar.addi v402 c5_i32_384
  let v412 : Index := Scalar.indexCast v403
  let c16_390 : Index := 16#32
  ![v412.toNat, 16]
def k0_off289 (v415 : BitVec 32) : Fin 3 → Nat :=
  let c6_i32_393 : BitVec 32 := 6#32
  let v418 : Index := Scalar.indexCast c6_i32_393
  let v419 : Index := Scalar.indexCast v415
  let c0_394 : Index := 0#32
  ![6, v419.toNat, 0]

def k0_off290 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_391 : BitVec 32 := 16#32
  let v416 : BitVec 32 := Scalar.muli arg15 c16_i32_391
  let c6_i32_392 : BitVec 32 := 6#32
  let v417 : BitVec 32 := Scalar.addi v416 c6_i32_392
  let v421 : Index := Scalar.indexCast v417
  let c0_395 : Index := 0#32
  ![v421.toNat, 0]
def k0_off291 (v415 : BitVec 32) : Fin 3 → Nat :=
  let c6_i32_396 : BitVec 32 := 6#32
  let v423 : Index := Scalar.indexCast c6_i32_396
  let v424 : Index := Scalar.indexCast v415
  let c16_397 : Index := 16#32
  ![6, v424.toNat, 16]

def k0_chk119 (v415 : BitVec 32) : Prop :=
  (∀ a, (k0_off289 v415) a + S1x1x16.size a ≤ S16x8x32.size a) ∧
  (∀ a, (k0_off291 v415) a + S1x1x16.size a ≤ S16x8x32.size a)
theorem k0_off289_inb : ∀ (v415 : BitVec 32) (k0_hw119 : k0_chk119 v415), ∀ a, (k0_off289 v415) a + S1x1x16.size a ≤ S16x8x32.size a := fun v415 k0_hw119 => k0_hw119.1
theorem k0_off291_inb : ∀ (v415 : BitVec 32) (k0_hw119 : k0_chk119 v415), ∀ a, (k0_off291 v415) a + S1x1x16.size a ≤ S16x8x32.size a := fun v415 k0_hw119 => k0_hw119.2

def k0_off292 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_391 : BitVec 32 := 16#32
  let v416 : BitVec 32 := Scalar.muli arg15 c16_i32_391
  let c6_i32_392 : BitVec 32 := 6#32
  let v417 : BitVec 32 := Scalar.addi v416 c6_i32_392
  let v426 : Index := Scalar.indexCast v417
  let c16_398 : Index := 16#32
  ![v426.toNat, 16]
def k0_off293 (v429 : BitVec 32) : Fin 3 → Nat :=
  let c7_i32_401 : BitVec 32 := 7#32
  let v432 : Index := Scalar.indexCast c7_i32_401
  let v433 : Index := Scalar.indexCast v429
  let c0_402 : Index := 0#32
  ![7, v433.toNat, 0]

def k0_off294 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_399 : BitVec 32 := 16#32
  let v430 : BitVec 32 := Scalar.muli arg15 c16_i32_399
  let c7_i32_400 : BitVec 32 := 7#32
  let v431 : BitVec 32 := Scalar.addi v430 c7_i32_400
  let v435 : Index := Scalar.indexCast v431
  let c0_403 : Index := 0#32
  ![v435.toNat, 0]
def k0_off295 (v429 : BitVec 32) : Fin 3 → Nat :=
  let c7_i32_404 : BitVec 32 := 7#32
  let v437 : Index := Scalar.indexCast c7_i32_404
  let v438 : Index := Scalar.indexCast v429
  let c16_405 : Index := 16#32
  ![7, v438.toNat, 16]

def k0_chk120 (v429 : BitVec 32) : Prop :=
  (∀ a, (k0_off293 v429) a + S1x1x16.size a ≤ S16x8x32.size a) ∧
  (∀ a, (k0_off295 v429) a + S1x1x16.size a ≤ S16x8x32.size a)
theorem k0_off293_inb : ∀ (v429 : BitVec 32) (k0_hw120 : k0_chk120 v429), ∀ a, (k0_off293 v429) a + S1x1x16.size a ≤ S16x8x32.size a := fun v429 k0_hw120 => k0_hw120.1
theorem k0_off295_inb : ∀ (v429 : BitVec 32) (k0_hw120 : k0_chk120 v429), ∀ a, (k0_off295 v429) a + S1x1x16.size a ≤ S16x8x32.size a := fun v429 k0_hw120 => k0_hw120.2

def k0_off296 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_399 : BitVec 32 := 16#32
  let v430 : BitVec 32 := Scalar.muli arg15 c16_i32_399
  let c7_i32_400 : BitVec 32 := 7#32
  let v431 : BitVec 32 := Scalar.addi v430 c7_i32_400
  let v440 : Index := Scalar.indexCast v431
  let c16_406 : Index := 16#32
  ![v440.toNat, 16]
def k0_off297 (v443 : BitVec 32) : Fin 3 → Nat :=
  let c8_i32_409 : BitVec 32 := 8#32
  let v446 : Index := Scalar.indexCast c8_i32_409
  let v447 : Index := Scalar.indexCast v443
  let c0_410 : Index := 0#32
  ![8, v447.toNat, 0]

def k0_off298 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_407 : BitVec 32 := 16#32
  let v444 : BitVec 32 := Scalar.muli arg15 c16_i32_407
  let c8_i32_408 : BitVec 32 := 8#32
  let v445 : BitVec 32 := Scalar.addi v444 c8_i32_408
  let v449 : Index := Scalar.indexCast v445
  let c0_411 : Index := 0#32
  ![v449.toNat, 0]
def k0_off299 (v443 : BitVec 32) : Fin 3 → Nat :=
  let c8_i32_412 : BitVec 32 := 8#32
  let v451 : Index := Scalar.indexCast c8_i32_412
  let v452 : Index := Scalar.indexCast v443
  let c16_413 : Index := 16#32
  ![8, v452.toNat, 16]

def k0_chk121 (v443 : BitVec 32) : Prop :=
  (∀ a, (k0_off297 v443) a + S1x1x16.size a ≤ S16x8x32.size a) ∧
  (∀ a, (k0_off299 v443) a + S1x1x16.size a ≤ S16x8x32.size a)
theorem k0_off297_inb : ∀ (v443 : BitVec 32) (k0_hw121 : k0_chk121 v443), ∀ a, (k0_off297 v443) a + S1x1x16.size a ≤ S16x8x32.size a := fun v443 k0_hw121 => k0_hw121.1
theorem k0_off299_inb : ∀ (v443 : BitVec 32) (k0_hw121 : k0_chk121 v443), ∀ a, (k0_off299 v443) a + S1x1x16.size a ≤ S16x8x32.size a := fun v443 k0_hw121 => k0_hw121.2

def k0_off300 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_407 : BitVec 32 := 16#32
  let v444 : BitVec 32 := Scalar.muli arg15 c16_i32_407
  let c8_i32_408 : BitVec 32 := 8#32
  let v445 : BitVec 32 := Scalar.addi v444 c8_i32_408
  let v454 : Index := Scalar.indexCast v445
  let c16_414 : Index := 16#32
  ![v454.toNat, 16]
def k0_off301 (v457 : BitVec 32) : Fin 3 → Nat :=
  let c9_i32_417 : BitVec 32 := 9#32
  let v460 : Index := Scalar.indexCast c9_i32_417
  let v461 : Index := Scalar.indexCast v457
  let c0_418 : Index := 0#32
  ![9, v461.toNat, 0]

def k0_off302 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_415 : BitVec 32 := 16#32
  let v458 : BitVec 32 := Scalar.muli arg15 c16_i32_415
  let c9_i32_416 : BitVec 32 := 9#32
  let v459 : BitVec 32 := Scalar.addi v458 c9_i32_416
  let v463 : Index := Scalar.indexCast v459
  let c0_419 : Index := 0#32
  ![v463.toNat, 0]
def k0_off303 (v457 : BitVec 32) : Fin 3 → Nat :=
  let c9_i32_420 : BitVec 32 := 9#32
  let v465 : Index := Scalar.indexCast c9_i32_420
  let v466 : Index := Scalar.indexCast v457
  let c16_421 : Index := 16#32
  ![9, v466.toNat, 16]

def k0_chk122 (v457 : BitVec 32) : Prop :=
  (∀ a, (k0_off301 v457) a + S1x1x16.size a ≤ S16x8x32.size a) ∧
  (∀ a, (k0_off303 v457) a + S1x1x16.size a ≤ S16x8x32.size a)
theorem k0_off301_inb : ∀ (v457 : BitVec 32) (k0_hw122 : k0_chk122 v457), ∀ a, (k0_off301 v457) a + S1x1x16.size a ≤ S16x8x32.size a := fun v457 k0_hw122 => k0_hw122.1
theorem k0_off303_inb : ∀ (v457 : BitVec 32) (k0_hw122 : k0_chk122 v457), ∀ a, (k0_off303 v457) a + S1x1x16.size a ≤ S16x8x32.size a := fun v457 k0_hw122 => k0_hw122.2

def k0_off304 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_415 : BitVec 32 := 16#32
  let v458 : BitVec 32 := Scalar.muli arg15 c16_i32_415
  let c9_i32_416 : BitVec 32 := 9#32
  let v459 : BitVec 32 := Scalar.addi v458 c9_i32_416
  let v468 : Index := Scalar.indexCast v459
  let c16_422 : Index := 16#32
  ![v468.toNat, 16]
def k0_off305 (v471 : BitVec 32) : Fin 3 → Nat :=
  let c10_i32_425 : BitVec 32 := 10#32
  let v474 : Index := Scalar.indexCast c10_i32_425
  let v475 : Index := Scalar.indexCast v471
  let c0_426 : Index := 0#32
  ![10, v475.toNat, 0]

def k0_off306 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_423 : BitVec 32 := 16#32
  let v472 : BitVec 32 := Scalar.muli arg15 c16_i32_423
  let c10_i32_424 : BitVec 32 := 10#32
  let v473 : BitVec 32 := Scalar.addi v472 c10_i32_424
  let v477 : Index := Scalar.indexCast v473
  let c0_427 : Index := 0#32
  ![v477.toNat, 0]
def k0_off307 (v471 : BitVec 32) : Fin 3 → Nat :=
  let c10_i32_428 : BitVec 32 := 10#32
  let v479 : Index := Scalar.indexCast c10_i32_428
  let v480 : Index := Scalar.indexCast v471
  let c16_429 : Index := 16#32
  ![10, v480.toNat, 16]

def k0_chk123 (v471 : BitVec 32) : Prop :=
  (∀ a, (k0_off305 v471) a + S1x1x16.size a ≤ S16x8x32.size a) ∧
  (∀ a, (k0_off307 v471) a + S1x1x16.size a ≤ S16x8x32.size a)
theorem k0_off305_inb : ∀ (v471 : BitVec 32) (k0_hw123 : k0_chk123 v471), ∀ a, (k0_off305 v471) a + S1x1x16.size a ≤ S16x8x32.size a := fun v471 k0_hw123 => k0_hw123.1
theorem k0_off307_inb : ∀ (v471 : BitVec 32) (k0_hw123 : k0_chk123 v471), ∀ a, (k0_off307 v471) a + S1x1x16.size a ≤ S16x8x32.size a := fun v471 k0_hw123 => k0_hw123.2

def k0_off308 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_423 : BitVec 32 := 16#32
  let v472 : BitVec 32 := Scalar.muli arg15 c16_i32_423
  let c10_i32_424 : BitVec 32 := 10#32
  let v473 : BitVec 32 := Scalar.addi v472 c10_i32_424
  let v482 : Index := Scalar.indexCast v473
  let c16_430 : Index := 16#32
  ![v482.toNat, 16]
def k0_off309 (v485 : BitVec 32) : Fin 3 → Nat :=
  let c11_i32_433 : BitVec 32 := 11#32
  let v488 : Index := Scalar.indexCast c11_i32_433
  let v489 : Index := Scalar.indexCast v485
  let c0_434 : Index := 0#32
  ![11, v489.toNat, 0]

def k0_off310 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_431 : BitVec 32 := 16#32
  let v486 : BitVec 32 := Scalar.muli arg15 c16_i32_431
  let c11_i32_432 : BitVec 32 := 11#32
  let v487 : BitVec 32 := Scalar.addi v486 c11_i32_432
  let v491 : Index := Scalar.indexCast v487
  let c0_435 : Index := 0#32
  ![v491.toNat, 0]
def k0_off311 (v485 : BitVec 32) : Fin 3 → Nat :=
  let c11_i32_436 : BitVec 32 := 11#32
  let v493 : Index := Scalar.indexCast c11_i32_436
  let v494 : Index := Scalar.indexCast v485
  let c16_437 : Index := 16#32
  ![11, v494.toNat, 16]

def k0_chk124 (v485 : BitVec 32) : Prop :=
  (∀ a, (k0_off309 v485) a + S1x1x16.size a ≤ S16x8x32.size a) ∧
  (∀ a, (k0_off311 v485) a + S1x1x16.size a ≤ S16x8x32.size a)
theorem k0_off309_inb : ∀ (v485 : BitVec 32) (k0_hw124 : k0_chk124 v485), ∀ a, (k0_off309 v485) a + S1x1x16.size a ≤ S16x8x32.size a := fun v485 k0_hw124 => k0_hw124.1
theorem k0_off311_inb : ∀ (v485 : BitVec 32) (k0_hw124 : k0_chk124 v485), ∀ a, (k0_off311 v485) a + S1x1x16.size a ≤ S16x8x32.size a := fun v485 k0_hw124 => k0_hw124.2

def k0_off312 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_431 : BitVec 32 := 16#32
  let v486 : BitVec 32 := Scalar.muli arg15 c16_i32_431
  let c11_i32_432 : BitVec 32 := 11#32
  let v487 : BitVec 32 := Scalar.addi v486 c11_i32_432
  let v496 : Index := Scalar.indexCast v487
  let c16_438 : Index := 16#32
  ![v496.toNat, 16]
def k0_off313 (v499 : BitVec 32) : Fin 3 → Nat :=
  let c12_i32_441 : BitVec 32 := 12#32
  let v502 : Index := Scalar.indexCast c12_i32_441
  let v503 : Index := Scalar.indexCast v499
  let c0_442 : Index := 0#32
  ![12, v503.toNat, 0]

def k0_off314 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_439 : BitVec 32 := 16#32
  let v500 : BitVec 32 := Scalar.muli arg15 c16_i32_439
  let c12_i32_440 : BitVec 32 := 12#32
  let v501 : BitVec 32 := Scalar.addi v500 c12_i32_440
  let v505 : Index := Scalar.indexCast v501
  let c0_443 : Index := 0#32
  ![v505.toNat, 0]
def k0_off315 (v499 : BitVec 32) : Fin 3 → Nat :=
  let c12_i32_444 : BitVec 32 := 12#32
  let v507 : Index := Scalar.indexCast c12_i32_444
  let v508 : Index := Scalar.indexCast v499
  let c16_445 : Index := 16#32
  ![12, v508.toNat, 16]

def k0_chk125 (v499 : BitVec 32) : Prop :=
  (∀ a, (k0_off313 v499) a + S1x1x16.size a ≤ S16x8x32.size a) ∧
  (∀ a, (k0_off315 v499) a + S1x1x16.size a ≤ S16x8x32.size a)
theorem k0_off313_inb : ∀ (v499 : BitVec 32) (k0_hw125 : k0_chk125 v499), ∀ a, (k0_off313 v499) a + S1x1x16.size a ≤ S16x8x32.size a := fun v499 k0_hw125 => k0_hw125.1
theorem k0_off315_inb : ∀ (v499 : BitVec 32) (k0_hw125 : k0_chk125 v499), ∀ a, (k0_off315 v499) a + S1x1x16.size a ≤ S16x8x32.size a := fun v499 k0_hw125 => k0_hw125.2

def k0_off316 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_439 : BitVec 32 := 16#32
  let v500 : BitVec 32 := Scalar.muli arg15 c16_i32_439
  let c12_i32_440 : BitVec 32 := 12#32
  let v501 : BitVec 32 := Scalar.addi v500 c12_i32_440
  let v510 : Index := Scalar.indexCast v501
  let c16_446 : Index := 16#32
  ![v510.toNat, 16]
def k0_off317 (v513 : BitVec 32) : Fin 3 → Nat :=
  let c13_i32_449 : BitVec 32 := 13#32
  let v516 : Index := Scalar.indexCast c13_i32_449
  let v517 : Index := Scalar.indexCast v513
  let c0_450 : Index := 0#32
  ![13, v517.toNat, 0]

def k0_off318 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_447 : BitVec 32 := 16#32
  let v514 : BitVec 32 := Scalar.muli arg15 c16_i32_447
  let c13_i32_448 : BitVec 32 := 13#32
  let v515 : BitVec 32 := Scalar.addi v514 c13_i32_448
  let v519 : Index := Scalar.indexCast v515
  let c0_451 : Index := 0#32
  ![v519.toNat, 0]
def k0_off319 (v513 : BitVec 32) : Fin 3 → Nat :=
  let c13_i32_452 : BitVec 32 := 13#32
  let v521 : Index := Scalar.indexCast c13_i32_452
  let v522 : Index := Scalar.indexCast v513
  let c16_453 : Index := 16#32
  ![13, v522.toNat, 16]

def k0_chk126 (v513 : BitVec 32) : Prop :=
  (∀ a, (k0_off317 v513) a + S1x1x16.size a ≤ S16x8x32.size a) ∧
  (∀ a, (k0_off319 v513) a + S1x1x16.size a ≤ S16x8x32.size a)
theorem k0_off317_inb : ∀ (v513 : BitVec 32) (k0_hw126 : k0_chk126 v513), ∀ a, (k0_off317 v513) a + S1x1x16.size a ≤ S16x8x32.size a := fun v513 k0_hw126 => k0_hw126.1
theorem k0_off319_inb : ∀ (v513 : BitVec 32) (k0_hw126 : k0_chk126 v513), ∀ a, (k0_off319 v513) a + S1x1x16.size a ≤ S16x8x32.size a := fun v513 k0_hw126 => k0_hw126.2

def k0_off320 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_447 : BitVec 32 := 16#32
  let v514 : BitVec 32 := Scalar.muli arg15 c16_i32_447
  let c13_i32_448 : BitVec 32 := 13#32
  let v515 : BitVec 32 := Scalar.addi v514 c13_i32_448
  let v524 : Index := Scalar.indexCast v515
  let c16_454 : Index := 16#32
  ![v524.toNat, 16]
def k0_off321 (v527 : BitVec 32) : Fin 3 → Nat :=
  let c14_i32_457 : BitVec 32 := 14#32
  let v530 : Index := Scalar.indexCast c14_i32_457
  let v531 : Index := Scalar.indexCast v527
  let c0_458 : Index := 0#32
  ![14, v531.toNat, 0]

def k0_off322 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_455 : BitVec 32 := 16#32
  let v528 : BitVec 32 := Scalar.muli arg15 c16_i32_455
  let c14_i32_456 : BitVec 32 := 14#32
  let v529 : BitVec 32 := Scalar.addi v528 c14_i32_456
  let v533 : Index := Scalar.indexCast v529
  let c0_459 : Index := 0#32
  ![v533.toNat, 0]
def k0_off323 (v527 : BitVec 32) : Fin 3 → Nat :=
  let c14_i32_460 : BitVec 32 := 14#32
  let v535 : Index := Scalar.indexCast c14_i32_460
  let v536 : Index := Scalar.indexCast v527
  let c16_461 : Index := 16#32
  ![14, v536.toNat, 16]

def k0_chk127 (v527 : BitVec 32) : Prop :=
  (∀ a, (k0_off321 v527) a + S1x1x16.size a ≤ S16x8x32.size a) ∧
  (∀ a, (k0_off323 v527) a + S1x1x16.size a ≤ S16x8x32.size a)
theorem k0_off321_inb : ∀ (v527 : BitVec 32) (k0_hw127 : k0_chk127 v527), ∀ a, (k0_off321 v527) a + S1x1x16.size a ≤ S16x8x32.size a := fun v527 k0_hw127 => k0_hw127.1
theorem k0_off323_inb : ∀ (v527 : BitVec 32) (k0_hw127 : k0_chk127 v527), ∀ a, (k0_off323 v527) a + S1x1x16.size a ≤ S16x8x32.size a := fun v527 k0_hw127 => k0_hw127.2

def k0_off324 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_455 : BitVec 32 := 16#32
  let v528 : BitVec 32 := Scalar.muli arg15 c16_i32_455
  let c14_i32_456 : BitVec 32 := 14#32
  let v529 : BitVec 32 := Scalar.addi v528 c14_i32_456
  let v538 : Index := Scalar.indexCast v529
  let c16_462 : Index := 16#32
  ![v538.toNat, 16]
def k0_off325 (v541 : BitVec 32) : Fin 3 → Nat :=
  let c15_i32_465 : BitVec 32 := 15#32
  let v544 : Index := Scalar.indexCast c15_i32_465
  let v545 : Index := Scalar.indexCast v541
  let c0_466 : Index := 0#32
  ![15, v545.toNat, 0]

def k0_off326 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_463 : BitVec 32 := 16#32
  let v542 : BitVec 32 := Scalar.muli arg15 c16_i32_463
  let c15_i32_464 : BitVec 32 := 15#32
  let v543 : BitVec 32 := Scalar.addi v542 c15_i32_464
  let v547 : Index := Scalar.indexCast v543
  let c0_467 : Index := 0#32
  ![v547.toNat, 0]
def k0_off327 (v541 : BitVec 32) : Fin 3 → Nat :=
  let c15_i32_468 : BitVec 32 := 15#32
  let v549 : Index := Scalar.indexCast c15_i32_468
  let v550 : Index := Scalar.indexCast v541
  let c16_469 : Index := 16#32
  ![15, v550.toNat, 16]

def k0_chk128 (v541 : BitVec 32) : Prop :=
  (∀ a, (k0_off325 v541) a + S1x1x16.size a ≤ S16x8x32.size a) ∧
  (∀ a, (k0_off327 v541) a + S1x1x16.size a ≤ S16x8x32.size a)
theorem k0_off325_inb : ∀ (v541 : BitVec 32) (k0_hw128 : k0_chk128 v541), ∀ a, (k0_off325 v541) a + S1x1x16.size a ≤ S16x8x32.size a := fun v541 k0_hw128 => k0_hw128.1
theorem k0_off327_inb : ∀ (v541 : BitVec 32) (k0_hw128 : k0_chk128 v541), ∀ a, (k0_off327 v541) a + S1x1x16.size a ≤ S16x8x32.size a := fun v541 k0_hw128 => k0_hw128.2

def k0_off328 (k0_t8 : Fin k0_t8_loop.trips) : Fin 2 → Nat :=
  let c0_i32_44 : BitVec 32 := 0#32
  let c1_i32_45 : BitVec 32 := 1#32
  let arg15 : BitVec 32 := Scf.iv c0_i32_44 c1_i32_45 k0_t8
  let c16_i32_463 : BitVec 32 := 16#32
  let v542 : BitVec 32 := Scalar.muli arg15 c16_i32_463
  let c15_i32_464 : BitVec 32 := 15#32
  let v543 : BitVec 32 := Scalar.addi v542 c15_i32_464
  let v552 : Index := Scalar.indexCast v543
  let c16_470 : Index := 16#32
  ![v552.toNat, 16]
def k0_off329 (i : grid0.Coords) (k0_t7 : Fin k0_t7_loop.trips) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_14 : BitVec 32 := 0#32
  let c1_i32_16 : BitVec 32 := 1#32
  let arg13 : BitVec 32 := Scf.iv c0_i32_14 c1_i32_16 k0_t7
  let c128_i32_47 : BitVec 32 := 128#32
  let v32 : BitVec 32 := Scalar.muli arg13 c128_i32_47
  let v33 : BitVec 32 := Scalar.addi v2 v32
  let c0_i32_49_r7 : BitVec 32 := 0#32
  ![3, v33.toNat, 0]
@[reducible] def k0_t9_loop : Scf.Loop 32 :=
  let c0_i32_19 : BitVec 32 := 0#32
  let c4_i32_20 : BitVec 32 := 4#32
  let v16 : BitVec 32 := Scalar.addi c0_i32_19 c4_i32_20
  let c1_i32_21 : BitVec 32 := 1#32
  ⟨c0_i32_19, v16, c1_i32_21⟩
@[reducible] def k0_t10_loop : Scf.Loop 32 :=
  let c0_i32_44 : BitVec 32 := 0#32
  let c8_i32 : BitVec 32 := 8#32
  let v30 : BitVec 32 := Scalar.addi c0_i32_44 c8_i32
  let c1_i32_45 : BitVec 32 := 1#32
  ⟨c0_i32_44, v30, c1_i32_45⟩
def k0_off330 (k0_t9 : Fin k0_t9_loop.trips) (k0_t10 : Fin k0_t10_loop.trips) : Fin 2 → Nat :=
  let c0_i32_19 : BitVec 32 := 0#32
  let c1_i32_21 : BitVec 32 := 1#32
  let arg13 : BitVec 32 := Scf.iv c0_i32_19 c1_i32_21 k0_t9
  let v35 : Index := Scalar.indexCast arg13
  let c0_i32_44 : BitVec 32 := 0#32
  let c1_i32_45 : BitVec 32 := 1#32
  let arg15 : BitVec 32 := Scf.iv c0_i32_44 c1_i32_45 k0_t10
  let c16_i32 : BitVec 32 := 16#32
  let v34 : BitVec 32 := Scalar.muli arg15 c16_i32
  let v36 : Index := Scalar.indexCast v34
  ![v35.toNat, v36.toNat]
def k0_off331 (v43 : BitVec 32) : Fin 3 → Nat :=
  let c0_i32_53 : BitVec 32 := 0#32
  let c0_i32_54 : BitVec 32 := 0#32
  ![v43.toNat, 0, 0]

def k0_chk129 (v43 : BitVec 32) : Prop :=
  (∀ a, (k0_off331 v43) a + S1x8x32.size a ≤ S125x8x32.size a)
theorem k0_off331_inb : ∀ (v43 : BitVec 32) (k0_hw129 : k0_chk129 v43), ∀ a, (k0_off331 v43) a + S1x8x32.size a ≤ S125x8x32.size a := fun v43 k0_hw129 => k0_hw129

def k0_off332 (v53 : BitVec 32) : Fin 3 → Nat :=
  let c0_i32_62 : BitVec 32 := 0#32
  let c0_i32_63 : BitVec 32 := 0#32
  ![v53.toNat, 0, 0]

def k0_chk130 (v53 : BitVec 32) : Prop :=
  (∀ a, (k0_off332 v53) a + S1x8x32.size a ≤ S125x8x32.size a)
theorem k0_off332_inb : ∀ (v53 : BitVec 32) (k0_hw130 : k0_chk130 v53), ∀ a, (k0_off332 v53) a + S1x8x32.size a ≤ S125x8x32.size a := fun v53 k0_hw130 => k0_hw130

def k0_off333 (v63 : BitVec 32) : Fin 3 → Nat :=
  let c0_i32_71 : BitVec 32 := 0#32
  let c0_i32_72 : BitVec 32 := 0#32
  ![v63.toNat, 0, 0]

def k0_chk131 (v63 : BitVec 32) : Prop :=
  (∀ a, (k0_off333 v63) a + S1x8x32.size a ≤ S125x8x32.size a)
theorem k0_off333_inb : ∀ (v63 : BitVec 32) (k0_hw131 : k0_chk131 v63), ∀ a, (k0_off333 v63) a + S1x8x32.size a ≤ S125x8x32.size a := fun v63 k0_hw131 => k0_hw131

def k0_off334 (v73 : BitVec 32) : Fin 3 → Nat :=
  let c0_i32_80 : BitVec 32 := 0#32
  let c0_i32_81 : BitVec 32 := 0#32
  ![v73.toNat, 0, 0]

def k0_chk132 (v73 : BitVec 32) : Prop :=
  (∀ a, (k0_off334 v73) a + S1x8x32.size a ≤ S125x8x32.size a)
theorem k0_off334_inb : ∀ (v73 : BitVec 32) (k0_hw132 : k0_chk132 v73), ∀ a, (k0_off334 v73) a + S1x8x32.size a ≤ S125x8x32.size a := fun v73 k0_hw132 => k0_hw132

def k0_off335 (v83 : BitVec 32) : Fin 3 → Nat :=
  let c0_i32_89 : BitVec 32 := 0#32
  let c0_i32_90 : BitVec 32 := 0#32
  ![v83.toNat, 0, 0]

def k0_chk133 (v83 : BitVec 32) : Prop :=
  (∀ a, (k0_off335 v83) a + S1x8x32.size a ≤ S125x8x32.size a)
theorem k0_off335_inb : ∀ (v83 : BitVec 32) (k0_hw133 : k0_chk133 v83), ∀ a, (k0_off335 v83) a + S1x8x32.size a ≤ S125x8x32.size a := fun v83 k0_hw133 => k0_hw133

def k0_off336 (v93 : BitVec 32) : Fin 3 → Nat :=
  let c0_i32_97 : BitVec 32 := 0#32
  let c0_i32_98 : BitVec 32 := 0#32
  ![v93.toNat, 0, 0]

def k0_chk134 (v93 : BitVec 32) : Prop :=
  (∀ a, (k0_off336 v93) a + S1x8x32.size a ≤ S125x8x32.size a)
theorem k0_off336_inb : ∀ (v93 : BitVec 32) (k0_hw134 : k0_chk134 v93), ∀ a, (k0_off336 v93) a + S1x8x32.size a ≤ S125x8x32.size a := fun v93 k0_hw134 => k0_hw134

def k0_off337 (v103 : BitVec 32) : Fin 3 → Nat :=
  let c0_i32_105 : BitVec 32 := 0#32
  let c0_i32_106 : BitVec 32 := 0#32
  ![v103.toNat, 0, 0]

def k0_chk135 (v103 : BitVec 32) : Prop :=
  (∀ a, (k0_off337 v103) a + S1x8x32.size a ≤ S125x8x32.size a)
theorem k0_off337_inb : ∀ (v103 : BitVec 32) (k0_hw135 : k0_chk135 v103), ∀ a, (k0_off337 v103) a + S1x8x32.size a ≤ S125x8x32.size a := fun v103 k0_hw135 => k0_hw135

def k0_off338 (v113 : BitVec 32) : Fin 3 → Nat :=
  let c0_i32_114 : BitVec 32 := 0#32
  let c0_i32_115 : BitVec 32 := 0#32
  ![v113.toNat, 0, 0]

def k0_chk136 (v113 : BitVec 32) : Prop :=
  (∀ a, (k0_off338 v113) a + S1x8x32.size a ≤ S125x8x32.size a)
theorem k0_off338_inb : ∀ (v113 : BitVec 32) (k0_hw136 : k0_chk136 v113), ∀ a, (k0_off338 v113) a + S1x8x32.size a ≤ S125x8x32.size a := fun v113 k0_hw136 => k0_hw136

def k0_off339 (v123 : BitVec 32) : Fin 3 → Nat :=
  let c0_i32_123 : BitVec 32 := 0#32
  let c0_i32_124 : BitVec 32 := 0#32
  ![v123.toNat, 0, 0]

def k0_chk137 (v123 : BitVec 32) : Prop :=
  (∀ a, (k0_off339 v123) a + S1x8x32.size a ≤ S125x8x32.size a)
theorem k0_off339_inb : ∀ (v123 : BitVec 32) (k0_hw137 : k0_chk137 v123), ∀ a, (k0_off339 v123) a + S1x8x32.size a ≤ S125x8x32.size a := fun v123 k0_hw137 => k0_hw137

def k0_off340 (v133 : BitVec 32) : Fin 3 → Nat :=
  let c0_i32_131 : BitVec 32 := 0#32
  let c0_i32_132 : BitVec 32 := 0#32
  ![v133.toNat, 0, 0]

def k0_chk138 (v133 : BitVec 32) : Prop :=
  (∀ a, (k0_off340 v133) a + S1x8x32.size a ≤ S125x8x32.size a)
theorem k0_off340_inb : ∀ (v133 : BitVec 32) (k0_hw138 : k0_chk138 v133), ∀ a, (k0_off340 v133) a + S1x8x32.size a ≤ S125x8x32.size a := fun v133 k0_hw138 => k0_hw138

def k0_off341 (v143 : BitVec 32) : Fin 3 → Nat :=
  let c0_i32_139 : BitVec 32 := 0#32
  let c0_i32_140 : BitVec 32 := 0#32
  ![v143.toNat, 0, 0]

def k0_chk139 (v143 : BitVec 32) : Prop :=
  (∀ a, (k0_off341 v143) a + S1x8x32.size a ≤ S125x8x32.size a)
theorem k0_off341_inb : ∀ (v143 : BitVec 32) (k0_hw139 : k0_chk139 v143), ∀ a, (k0_off341 v143) a + S1x8x32.size a ≤ S125x8x32.size a := fun v143 k0_hw139 => k0_hw139

def k0_off342 (v153 : BitVec 32) : Fin 3 → Nat :=
  let c0_i32_147 : BitVec 32 := 0#32
  let c0_i32_148 : BitVec 32 := 0#32
  ![v153.toNat, 0, 0]

def k0_chk140 (v153 : BitVec 32) : Prop :=
  (∀ a, (k0_off342 v153) a + S1x8x32.size a ≤ S125x8x32.size a)
theorem k0_off342_inb : ∀ (v153 : BitVec 32) (k0_hw140 : k0_chk140 v153), ∀ a, (k0_off342 v153) a + S1x8x32.size a ≤ S125x8x32.size a := fun v153 k0_hw140 => k0_hw140

def k0_off343 (v163 : BitVec 32) : Fin 3 → Nat :=
  let c0_i32_155 : BitVec 32 := 0#32
  let c0_i32_156 : BitVec 32 := 0#32
  ![v163.toNat, 0, 0]

def k0_chk141 (v163 : BitVec 32) : Prop :=
  (∀ a, (k0_off343 v163) a + S1x8x32.size a ≤ S125x8x32.size a)
theorem k0_off343_inb : ∀ (v163 : BitVec 32) (k0_hw141 : k0_chk141 v163), ∀ a, (k0_off343 v163) a + S1x8x32.size a ≤ S125x8x32.size a := fun v163 k0_hw141 => k0_hw141

def k0_off344 (v173 : BitVec 32) : Fin 3 → Nat :=
  let c0_i32_163 : BitVec 32 := 0#32
  let c0_i32_164 : BitVec 32 := 0#32
  ![v173.toNat, 0, 0]

def k0_chk142 (v173 : BitVec 32) : Prop :=
  (∀ a, (k0_off344 v173) a + S1x8x32.size a ≤ S125x8x32.size a)
theorem k0_off344_inb : ∀ (v173 : BitVec 32) (k0_hw142 : k0_chk142 v173), ∀ a, (k0_off344 v173) a + S1x8x32.size a ≤ S125x8x32.size a := fun v173 k0_hw142 => k0_hw142

def k0_off345 (v183 : BitVec 32) : Fin 3 → Nat :=
  let c0_i32_171 : BitVec 32 := 0#32
  let c0_i32_172 : BitVec 32 := 0#32
  ![v183.toNat, 0, 0]

def k0_chk143 (v183 : BitVec 32) : Prop :=
  (∀ a, (k0_off345 v183) a + S1x8x32.size a ≤ S125x8x32.size a)
theorem k0_off345_inb : ∀ (v183 : BitVec 32) (k0_hw143 : k0_chk143 v183), ∀ a, (k0_off345 v183) a + S1x8x32.size a ≤ S125x8x32.size a := fun v183 k0_hw143 => k0_hw143

def k0_off346 (v193 : BitVec 32) : Fin 3 → Nat :=
  let c0_i32_179 : BitVec 32 := 0#32
  let c0_i32_180 : BitVec 32 := 0#32
  ![v193.toNat, 0, 0]

def k0_chk144 (v193 : BitVec 32) : Prop :=
  (∀ a, (k0_off346 v193) a + S1x8x32.size a ≤ S125x8x32.size a)
theorem k0_off346_inb : ∀ (v193 : BitVec 32) (k0_hw144 : k0_chk144 v193), ∀ a, (k0_off346 v193) a + S1x8x32.size a ≤ S125x8x32.size a := fun v193 k0_hw144 => k0_hw144

def k0_off347 (v331 : BitVec 32) : Fin 3 → Nat :=
  let c0_i32_347 : BitVec 32 := 0#32
  let v334 : Index := Scalar.indexCast c0_i32_347
  let v335 : Index := Scalar.indexCast v331
  let c0 : Index := 0#32
  ![0, v335.toNat, 0]

def k0_off348 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_345 : BitVec 32 := 16#32
  let v332 : BitVec 32 := Scalar.muli arg15 c16_i32_345
  let c0_i32_346 : BitVec 32 := 0#32
  let v333 : BitVec 32 := Scalar.addi v332 c0_i32_346
  let v337 : Index := Scalar.indexCast v333
  let c0_348 : Index := 0#32
  ![v337.toNat, 0]
def k0_off349 (v331 : BitVec 32) : Fin 3 → Nat :=
  let c0_i32_349 : BitVec 32 := 0#32
  let v339 : Index := Scalar.indexCast c0_i32_349
  let v340 : Index := Scalar.indexCast v331
  let c16 : Index := 16#32
  ![0, v340.toNat, 16]

def k0_chk145 (v331 : BitVec 32) : Prop :=
  (∀ a, (k0_off347 v331) a + S1x1x16.size a ≤ S16x8x32.size a) ∧
  (∀ a, (k0_off349 v331) a + S1x1x16.size a ≤ S16x8x32.size a)
theorem k0_off347_inb : ∀ (v331 : BitVec 32) (k0_hw145 : k0_chk145 v331), ∀ a, (k0_off347 v331) a + S1x1x16.size a ≤ S16x8x32.size a := fun v331 k0_hw145 => k0_hw145.1
theorem k0_off349_inb : ∀ (v331 : BitVec 32) (k0_hw145 : k0_chk145 v331), ∀ a, (k0_off349 v331) a + S1x1x16.size a ≤ S16x8x32.size a := fun v331 k0_hw145 => k0_hw145.2

def k0_off350 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_345 : BitVec 32 := 16#32
  let v332 : BitVec 32 := Scalar.muli arg15 c16_i32_345
  let c0_i32_346 : BitVec 32 := 0#32
  let v333 : BitVec 32 := Scalar.addi v332 c0_i32_346
  let v342 : Index := Scalar.indexCast v333
  let c16_350 : Index := 16#32
  ![v342.toNat, 16]
def k0_off351 (v345 : BitVec 32) : Fin 3 → Nat :=
  let c1_i32_353 : BitVec 32 := 1#32
  let v348 : Index := Scalar.indexCast c1_i32_353
  let v349 : Index := Scalar.indexCast v345
  let c0_354 : Index := 0#32
  ![1, v349.toNat, 0]

def k0_off352 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_351 : BitVec 32 := 16#32
  let v346 : BitVec 32 := Scalar.muli arg15 c16_i32_351
  let c1_i32_352 : BitVec 32 := 1#32
  let v347 : BitVec 32 := Scalar.addi v346 c1_i32_352
  let v351 : Index := Scalar.indexCast v347
  let c0_355 : Index := 0#32
  ![v351.toNat, 0]
def k0_off353 (v345 : BitVec 32) : Fin 3 → Nat :=
  let c1_i32_356 : BitVec 32 := 1#32
  let v353 : Index := Scalar.indexCast c1_i32_356
  let v354 : Index := Scalar.indexCast v345
  let c16_357 : Index := 16#32
  ![1, v354.toNat, 16]

def k0_chk146 (v345 : BitVec 32) : Prop :=
  (∀ a, (k0_off351 v345) a + S1x1x16.size a ≤ S16x8x32.size a) ∧
  (∀ a, (k0_off353 v345) a + S1x1x16.size a ≤ S16x8x32.size a)
theorem k0_off351_inb : ∀ (v345 : BitVec 32) (k0_hw146 : k0_chk146 v345), ∀ a, (k0_off351 v345) a + S1x1x16.size a ≤ S16x8x32.size a := fun v345 k0_hw146 => k0_hw146.1
theorem k0_off353_inb : ∀ (v345 : BitVec 32) (k0_hw146 : k0_chk146 v345), ∀ a, (k0_off353 v345) a + S1x1x16.size a ≤ S16x8x32.size a := fun v345 k0_hw146 => k0_hw146.2

def k0_off354 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_351 : BitVec 32 := 16#32
  let v346 : BitVec 32 := Scalar.muli arg15 c16_i32_351
  let c1_i32_352 : BitVec 32 := 1#32
  let v347 : BitVec 32 := Scalar.addi v346 c1_i32_352
  let v356 : Index := Scalar.indexCast v347
  let c16_358 : Index := 16#32
  ![v356.toNat, 16]
def k0_off355 (v359 : BitVec 32) : Fin 3 → Nat :=
  let c2_i32_361 : BitVec 32 := 2#32
  let v362 : Index := Scalar.indexCast c2_i32_361
  let v363 : Index := Scalar.indexCast v359
  let c0_362 : Index := 0#32
  ![2, v363.toNat, 0]

def k0_off356 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_359 : BitVec 32 := 16#32
  let v360 : BitVec 32 := Scalar.muli arg15 c16_i32_359
  let c2_i32_360 : BitVec 32 := 2#32
  let v361 : BitVec 32 := Scalar.addi v360 c2_i32_360
  let v365 : Index := Scalar.indexCast v361
  let c0_363 : Index := 0#32
  ![v365.toNat, 0]
def k0_off357 (v359 : BitVec 32) : Fin 3 → Nat :=
  let c2_i32_364 : BitVec 32 := 2#32
  let v367 : Index := Scalar.indexCast c2_i32_364
  let v368 : Index := Scalar.indexCast v359
  let c16_365 : Index := 16#32
  ![2, v368.toNat, 16]

def k0_chk147 (v359 : BitVec 32) : Prop :=
  (∀ a, (k0_off355 v359) a + S1x1x16.size a ≤ S16x8x32.size a) ∧
  (∀ a, (k0_off357 v359) a + S1x1x16.size a ≤ S16x8x32.size a)
theorem k0_off355_inb : ∀ (v359 : BitVec 32) (k0_hw147 : k0_chk147 v359), ∀ a, (k0_off355 v359) a + S1x1x16.size a ≤ S16x8x32.size a := fun v359 k0_hw147 => k0_hw147.1
theorem k0_off357_inb : ∀ (v359 : BitVec 32) (k0_hw147 : k0_chk147 v359), ∀ a, (k0_off357 v359) a + S1x1x16.size a ≤ S16x8x32.size a := fun v359 k0_hw147 => k0_hw147.2

def k0_off358 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_359 : BitVec 32 := 16#32
  let v360 : BitVec 32 := Scalar.muli arg15 c16_i32_359
  let c2_i32_360 : BitVec 32 := 2#32
  let v361 : BitVec 32 := Scalar.addi v360 c2_i32_360
  let v370 : Index := Scalar.indexCast v361
  let c16_366 : Index := 16#32
  ![v370.toNat, 16]
def k0_off359 (v373 : BitVec 32) : Fin 3 → Nat :=
  let c3_i32_369 : BitVec 32 := 3#32
  let v376 : Index := Scalar.indexCast c3_i32_369
  let v377 : Index := Scalar.indexCast v373
  let c0_370 : Index := 0#32
  ![3, v377.toNat, 0]

def k0_off360 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_367 : BitVec 32 := 16#32
  let v374 : BitVec 32 := Scalar.muli arg15 c16_i32_367
  let c3_i32_368 : BitVec 32 := 3#32
  let v375 : BitVec 32 := Scalar.addi v374 c3_i32_368
  let v379 : Index := Scalar.indexCast v375
  let c0_371 : Index := 0#32
  ![v379.toNat, 0]
def k0_off361 (v373 : BitVec 32) : Fin 3 → Nat :=
  let c3_i32_372 : BitVec 32 := 3#32
  let v381 : Index := Scalar.indexCast c3_i32_372
  let v382 : Index := Scalar.indexCast v373
  let c16_373 : Index := 16#32
  ![3, v382.toNat, 16]

def k0_chk148 (v373 : BitVec 32) : Prop :=
  (∀ a, (k0_off359 v373) a + S1x1x16.size a ≤ S16x8x32.size a) ∧
  (∀ a, (k0_off361 v373) a + S1x1x16.size a ≤ S16x8x32.size a)
theorem k0_off359_inb : ∀ (v373 : BitVec 32) (k0_hw148 : k0_chk148 v373), ∀ a, (k0_off359 v373) a + S1x1x16.size a ≤ S16x8x32.size a := fun v373 k0_hw148 => k0_hw148.1
theorem k0_off361_inb : ∀ (v373 : BitVec 32) (k0_hw148 : k0_chk148 v373), ∀ a, (k0_off361 v373) a + S1x1x16.size a ≤ S16x8x32.size a := fun v373 k0_hw148 => k0_hw148.2

def k0_off362 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_367 : BitVec 32 := 16#32
  let v374 : BitVec 32 := Scalar.muli arg15 c16_i32_367
  let c3_i32_368 : BitVec 32 := 3#32
  let v375 : BitVec 32 := Scalar.addi v374 c3_i32_368
  let v384 : Index := Scalar.indexCast v375
  let c16_374 : Index := 16#32
  ![v384.toNat, 16]
def k0_off363 (v387 : BitVec 32) : Fin 3 → Nat :=
  let c4_i32_377 : BitVec 32 := 4#32
  let v390 : Index := Scalar.indexCast c4_i32_377
  let v391 : Index := Scalar.indexCast v387
  let c0_378 : Index := 0#32
  ![4, v391.toNat, 0]

def k0_off364 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_375 : BitVec 32 := 16#32
  let v388 : BitVec 32 := Scalar.muli arg15 c16_i32_375
  let c4_i32_376 : BitVec 32 := 4#32
  let v389 : BitVec 32 := Scalar.addi v388 c4_i32_376
  let v393 : Index := Scalar.indexCast v389
  let c0_379 : Index := 0#32
  ![v393.toNat, 0]
def k0_off365 (v387 : BitVec 32) : Fin 3 → Nat :=
  let c4_i32_380 : BitVec 32 := 4#32
  let v395 : Index := Scalar.indexCast c4_i32_380
  let v396 : Index := Scalar.indexCast v387
  let c16_381 : Index := 16#32
  ![4, v396.toNat, 16]

def k0_chk149 (v387 : BitVec 32) : Prop :=
  (∀ a, (k0_off363 v387) a + S1x1x16.size a ≤ S16x8x32.size a) ∧
  (∀ a, (k0_off365 v387) a + S1x1x16.size a ≤ S16x8x32.size a)
theorem k0_off363_inb : ∀ (v387 : BitVec 32) (k0_hw149 : k0_chk149 v387), ∀ a, (k0_off363 v387) a + S1x1x16.size a ≤ S16x8x32.size a := fun v387 k0_hw149 => k0_hw149.1
theorem k0_off365_inb : ∀ (v387 : BitVec 32) (k0_hw149 : k0_chk149 v387), ∀ a, (k0_off365 v387) a + S1x1x16.size a ≤ S16x8x32.size a := fun v387 k0_hw149 => k0_hw149.2

def k0_off366 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_375 : BitVec 32 := 16#32
  let v388 : BitVec 32 := Scalar.muli arg15 c16_i32_375
  let c4_i32_376 : BitVec 32 := 4#32
  let v389 : BitVec 32 := Scalar.addi v388 c4_i32_376
  let v398 : Index := Scalar.indexCast v389
  let c16_382 : Index := 16#32
  ![v398.toNat, 16]
def k0_off367 (v401 : BitVec 32) : Fin 3 → Nat :=
  let c5_i32_385 : BitVec 32 := 5#32
  let v404 : Index := Scalar.indexCast c5_i32_385
  let v405 : Index := Scalar.indexCast v401
  let c0_386 : Index := 0#32
  ![5, v405.toNat, 0]

def k0_off368 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_383 : BitVec 32 := 16#32
  let v402 : BitVec 32 := Scalar.muli arg15 c16_i32_383
  let c5_i32_384 : BitVec 32 := 5#32
  let v403 : BitVec 32 := Scalar.addi v402 c5_i32_384
  let v407 : Index := Scalar.indexCast v403
  let c0_387 : Index := 0#32
  ![v407.toNat, 0]
def k0_off369 (v401 : BitVec 32) : Fin 3 → Nat :=
  let c5_i32_388 : BitVec 32 := 5#32
  let v409 : Index := Scalar.indexCast c5_i32_388
  let v410 : Index := Scalar.indexCast v401
  let c16_389 : Index := 16#32
  ![5, v410.toNat, 16]

def k0_chk150 (v401 : BitVec 32) : Prop :=
  (∀ a, (k0_off367 v401) a + S1x1x16.size a ≤ S16x8x32.size a) ∧
  (∀ a, (k0_off369 v401) a + S1x1x16.size a ≤ S16x8x32.size a)
theorem k0_off367_inb : ∀ (v401 : BitVec 32) (k0_hw150 : k0_chk150 v401), ∀ a, (k0_off367 v401) a + S1x1x16.size a ≤ S16x8x32.size a := fun v401 k0_hw150 => k0_hw150.1
theorem k0_off369_inb : ∀ (v401 : BitVec 32) (k0_hw150 : k0_chk150 v401), ∀ a, (k0_off369 v401) a + S1x1x16.size a ≤ S16x8x32.size a := fun v401 k0_hw150 => k0_hw150.2

def k0_off370 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_383 : BitVec 32 := 16#32
  let v402 : BitVec 32 := Scalar.muli arg15 c16_i32_383
  let c5_i32_384 : BitVec 32 := 5#32
  let v403 : BitVec 32 := Scalar.addi v402 c5_i32_384
  let v412 : Index := Scalar.indexCast v403
  let c16_390 : Index := 16#32
  ![v412.toNat, 16]
def k0_off371 (v415 : BitVec 32) : Fin 3 → Nat :=
  let c6_i32_393 : BitVec 32 := 6#32
  let v418 : Index := Scalar.indexCast c6_i32_393
  let v419 : Index := Scalar.indexCast v415
  let c0_394 : Index := 0#32
  ![6, v419.toNat, 0]

def k0_off372 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_391 : BitVec 32 := 16#32
  let v416 : BitVec 32 := Scalar.muli arg15 c16_i32_391
  let c6_i32_392 : BitVec 32 := 6#32
  let v417 : BitVec 32 := Scalar.addi v416 c6_i32_392
  let v421 : Index := Scalar.indexCast v417
  let c0_395 : Index := 0#32
  ![v421.toNat, 0]
def k0_off373 (v415 : BitVec 32) : Fin 3 → Nat :=
  let c6_i32_396 : BitVec 32 := 6#32
  let v423 : Index := Scalar.indexCast c6_i32_396
  let v424 : Index := Scalar.indexCast v415
  let c16_397 : Index := 16#32
  ![6, v424.toNat, 16]

def k0_chk151 (v415 : BitVec 32) : Prop :=
  (∀ a, (k0_off371 v415) a + S1x1x16.size a ≤ S16x8x32.size a) ∧
  (∀ a, (k0_off373 v415) a + S1x1x16.size a ≤ S16x8x32.size a)
theorem k0_off371_inb : ∀ (v415 : BitVec 32) (k0_hw151 : k0_chk151 v415), ∀ a, (k0_off371 v415) a + S1x1x16.size a ≤ S16x8x32.size a := fun v415 k0_hw151 => k0_hw151.1
theorem k0_off373_inb : ∀ (v415 : BitVec 32) (k0_hw151 : k0_chk151 v415), ∀ a, (k0_off373 v415) a + S1x1x16.size a ≤ S16x8x32.size a := fun v415 k0_hw151 => k0_hw151.2

def k0_off374 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_391 : BitVec 32 := 16#32
  let v416 : BitVec 32 := Scalar.muli arg15 c16_i32_391
  let c6_i32_392 : BitVec 32 := 6#32
  let v417 : BitVec 32 := Scalar.addi v416 c6_i32_392
  let v426 : Index := Scalar.indexCast v417
  let c16_398 : Index := 16#32
  ![v426.toNat, 16]
def k0_off375 (v429 : BitVec 32) : Fin 3 → Nat :=
  let c7_i32_401 : BitVec 32 := 7#32
  let v432 : Index := Scalar.indexCast c7_i32_401
  let v433 : Index := Scalar.indexCast v429
  let c0_402 : Index := 0#32
  ![7, v433.toNat, 0]

def k0_off376 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_399 : BitVec 32 := 16#32
  let v430 : BitVec 32 := Scalar.muli arg15 c16_i32_399
  let c7_i32_400 : BitVec 32 := 7#32
  let v431 : BitVec 32 := Scalar.addi v430 c7_i32_400
  let v435 : Index := Scalar.indexCast v431
  let c0_403 : Index := 0#32
  ![v435.toNat, 0]
def k0_off377 (v429 : BitVec 32) : Fin 3 → Nat :=
  let c7_i32_404 : BitVec 32 := 7#32
  let v437 : Index := Scalar.indexCast c7_i32_404
  let v438 : Index := Scalar.indexCast v429
  let c16_405 : Index := 16#32
  ![7, v438.toNat, 16]

def k0_chk152 (v429 : BitVec 32) : Prop :=
  (∀ a, (k0_off375 v429) a + S1x1x16.size a ≤ S16x8x32.size a) ∧
  (∀ a, (k0_off377 v429) a + S1x1x16.size a ≤ S16x8x32.size a)
theorem k0_off375_inb : ∀ (v429 : BitVec 32) (k0_hw152 : k0_chk152 v429), ∀ a, (k0_off375 v429) a + S1x1x16.size a ≤ S16x8x32.size a := fun v429 k0_hw152 => k0_hw152.1
theorem k0_off377_inb : ∀ (v429 : BitVec 32) (k0_hw152 : k0_chk152 v429), ∀ a, (k0_off377 v429) a + S1x1x16.size a ≤ S16x8x32.size a := fun v429 k0_hw152 => k0_hw152.2

def k0_off378 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_399 : BitVec 32 := 16#32
  let v430 : BitVec 32 := Scalar.muli arg15 c16_i32_399
  let c7_i32_400 : BitVec 32 := 7#32
  let v431 : BitVec 32 := Scalar.addi v430 c7_i32_400
  let v440 : Index := Scalar.indexCast v431
  let c16_406 : Index := 16#32
  ![v440.toNat, 16]
def k0_off379 (v443 : BitVec 32) : Fin 3 → Nat :=
  let c8_i32_409 : BitVec 32 := 8#32
  let v446 : Index := Scalar.indexCast c8_i32_409
  let v447 : Index := Scalar.indexCast v443
  let c0_410 : Index := 0#32
  ![8, v447.toNat, 0]

def k0_off380 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_407 : BitVec 32 := 16#32
  let v444 : BitVec 32 := Scalar.muli arg15 c16_i32_407
  let c8_i32_408 : BitVec 32 := 8#32
  let v445 : BitVec 32 := Scalar.addi v444 c8_i32_408
  let v449 : Index := Scalar.indexCast v445
  let c0_411 : Index := 0#32
  ![v449.toNat, 0]
def k0_off381 (v443 : BitVec 32) : Fin 3 → Nat :=
  let c8_i32_412 : BitVec 32 := 8#32
  let v451 : Index := Scalar.indexCast c8_i32_412
  let v452 : Index := Scalar.indexCast v443
  let c16_413 : Index := 16#32
  ![8, v452.toNat, 16]

def k0_chk153 (v443 : BitVec 32) : Prop :=
  (∀ a, (k0_off379 v443) a + S1x1x16.size a ≤ S16x8x32.size a) ∧
  (∀ a, (k0_off381 v443) a + S1x1x16.size a ≤ S16x8x32.size a)
theorem k0_off379_inb : ∀ (v443 : BitVec 32) (k0_hw153 : k0_chk153 v443), ∀ a, (k0_off379 v443) a + S1x1x16.size a ≤ S16x8x32.size a := fun v443 k0_hw153 => k0_hw153.1
theorem k0_off381_inb : ∀ (v443 : BitVec 32) (k0_hw153 : k0_chk153 v443), ∀ a, (k0_off381 v443) a + S1x1x16.size a ≤ S16x8x32.size a := fun v443 k0_hw153 => k0_hw153.2

def k0_off382 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_407 : BitVec 32 := 16#32
  let v444 : BitVec 32 := Scalar.muli arg15 c16_i32_407
  let c8_i32_408 : BitVec 32 := 8#32
  let v445 : BitVec 32 := Scalar.addi v444 c8_i32_408
  let v454 : Index := Scalar.indexCast v445
  let c16_414 : Index := 16#32
  ![v454.toNat, 16]
def k0_off383 (v457 : BitVec 32) : Fin 3 → Nat :=
  let c9_i32_417 : BitVec 32 := 9#32
  let v460 : Index := Scalar.indexCast c9_i32_417
  let v461 : Index := Scalar.indexCast v457
  let c0_418 : Index := 0#32
  ![9, v461.toNat, 0]

def k0_off384 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_415 : BitVec 32 := 16#32
  let v458 : BitVec 32 := Scalar.muli arg15 c16_i32_415
  let c9_i32_416 : BitVec 32 := 9#32
  let v459 : BitVec 32 := Scalar.addi v458 c9_i32_416
  let v463 : Index := Scalar.indexCast v459
  let c0_419 : Index := 0#32
  ![v463.toNat, 0]
def k0_off385 (v457 : BitVec 32) : Fin 3 → Nat :=
  let c9_i32_420 : BitVec 32 := 9#32
  let v465 : Index := Scalar.indexCast c9_i32_420
  let v466 : Index := Scalar.indexCast v457
  let c16_421 : Index := 16#32
  ![9, v466.toNat, 16]

def k0_chk154 (v457 : BitVec 32) : Prop :=
  (∀ a, (k0_off383 v457) a + S1x1x16.size a ≤ S16x8x32.size a) ∧
  (∀ a, (k0_off385 v457) a + S1x1x16.size a ≤ S16x8x32.size a)
theorem k0_off383_inb : ∀ (v457 : BitVec 32) (k0_hw154 : k0_chk154 v457), ∀ a, (k0_off383 v457) a + S1x1x16.size a ≤ S16x8x32.size a := fun v457 k0_hw154 => k0_hw154.1
theorem k0_off385_inb : ∀ (v457 : BitVec 32) (k0_hw154 : k0_chk154 v457), ∀ a, (k0_off385 v457) a + S1x1x16.size a ≤ S16x8x32.size a := fun v457 k0_hw154 => k0_hw154.2

def k0_off386 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_415 : BitVec 32 := 16#32
  let v458 : BitVec 32 := Scalar.muli arg15 c16_i32_415
  let c9_i32_416 : BitVec 32 := 9#32
  let v459 : BitVec 32 := Scalar.addi v458 c9_i32_416
  let v468 : Index := Scalar.indexCast v459
  let c16_422 : Index := 16#32
  ![v468.toNat, 16]
def k0_off387 (v471 : BitVec 32) : Fin 3 → Nat :=
  let c10_i32_425 : BitVec 32 := 10#32
  let v474 : Index := Scalar.indexCast c10_i32_425
  let v475 : Index := Scalar.indexCast v471
  let c0_426 : Index := 0#32
  ![10, v475.toNat, 0]

def k0_off388 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_423 : BitVec 32 := 16#32
  let v472 : BitVec 32 := Scalar.muli arg15 c16_i32_423
  let c10_i32_424 : BitVec 32 := 10#32
  let v473 : BitVec 32 := Scalar.addi v472 c10_i32_424
  let v477 : Index := Scalar.indexCast v473
  let c0_427 : Index := 0#32
  ![v477.toNat, 0]
def k0_off389 (v471 : BitVec 32) : Fin 3 → Nat :=
  let c10_i32_428 : BitVec 32 := 10#32
  let v479 : Index := Scalar.indexCast c10_i32_428
  let v480 : Index := Scalar.indexCast v471
  let c16_429 : Index := 16#32
  ![10, v480.toNat, 16]

def k0_chk155 (v471 : BitVec 32) : Prop :=
  (∀ a, (k0_off387 v471) a + S1x1x16.size a ≤ S16x8x32.size a) ∧
  (∀ a, (k0_off389 v471) a + S1x1x16.size a ≤ S16x8x32.size a)
theorem k0_off387_inb : ∀ (v471 : BitVec 32) (k0_hw155 : k0_chk155 v471), ∀ a, (k0_off387 v471) a + S1x1x16.size a ≤ S16x8x32.size a := fun v471 k0_hw155 => k0_hw155.1
theorem k0_off389_inb : ∀ (v471 : BitVec 32) (k0_hw155 : k0_chk155 v471), ∀ a, (k0_off389 v471) a + S1x1x16.size a ≤ S16x8x32.size a := fun v471 k0_hw155 => k0_hw155.2

def k0_off390 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_423 : BitVec 32 := 16#32
  let v472 : BitVec 32 := Scalar.muli arg15 c16_i32_423
  let c10_i32_424 : BitVec 32 := 10#32
  let v473 : BitVec 32 := Scalar.addi v472 c10_i32_424
  let v482 : Index := Scalar.indexCast v473
  let c16_430 : Index := 16#32
  ![v482.toNat, 16]
def k0_off391 (v485 : BitVec 32) : Fin 3 → Nat :=
  let c11_i32_433 : BitVec 32 := 11#32
  let v488 : Index := Scalar.indexCast c11_i32_433
  let v489 : Index := Scalar.indexCast v485
  let c0_434 : Index := 0#32
  ![11, v489.toNat, 0]

def k0_off392 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_431 : BitVec 32 := 16#32
  let v486 : BitVec 32 := Scalar.muli arg15 c16_i32_431
  let c11_i32_432 : BitVec 32 := 11#32
  let v487 : BitVec 32 := Scalar.addi v486 c11_i32_432
  let v491 : Index := Scalar.indexCast v487
  let c0_435 : Index := 0#32
  ![v491.toNat, 0]
def k0_off393 (v485 : BitVec 32) : Fin 3 → Nat :=
  let c11_i32_436 : BitVec 32 := 11#32
  let v493 : Index := Scalar.indexCast c11_i32_436
  let v494 : Index := Scalar.indexCast v485
  let c16_437 : Index := 16#32
  ![11, v494.toNat, 16]

def k0_chk156 (v485 : BitVec 32) : Prop :=
  (∀ a, (k0_off391 v485) a + S1x1x16.size a ≤ S16x8x32.size a) ∧
  (∀ a, (k0_off393 v485) a + S1x1x16.size a ≤ S16x8x32.size a)
theorem k0_off391_inb : ∀ (v485 : BitVec 32) (k0_hw156 : k0_chk156 v485), ∀ a, (k0_off391 v485) a + S1x1x16.size a ≤ S16x8x32.size a := fun v485 k0_hw156 => k0_hw156.1
theorem k0_off393_inb : ∀ (v485 : BitVec 32) (k0_hw156 : k0_chk156 v485), ∀ a, (k0_off393 v485) a + S1x1x16.size a ≤ S16x8x32.size a := fun v485 k0_hw156 => k0_hw156.2

def k0_off394 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_431 : BitVec 32 := 16#32
  let v486 : BitVec 32 := Scalar.muli arg15 c16_i32_431
  let c11_i32_432 : BitVec 32 := 11#32
  let v487 : BitVec 32 := Scalar.addi v486 c11_i32_432
  let v496 : Index := Scalar.indexCast v487
  let c16_438 : Index := 16#32
  ![v496.toNat, 16]
def k0_off395 (v499 : BitVec 32) : Fin 3 → Nat :=
  let c12_i32_441 : BitVec 32 := 12#32
  let v502 : Index := Scalar.indexCast c12_i32_441
  let v503 : Index := Scalar.indexCast v499
  let c0_442 : Index := 0#32
  ![12, v503.toNat, 0]

def k0_off396 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_439 : BitVec 32 := 16#32
  let v500 : BitVec 32 := Scalar.muli arg15 c16_i32_439
  let c12_i32_440 : BitVec 32 := 12#32
  let v501 : BitVec 32 := Scalar.addi v500 c12_i32_440
  let v505 : Index := Scalar.indexCast v501
  let c0_443 : Index := 0#32
  ![v505.toNat, 0]
def k0_off397 (v499 : BitVec 32) : Fin 3 → Nat :=
  let c12_i32_444 : BitVec 32 := 12#32
  let v507 : Index := Scalar.indexCast c12_i32_444
  let v508 : Index := Scalar.indexCast v499
  let c16_445 : Index := 16#32
  ![12, v508.toNat, 16]

def k0_chk157 (v499 : BitVec 32) : Prop :=
  (∀ a, (k0_off395 v499) a + S1x1x16.size a ≤ S16x8x32.size a) ∧
  (∀ a, (k0_off397 v499) a + S1x1x16.size a ≤ S16x8x32.size a)
theorem k0_off395_inb : ∀ (v499 : BitVec 32) (k0_hw157 : k0_chk157 v499), ∀ a, (k0_off395 v499) a + S1x1x16.size a ≤ S16x8x32.size a := fun v499 k0_hw157 => k0_hw157.1
theorem k0_off397_inb : ∀ (v499 : BitVec 32) (k0_hw157 : k0_chk157 v499), ∀ a, (k0_off397 v499) a + S1x1x16.size a ≤ S16x8x32.size a := fun v499 k0_hw157 => k0_hw157.2

def k0_off398 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_439 : BitVec 32 := 16#32
  let v500 : BitVec 32 := Scalar.muli arg15 c16_i32_439
  let c12_i32_440 : BitVec 32 := 12#32
  let v501 : BitVec 32 := Scalar.addi v500 c12_i32_440
  let v510 : Index := Scalar.indexCast v501
  let c16_446 : Index := 16#32
  ![v510.toNat, 16]
def k0_off399 (v513 : BitVec 32) : Fin 3 → Nat :=
  let c13_i32_449 : BitVec 32 := 13#32
  let v516 : Index := Scalar.indexCast c13_i32_449
  let v517 : Index := Scalar.indexCast v513
  let c0_450 : Index := 0#32
  ![13, v517.toNat, 0]

def k0_off400 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_447 : BitVec 32 := 16#32
  let v514 : BitVec 32 := Scalar.muli arg15 c16_i32_447
  let c13_i32_448 : BitVec 32 := 13#32
  let v515 : BitVec 32 := Scalar.addi v514 c13_i32_448
  let v519 : Index := Scalar.indexCast v515
  let c0_451 : Index := 0#32
  ![v519.toNat, 0]
def k0_off401 (v513 : BitVec 32) : Fin 3 → Nat :=
  let c13_i32_452 : BitVec 32 := 13#32
  let v521 : Index := Scalar.indexCast c13_i32_452
  let v522 : Index := Scalar.indexCast v513
  let c16_453 : Index := 16#32
  ![13, v522.toNat, 16]

def k0_chk158 (v513 : BitVec 32) : Prop :=
  (∀ a, (k0_off399 v513) a + S1x1x16.size a ≤ S16x8x32.size a) ∧
  (∀ a, (k0_off401 v513) a + S1x1x16.size a ≤ S16x8x32.size a)
theorem k0_off399_inb : ∀ (v513 : BitVec 32) (k0_hw158 : k0_chk158 v513), ∀ a, (k0_off399 v513) a + S1x1x16.size a ≤ S16x8x32.size a := fun v513 k0_hw158 => k0_hw158.1
theorem k0_off401_inb : ∀ (v513 : BitVec 32) (k0_hw158 : k0_chk158 v513), ∀ a, (k0_off401 v513) a + S1x1x16.size a ≤ S16x8x32.size a := fun v513 k0_hw158 => k0_hw158.2

def k0_off402 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_447 : BitVec 32 := 16#32
  let v514 : BitVec 32 := Scalar.muli arg15 c16_i32_447
  let c13_i32_448 : BitVec 32 := 13#32
  let v515 : BitVec 32 := Scalar.addi v514 c13_i32_448
  let v524 : Index := Scalar.indexCast v515
  let c16_454 : Index := 16#32
  ![v524.toNat, 16]
def k0_off403 (v527 : BitVec 32) : Fin 3 → Nat :=
  let c14_i32_457 : BitVec 32 := 14#32
  let v530 : Index := Scalar.indexCast c14_i32_457
  let v531 : Index := Scalar.indexCast v527
  let c0_458 : Index := 0#32
  ![14, v531.toNat, 0]

def k0_off404 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_455 : BitVec 32 := 16#32
  let v528 : BitVec 32 := Scalar.muli arg15 c16_i32_455
  let c14_i32_456 : BitVec 32 := 14#32
  let v529 : BitVec 32 := Scalar.addi v528 c14_i32_456
  let v533 : Index := Scalar.indexCast v529
  let c0_459 : Index := 0#32
  ![v533.toNat, 0]
def k0_off405 (v527 : BitVec 32) : Fin 3 → Nat :=
  let c14_i32_460 : BitVec 32 := 14#32
  let v535 : Index := Scalar.indexCast c14_i32_460
  let v536 : Index := Scalar.indexCast v527
  let c16_461 : Index := 16#32
  ![14, v536.toNat, 16]

def k0_chk159 (v527 : BitVec 32) : Prop :=
  (∀ a, (k0_off403 v527) a + S1x1x16.size a ≤ S16x8x32.size a) ∧
  (∀ a, (k0_off405 v527) a + S1x1x16.size a ≤ S16x8x32.size a)
theorem k0_off403_inb : ∀ (v527 : BitVec 32) (k0_hw159 : k0_chk159 v527), ∀ a, (k0_off403 v527) a + S1x1x16.size a ≤ S16x8x32.size a := fun v527 k0_hw159 => k0_hw159.1
theorem k0_off405_inb : ∀ (v527 : BitVec 32) (k0_hw159 : k0_chk159 v527), ∀ a, (k0_off405 v527) a + S1x1x16.size a ≤ S16x8x32.size a := fun v527 k0_hw159 => k0_hw159.2

def k0_off406 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_455 : BitVec 32 := 16#32
  let v528 : BitVec 32 := Scalar.muli arg15 c16_i32_455
  let c14_i32_456 : BitVec 32 := 14#32
  let v529 : BitVec 32 := Scalar.addi v528 c14_i32_456
  let v538 : Index := Scalar.indexCast v529
  let c16_462 : Index := 16#32
  ![v538.toNat, 16]
def k0_off407 (v541 : BitVec 32) : Fin 3 → Nat :=
  let c15_i32_465 : BitVec 32 := 15#32
  let v544 : Index := Scalar.indexCast c15_i32_465
  let v545 : Index := Scalar.indexCast v541
  let c0_466 : Index := 0#32
  ![15, v545.toNat, 0]

def k0_off408 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_463 : BitVec 32 := 16#32
  let v542 : BitVec 32 := Scalar.muli arg15 c16_i32_463
  let c15_i32_464 : BitVec 32 := 15#32
  let v543 : BitVec 32 := Scalar.addi v542 c15_i32_464
  let v547 : Index := Scalar.indexCast v543
  let c0_467 : Index := 0#32
  ![v547.toNat, 0]
def k0_off409 (v541 : BitVec 32) : Fin 3 → Nat :=
  let c15_i32_468 : BitVec 32 := 15#32
  let v549 : Index := Scalar.indexCast c15_i32_468
  let v550 : Index := Scalar.indexCast v541
  let c16_469 : Index := 16#32
  ![15, v550.toNat, 16]

def k0_chk160 (v541 : BitVec 32) : Prop :=
  (∀ a, (k0_off407 v541) a + S1x1x16.size a ≤ S16x8x32.size a) ∧
  (∀ a, (k0_off409 v541) a + S1x1x16.size a ≤ S16x8x32.size a)
theorem k0_off407_inb : ∀ (v541 : BitVec 32) (k0_hw160 : k0_chk160 v541), ∀ a, (k0_off407 v541) a + S1x1x16.size a ≤ S16x8x32.size a := fun v541 k0_hw160 => k0_hw160.1
theorem k0_off409_inb : ∀ (v541 : BitVec 32) (k0_hw160 : k0_chk160 v541), ∀ a, (k0_off409 v541) a + S1x1x16.size a ≤ S16x8x32.size a := fun v541 k0_hw160 => k0_hw160.2

def k0_off410 (k0_t10 : Fin k0_t10_loop.trips) : Fin 2 → Nat :=
  let c0_i32_44 : BitVec 32 := 0#32
  let c1_i32_45 : BitVec 32 := 1#32
  let arg15 : BitVec 32 := Scf.iv c0_i32_44 c1_i32_45 k0_t10
  let c16_i32_463 : BitVec 32 := 16#32
  let v542 : BitVec 32 := Scalar.muli arg15 c16_i32_463
  let c15_i32_464 : BitVec 32 := 15#32
  let v543 : BitVec 32 := Scalar.addi v542 c15_i32_464
  let v552 : Index := Scalar.indexCast v543
  let c16_470 : Index := 16#32
  ![v552.toNat, 16]
def k0_off411 (i : grid0.Coords) (k0_t9 : Fin k0_t9_loop.trips) : Fin 3 → Nat :=
  let c4_i32_48 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c1_i32_21 : BitVec 32 := 1#32
  let arg13 : BitVec 32 := Scf.iv c0_i32_19 c1_i32_21 k0_t9
  let c128_i32_47 : BitVec 32 := 128#32
  let v32 : BitVec 32 := Scalar.muli arg13 c128_i32_47
  let v33 : BitVec 32 := Scalar.addi v2 v32
  let c0_i32_50_r9 : BitVec 32 := 0#32
  ![4, v33.toNat, 0]
@[reducible] def k0_t11_loop : Scf.Loop 32 :=
  let c0_i32_24 : BitVec 32 := 0#32
  let c4_i32_25 : BitVec 32 := 4#32
  let v19 : BitVec 32 := Scalar.addi c0_i32_24 c4_i32_25
  let c1_i32_26 : BitVec 32 := 1#32
  ⟨c0_i32_24, v19, c1_i32_26⟩
@[reducible] def k0_t12_loop : Scf.Loop 32 :=
  let c0_i32_44 : BitVec 32 := 0#32
  let c8_i32 : BitVec 32 := 8#32
  let v30 : BitVec 32 := Scalar.addi c0_i32_44 c8_i32
  let c1_i32_45 : BitVec 32 := 1#32
  ⟨c0_i32_44, v30, c1_i32_45⟩
def k0_off412 (k0_t11 : Fin k0_t11_loop.trips) (k0_t12 : Fin k0_t12_loop.trips) : Fin 2 → Nat :=
  let c0_i32_24 : BitVec 32 := 0#32
  let c1_i32_26 : BitVec 32 := 1#32
  let arg13 : BitVec 32 := Scf.iv c0_i32_24 c1_i32_26 k0_t11
  let v35 : Index := Scalar.indexCast arg13
  let c0_i32_44 : BitVec 32 := 0#32
  let c1_i32_45 : BitVec 32 := 1#32
  let arg15 : BitVec 32 := Scf.iv c0_i32_44 c1_i32_45 k0_t12
  let c16_i32 : BitVec 32 := 16#32
  let v34 : BitVec 32 := Scalar.muli arg15 c16_i32
  let v36 : Index := Scalar.indexCast v34
  ![v35.toNat, v36.toNat]
def k0_off413 (v43 : BitVec 32) : Fin 3 → Nat :=
  let c0_i32_52 : BitVec 32 := 0#32
  let c0_i32_53 : BitVec 32 := 0#32
  ![v43.toNat, 0, 0]

def k0_chk161 (v43 : BitVec 32) : Prop :=
  (∀ a, (k0_off413 v43) a + S1x8x32.size a ≤ S125x8x32.size a)
theorem k0_off413_inb : ∀ (v43 : BitVec 32) (k0_hw161 : k0_chk161 v43), ∀ a, (k0_off413 v43) a + S1x8x32.size a ≤ S125x8x32.size a := fun v43 k0_hw161 => k0_hw161

def k0_off414 (v53 : BitVec 32) : Fin 3 → Nat :=
  let c0_i32_61 : BitVec 32 := 0#32
  let c0_i32_62 : BitVec 32 := 0#32
  ![v53.toNat, 0, 0]

def k0_chk162 (v53 : BitVec 32) : Prop :=
  (∀ a, (k0_off414 v53) a + S1x8x32.size a ≤ S125x8x32.size a)
theorem k0_off414_inb : ∀ (v53 : BitVec 32) (k0_hw162 : k0_chk162 v53), ∀ a, (k0_off414 v53) a + S1x8x32.size a ≤ S125x8x32.size a := fun v53 k0_hw162 => k0_hw162

def k0_off415 (v63 : BitVec 32) : Fin 3 → Nat :=
  let c0_i32_70 : BitVec 32 := 0#32
  let c0_i32_71 : BitVec 32 := 0#32
  ![v63.toNat, 0, 0]

def k0_chk163 (v63 : BitVec 32) : Prop :=
  (∀ a, (k0_off415 v63) a + S1x8x32.size a ≤ S125x8x32.size a)
theorem k0_off415_inb : ∀ (v63 : BitVec 32) (k0_hw163 : k0_chk163 v63), ∀ a, (k0_off415 v63) a + S1x8x32.size a ≤ S125x8x32.size a := fun v63 k0_hw163 => k0_hw163

def k0_off416 (v73 : BitVec 32) : Fin 3 → Nat :=
  let c0_i32_79 : BitVec 32 := 0#32
  let c0_i32_80 : BitVec 32 := 0#32
  ![v73.toNat, 0, 0]

def k0_chk164 (v73 : BitVec 32) : Prop :=
  (∀ a, (k0_off416 v73) a + S1x8x32.size a ≤ S125x8x32.size a)
theorem k0_off416_inb : ∀ (v73 : BitVec 32) (k0_hw164 : k0_chk164 v73), ∀ a, (k0_off416 v73) a + S1x8x32.size a ≤ S125x8x32.size a := fun v73 k0_hw164 => k0_hw164

def k0_off417 (v83 : BitVec 32) : Fin 3 → Nat :=
  let c0_i32_88 : BitVec 32 := 0#32
  let c0_i32_89 : BitVec 32 := 0#32
  ![v83.toNat, 0, 0]

def k0_chk165 (v83 : BitVec 32) : Prop :=
  (∀ a, (k0_off417 v83) a + S1x8x32.size a ≤ S125x8x32.size a)
theorem k0_off417_inb : ∀ (v83 : BitVec 32) (k0_hw165 : k0_chk165 v83), ∀ a, (k0_off417 v83) a + S1x8x32.size a ≤ S125x8x32.size a := fun v83 k0_hw165 => k0_hw165

def k0_off418 (v93 : BitVec 32) : Fin 3 → Nat :=
  let c0_i32_97 : BitVec 32 := 0#32
  let c0_i32_98 : BitVec 32 := 0#32
  ![v93.toNat, 0, 0]

def k0_chk166 (v93 : BitVec 32) : Prop :=
  (∀ a, (k0_off418 v93) a + S1x8x32.size a ≤ S125x8x32.size a)
theorem k0_off418_inb : ∀ (v93 : BitVec 32) (k0_hw166 : k0_chk166 v93), ∀ a, (k0_off418 v93) a + S1x8x32.size a ≤ S125x8x32.size a := fun v93 k0_hw166 => k0_hw166

def k0_off419 (v103 : BitVec 32) : Fin 3 → Nat :=
  let c0_i32_105 : BitVec 32 := 0#32
  let c0_i32_106 : BitVec 32 := 0#32
  ![v103.toNat, 0, 0]

def k0_chk167 (v103 : BitVec 32) : Prop :=
  (∀ a, (k0_off419 v103) a + S1x8x32.size a ≤ S125x8x32.size a)
theorem k0_off419_inb : ∀ (v103 : BitVec 32) (k0_hw167 : k0_chk167 v103), ∀ a, (k0_off419 v103) a + S1x8x32.size a ≤ S125x8x32.size a := fun v103 k0_hw167 => k0_hw167

def k0_off420 (v113 : BitVec 32) : Fin 3 → Nat :=
  let c0_i32_114 : BitVec 32 := 0#32
  let c0_i32_115 : BitVec 32 := 0#32
  ![v113.toNat, 0, 0]

def k0_chk168 (v113 : BitVec 32) : Prop :=
  (∀ a, (k0_off420 v113) a + S1x8x32.size a ≤ S125x8x32.size a)
theorem k0_off420_inb : ∀ (v113 : BitVec 32) (k0_hw168 : k0_chk168 v113), ∀ a, (k0_off420 v113) a + S1x8x32.size a ≤ S125x8x32.size a := fun v113 k0_hw168 => k0_hw168

def k0_off421 (v123 : BitVec 32) : Fin 3 → Nat :=
  let c0_i32_123 : BitVec 32 := 0#32
  let c0_i32_124 : BitVec 32 := 0#32
  ![v123.toNat, 0, 0]

def k0_chk169 (v123 : BitVec 32) : Prop :=
  (∀ a, (k0_off421 v123) a + S1x8x32.size a ≤ S125x8x32.size a)
theorem k0_off421_inb : ∀ (v123 : BitVec 32) (k0_hw169 : k0_chk169 v123), ∀ a, (k0_off421 v123) a + S1x8x32.size a ≤ S125x8x32.size a := fun v123 k0_hw169 => k0_hw169

def k0_off422 (v133 : BitVec 32) : Fin 3 → Nat :=
  let c0_i32_131 : BitVec 32 := 0#32
  let c0_i32_132 : BitVec 32 := 0#32
  ![v133.toNat, 0, 0]

def k0_chk170 (v133 : BitVec 32) : Prop :=
  (∀ a, (k0_off422 v133) a + S1x8x32.size a ≤ S125x8x32.size a)
theorem k0_off422_inb : ∀ (v133 : BitVec 32) (k0_hw170 : k0_chk170 v133), ∀ a, (k0_off422 v133) a + S1x8x32.size a ≤ S125x8x32.size a := fun v133 k0_hw170 => k0_hw170

def k0_off423 (v143 : BitVec 32) : Fin 3 → Nat :=
  let c0_i32_139 : BitVec 32 := 0#32
  let c0_i32_140 : BitVec 32 := 0#32
  ![v143.toNat, 0, 0]

def k0_chk171 (v143 : BitVec 32) : Prop :=
  (∀ a, (k0_off423 v143) a + S1x8x32.size a ≤ S125x8x32.size a)
theorem k0_off423_inb : ∀ (v143 : BitVec 32) (k0_hw171 : k0_chk171 v143), ∀ a, (k0_off423 v143) a + S1x8x32.size a ≤ S125x8x32.size a := fun v143 k0_hw171 => k0_hw171

def k0_off424 (v153 : BitVec 32) : Fin 3 → Nat :=
  let c0_i32_147 : BitVec 32 := 0#32
  let c0_i32_148 : BitVec 32 := 0#32
  ![v153.toNat, 0, 0]

def k0_chk172 (v153 : BitVec 32) : Prop :=
  (∀ a, (k0_off424 v153) a + S1x8x32.size a ≤ S125x8x32.size a)
theorem k0_off424_inb : ∀ (v153 : BitVec 32) (k0_hw172 : k0_chk172 v153), ∀ a, (k0_off424 v153) a + S1x8x32.size a ≤ S125x8x32.size a := fun v153 k0_hw172 => k0_hw172

def k0_off425 (v163 : BitVec 32) : Fin 3 → Nat :=
  let c0_i32_155 : BitVec 32 := 0#32
  let c0_i32_156 : BitVec 32 := 0#32
  ![v163.toNat, 0, 0]

def k0_chk173 (v163 : BitVec 32) : Prop :=
  (∀ a, (k0_off425 v163) a + S1x8x32.size a ≤ S125x8x32.size a)
theorem k0_off425_inb : ∀ (v163 : BitVec 32) (k0_hw173 : k0_chk173 v163), ∀ a, (k0_off425 v163) a + S1x8x32.size a ≤ S125x8x32.size a := fun v163 k0_hw173 => k0_hw173

def k0_off426 (v173 : BitVec 32) : Fin 3 → Nat :=
  let c0_i32_163 : BitVec 32 := 0#32
  let c0_i32_164 : BitVec 32 := 0#32
  ![v173.toNat, 0, 0]

def k0_chk174 (v173 : BitVec 32) : Prop :=
  (∀ a, (k0_off426 v173) a + S1x8x32.size a ≤ S125x8x32.size a)
theorem k0_off426_inb : ∀ (v173 : BitVec 32) (k0_hw174 : k0_chk174 v173), ∀ a, (k0_off426 v173) a + S1x8x32.size a ≤ S125x8x32.size a := fun v173 k0_hw174 => k0_hw174

def k0_off427 (v183 : BitVec 32) : Fin 3 → Nat :=
  let c0_i32_171 : BitVec 32 := 0#32
  let c0_i32_172 : BitVec 32 := 0#32
  ![v183.toNat, 0, 0]

def k0_chk175 (v183 : BitVec 32) : Prop :=
  (∀ a, (k0_off427 v183) a + S1x8x32.size a ≤ S125x8x32.size a)
theorem k0_off427_inb : ∀ (v183 : BitVec 32) (k0_hw175 : k0_chk175 v183), ∀ a, (k0_off427 v183) a + S1x8x32.size a ≤ S125x8x32.size a := fun v183 k0_hw175 => k0_hw175

def k0_off428 (v193 : BitVec 32) : Fin 3 → Nat :=
  let c0_i32_179 : BitVec 32 := 0#32
  let c0_i32_180 : BitVec 32 := 0#32
  ![v193.toNat, 0, 0]

def k0_chk176 (v193 : BitVec 32) : Prop :=
  (∀ a, (k0_off428 v193) a + S1x8x32.size a ≤ S125x8x32.size a)
theorem k0_off428_inb : ∀ (v193 : BitVec 32) (k0_hw176 : k0_chk176 v193), ∀ a, (k0_off428 v193) a + S1x8x32.size a ≤ S125x8x32.size a := fun v193 k0_hw176 => k0_hw176

def k0_off429 (v331 : BitVec 32) : Fin 3 → Nat :=
  let c0_i32_347 : BitVec 32 := 0#32
  let v334 : Index := Scalar.indexCast c0_i32_347
  let v335 : Index := Scalar.indexCast v331
  let c0 : Index := 0#32
  ![0, v335.toNat, 0]

def k0_off430 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_345 : BitVec 32 := 16#32
  let v332 : BitVec 32 := Scalar.muli arg15 c16_i32_345
  let c0_i32_346 : BitVec 32 := 0#32
  let v333 : BitVec 32 := Scalar.addi v332 c0_i32_346
  let v337 : Index := Scalar.indexCast v333
  let c0_348 : Index := 0#32
  ![v337.toNat, 0]
def k0_off431 (v331 : BitVec 32) : Fin 3 → Nat :=
  let c0_i32_349 : BitVec 32 := 0#32
  let v339 : Index := Scalar.indexCast c0_i32_349
  let v340 : Index := Scalar.indexCast v331
  let c16 : Index := 16#32
  ![0, v340.toNat, 16]

def k0_chk177 (v331 : BitVec 32) : Prop :=
  (∀ a, (k0_off429 v331) a + S1x1x16.size a ≤ S16x8x32.size a) ∧
  (∀ a, (k0_off431 v331) a + S1x1x16.size a ≤ S16x8x32.size a)
theorem k0_off429_inb : ∀ (v331 : BitVec 32) (k0_hw177 : k0_chk177 v331), ∀ a, (k0_off429 v331) a + S1x1x16.size a ≤ S16x8x32.size a := fun v331 k0_hw177 => k0_hw177.1
theorem k0_off431_inb : ∀ (v331 : BitVec 32) (k0_hw177 : k0_chk177 v331), ∀ a, (k0_off431 v331) a + S1x1x16.size a ≤ S16x8x32.size a := fun v331 k0_hw177 => k0_hw177.2

def k0_off432 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_345 : BitVec 32 := 16#32
  let v332 : BitVec 32 := Scalar.muli arg15 c16_i32_345
  let c0_i32_346 : BitVec 32 := 0#32
  let v333 : BitVec 32 := Scalar.addi v332 c0_i32_346
  let v342 : Index := Scalar.indexCast v333
  let c16_350 : Index := 16#32
  ![v342.toNat, 16]
def k0_off433 (v345 : BitVec 32) : Fin 3 → Nat :=
  let c1_i32_353 : BitVec 32 := 1#32
  let v348 : Index := Scalar.indexCast c1_i32_353
  let v349 : Index := Scalar.indexCast v345
  let c0_354 : Index := 0#32
  ![1, v349.toNat, 0]

def k0_off434 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_351 : BitVec 32 := 16#32
  let v346 : BitVec 32 := Scalar.muli arg15 c16_i32_351
  let c1_i32_352 : BitVec 32 := 1#32
  let v347 : BitVec 32 := Scalar.addi v346 c1_i32_352
  let v351 : Index := Scalar.indexCast v347
  let c0_355 : Index := 0#32
  ![v351.toNat, 0]
def k0_off435 (v345 : BitVec 32) : Fin 3 → Nat :=
  let c1_i32_356 : BitVec 32 := 1#32
  let v353 : Index := Scalar.indexCast c1_i32_356
  let v354 : Index := Scalar.indexCast v345
  let c16_357 : Index := 16#32
  ![1, v354.toNat, 16]

def k0_chk178 (v345 : BitVec 32) : Prop :=
  (∀ a, (k0_off433 v345) a + S1x1x16.size a ≤ S16x8x32.size a) ∧
  (∀ a, (k0_off435 v345) a + S1x1x16.size a ≤ S16x8x32.size a)
theorem k0_off433_inb : ∀ (v345 : BitVec 32) (k0_hw178 : k0_chk178 v345), ∀ a, (k0_off433 v345) a + S1x1x16.size a ≤ S16x8x32.size a := fun v345 k0_hw178 => k0_hw178.1
theorem k0_off435_inb : ∀ (v345 : BitVec 32) (k0_hw178 : k0_chk178 v345), ∀ a, (k0_off435 v345) a + S1x1x16.size a ≤ S16x8x32.size a := fun v345 k0_hw178 => k0_hw178.2

def k0_off436 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_351 : BitVec 32 := 16#32
  let v346 : BitVec 32 := Scalar.muli arg15 c16_i32_351
  let c1_i32_352 : BitVec 32 := 1#32
  let v347 : BitVec 32 := Scalar.addi v346 c1_i32_352
  let v356 : Index := Scalar.indexCast v347
  let c16_358 : Index := 16#32
  ![v356.toNat, 16]
def k0_off437 (v359 : BitVec 32) : Fin 3 → Nat :=
  let c2_i32_361 : BitVec 32 := 2#32
  let v362 : Index := Scalar.indexCast c2_i32_361
  let v363 : Index := Scalar.indexCast v359
  let c0_362 : Index := 0#32
  ![2, v363.toNat, 0]

def k0_off438 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_359 : BitVec 32 := 16#32
  let v360 : BitVec 32 := Scalar.muli arg15 c16_i32_359
  let c2_i32_360 : BitVec 32 := 2#32
  let v361 : BitVec 32 := Scalar.addi v360 c2_i32_360
  let v365 : Index := Scalar.indexCast v361
  let c0_363 : Index := 0#32
  ![v365.toNat, 0]
def k0_off439 (v359 : BitVec 32) : Fin 3 → Nat :=
  let c2_i32_364 : BitVec 32 := 2#32
  let v367 : Index := Scalar.indexCast c2_i32_364
  let v368 : Index := Scalar.indexCast v359
  let c16_365 : Index := 16#32
  ![2, v368.toNat, 16]

def k0_chk179 (v359 : BitVec 32) : Prop :=
  (∀ a, (k0_off437 v359) a + S1x1x16.size a ≤ S16x8x32.size a) ∧
  (∀ a, (k0_off439 v359) a + S1x1x16.size a ≤ S16x8x32.size a)
theorem k0_off437_inb : ∀ (v359 : BitVec 32) (k0_hw179 : k0_chk179 v359), ∀ a, (k0_off437 v359) a + S1x1x16.size a ≤ S16x8x32.size a := fun v359 k0_hw179 => k0_hw179.1
theorem k0_off439_inb : ∀ (v359 : BitVec 32) (k0_hw179 : k0_chk179 v359), ∀ a, (k0_off439 v359) a + S1x1x16.size a ≤ S16x8x32.size a := fun v359 k0_hw179 => k0_hw179.2

def k0_off440 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_359 : BitVec 32 := 16#32
  let v360 : BitVec 32 := Scalar.muli arg15 c16_i32_359
  let c2_i32_360 : BitVec 32 := 2#32
  let v361 : BitVec 32 := Scalar.addi v360 c2_i32_360
  let v370 : Index := Scalar.indexCast v361
  let c16_366 : Index := 16#32
  ![v370.toNat, 16]
def k0_off441 (v373 : BitVec 32) : Fin 3 → Nat :=
  let c3_i32_369 : BitVec 32 := 3#32
  let v376 : Index := Scalar.indexCast c3_i32_369
  let v377 : Index := Scalar.indexCast v373
  let c0_370 : Index := 0#32
  ![3, v377.toNat, 0]

def k0_off442 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_367 : BitVec 32 := 16#32
  let v374 : BitVec 32 := Scalar.muli arg15 c16_i32_367
  let c3_i32_368 : BitVec 32 := 3#32
  let v375 : BitVec 32 := Scalar.addi v374 c3_i32_368
  let v379 : Index := Scalar.indexCast v375
  let c0_371 : Index := 0#32
  ![v379.toNat, 0]
def k0_off443 (v373 : BitVec 32) : Fin 3 → Nat :=
  let c3_i32_372 : BitVec 32 := 3#32
  let v381 : Index := Scalar.indexCast c3_i32_372
  let v382 : Index := Scalar.indexCast v373
  let c16_373 : Index := 16#32
  ![3, v382.toNat, 16]

def k0_chk180 (v373 : BitVec 32) : Prop :=
  (∀ a, (k0_off441 v373) a + S1x1x16.size a ≤ S16x8x32.size a) ∧
  (∀ a, (k0_off443 v373) a + S1x1x16.size a ≤ S16x8x32.size a)
theorem k0_off441_inb : ∀ (v373 : BitVec 32) (k0_hw180 : k0_chk180 v373), ∀ a, (k0_off441 v373) a + S1x1x16.size a ≤ S16x8x32.size a := fun v373 k0_hw180 => k0_hw180.1
theorem k0_off443_inb : ∀ (v373 : BitVec 32) (k0_hw180 : k0_chk180 v373), ∀ a, (k0_off443 v373) a + S1x1x16.size a ≤ S16x8x32.size a := fun v373 k0_hw180 => k0_hw180.2

def k0_off444 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_367 : BitVec 32 := 16#32
  let v374 : BitVec 32 := Scalar.muli arg15 c16_i32_367
  let c3_i32_368 : BitVec 32 := 3#32
  let v375 : BitVec 32 := Scalar.addi v374 c3_i32_368
  let v384 : Index := Scalar.indexCast v375
  let c16_374 : Index := 16#32
  ![v384.toNat, 16]
def k0_off445 (v387 : BitVec 32) : Fin 3 → Nat :=
  let c4_i32_377 : BitVec 32 := 4#32
  let v390 : Index := Scalar.indexCast c4_i32_377
  let v391 : Index := Scalar.indexCast v387
  let c0_378 : Index := 0#32
  ![4, v391.toNat, 0]

def k0_off446 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_375 : BitVec 32 := 16#32
  let v388 : BitVec 32 := Scalar.muli arg15 c16_i32_375
  let c4_i32_376 : BitVec 32 := 4#32
  let v389 : BitVec 32 := Scalar.addi v388 c4_i32_376
  let v393 : Index := Scalar.indexCast v389
  let c0_379 : Index := 0#32
  ![v393.toNat, 0]
def k0_off447 (v387 : BitVec 32) : Fin 3 → Nat :=
  let c4_i32_380 : BitVec 32 := 4#32
  let v395 : Index := Scalar.indexCast c4_i32_380
  let v396 : Index := Scalar.indexCast v387
  let c16_381 : Index := 16#32
  ![4, v396.toNat, 16]

def k0_chk181 (v387 : BitVec 32) : Prop :=
  (∀ a, (k0_off445 v387) a + S1x1x16.size a ≤ S16x8x32.size a) ∧
  (∀ a, (k0_off447 v387) a + S1x1x16.size a ≤ S16x8x32.size a)
theorem k0_off445_inb : ∀ (v387 : BitVec 32) (k0_hw181 : k0_chk181 v387), ∀ a, (k0_off445 v387) a + S1x1x16.size a ≤ S16x8x32.size a := fun v387 k0_hw181 => k0_hw181.1
theorem k0_off447_inb : ∀ (v387 : BitVec 32) (k0_hw181 : k0_chk181 v387), ∀ a, (k0_off447 v387) a + S1x1x16.size a ≤ S16x8x32.size a := fun v387 k0_hw181 => k0_hw181.2

def k0_off448 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_375 : BitVec 32 := 16#32
  let v388 : BitVec 32 := Scalar.muli arg15 c16_i32_375
  let c4_i32_376 : BitVec 32 := 4#32
  let v389 : BitVec 32 := Scalar.addi v388 c4_i32_376
  let v398 : Index := Scalar.indexCast v389
  let c16_382 : Index := 16#32
  ![v398.toNat, 16]
def k0_off449 (v401 : BitVec 32) : Fin 3 → Nat :=
  let c5_i32_385 : BitVec 32 := 5#32
  let v404 : Index := Scalar.indexCast c5_i32_385
  let v405 : Index := Scalar.indexCast v401
  let c0_386 : Index := 0#32
  ![5, v405.toNat, 0]

def k0_off450 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_383 : BitVec 32 := 16#32
  let v402 : BitVec 32 := Scalar.muli arg15 c16_i32_383
  let c5_i32_384 : BitVec 32 := 5#32
  let v403 : BitVec 32 := Scalar.addi v402 c5_i32_384
  let v407 : Index := Scalar.indexCast v403
  let c0_387 : Index := 0#32
  ![v407.toNat, 0]
def k0_off451 (v401 : BitVec 32) : Fin 3 → Nat :=
  let c5_i32_388 : BitVec 32 := 5#32
  let v409 : Index := Scalar.indexCast c5_i32_388
  let v410 : Index := Scalar.indexCast v401
  let c16_389 : Index := 16#32
  ![5, v410.toNat, 16]

def k0_chk182 (v401 : BitVec 32) : Prop :=
  (∀ a, (k0_off449 v401) a + S1x1x16.size a ≤ S16x8x32.size a) ∧
  (∀ a, (k0_off451 v401) a + S1x1x16.size a ≤ S16x8x32.size a)
theorem k0_off449_inb : ∀ (v401 : BitVec 32) (k0_hw182 : k0_chk182 v401), ∀ a, (k0_off449 v401) a + S1x1x16.size a ≤ S16x8x32.size a := fun v401 k0_hw182 => k0_hw182.1
theorem k0_off451_inb : ∀ (v401 : BitVec 32) (k0_hw182 : k0_chk182 v401), ∀ a, (k0_off451 v401) a + S1x1x16.size a ≤ S16x8x32.size a := fun v401 k0_hw182 => k0_hw182.2

def k0_off452 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_383 : BitVec 32 := 16#32
  let v402 : BitVec 32 := Scalar.muli arg15 c16_i32_383
  let c5_i32_384 : BitVec 32 := 5#32
  let v403 : BitVec 32 := Scalar.addi v402 c5_i32_384
  let v412 : Index := Scalar.indexCast v403
  let c16_390 : Index := 16#32
  ![v412.toNat, 16]
def k0_off453 (v415 : BitVec 32) : Fin 3 → Nat :=
  let c6_i32_393 : BitVec 32 := 6#32
  let v418 : Index := Scalar.indexCast c6_i32_393
  let v419 : Index := Scalar.indexCast v415
  let c0_394 : Index := 0#32
  ![6, v419.toNat, 0]

def k0_off454 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_391 : BitVec 32 := 16#32
  let v416 : BitVec 32 := Scalar.muli arg15 c16_i32_391
  let c6_i32_392 : BitVec 32 := 6#32
  let v417 : BitVec 32 := Scalar.addi v416 c6_i32_392
  let v421 : Index := Scalar.indexCast v417
  let c0_395 : Index := 0#32
  ![v421.toNat, 0]
def k0_off455 (v415 : BitVec 32) : Fin 3 → Nat :=
  let c6_i32_396 : BitVec 32 := 6#32
  let v423 : Index := Scalar.indexCast c6_i32_396
  let v424 : Index := Scalar.indexCast v415
  let c16_397 : Index := 16#32
  ![6, v424.toNat, 16]

def k0_chk183 (v415 : BitVec 32) : Prop :=
  (∀ a, (k0_off453 v415) a + S1x1x16.size a ≤ S16x8x32.size a) ∧
  (∀ a, (k0_off455 v415) a + S1x1x16.size a ≤ S16x8x32.size a)
theorem k0_off453_inb : ∀ (v415 : BitVec 32) (k0_hw183 : k0_chk183 v415), ∀ a, (k0_off453 v415) a + S1x1x16.size a ≤ S16x8x32.size a := fun v415 k0_hw183 => k0_hw183.1
theorem k0_off455_inb : ∀ (v415 : BitVec 32) (k0_hw183 : k0_chk183 v415), ∀ a, (k0_off455 v415) a + S1x1x16.size a ≤ S16x8x32.size a := fun v415 k0_hw183 => k0_hw183.2

def k0_off456 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_391 : BitVec 32 := 16#32
  let v416 : BitVec 32 := Scalar.muli arg15 c16_i32_391
  let c6_i32_392 : BitVec 32 := 6#32
  let v417 : BitVec 32 := Scalar.addi v416 c6_i32_392
  let v426 : Index := Scalar.indexCast v417
  let c16_398 : Index := 16#32
  ![v426.toNat, 16]
def k0_off457 (v429 : BitVec 32) : Fin 3 → Nat :=
  let c7_i32_401 : BitVec 32 := 7#32
  let v432 : Index := Scalar.indexCast c7_i32_401
  let v433 : Index := Scalar.indexCast v429
  let c0_402 : Index := 0#32
  ![7, v433.toNat, 0]

def k0_off458 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_399 : BitVec 32 := 16#32
  let v430 : BitVec 32 := Scalar.muli arg15 c16_i32_399
  let c7_i32_400 : BitVec 32 := 7#32
  let v431 : BitVec 32 := Scalar.addi v430 c7_i32_400
  let v435 : Index := Scalar.indexCast v431
  let c0_403 : Index := 0#32
  ![v435.toNat, 0]
def k0_off459 (v429 : BitVec 32) : Fin 3 → Nat :=
  let c7_i32_404 : BitVec 32 := 7#32
  let v437 : Index := Scalar.indexCast c7_i32_404
  let v438 : Index := Scalar.indexCast v429
  let c16_405 : Index := 16#32
  ![7, v438.toNat, 16]

def k0_chk184 (v429 : BitVec 32) : Prop :=
  (∀ a, (k0_off457 v429) a + S1x1x16.size a ≤ S16x8x32.size a) ∧
  (∀ a, (k0_off459 v429) a + S1x1x16.size a ≤ S16x8x32.size a)
theorem k0_off457_inb : ∀ (v429 : BitVec 32) (k0_hw184 : k0_chk184 v429), ∀ a, (k0_off457 v429) a + S1x1x16.size a ≤ S16x8x32.size a := fun v429 k0_hw184 => k0_hw184.1
theorem k0_off459_inb : ∀ (v429 : BitVec 32) (k0_hw184 : k0_chk184 v429), ∀ a, (k0_off459 v429) a + S1x1x16.size a ≤ S16x8x32.size a := fun v429 k0_hw184 => k0_hw184.2

def k0_off460 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_399 : BitVec 32 := 16#32
  let v430 : BitVec 32 := Scalar.muli arg15 c16_i32_399
  let c7_i32_400 : BitVec 32 := 7#32
  let v431 : BitVec 32 := Scalar.addi v430 c7_i32_400
  let v440 : Index := Scalar.indexCast v431
  let c16_406 : Index := 16#32
  ![v440.toNat, 16]
def k0_off461 (v443 : BitVec 32) : Fin 3 → Nat :=
  let c8_i32_409 : BitVec 32 := 8#32
  let v446 : Index := Scalar.indexCast c8_i32_409
  let v447 : Index := Scalar.indexCast v443
  let c0_410 : Index := 0#32
  ![8, v447.toNat, 0]

def k0_off462 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_407 : BitVec 32 := 16#32
  let v444 : BitVec 32 := Scalar.muli arg15 c16_i32_407
  let c8_i32_408 : BitVec 32 := 8#32
  let v445 : BitVec 32 := Scalar.addi v444 c8_i32_408
  let v449 : Index := Scalar.indexCast v445
  let c0_411 : Index := 0#32
  ![v449.toNat, 0]
def k0_off463 (v443 : BitVec 32) : Fin 3 → Nat :=
  let c8_i32_412 : BitVec 32 := 8#32
  let v451 : Index := Scalar.indexCast c8_i32_412
  let v452 : Index := Scalar.indexCast v443
  let c16_413 : Index := 16#32
  ![8, v452.toNat, 16]

def k0_chk185 (v443 : BitVec 32) : Prop :=
  (∀ a, (k0_off461 v443) a + S1x1x16.size a ≤ S16x8x32.size a) ∧
  (∀ a, (k0_off463 v443) a + S1x1x16.size a ≤ S16x8x32.size a)
theorem k0_off461_inb : ∀ (v443 : BitVec 32) (k0_hw185 : k0_chk185 v443), ∀ a, (k0_off461 v443) a + S1x1x16.size a ≤ S16x8x32.size a := fun v443 k0_hw185 => k0_hw185.1
theorem k0_off463_inb : ∀ (v443 : BitVec 32) (k0_hw185 : k0_chk185 v443), ∀ a, (k0_off463 v443) a + S1x1x16.size a ≤ S16x8x32.size a := fun v443 k0_hw185 => k0_hw185.2

def k0_off464 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_407 : BitVec 32 := 16#32
  let v444 : BitVec 32 := Scalar.muli arg15 c16_i32_407
  let c8_i32_408 : BitVec 32 := 8#32
  let v445 : BitVec 32 := Scalar.addi v444 c8_i32_408
  let v454 : Index := Scalar.indexCast v445
  let c16_414 : Index := 16#32
  ![v454.toNat, 16]
def k0_off465 (v457 : BitVec 32) : Fin 3 → Nat :=
  let c9_i32_417 : BitVec 32 := 9#32
  let v460 : Index := Scalar.indexCast c9_i32_417
  let v461 : Index := Scalar.indexCast v457
  let c0_418 : Index := 0#32
  ![9, v461.toNat, 0]

def k0_off466 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_415 : BitVec 32 := 16#32
  let v458 : BitVec 32 := Scalar.muli arg15 c16_i32_415
  let c9_i32_416 : BitVec 32 := 9#32
  let v459 : BitVec 32 := Scalar.addi v458 c9_i32_416
  let v463 : Index := Scalar.indexCast v459
  let c0_419 : Index := 0#32
  ![v463.toNat, 0]
def k0_off467 (v457 : BitVec 32) : Fin 3 → Nat :=
  let c9_i32_420 : BitVec 32 := 9#32
  let v465 : Index := Scalar.indexCast c9_i32_420
  let v466 : Index := Scalar.indexCast v457
  let c16_421 : Index := 16#32
  ![9, v466.toNat, 16]

def k0_chk186 (v457 : BitVec 32) : Prop :=
  (∀ a, (k0_off465 v457) a + S1x1x16.size a ≤ S16x8x32.size a) ∧
  (∀ a, (k0_off467 v457) a + S1x1x16.size a ≤ S16x8x32.size a)
theorem k0_off465_inb : ∀ (v457 : BitVec 32) (k0_hw186 : k0_chk186 v457), ∀ a, (k0_off465 v457) a + S1x1x16.size a ≤ S16x8x32.size a := fun v457 k0_hw186 => k0_hw186.1
theorem k0_off467_inb : ∀ (v457 : BitVec 32) (k0_hw186 : k0_chk186 v457), ∀ a, (k0_off467 v457) a + S1x1x16.size a ≤ S16x8x32.size a := fun v457 k0_hw186 => k0_hw186.2

def k0_off468 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_415 : BitVec 32 := 16#32
  let v458 : BitVec 32 := Scalar.muli arg15 c16_i32_415
  let c9_i32_416 : BitVec 32 := 9#32
  let v459 : BitVec 32 := Scalar.addi v458 c9_i32_416
  let v468 : Index := Scalar.indexCast v459
  let c16_422 : Index := 16#32
  ![v468.toNat, 16]
def k0_off469 (v471 : BitVec 32) : Fin 3 → Nat :=
  let c10_i32_425 : BitVec 32 := 10#32
  let v474 : Index := Scalar.indexCast c10_i32_425
  let v475 : Index := Scalar.indexCast v471
  let c0_426 : Index := 0#32
  ![10, v475.toNat, 0]

def k0_off470 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_423 : BitVec 32 := 16#32
  let v472 : BitVec 32 := Scalar.muli arg15 c16_i32_423
  let c10_i32_424 : BitVec 32 := 10#32
  let v473 : BitVec 32 := Scalar.addi v472 c10_i32_424
  let v477 : Index := Scalar.indexCast v473
  let c0_427 : Index := 0#32
  ![v477.toNat, 0]
def k0_off471 (v471 : BitVec 32) : Fin 3 → Nat :=
  let c10_i32_428 : BitVec 32 := 10#32
  let v479 : Index := Scalar.indexCast c10_i32_428
  let v480 : Index := Scalar.indexCast v471
  let c16_429 : Index := 16#32
  ![10, v480.toNat, 16]

def k0_chk187 (v471 : BitVec 32) : Prop :=
  (∀ a, (k0_off469 v471) a + S1x1x16.size a ≤ S16x8x32.size a) ∧
  (∀ a, (k0_off471 v471) a + S1x1x16.size a ≤ S16x8x32.size a)
theorem k0_off469_inb : ∀ (v471 : BitVec 32) (k0_hw187 : k0_chk187 v471), ∀ a, (k0_off469 v471) a + S1x1x16.size a ≤ S16x8x32.size a := fun v471 k0_hw187 => k0_hw187.1
theorem k0_off471_inb : ∀ (v471 : BitVec 32) (k0_hw187 : k0_chk187 v471), ∀ a, (k0_off471 v471) a + S1x1x16.size a ≤ S16x8x32.size a := fun v471 k0_hw187 => k0_hw187.2

def k0_off472 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_423 : BitVec 32 := 16#32
  let v472 : BitVec 32 := Scalar.muli arg15 c16_i32_423
  let c10_i32_424 : BitVec 32 := 10#32
  let v473 : BitVec 32 := Scalar.addi v472 c10_i32_424
  let v482 : Index := Scalar.indexCast v473
  let c16_430 : Index := 16#32
  ![v482.toNat, 16]
def k0_off473 (v485 : BitVec 32) : Fin 3 → Nat :=
  let c11_i32_433 : BitVec 32 := 11#32
  let v488 : Index := Scalar.indexCast c11_i32_433
  let v489 : Index := Scalar.indexCast v485
  let c0_434 : Index := 0#32
  ![11, v489.toNat, 0]

def k0_off474 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_431 : BitVec 32 := 16#32
  let v486 : BitVec 32 := Scalar.muli arg15 c16_i32_431
  let c11_i32_432 : BitVec 32 := 11#32
  let v487 : BitVec 32 := Scalar.addi v486 c11_i32_432
  let v491 : Index := Scalar.indexCast v487
  let c0_435 : Index := 0#32
  ![v491.toNat, 0]
def k0_off475 (v485 : BitVec 32) : Fin 3 → Nat :=
  let c11_i32_436 : BitVec 32 := 11#32
  let v493 : Index := Scalar.indexCast c11_i32_436
  let v494 : Index := Scalar.indexCast v485
  let c16_437 : Index := 16#32
  ![11, v494.toNat, 16]

def k0_chk188 (v485 : BitVec 32) : Prop :=
  (∀ a, (k0_off473 v485) a + S1x1x16.size a ≤ S16x8x32.size a) ∧
  (∀ a, (k0_off475 v485) a + S1x1x16.size a ≤ S16x8x32.size a)
theorem k0_off473_inb : ∀ (v485 : BitVec 32) (k0_hw188 : k0_chk188 v485), ∀ a, (k0_off473 v485) a + S1x1x16.size a ≤ S16x8x32.size a := fun v485 k0_hw188 => k0_hw188.1
theorem k0_off475_inb : ∀ (v485 : BitVec 32) (k0_hw188 : k0_chk188 v485), ∀ a, (k0_off475 v485) a + S1x1x16.size a ≤ S16x8x32.size a := fun v485 k0_hw188 => k0_hw188.2

def k0_off476 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_431 : BitVec 32 := 16#32
  let v486 : BitVec 32 := Scalar.muli arg15 c16_i32_431
  let c11_i32_432 : BitVec 32 := 11#32
  let v487 : BitVec 32 := Scalar.addi v486 c11_i32_432
  let v496 : Index := Scalar.indexCast v487
  let c16_438 : Index := 16#32
  ![v496.toNat, 16]
def k0_off477 (v499 : BitVec 32) : Fin 3 → Nat :=
  let c12_i32_441 : BitVec 32 := 12#32
  let v502 : Index := Scalar.indexCast c12_i32_441
  let v503 : Index := Scalar.indexCast v499
  let c0_442 : Index := 0#32
  ![12, v503.toNat, 0]

def k0_off478 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_439 : BitVec 32 := 16#32
  let v500 : BitVec 32 := Scalar.muli arg15 c16_i32_439
  let c12_i32_440 : BitVec 32 := 12#32
  let v501 : BitVec 32 := Scalar.addi v500 c12_i32_440
  let v505 : Index := Scalar.indexCast v501
  let c0_443 : Index := 0#32
  ![v505.toNat, 0]
def k0_off479 (v499 : BitVec 32) : Fin 3 → Nat :=
  let c12_i32_444 : BitVec 32 := 12#32
  let v507 : Index := Scalar.indexCast c12_i32_444
  let v508 : Index := Scalar.indexCast v499
  let c16_445 : Index := 16#32
  ![12, v508.toNat, 16]

def k0_chk189 (v499 : BitVec 32) : Prop :=
  (∀ a, (k0_off477 v499) a + S1x1x16.size a ≤ S16x8x32.size a) ∧
  (∀ a, (k0_off479 v499) a + S1x1x16.size a ≤ S16x8x32.size a)
theorem k0_off477_inb : ∀ (v499 : BitVec 32) (k0_hw189 : k0_chk189 v499), ∀ a, (k0_off477 v499) a + S1x1x16.size a ≤ S16x8x32.size a := fun v499 k0_hw189 => k0_hw189.1
theorem k0_off479_inb : ∀ (v499 : BitVec 32) (k0_hw189 : k0_chk189 v499), ∀ a, (k0_off479 v499) a + S1x1x16.size a ≤ S16x8x32.size a := fun v499 k0_hw189 => k0_hw189.2

def k0_off480 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_439 : BitVec 32 := 16#32
  let v500 : BitVec 32 := Scalar.muli arg15 c16_i32_439
  let c12_i32_440 : BitVec 32 := 12#32
  let v501 : BitVec 32 := Scalar.addi v500 c12_i32_440
  let v510 : Index := Scalar.indexCast v501
  let c16_446 : Index := 16#32
  ![v510.toNat, 16]
def k0_off481 (v513 : BitVec 32) : Fin 3 → Nat :=
  let c13_i32_449 : BitVec 32 := 13#32
  let v516 : Index := Scalar.indexCast c13_i32_449
  let v517 : Index := Scalar.indexCast v513
  let c0_450 : Index := 0#32
  ![13, v517.toNat, 0]

def k0_off482 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_447 : BitVec 32 := 16#32
  let v514 : BitVec 32 := Scalar.muli arg15 c16_i32_447
  let c13_i32_448 : BitVec 32 := 13#32
  let v515 : BitVec 32 := Scalar.addi v514 c13_i32_448
  let v519 : Index := Scalar.indexCast v515
  let c0_451 : Index := 0#32
  ![v519.toNat, 0]
def k0_off483 (v513 : BitVec 32) : Fin 3 → Nat :=
  let c13_i32_452 : BitVec 32 := 13#32
  let v521 : Index := Scalar.indexCast c13_i32_452
  let v522 : Index := Scalar.indexCast v513
  let c16_453 : Index := 16#32
  ![13, v522.toNat, 16]

def k0_chk190 (v513 : BitVec 32) : Prop :=
  (∀ a, (k0_off481 v513) a + S1x1x16.size a ≤ S16x8x32.size a) ∧
  (∀ a, (k0_off483 v513) a + S1x1x16.size a ≤ S16x8x32.size a)
theorem k0_off481_inb : ∀ (v513 : BitVec 32) (k0_hw190 : k0_chk190 v513), ∀ a, (k0_off481 v513) a + S1x1x16.size a ≤ S16x8x32.size a := fun v513 k0_hw190 => k0_hw190.1
theorem k0_off483_inb : ∀ (v513 : BitVec 32) (k0_hw190 : k0_chk190 v513), ∀ a, (k0_off483 v513) a + S1x1x16.size a ≤ S16x8x32.size a := fun v513 k0_hw190 => k0_hw190.2

def k0_off484 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_447 : BitVec 32 := 16#32
  let v514 : BitVec 32 := Scalar.muli arg15 c16_i32_447
  let c13_i32_448 : BitVec 32 := 13#32
  let v515 : BitVec 32 := Scalar.addi v514 c13_i32_448
  let v524 : Index := Scalar.indexCast v515
  let c16_454 : Index := 16#32
  ![v524.toNat, 16]
def k0_off485 (v527 : BitVec 32) : Fin 3 → Nat :=
  let c14_i32_457 : BitVec 32 := 14#32
  let v530 : Index := Scalar.indexCast c14_i32_457
  let v531 : Index := Scalar.indexCast v527
  let c0_458 : Index := 0#32
  ![14, v531.toNat, 0]

def k0_off486 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_455 : BitVec 32 := 16#32
  let v528 : BitVec 32 := Scalar.muli arg15 c16_i32_455
  let c14_i32_456 : BitVec 32 := 14#32
  let v529 : BitVec 32 := Scalar.addi v528 c14_i32_456
  let v533 : Index := Scalar.indexCast v529
  let c0_459 : Index := 0#32
  ![v533.toNat, 0]
def k0_off487 (v527 : BitVec 32) : Fin 3 → Nat :=
  let c14_i32_460 : BitVec 32 := 14#32
  let v535 : Index := Scalar.indexCast c14_i32_460
  let v536 : Index := Scalar.indexCast v527
  let c16_461 : Index := 16#32
  ![14, v536.toNat, 16]

def k0_chk191 (v527 : BitVec 32) : Prop :=
  (∀ a, (k0_off485 v527) a + S1x1x16.size a ≤ S16x8x32.size a) ∧
  (∀ a, (k0_off487 v527) a + S1x1x16.size a ≤ S16x8x32.size a)
theorem k0_off485_inb : ∀ (v527 : BitVec 32) (k0_hw191 : k0_chk191 v527), ∀ a, (k0_off485 v527) a + S1x1x16.size a ≤ S16x8x32.size a := fun v527 k0_hw191 => k0_hw191.1
theorem k0_off487_inb : ∀ (v527 : BitVec 32) (k0_hw191 : k0_chk191 v527), ∀ a, (k0_off487 v527) a + S1x1x16.size a ≤ S16x8x32.size a := fun v527 k0_hw191 => k0_hw191.2

def k0_off488 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_455 : BitVec 32 := 16#32
  let v528 : BitVec 32 := Scalar.muli arg15 c16_i32_455
  let c14_i32_456 : BitVec 32 := 14#32
  let v529 : BitVec 32 := Scalar.addi v528 c14_i32_456
  let v538 : Index := Scalar.indexCast v529
  let c16_462 : Index := 16#32
  ![v538.toNat, 16]
def k0_off489 (v541 : BitVec 32) : Fin 3 → Nat :=
  let c15_i32_465 : BitVec 32 := 15#32
  let v544 : Index := Scalar.indexCast c15_i32_465
  let v545 : Index := Scalar.indexCast v541
  let c0_466 : Index := 0#32
  ![15, v545.toNat, 0]

def k0_off490 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_463 : BitVec 32 := 16#32
  let v542 : BitVec 32 := Scalar.muli arg15 c16_i32_463
  let c15_i32_464 : BitVec 32 := 15#32
  let v543 : BitVec 32 := Scalar.addi v542 c15_i32_464
  let v547 : Index := Scalar.indexCast v543
  let c0_467 : Index := 0#32
  ![v547.toNat, 0]
def k0_off491 (v541 : BitVec 32) : Fin 3 → Nat :=
  let c15_i32_468 : BitVec 32 := 15#32
  let v549 : Index := Scalar.indexCast c15_i32_468
  let v550 : Index := Scalar.indexCast v541
  let c16_469 : Index := 16#32
  ![15, v550.toNat, 16]

def k0_chk192 (v541 : BitVec 32) : Prop :=
  (∀ a, (k0_off489 v541) a + S1x1x16.size a ≤ S16x8x32.size a) ∧
  (∀ a, (k0_off491 v541) a + S1x1x16.size a ≤ S16x8x32.size a)
theorem k0_off489_inb : ∀ (v541 : BitVec 32) (k0_hw192 : k0_chk192 v541), ∀ a, (k0_off489 v541) a + S1x1x16.size a ≤ S16x8x32.size a := fun v541 k0_hw192 => k0_hw192.1
theorem k0_off491_inb : ∀ (v541 : BitVec 32) (k0_hw192 : k0_chk192 v541), ∀ a, (k0_off491 v541) a + S1x1x16.size a ≤ S16x8x32.size a := fun v541 k0_hw192 => k0_hw192.2

def k0_off492 (k0_t12 : Fin k0_t12_loop.trips) : Fin 2 → Nat :=
  let c0_i32_44 : BitVec 32 := 0#32
  let c1_i32_45 : BitVec 32 := 1#32
  let arg15 : BitVec 32 := Scf.iv c0_i32_44 c1_i32_45 k0_t12
  let c16_i32_463 : BitVec 32 := 16#32
  let v542 : BitVec 32 := Scalar.muli arg15 c16_i32_463
  let c15_i32_464 : BitVec 32 := 15#32
  let v543 : BitVec 32 := Scalar.addi v542 c15_i32_464
  let v552 : Index := Scalar.indexCast v543
  let c16_470 : Index := 16#32
  ![v552.toNat, 16]
def k0_off493 (i : grid0.Coords) (k0_t11 : Fin k0_t11_loop.trips) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_26 : BitVec 32 := 1#32
  let arg13 : BitVec 32 := Scf.iv c0_i32_24 c1_i32_26 k0_t11
  let c128_i32_47 : BitVec 32 := 128#32
  let v32 : BitVec 32 := Scalar.muli arg13 c128_i32_47
  let v33 : BitVec 32 := Scalar.addi v2 v32
  let c0_i32_49_r11 : BitVec 32 := 0#32
  ![5, v33.toNat, 0]
@[reducible] def k0_t13_loop : Scf.Loop 32 :=
  let c0_i32_29 : BitVec 32 := 0#32
  let c4_i32_30 : BitVec 32 := 4#32
  let v22 : BitVec 32 := Scalar.addi c0_i32_29 c4_i32_30
  let c1_i32_31 : BitVec 32 := 1#32
  ⟨c0_i32_29, v22, c1_i32_31⟩
@[reducible] def k0_t14_loop : Scf.Loop 32 :=
  let c0_i32_44 : BitVec 32 := 0#32
  let c8_i32 : BitVec 32 := 8#32
  let v30 : BitVec 32 := Scalar.addi c0_i32_44 c8_i32
  let c1_i32_45 : BitVec 32 := 1#32
  ⟨c0_i32_44, v30, c1_i32_45⟩
def k0_off494 (k0_t13 : Fin k0_t13_loop.trips) (k0_t14 : Fin k0_t14_loop.trips) : Fin 2 → Nat :=
  let c0_i32_29 : BitVec 32 := 0#32
  let c1_i32_31 : BitVec 32 := 1#32
  let arg13 : BitVec 32 := Scf.iv c0_i32_29 c1_i32_31 k0_t13
  let v35 : Index := Scalar.indexCast arg13
  let c0_i32_44 : BitVec 32 := 0#32
  let c1_i32_45 : BitVec 32 := 1#32
  let arg15 : BitVec 32 := Scf.iv c0_i32_44 c1_i32_45 k0_t14
  let c16_i32 : BitVec 32 := 16#32
  let v34 : BitVec 32 := Scalar.muli arg15 c16_i32
  let v36 : Index := Scalar.indexCast v34
  ![v35.toNat, v36.toNat]
def k0_off495 (v43 : BitVec 32) : Fin 3 → Nat :=
  let c0_i32_52 : BitVec 32 := 0#32
  let c0_i32_53 : BitVec 32 := 0#32
  ![v43.toNat, 0, 0]

def k0_chk193 (v43 : BitVec 32) : Prop :=
  (∀ a, (k0_off495 v43) a + S1x8x32.size a ≤ S125000x8x32.size a)
theorem k0_off495_inb : ∀ (v43 : BitVec 32) (k0_hw193 : k0_chk193 v43), ∀ a, (k0_off495 v43) a + S1x8x32.size a ≤ S125000x8x32.size a := fun v43 k0_hw193 => k0_hw193

def k0_off496 (v53 : BitVec 32) : Fin 3 → Nat :=
  let c0_i32_61 : BitVec 32 := 0#32
  let c0_i32_62 : BitVec 32 := 0#32
  ![v53.toNat, 0, 0]

def k0_chk194 (v53 : BitVec 32) : Prop :=
  (∀ a, (k0_off496 v53) a + S1x8x32.size a ≤ S125000x8x32.size a)
theorem k0_off496_inb : ∀ (v53 : BitVec 32) (k0_hw194 : k0_chk194 v53), ∀ a, (k0_off496 v53) a + S1x8x32.size a ≤ S125000x8x32.size a := fun v53 k0_hw194 => k0_hw194

def k0_off497 (v63 : BitVec 32) : Fin 3 → Nat :=
  let c0_i32_70 : BitVec 32 := 0#32
  let c0_i32_71 : BitVec 32 := 0#32
  ![v63.toNat, 0, 0]

def k0_chk195 (v63 : BitVec 32) : Prop :=
  (∀ a, (k0_off497 v63) a + S1x8x32.size a ≤ S125000x8x32.size a)
theorem k0_off497_inb : ∀ (v63 : BitVec 32) (k0_hw195 : k0_chk195 v63), ∀ a, (k0_off497 v63) a + S1x8x32.size a ≤ S125000x8x32.size a := fun v63 k0_hw195 => k0_hw195

def k0_off498 (v73 : BitVec 32) : Fin 3 → Nat :=
  let c0_i32_79 : BitVec 32 := 0#32
  let c0_i32_80 : BitVec 32 := 0#32
  ![v73.toNat, 0, 0]

def k0_chk196 (v73 : BitVec 32) : Prop :=
  (∀ a, (k0_off498 v73) a + S1x8x32.size a ≤ S125000x8x32.size a)
theorem k0_off498_inb : ∀ (v73 : BitVec 32) (k0_hw196 : k0_chk196 v73), ∀ a, (k0_off498 v73) a + S1x8x32.size a ≤ S125000x8x32.size a := fun v73 k0_hw196 => k0_hw196

def k0_off499 (v83 : BitVec 32) : Fin 3 → Nat :=
  let c0_i32_88 : BitVec 32 := 0#32
  let c0_i32_89 : BitVec 32 := 0#32
  ![v83.toNat, 0, 0]

def k0_chk197 (v83 : BitVec 32) : Prop :=
  (∀ a, (k0_off499 v83) a + S1x8x32.size a ≤ S125000x8x32.size a)
theorem k0_off499_inb : ∀ (v83 : BitVec 32) (k0_hw197 : k0_chk197 v83), ∀ a, (k0_off499 v83) a + S1x8x32.size a ≤ S125000x8x32.size a := fun v83 k0_hw197 => k0_hw197

def k0_off500 (v93 : BitVec 32) : Fin 3 → Nat :=
  let c0_i32_96 : BitVec 32 := 0#32
  let c0_i32_97 : BitVec 32 := 0#32
  ![v93.toNat, 0, 0]

def k0_chk198 (v93 : BitVec 32) : Prop :=
  (∀ a, (k0_off500 v93) a + S1x8x32.size a ≤ S125000x8x32.size a)
theorem k0_off500_inb : ∀ (v93 : BitVec 32) (k0_hw198 : k0_chk198 v93), ∀ a, (k0_off500 v93) a + S1x8x32.size a ≤ S125000x8x32.size a := fun v93 k0_hw198 => k0_hw198

def k0_off501 (v103 : BitVec 32) : Fin 3 → Nat :=
  let c0_i32_105 : BitVec 32 := 0#32
  let c0_i32_106 : BitVec 32 := 0#32
  ![v103.toNat, 0, 0]

def k0_chk199 (v103 : BitVec 32) : Prop :=
  (∀ a, (k0_off501 v103) a + S1x8x32.size a ≤ S125000x8x32.size a)
theorem k0_off501_inb : ∀ (v103 : BitVec 32) (k0_hw199 : k0_chk199 v103), ∀ a, (k0_off501 v103) a + S1x8x32.size a ≤ S125000x8x32.size a := fun v103 k0_hw199 => k0_hw199

def k0_off502 (v113 : BitVec 32) : Fin 3 → Nat :=
  let c0_i32_114 : BitVec 32 := 0#32
  let c0_i32_115 : BitVec 32 := 0#32
  ![v113.toNat, 0, 0]

def k0_chk200 (v113 : BitVec 32) : Prop :=
  (∀ a, (k0_off502 v113) a + S1x8x32.size a ≤ S125000x8x32.size a)
theorem k0_off502_inb : ∀ (v113 : BitVec 32) (k0_hw200 : k0_chk200 v113), ∀ a, (k0_off502 v113) a + S1x8x32.size a ≤ S125000x8x32.size a := fun v113 k0_hw200 => k0_hw200

def k0_off503 (v123 : BitVec 32) : Fin 3 → Nat :=
  let c0_i32_123 : BitVec 32 := 0#32
  let c0_i32_124 : BitVec 32 := 0#32
  ![v123.toNat, 0, 0]

def k0_chk201 (v123 : BitVec 32) : Prop :=
  (∀ a, (k0_off503 v123) a + S1x8x32.size a ≤ S125000x8x32.size a)
theorem k0_off503_inb : ∀ (v123 : BitVec 32) (k0_hw201 : k0_chk201 v123), ∀ a, (k0_off503 v123) a + S1x8x32.size a ≤ S125000x8x32.size a := fun v123 k0_hw201 => k0_hw201

def k0_off504 (v133 : BitVec 32) : Fin 3 → Nat :=
  let c0_i32_131 : BitVec 32 := 0#32
  let c0_i32_132 : BitVec 32 := 0#32
  ![v133.toNat, 0, 0]

def k0_chk202 (v133 : BitVec 32) : Prop :=
  (∀ a, (k0_off504 v133) a + S1x8x32.size a ≤ S125000x8x32.size a)
theorem k0_off504_inb : ∀ (v133 : BitVec 32) (k0_hw202 : k0_chk202 v133), ∀ a, (k0_off504 v133) a + S1x8x32.size a ≤ S125000x8x32.size a := fun v133 k0_hw202 => k0_hw202

def k0_off505 (v143 : BitVec 32) : Fin 3 → Nat :=
  let c0_i32_139 : BitVec 32 := 0#32
  let c0_i32_140 : BitVec 32 := 0#32
  ![v143.toNat, 0, 0]

def k0_chk203 (v143 : BitVec 32) : Prop :=
  (∀ a, (k0_off505 v143) a + S1x8x32.size a ≤ S125000x8x32.size a)
theorem k0_off505_inb : ∀ (v143 : BitVec 32) (k0_hw203 : k0_chk203 v143), ∀ a, (k0_off505 v143) a + S1x8x32.size a ≤ S125000x8x32.size a := fun v143 k0_hw203 => k0_hw203

def k0_off506 (v153 : BitVec 32) : Fin 3 → Nat :=
  let c0_i32_147 : BitVec 32 := 0#32
  let c0_i32_148 : BitVec 32 := 0#32
  ![v153.toNat, 0, 0]

def k0_chk204 (v153 : BitVec 32) : Prop :=
  (∀ a, (k0_off506 v153) a + S1x8x32.size a ≤ S125000x8x32.size a)
theorem k0_off506_inb : ∀ (v153 : BitVec 32) (k0_hw204 : k0_chk204 v153), ∀ a, (k0_off506 v153) a + S1x8x32.size a ≤ S125000x8x32.size a := fun v153 k0_hw204 => k0_hw204

def k0_off507 (v163 : BitVec 32) : Fin 3 → Nat :=
  let c0_i32_155 : BitVec 32 := 0#32
  let c0_i32_156 : BitVec 32 := 0#32
  ![v163.toNat, 0, 0]

def k0_chk205 (v163 : BitVec 32) : Prop :=
  (∀ a, (k0_off507 v163) a + S1x8x32.size a ≤ S125000x8x32.size a)
theorem k0_off507_inb : ∀ (v163 : BitVec 32) (k0_hw205 : k0_chk205 v163), ∀ a, (k0_off507 v163) a + S1x8x32.size a ≤ S125000x8x32.size a := fun v163 k0_hw205 => k0_hw205

def k0_off508 (v173 : BitVec 32) : Fin 3 → Nat :=
  let c0_i32_163 : BitVec 32 := 0#32
  let c0_i32_164 : BitVec 32 := 0#32
  ![v173.toNat, 0, 0]

def k0_chk206 (v173 : BitVec 32) : Prop :=
  (∀ a, (k0_off508 v173) a + S1x8x32.size a ≤ S125000x8x32.size a)
theorem k0_off508_inb : ∀ (v173 : BitVec 32) (k0_hw206 : k0_chk206 v173), ∀ a, (k0_off508 v173) a + S1x8x32.size a ≤ S125000x8x32.size a := fun v173 k0_hw206 => k0_hw206

def k0_off509 (v183 : BitVec 32) : Fin 3 → Nat :=
  let c0_i32_171 : BitVec 32 := 0#32
  let c0_i32_172 : BitVec 32 := 0#32
  ![v183.toNat, 0, 0]

def k0_chk207 (v183 : BitVec 32) : Prop :=
  (∀ a, (k0_off509 v183) a + S1x8x32.size a ≤ S125000x8x32.size a)
theorem k0_off509_inb : ∀ (v183 : BitVec 32) (k0_hw207 : k0_chk207 v183), ∀ a, (k0_off509 v183) a + S1x8x32.size a ≤ S125000x8x32.size a := fun v183 k0_hw207 => k0_hw207

def k0_off510 (v193 : BitVec 32) : Fin 3 → Nat :=
  let c0_i32_179 : BitVec 32 := 0#32
  let c0_i32_180 : BitVec 32 := 0#32
  ![v193.toNat, 0, 0]

def k0_chk208 (v193 : BitVec 32) : Prop :=
  (∀ a, (k0_off510 v193) a + S1x8x32.size a ≤ S125000x8x32.size a)
theorem k0_off510_inb : ∀ (v193 : BitVec 32) (k0_hw208 : k0_chk208 v193), ∀ a, (k0_off510 v193) a + S1x8x32.size a ≤ S125000x8x32.size a := fun v193 k0_hw208 => k0_hw208

def k0_off511 (v331 : BitVec 32) : Fin 3 → Nat :=
  let c0_i32_347 : BitVec 32 := 0#32
  let v334 : Index := Scalar.indexCast c0_i32_347
  let v335 : Index := Scalar.indexCast v331
  let c0 : Index := 0#32
  ![0, v335.toNat, 0]

def k0_off512 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_345 : BitVec 32 := 16#32
  let v332 : BitVec 32 := Scalar.muli arg15 c16_i32_345
  let c0_i32_346 : BitVec 32 := 0#32
  let v333 : BitVec 32 := Scalar.addi v332 c0_i32_346
  let v337 : Index := Scalar.indexCast v333
  let c0_348 : Index := 0#32
  ![v337.toNat, 0]
def k0_off513 (v331 : BitVec 32) : Fin 3 → Nat :=
  let c0_i32_349 : BitVec 32 := 0#32
  let v339 : Index := Scalar.indexCast c0_i32_349
  let v340 : Index := Scalar.indexCast v331
  let c16 : Index := 16#32
  ![0, v340.toNat, 16]

def k0_chk209 (v331 : BitVec 32) : Prop :=
  (∀ a, (k0_off511 v331) a + S1x1x16.size a ≤ S16x8x32.size a) ∧
  (∀ a, (k0_off513 v331) a + S1x1x16.size a ≤ S16x8x32.size a)
theorem k0_off511_inb : ∀ (v331 : BitVec 32) (k0_hw209 : k0_chk209 v331), ∀ a, (k0_off511 v331) a + S1x1x16.size a ≤ S16x8x32.size a := fun v331 k0_hw209 => k0_hw209.1
theorem k0_off513_inb : ∀ (v331 : BitVec 32) (k0_hw209 : k0_chk209 v331), ∀ a, (k0_off513 v331) a + S1x1x16.size a ≤ S16x8x32.size a := fun v331 k0_hw209 => k0_hw209.2

def k0_off514 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_345 : BitVec 32 := 16#32
  let v332 : BitVec 32 := Scalar.muli arg15 c16_i32_345
  let c0_i32_346 : BitVec 32 := 0#32
  let v333 : BitVec 32 := Scalar.addi v332 c0_i32_346
  let v342 : Index := Scalar.indexCast v333
  let c16_350 : Index := 16#32
  ![v342.toNat, 16]
def k0_off515 (v345 : BitVec 32) : Fin 3 → Nat :=
  let c1_i32_353 : BitVec 32 := 1#32
  let v348 : Index := Scalar.indexCast c1_i32_353
  let v349 : Index := Scalar.indexCast v345
  let c0_354 : Index := 0#32
  ![1, v349.toNat, 0]

def k0_off516 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_351 : BitVec 32 := 16#32
  let v346 : BitVec 32 := Scalar.muli arg15 c16_i32_351
  let c1_i32_352 : BitVec 32 := 1#32
  let v347 : BitVec 32 := Scalar.addi v346 c1_i32_352
  let v351 : Index := Scalar.indexCast v347
  let c0_355 : Index := 0#32
  ![v351.toNat, 0]
def k0_off517 (v345 : BitVec 32) : Fin 3 → Nat :=
  let c1_i32_356 : BitVec 32 := 1#32
  let v353 : Index := Scalar.indexCast c1_i32_356
  let v354 : Index := Scalar.indexCast v345
  let c16_357 : Index := 16#32
  ![1, v354.toNat, 16]

def k0_chk210 (v345 : BitVec 32) : Prop :=
  (∀ a, (k0_off515 v345) a + S1x1x16.size a ≤ S16x8x32.size a) ∧
  (∀ a, (k0_off517 v345) a + S1x1x16.size a ≤ S16x8x32.size a)
theorem k0_off515_inb : ∀ (v345 : BitVec 32) (k0_hw210 : k0_chk210 v345), ∀ a, (k0_off515 v345) a + S1x1x16.size a ≤ S16x8x32.size a := fun v345 k0_hw210 => k0_hw210.1
theorem k0_off517_inb : ∀ (v345 : BitVec 32) (k0_hw210 : k0_chk210 v345), ∀ a, (k0_off517 v345) a + S1x1x16.size a ≤ S16x8x32.size a := fun v345 k0_hw210 => k0_hw210.2

def k0_off518 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_351 : BitVec 32 := 16#32
  let v346 : BitVec 32 := Scalar.muli arg15 c16_i32_351
  let c1_i32_352 : BitVec 32 := 1#32
  let v347 : BitVec 32 := Scalar.addi v346 c1_i32_352
  let v356 : Index := Scalar.indexCast v347
  let c16_358 : Index := 16#32
  ![v356.toNat, 16]
def k0_off519 (v359 : BitVec 32) : Fin 3 → Nat :=
  let c2_i32_361 : BitVec 32 := 2#32
  let v362 : Index := Scalar.indexCast c2_i32_361
  let v363 : Index := Scalar.indexCast v359
  let c0_362 : Index := 0#32
  ![2, v363.toNat, 0]

def k0_off520 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_359 : BitVec 32 := 16#32
  let v360 : BitVec 32 := Scalar.muli arg15 c16_i32_359
  let c2_i32_360 : BitVec 32 := 2#32
  let v361 : BitVec 32 := Scalar.addi v360 c2_i32_360
  let v365 : Index := Scalar.indexCast v361
  let c0_363 : Index := 0#32
  ![v365.toNat, 0]
def k0_off521 (v359 : BitVec 32) : Fin 3 → Nat :=
  let c2_i32_364 : BitVec 32 := 2#32
  let v367 : Index := Scalar.indexCast c2_i32_364
  let v368 : Index := Scalar.indexCast v359
  let c16_365 : Index := 16#32
  ![2, v368.toNat, 16]

def k0_chk211 (v359 : BitVec 32) : Prop :=
  (∀ a, (k0_off519 v359) a + S1x1x16.size a ≤ S16x8x32.size a) ∧
  (∀ a, (k0_off521 v359) a + S1x1x16.size a ≤ S16x8x32.size a)
theorem k0_off519_inb : ∀ (v359 : BitVec 32) (k0_hw211 : k0_chk211 v359), ∀ a, (k0_off519 v359) a + S1x1x16.size a ≤ S16x8x32.size a := fun v359 k0_hw211 => k0_hw211.1
theorem k0_off521_inb : ∀ (v359 : BitVec 32) (k0_hw211 : k0_chk211 v359), ∀ a, (k0_off521 v359) a + S1x1x16.size a ≤ S16x8x32.size a := fun v359 k0_hw211 => k0_hw211.2

def k0_off522 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_359 : BitVec 32 := 16#32
  let v360 : BitVec 32 := Scalar.muli arg15 c16_i32_359
  let c2_i32_360 : BitVec 32 := 2#32
  let v361 : BitVec 32 := Scalar.addi v360 c2_i32_360
  let v370 : Index := Scalar.indexCast v361
  let c16_366 : Index := 16#32
  ![v370.toNat, 16]
def k0_off523 (v373 : BitVec 32) : Fin 3 → Nat :=
  let c3_i32_369 : BitVec 32 := 3#32
  let v376 : Index := Scalar.indexCast c3_i32_369
  let v377 : Index := Scalar.indexCast v373
  let c0_370 : Index := 0#32
  ![3, v377.toNat, 0]

def k0_off524 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_367 : BitVec 32 := 16#32
  let v374 : BitVec 32 := Scalar.muli arg15 c16_i32_367
  let c3_i32_368 : BitVec 32 := 3#32
  let v375 : BitVec 32 := Scalar.addi v374 c3_i32_368
  let v379 : Index := Scalar.indexCast v375
  let c0_371 : Index := 0#32
  ![v379.toNat, 0]
def k0_off525 (v373 : BitVec 32) : Fin 3 → Nat :=
  let c3_i32_372 : BitVec 32 := 3#32
  let v381 : Index := Scalar.indexCast c3_i32_372
  let v382 : Index := Scalar.indexCast v373
  let c16_373 : Index := 16#32
  ![3, v382.toNat, 16]

def k0_chk212 (v373 : BitVec 32) : Prop :=
  (∀ a, (k0_off523 v373) a + S1x1x16.size a ≤ S16x8x32.size a) ∧
  (∀ a, (k0_off525 v373) a + S1x1x16.size a ≤ S16x8x32.size a)
theorem k0_off523_inb : ∀ (v373 : BitVec 32) (k0_hw212 : k0_chk212 v373), ∀ a, (k0_off523 v373) a + S1x1x16.size a ≤ S16x8x32.size a := fun v373 k0_hw212 => k0_hw212.1
theorem k0_off525_inb : ∀ (v373 : BitVec 32) (k0_hw212 : k0_chk212 v373), ∀ a, (k0_off525 v373) a + S1x1x16.size a ≤ S16x8x32.size a := fun v373 k0_hw212 => k0_hw212.2

def k0_off526 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_367 : BitVec 32 := 16#32
  let v374 : BitVec 32 := Scalar.muli arg15 c16_i32_367
  let c3_i32_368 : BitVec 32 := 3#32
  let v375 : BitVec 32 := Scalar.addi v374 c3_i32_368
  let v384 : Index := Scalar.indexCast v375
  let c16_374 : Index := 16#32
  ![v384.toNat, 16]
def k0_off527 (v387 : BitVec 32) : Fin 3 → Nat :=
  let c4_i32_377 : BitVec 32 := 4#32
  let v390 : Index := Scalar.indexCast c4_i32_377
  let v391 : Index := Scalar.indexCast v387
  let c0_378 : Index := 0#32
  ![4, v391.toNat, 0]

def k0_off528 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_375 : BitVec 32 := 16#32
  let v388 : BitVec 32 := Scalar.muli arg15 c16_i32_375
  let c4_i32_376 : BitVec 32 := 4#32
  let v389 : BitVec 32 := Scalar.addi v388 c4_i32_376
  let v393 : Index := Scalar.indexCast v389
  let c0_379 : Index := 0#32
  ![v393.toNat, 0]
def k0_off529 (v387 : BitVec 32) : Fin 3 → Nat :=
  let c4_i32_380 : BitVec 32 := 4#32
  let v395 : Index := Scalar.indexCast c4_i32_380
  let v396 : Index := Scalar.indexCast v387
  let c16_381 : Index := 16#32
  ![4, v396.toNat, 16]

def k0_chk213 (v387 : BitVec 32) : Prop :=
  (∀ a, (k0_off527 v387) a + S1x1x16.size a ≤ S16x8x32.size a) ∧
  (∀ a, (k0_off529 v387) a + S1x1x16.size a ≤ S16x8x32.size a)
theorem k0_off527_inb : ∀ (v387 : BitVec 32) (k0_hw213 : k0_chk213 v387), ∀ a, (k0_off527 v387) a + S1x1x16.size a ≤ S16x8x32.size a := fun v387 k0_hw213 => k0_hw213.1
theorem k0_off529_inb : ∀ (v387 : BitVec 32) (k0_hw213 : k0_chk213 v387), ∀ a, (k0_off529 v387) a + S1x1x16.size a ≤ S16x8x32.size a := fun v387 k0_hw213 => k0_hw213.2

def k0_off530 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_375 : BitVec 32 := 16#32
  let v388 : BitVec 32 := Scalar.muli arg15 c16_i32_375
  let c4_i32_376 : BitVec 32 := 4#32
  let v389 : BitVec 32 := Scalar.addi v388 c4_i32_376
  let v398 : Index := Scalar.indexCast v389
  let c16_382 : Index := 16#32
  ![v398.toNat, 16]
def k0_off531 (v401 : BitVec 32) : Fin 3 → Nat :=
  let c5_i32_385 : BitVec 32 := 5#32
  let v404 : Index := Scalar.indexCast c5_i32_385
  let v405 : Index := Scalar.indexCast v401
  let c0_386 : Index := 0#32
  ![5, v405.toNat, 0]

def k0_off532 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_383 : BitVec 32 := 16#32
  let v402 : BitVec 32 := Scalar.muli arg15 c16_i32_383
  let c5_i32_384 : BitVec 32 := 5#32
  let v403 : BitVec 32 := Scalar.addi v402 c5_i32_384
  let v407 : Index := Scalar.indexCast v403
  let c0_387 : Index := 0#32
  ![v407.toNat, 0]
def k0_off533 (v401 : BitVec 32) : Fin 3 → Nat :=
  let c5_i32_388 : BitVec 32 := 5#32
  let v409 : Index := Scalar.indexCast c5_i32_388
  let v410 : Index := Scalar.indexCast v401
  let c16_389 : Index := 16#32
  ![5, v410.toNat, 16]

def k0_chk214 (v401 : BitVec 32) : Prop :=
  (∀ a, (k0_off531 v401) a + S1x1x16.size a ≤ S16x8x32.size a) ∧
  (∀ a, (k0_off533 v401) a + S1x1x16.size a ≤ S16x8x32.size a)
theorem k0_off531_inb : ∀ (v401 : BitVec 32) (k0_hw214 : k0_chk214 v401), ∀ a, (k0_off531 v401) a + S1x1x16.size a ≤ S16x8x32.size a := fun v401 k0_hw214 => k0_hw214.1
theorem k0_off533_inb : ∀ (v401 : BitVec 32) (k0_hw214 : k0_chk214 v401), ∀ a, (k0_off533 v401) a + S1x1x16.size a ≤ S16x8x32.size a := fun v401 k0_hw214 => k0_hw214.2

def k0_off534 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_383 : BitVec 32 := 16#32
  let v402 : BitVec 32 := Scalar.muli arg15 c16_i32_383
  let c5_i32_384 : BitVec 32 := 5#32
  let v403 : BitVec 32 := Scalar.addi v402 c5_i32_384
  let v412 : Index := Scalar.indexCast v403
  let c16_390 : Index := 16#32
  ![v412.toNat, 16]
def k0_off535 (v415 : BitVec 32) : Fin 3 → Nat :=
  let c6_i32_393 : BitVec 32 := 6#32
  let v418 : Index := Scalar.indexCast c6_i32_393
  let v419 : Index := Scalar.indexCast v415
  let c0_394 : Index := 0#32
  ![6, v419.toNat, 0]

def k0_off536 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_391 : BitVec 32 := 16#32
  let v416 : BitVec 32 := Scalar.muli arg15 c16_i32_391
  let c6_i32_392 : BitVec 32 := 6#32
  let v417 : BitVec 32 := Scalar.addi v416 c6_i32_392
  let v421 : Index := Scalar.indexCast v417
  let c0_395 : Index := 0#32
  ![v421.toNat, 0]
def k0_off537 (v415 : BitVec 32) : Fin 3 → Nat :=
  let c6_i32_396 : BitVec 32 := 6#32
  let v423 : Index := Scalar.indexCast c6_i32_396
  let v424 : Index := Scalar.indexCast v415
  let c16_397 : Index := 16#32
  ![6, v424.toNat, 16]

def k0_chk215 (v415 : BitVec 32) : Prop :=
  (∀ a, (k0_off535 v415) a + S1x1x16.size a ≤ S16x8x32.size a) ∧
  (∀ a, (k0_off537 v415) a + S1x1x16.size a ≤ S16x8x32.size a)
theorem k0_off535_inb : ∀ (v415 : BitVec 32) (k0_hw215 : k0_chk215 v415), ∀ a, (k0_off535 v415) a + S1x1x16.size a ≤ S16x8x32.size a := fun v415 k0_hw215 => k0_hw215.1
theorem k0_off537_inb : ∀ (v415 : BitVec 32) (k0_hw215 : k0_chk215 v415), ∀ a, (k0_off537 v415) a + S1x1x16.size a ≤ S16x8x32.size a := fun v415 k0_hw215 => k0_hw215.2

def k0_off538 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_391 : BitVec 32 := 16#32
  let v416 : BitVec 32 := Scalar.muli arg15 c16_i32_391
  let c6_i32_392 : BitVec 32 := 6#32
  let v417 : BitVec 32 := Scalar.addi v416 c6_i32_392
  let v426 : Index := Scalar.indexCast v417
  let c16_398 : Index := 16#32
  ![v426.toNat, 16]
def k0_off539 (v429 : BitVec 32) : Fin 3 → Nat :=
  let c7_i32_401 : BitVec 32 := 7#32
  let v432 : Index := Scalar.indexCast c7_i32_401
  let v433 : Index := Scalar.indexCast v429
  let c0_402 : Index := 0#32
  ![7, v433.toNat, 0]

def k0_off540 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_399 : BitVec 32 := 16#32
  let v430 : BitVec 32 := Scalar.muli arg15 c16_i32_399
  let c7_i32_400 : BitVec 32 := 7#32
  let v431 : BitVec 32 := Scalar.addi v430 c7_i32_400
  let v435 : Index := Scalar.indexCast v431
  let c0_403 : Index := 0#32
  ![v435.toNat, 0]
def k0_off541 (v429 : BitVec 32) : Fin 3 → Nat :=
  let c7_i32_404 : BitVec 32 := 7#32
  let v437 : Index := Scalar.indexCast c7_i32_404
  let v438 : Index := Scalar.indexCast v429
  let c16_405 : Index := 16#32
  ![7, v438.toNat, 16]

def k0_chk216 (v429 : BitVec 32) : Prop :=
  (∀ a, (k0_off539 v429) a + S1x1x16.size a ≤ S16x8x32.size a) ∧
  (∀ a, (k0_off541 v429) a + S1x1x16.size a ≤ S16x8x32.size a)
theorem k0_off539_inb : ∀ (v429 : BitVec 32) (k0_hw216 : k0_chk216 v429), ∀ a, (k0_off539 v429) a + S1x1x16.size a ≤ S16x8x32.size a := fun v429 k0_hw216 => k0_hw216.1
theorem k0_off541_inb : ∀ (v429 : BitVec 32) (k0_hw216 : k0_chk216 v429), ∀ a, (k0_off541 v429) a + S1x1x16.size a ≤ S16x8x32.size a := fun v429 k0_hw216 => k0_hw216.2

def k0_off542 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_399 : BitVec 32 := 16#32
  let v430 : BitVec 32 := Scalar.muli arg15 c16_i32_399
  let c7_i32_400 : BitVec 32 := 7#32
  let v431 : BitVec 32 := Scalar.addi v430 c7_i32_400
  let v440 : Index := Scalar.indexCast v431
  let c16_406 : Index := 16#32
  ![v440.toNat, 16]
def k0_off543 (v443 : BitVec 32) : Fin 3 → Nat :=
  let c8_i32_409 : BitVec 32 := 8#32
  let v446 : Index := Scalar.indexCast c8_i32_409
  let v447 : Index := Scalar.indexCast v443
  let c0_410 : Index := 0#32
  ![8, v447.toNat, 0]

def k0_off544 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_407 : BitVec 32 := 16#32
  let v444 : BitVec 32 := Scalar.muli arg15 c16_i32_407
  let c8_i32_408 : BitVec 32 := 8#32
  let v445 : BitVec 32 := Scalar.addi v444 c8_i32_408
  let v449 : Index := Scalar.indexCast v445
  let c0_411 : Index := 0#32
  ![v449.toNat, 0]
def k0_off545 (v443 : BitVec 32) : Fin 3 → Nat :=
  let c8_i32_412 : BitVec 32 := 8#32
  let v451 : Index := Scalar.indexCast c8_i32_412
  let v452 : Index := Scalar.indexCast v443
  let c16_413 : Index := 16#32
  ![8, v452.toNat, 16]

def k0_chk217 (v443 : BitVec 32) : Prop :=
  (∀ a, (k0_off543 v443) a + S1x1x16.size a ≤ S16x8x32.size a) ∧
  (∀ a, (k0_off545 v443) a + S1x1x16.size a ≤ S16x8x32.size a)
theorem k0_off543_inb : ∀ (v443 : BitVec 32) (k0_hw217 : k0_chk217 v443), ∀ a, (k0_off543 v443) a + S1x1x16.size a ≤ S16x8x32.size a := fun v443 k0_hw217 => k0_hw217.1
theorem k0_off545_inb : ∀ (v443 : BitVec 32) (k0_hw217 : k0_chk217 v443), ∀ a, (k0_off545 v443) a + S1x1x16.size a ≤ S16x8x32.size a := fun v443 k0_hw217 => k0_hw217.2

def k0_off546 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_407 : BitVec 32 := 16#32
  let v444 : BitVec 32 := Scalar.muli arg15 c16_i32_407
  let c8_i32_408 : BitVec 32 := 8#32
  let v445 : BitVec 32 := Scalar.addi v444 c8_i32_408
  let v454 : Index := Scalar.indexCast v445
  let c16_414 : Index := 16#32
  ![v454.toNat, 16]
def k0_off547 (v457 : BitVec 32) : Fin 3 → Nat :=
  let c9_i32_417 : BitVec 32 := 9#32
  let v460 : Index := Scalar.indexCast c9_i32_417
  let v461 : Index := Scalar.indexCast v457
  let c0_418 : Index := 0#32
  ![9, v461.toNat, 0]

def k0_off548 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_415 : BitVec 32 := 16#32
  let v458 : BitVec 32 := Scalar.muli arg15 c16_i32_415
  let c9_i32_416 : BitVec 32 := 9#32
  let v459 : BitVec 32 := Scalar.addi v458 c9_i32_416
  let v463 : Index := Scalar.indexCast v459
  let c0_419 : Index := 0#32
  ![v463.toNat, 0]
def k0_off549 (v457 : BitVec 32) : Fin 3 → Nat :=
  let c9_i32_420 : BitVec 32 := 9#32
  let v465 : Index := Scalar.indexCast c9_i32_420
  let v466 : Index := Scalar.indexCast v457
  let c16_421 : Index := 16#32
  ![9, v466.toNat, 16]

def k0_chk218 (v457 : BitVec 32) : Prop :=
  (∀ a, (k0_off547 v457) a + S1x1x16.size a ≤ S16x8x32.size a) ∧
  (∀ a, (k0_off549 v457) a + S1x1x16.size a ≤ S16x8x32.size a)
theorem k0_off547_inb : ∀ (v457 : BitVec 32) (k0_hw218 : k0_chk218 v457), ∀ a, (k0_off547 v457) a + S1x1x16.size a ≤ S16x8x32.size a := fun v457 k0_hw218 => k0_hw218.1
theorem k0_off549_inb : ∀ (v457 : BitVec 32) (k0_hw218 : k0_chk218 v457), ∀ a, (k0_off549 v457) a + S1x1x16.size a ≤ S16x8x32.size a := fun v457 k0_hw218 => k0_hw218.2

def k0_off550 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_415 : BitVec 32 := 16#32
  let v458 : BitVec 32 := Scalar.muli arg15 c16_i32_415
  let c9_i32_416 : BitVec 32 := 9#32
  let v459 : BitVec 32 := Scalar.addi v458 c9_i32_416
  let v468 : Index := Scalar.indexCast v459
  let c16_422 : Index := 16#32
  ![v468.toNat, 16]
def k0_off551 (v471 : BitVec 32) : Fin 3 → Nat :=
  let c10_i32_425 : BitVec 32 := 10#32
  let v474 : Index := Scalar.indexCast c10_i32_425
  let v475 : Index := Scalar.indexCast v471
  let c0_426 : Index := 0#32
  ![10, v475.toNat, 0]

def k0_off552 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_423 : BitVec 32 := 16#32
  let v472 : BitVec 32 := Scalar.muli arg15 c16_i32_423
  let c10_i32_424 : BitVec 32 := 10#32
  let v473 : BitVec 32 := Scalar.addi v472 c10_i32_424
  let v477 : Index := Scalar.indexCast v473
  let c0_427 : Index := 0#32
  ![v477.toNat, 0]
def k0_off553 (v471 : BitVec 32) : Fin 3 → Nat :=
  let c10_i32_428 : BitVec 32 := 10#32
  let v479 : Index := Scalar.indexCast c10_i32_428
  let v480 : Index := Scalar.indexCast v471
  let c16_429 : Index := 16#32
  ![10, v480.toNat, 16]

def k0_chk219 (v471 : BitVec 32) : Prop :=
  (∀ a, (k0_off551 v471) a + S1x1x16.size a ≤ S16x8x32.size a) ∧
  (∀ a, (k0_off553 v471) a + S1x1x16.size a ≤ S16x8x32.size a)
theorem k0_off551_inb : ∀ (v471 : BitVec 32) (k0_hw219 : k0_chk219 v471), ∀ a, (k0_off551 v471) a + S1x1x16.size a ≤ S16x8x32.size a := fun v471 k0_hw219 => k0_hw219.1
theorem k0_off553_inb : ∀ (v471 : BitVec 32) (k0_hw219 : k0_chk219 v471), ∀ a, (k0_off553 v471) a + S1x1x16.size a ≤ S16x8x32.size a := fun v471 k0_hw219 => k0_hw219.2

def k0_off554 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_423 : BitVec 32 := 16#32
  let v472 : BitVec 32 := Scalar.muli arg15 c16_i32_423
  let c10_i32_424 : BitVec 32 := 10#32
  let v473 : BitVec 32 := Scalar.addi v472 c10_i32_424
  let v482 : Index := Scalar.indexCast v473
  let c16_430 : Index := 16#32
  ![v482.toNat, 16]
def k0_off555 (v485 : BitVec 32) : Fin 3 → Nat :=
  let c11_i32_433 : BitVec 32 := 11#32
  let v488 : Index := Scalar.indexCast c11_i32_433
  let v489 : Index := Scalar.indexCast v485
  let c0_434 : Index := 0#32
  ![11, v489.toNat, 0]

def k0_off556 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_431 : BitVec 32 := 16#32
  let v486 : BitVec 32 := Scalar.muli arg15 c16_i32_431
  let c11_i32_432 : BitVec 32 := 11#32
  let v487 : BitVec 32 := Scalar.addi v486 c11_i32_432
  let v491 : Index := Scalar.indexCast v487
  let c0_435 : Index := 0#32
  ![v491.toNat, 0]
def k0_off557 (v485 : BitVec 32) : Fin 3 → Nat :=
  let c11_i32_436 : BitVec 32 := 11#32
  let v493 : Index := Scalar.indexCast c11_i32_436
  let v494 : Index := Scalar.indexCast v485
  let c16_437 : Index := 16#32
  ![11, v494.toNat, 16]

def k0_chk220 (v485 : BitVec 32) : Prop :=
  (∀ a, (k0_off555 v485) a + S1x1x16.size a ≤ S16x8x32.size a) ∧
  (∀ a, (k0_off557 v485) a + S1x1x16.size a ≤ S16x8x32.size a)
theorem k0_off555_inb : ∀ (v485 : BitVec 32) (k0_hw220 : k0_chk220 v485), ∀ a, (k0_off555 v485) a + S1x1x16.size a ≤ S16x8x32.size a := fun v485 k0_hw220 => k0_hw220.1
theorem k0_off557_inb : ∀ (v485 : BitVec 32) (k0_hw220 : k0_chk220 v485), ∀ a, (k0_off557 v485) a + S1x1x16.size a ≤ S16x8x32.size a := fun v485 k0_hw220 => k0_hw220.2

def k0_off558 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_431 : BitVec 32 := 16#32
  let v486 : BitVec 32 := Scalar.muli arg15 c16_i32_431
  let c11_i32_432 : BitVec 32 := 11#32
  let v487 : BitVec 32 := Scalar.addi v486 c11_i32_432
  let v496 : Index := Scalar.indexCast v487
  let c16_438 : Index := 16#32
  ![v496.toNat, 16]
def k0_off559 (v499 : BitVec 32) : Fin 3 → Nat :=
  let c12_i32_441 : BitVec 32 := 12#32
  let v502 : Index := Scalar.indexCast c12_i32_441
  let v503 : Index := Scalar.indexCast v499
  let c0_442 : Index := 0#32
  ![12, v503.toNat, 0]

def k0_off560 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_439 : BitVec 32 := 16#32
  let v500 : BitVec 32 := Scalar.muli arg15 c16_i32_439
  let c12_i32_440 : BitVec 32 := 12#32
  let v501 : BitVec 32 := Scalar.addi v500 c12_i32_440
  let v505 : Index := Scalar.indexCast v501
  let c0_443 : Index := 0#32
  ![v505.toNat, 0]
def k0_off561 (v499 : BitVec 32) : Fin 3 → Nat :=
  let c12_i32_444 : BitVec 32 := 12#32
  let v507 : Index := Scalar.indexCast c12_i32_444
  let v508 : Index := Scalar.indexCast v499
  let c16_445 : Index := 16#32
  ![12, v508.toNat, 16]

def k0_chk221 (v499 : BitVec 32) : Prop :=
  (∀ a, (k0_off559 v499) a + S1x1x16.size a ≤ S16x8x32.size a) ∧
  (∀ a, (k0_off561 v499) a + S1x1x16.size a ≤ S16x8x32.size a)
theorem k0_off559_inb : ∀ (v499 : BitVec 32) (k0_hw221 : k0_chk221 v499), ∀ a, (k0_off559 v499) a + S1x1x16.size a ≤ S16x8x32.size a := fun v499 k0_hw221 => k0_hw221.1
theorem k0_off561_inb : ∀ (v499 : BitVec 32) (k0_hw221 : k0_chk221 v499), ∀ a, (k0_off561 v499) a + S1x1x16.size a ≤ S16x8x32.size a := fun v499 k0_hw221 => k0_hw221.2

def k0_off562 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_439 : BitVec 32 := 16#32
  let v500 : BitVec 32 := Scalar.muli arg15 c16_i32_439
  let c12_i32_440 : BitVec 32 := 12#32
  let v501 : BitVec 32 := Scalar.addi v500 c12_i32_440
  let v510 : Index := Scalar.indexCast v501
  let c16_446 : Index := 16#32
  ![v510.toNat, 16]
def k0_off563 (v513 : BitVec 32) : Fin 3 → Nat :=
  let c13_i32_449 : BitVec 32 := 13#32
  let v516 : Index := Scalar.indexCast c13_i32_449
  let v517 : Index := Scalar.indexCast v513
  let c0_450 : Index := 0#32
  ![13, v517.toNat, 0]

def k0_off564 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_447 : BitVec 32 := 16#32
  let v514 : BitVec 32 := Scalar.muli arg15 c16_i32_447
  let c13_i32_448 : BitVec 32 := 13#32
  let v515 : BitVec 32 := Scalar.addi v514 c13_i32_448
  let v519 : Index := Scalar.indexCast v515
  let c0_451 : Index := 0#32
  ![v519.toNat, 0]
def k0_off565 (v513 : BitVec 32) : Fin 3 → Nat :=
  let c13_i32_452 : BitVec 32 := 13#32
  let v521 : Index := Scalar.indexCast c13_i32_452
  let v522 : Index := Scalar.indexCast v513
  let c16_453 : Index := 16#32
  ![13, v522.toNat, 16]

def k0_chk222 (v513 : BitVec 32) : Prop :=
  (∀ a, (k0_off563 v513) a + S1x1x16.size a ≤ S16x8x32.size a) ∧
  (∀ a, (k0_off565 v513) a + S1x1x16.size a ≤ S16x8x32.size a)
theorem k0_off563_inb : ∀ (v513 : BitVec 32) (k0_hw222 : k0_chk222 v513), ∀ a, (k0_off563 v513) a + S1x1x16.size a ≤ S16x8x32.size a := fun v513 k0_hw222 => k0_hw222.1
theorem k0_off565_inb : ∀ (v513 : BitVec 32) (k0_hw222 : k0_chk222 v513), ∀ a, (k0_off565 v513) a + S1x1x16.size a ≤ S16x8x32.size a := fun v513 k0_hw222 => k0_hw222.2

def k0_off566 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_447 : BitVec 32 := 16#32
  let v514 : BitVec 32 := Scalar.muli arg15 c16_i32_447
  let c13_i32_448 : BitVec 32 := 13#32
  let v515 : BitVec 32 := Scalar.addi v514 c13_i32_448
  let v524 : Index := Scalar.indexCast v515
  let c16_454 : Index := 16#32
  ![v524.toNat, 16]
def k0_off567 (v527 : BitVec 32) : Fin 3 → Nat :=
  let c14_i32_457 : BitVec 32 := 14#32
  let v530 : Index := Scalar.indexCast c14_i32_457
  let v531 : Index := Scalar.indexCast v527
  let c0_458 : Index := 0#32
  ![14, v531.toNat, 0]

def k0_off568 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_455 : BitVec 32 := 16#32
  let v528 : BitVec 32 := Scalar.muli arg15 c16_i32_455
  let c14_i32_456 : BitVec 32 := 14#32
  let v529 : BitVec 32 := Scalar.addi v528 c14_i32_456
  let v533 : Index := Scalar.indexCast v529
  let c0_459 : Index := 0#32
  ![v533.toNat, 0]
def k0_off569 (v527 : BitVec 32) : Fin 3 → Nat :=
  let c14_i32_460 : BitVec 32 := 14#32
  let v535 : Index := Scalar.indexCast c14_i32_460
  let v536 : Index := Scalar.indexCast v527
  let c16_461 : Index := 16#32
  ![14, v536.toNat, 16]

def k0_chk223 (v527 : BitVec 32) : Prop :=
  (∀ a, (k0_off567 v527) a + S1x1x16.size a ≤ S16x8x32.size a) ∧
  (∀ a, (k0_off569 v527) a + S1x1x16.size a ≤ S16x8x32.size a)
theorem k0_off567_inb : ∀ (v527 : BitVec 32) (k0_hw223 : k0_chk223 v527), ∀ a, (k0_off567 v527) a + S1x1x16.size a ≤ S16x8x32.size a := fun v527 k0_hw223 => k0_hw223.1
theorem k0_off569_inb : ∀ (v527 : BitVec 32) (k0_hw223 : k0_chk223 v527), ∀ a, (k0_off569 v527) a + S1x1x16.size a ≤ S16x8x32.size a := fun v527 k0_hw223 => k0_hw223.2

def k0_off570 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_455 : BitVec 32 := 16#32
  let v528 : BitVec 32 := Scalar.muli arg15 c16_i32_455
  let c14_i32_456 : BitVec 32 := 14#32
  let v529 : BitVec 32 := Scalar.addi v528 c14_i32_456
  let v538 : Index := Scalar.indexCast v529
  let c16_462 : Index := 16#32
  ![v538.toNat, 16]
def k0_off571 (v541 : BitVec 32) : Fin 3 → Nat :=
  let c15_i32_465 : BitVec 32 := 15#32
  let v544 : Index := Scalar.indexCast c15_i32_465
  let v545 : Index := Scalar.indexCast v541
  let c0_466 : Index := 0#32
  ![15, v545.toNat, 0]

def k0_off572 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_463 : BitVec 32 := 16#32
  let v542 : BitVec 32 := Scalar.muli arg15 c16_i32_463
  let c15_i32_464 : BitVec 32 := 15#32
  let v543 : BitVec 32 := Scalar.addi v542 c15_i32_464
  let v547 : Index := Scalar.indexCast v543
  let c0_467 : Index := 0#32
  ![v547.toNat, 0]
def k0_off573 (v541 : BitVec 32) : Fin 3 → Nat :=
  let c15_i32_468 : BitVec 32 := 15#32
  let v549 : Index := Scalar.indexCast c15_i32_468
  let v550 : Index := Scalar.indexCast v541
  let c16_469 : Index := 16#32
  ![15, v550.toNat, 16]

def k0_chk224 (v541 : BitVec 32) : Prop :=
  (∀ a, (k0_off571 v541) a + S1x1x16.size a ≤ S16x8x32.size a) ∧
  (∀ a, (k0_off573 v541) a + S1x1x16.size a ≤ S16x8x32.size a)
theorem k0_off571_inb : ∀ (v541 : BitVec 32) (k0_hw224 : k0_chk224 v541), ∀ a, (k0_off571 v541) a + S1x1x16.size a ≤ S16x8x32.size a := fun v541 k0_hw224 => k0_hw224.1
theorem k0_off573_inb : ∀ (v541 : BitVec 32) (k0_hw224 : k0_chk224 v541), ∀ a, (k0_off573 v541) a + S1x1x16.size a ≤ S16x8x32.size a := fun v541 k0_hw224 => k0_hw224.2

def k0_off574 (k0_t14 : Fin k0_t14_loop.trips) : Fin 2 → Nat :=
  let c0_i32_44 : BitVec 32 := 0#32
  let c1_i32_45 : BitVec 32 := 1#32
  let arg15 : BitVec 32 := Scf.iv c0_i32_44 c1_i32_45 k0_t14
  let c16_i32_463 : BitVec 32 := 16#32
  let v542 : BitVec 32 := Scalar.muli arg15 c16_i32_463
  let c15_i32_464 : BitVec 32 := 15#32
  let v543 : BitVec 32 := Scalar.addi v542 c15_i32_464
  let v552 : Index := Scalar.indexCast v543
  let c16_470 : Index := 16#32
  ![v552.toNat, 16]
def k0_off575 (i : grid0.Coords) (k0_t13 : Fin k0_t13_loop.trips) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_29 : BitVec 32 := 0#32
  let c1_i32_31 : BitVec 32 := 1#32
  let arg13 : BitVec 32 := Scf.iv c0_i32_29 c1_i32_31 k0_t13
  let c128_i32_47 : BitVec 32 := 128#32
  let v32 : BitVec 32 := Scalar.muli arg13 c128_i32_47
  let v33 : BitVec 32 := Scalar.addi v2 v32
  let c0_i32_49_r13 : BitVec 32 := 0#32
  ![6, v33.toNat, 0]
@[reducible] def k0_t15_loop : Scf.Loop 32 :=
  let c0_i32_34 : BitVec 32 := 0#32
  let c4_i32_35 : BitVec 32 := 4#32
  let v25 : BitVec 32 := Scalar.addi c0_i32_34 c4_i32_35
  let c1_i32_36 : BitVec 32 := 1#32
  ⟨c0_i32_34, v25, c1_i32_36⟩
@[reducible] def k0_t16_loop : Scf.Loop 32 :=
  let c0_i32_44 : BitVec 32 := 0#32
  let c8_i32 : BitVec 32 := 8#32
  let v30 : BitVec 32 := Scalar.addi c0_i32_44 c8_i32
  let c1_i32_45 : BitVec 32 := 1#32
  ⟨c0_i32_44, v30, c1_i32_45⟩
def k0_off576 (k0_t15 : Fin k0_t15_loop.trips) (k0_t16 : Fin k0_t16_loop.trips) : Fin 2 → Nat :=
  let c0_i32_34 : BitVec 32 := 0#32
  let c1_i32_36 : BitVec 32 := 1#32
  let arg13 : BitVec 32 := Scf.iv c0_i32_34 c1_i32_36 k0_t15
  let v35 : Index := Scalar.indexCast arg13
  let c0_i32_44 : BitVec 32 := 0#32
  let c1_i32_45 : BitVec 32 := 1#32
  let arg15 : BitVec 32 := Scf.iv c0_i32_44 c1_i32_45 k0_t16
  let c16_i32 : BitVec 32 := 16#32
  let v34 : BitVec 32 := Scalar.muli arg15 c16_i32
  let v36 : Index := Scalar.indexCast v34
  ![v35.toNat, v36.toNat]
def k0_off577 (v43 : BitVec 32) : Fin 3 → Nat :=
  let c0_i32_53 : BitVec 32 := 0#32
  let c0_i32_54 : BitVec 32 := 0#32
  ![v43.toNat, 0, 0]

def k0_chk225 (v43 : BitVec 32) : Prop :=
  (∀ a, (k0_off577 v43) a + S1x8x32.size a ≤ S125000x8x32.size a)
theorem k0_off577_inb : ∀ (v43 : BitVec 32) (k0_hw225 : k0_chk225 v43), ∀ a, (k0_off577 v43) a + S1x8x32.size a ≤ S125000x8x32.size a := fun v43 k0_hw225 => k0_hw225

def k0_off578 (v53 : BitVec 32) : Fin 3 → Nat :=
  let c0_i32_62 : BitVec 32 := 0#32
  let c0_i32_63 : BitVec 32 := 0#32
  ![v53.toNat, 0, 0]

def k0_chk226 (v53 : BitVec 32) : Prop :=
  (∀ a, (k0_off578 v53) a + S1x8x32.size a ≤ S125000x8x32.size a)
theorem k0_off578_inb : ∀ (v53 : BitVec 32) (k0_hw226 : k0_chk226 v53), ∀ a, (k0_off578 v53) a + S1x8x32.size a ≤ S125000x8x32.size a := fun v53 k0_hw226 => k0_hw226

def k0_off579 (v63 : BitVec 32) : Fin 3 → Nat :=
  let c0_i32_71 : BitVec 32 := 0#32
  let c0_i32_72 : BitVec 32 := 0#32
  ![v63.toNat, 0, 0]

def k0_chk227 (v63 : BitVec 32) : Prop :=
  (∀ a, (k0_off579 v63) a + S1x8x32.size a ≤ S125000x8x32.size a)
theorem k0_off579_inb : ∀ (v63 : BitVec 32) (k0_hw227 : k0_chk227 v63), ∀ a, (k0_off579 v63) a + S1x8x32.size a ≤ S125000x8x32.size a := fun v63 k0_hw227 => k0_hw227

def k0_off580 (v73 : BitVec 32) : Fin 3 → Nat :=
  let c0_i32_80 : BitVec 32 := 0#32
  let c0_i32_81 : BitVec 32 := 0#32
  ![v73.toNat, 0, 0]

def k0_chk228 (v73 : BitVec 32) : Prop :=
  (∀ a, (k0_off580 v73) a + S1x8x32.size a ≤ S125000x8x32.size a)
theorem k0_off580_inb : ∀ (v73 : BitVec 32) (k0_hw228 : k0_chk228 v73), ∀ a, (k0_off580 v73) a + S1x8x32.size a ≤ S125000x8x32.size a := fun v73 k0_hw228 => k0_hw228

def k0_off581 (v83 : BitVec 32) : Fin 3 → Nat :=
  let c0_i32_89 : BitVec 32 := 0#32
  let c0_i32_90 : BitVec 32 := 0#32
  ![v83.toNat, 0, 0]

def k0_chk229 (v83 : BitVec 32) : Prop :=
  (∀ a, (k0_off581 v83) a + S1x8x32.size a ≤ S125000x8x32.size a)
theorem k0_off581_inb : ∀ (v83 : BitVec 32) (k0_hw229 : k0_chk229 v83), ∀ a, (k0_off581 v83) a + S1x8x32.size a ≤ S125000x8x32.size a := fun v83 k0_hw229 => k0_hw229

def k0_off582 (v93 : BitVec 32) : Fin 3 → Nat :=
  let c0_i32_97 : BitVec 32 := 0#32
  let c0_i32_98 : BitVec 32 := 0#32
  ![v93.toNat, 0, 0]

def k0_chk230 (v93 : BitVec 32) : Prop :=
  (∀ a, (k0_off582 v93) a + S1x8x32.size a ≤ S125000x8x32.size a)
theorem k0_off582_inb : ∀ (v93 : BitVec 32) (k0_hw230 : k0_chk230 v93), ∀ a, (k0_off582 v93) a + S1x8x32.size a ≤ S125000x8x32.size a := fun v93 k0_hw230 => k0_hw230

def k0_off583 (v103 : BitVec 32) : Fin 3 → Nat :=
  let c0_i32_105 : BitVec 32 := 0#32
  let c0_i32_106 : BitVec 32 := 0#32
  ![v103.toNat, 0, 0]

def k0_chk231 (v103 : BitVec 32) : Prop :=
  (∀ a, (k0_off583 v103) a + S1x8x32.size a ≤ S125000x8x32.size a)
theorem k0_off583_inb : ∀ (v103 : BitVec 32) (k0_hw231 : k0_chk231 v103), ∀ a, (k0_off583 v103) a + S1x8x32.size a ≤ S125000x8x32.size a := fun v103 k0_hw231 => k0_hw231

def k0_off584 (v113 : BitVec 32) : Fin 3 → Nat :=
  let c0_i32_114 : BitVec 32 := 0#32
  let c0_i32_115 : BitVec 32 := 0#32
  ![v113.toNat, 0, 0]

def k0_chk232 (v113 : BitVec 32) : Prop :=
  (∀ a, (k0_off584 v113) a + S1x8x32.size a ≤ S125000x8x32.size a)
theorem k0_off584_inb : ∀ (v113 : BitVec 32) (k0_hw232 : k0_chk232 v113), ∀ a, (k0_off584 v113) a + S1x8x32.size a ≤ S125000x8x32.size a := fun v113 k0_hw232 => k0_hw232

def k0_off585 (v123 : BitVec 32) : Fin 3 → Nat :=
  let c0_i32_123 : BitVec 32 := 0#32
  let c0_i32_124 : BitVec 32 := 0#32
  ![v123.toNat, 0, 0]

def k0_chk233 (v123 : BitVec 32) : Prop :=
  (∀ a, (k0_off585 v123) a + S1x8x32.size a ≤ S125000x8x32.size a)
theorem k0_off585_inb : ∀ (v123 : BitVec 32) (k0_hw233 : k0_chk233 v123), ∀ a, (k0_off585 v123) a + S1x8x32.size a ≤ S125000x8x32.size a := fun v123 k0_hw233 => k0_hw233

def k0_off586 (v133 : BitVec 32) : Fin 3 → Nat :=
  let c0_i32_131 : BitVec 32 := 0#32
  let c0_i32_132 : BitVec 32 := 0#32
  ![v133.toNat, 0, 0]

def k0_chk234 (v133 : BitVec 32) : Prop :=
  (∀ a, (k0_off586 v133) a + S1x8x32.size a ≤ S125000x8x32.size a)
theorem k0_off586_inb : ∀ (v133 : BitVec 32) (k0_hw234 : k0_chk234 v133), ∀ a, (k0_off586 v133) a + S1x8x32.size a ≤ S125000x8x32.size a := fun v133 k0_hw234 => k0_hw234

def k0_off587 (v143 : BitVec 32) : Fin 3 → Nat :=
  let c0_i32_139 : BitVec 32 := 0#32
  let c0_i32_140 : BitVec 32 := 0#32
  ![v143.toNat, 0, 0]

def k0_chk235 (v143 : BitVec 32) : Prop :=
  (∀ a, (k0_off587 v143) a + S1x8x32.size a ≤ S125000x8x32.size a)
theorem k0_off587_inb : ∀ (v143 : BitVec 32) (k0_hw235 : k0_chk235 v143), ∀ a, (k0_off587 v143) a + S1x8x32.size a ≤ S125000x8x32.size a := fun v143 k0_hw235 => k0_hw235

def k0_off588 (v153 : BitVec 32) : Fin 3 → Nat :=
  let c0_i32_147 : BitVec 32 := 0#32
  let c0_i32_148 : BitVec 32 := 0#32
  ![v153.toNat, 0, 0]

def k0_chk236 (v153 : BitVec 32) : Prop :=
  (∀ a, (k0_off588 v153) a + S1x8x32.size a ≤ S125000x8x32.size a)
theorem k0_off588_inb : ∀ (v153 : BitVec 32) (k0_hw236 : k0_chk236 v153), ∀ a, (k0_off588 v153) a + S1x8x32.size a ≤ S125000x8x32.size a := fun v153 k0_hw236 => k0_hw236

def k0_off589 (v163 : BitVec 32) : Fin 3 → Nat :=
  let c0_i32_155 : BitVec 32 := 0#32
  let c0_i32_156 : BitVec 32 := 0#32
  ![v163.toNat, 0, 0]

def k0_chk237 (v163 : BitVec 32) : Prop :=
  (∀ a, (k0_off589 v163) a + S1x8x32.size a ≤ S125000x8x32.size a)
theorem k0_off589_inb : ∀ (v163 : BitVec 32) (k0_hw237 : k0_chk237 v163), ∀ a, (k0_off589 v163) a + S1x8x32.size a ≤ S125000x8x32.size a := fun v163 k0_hw237 => k0_hw237

def k0_off590 (v173 : BitVec 32) : Fin 3 → Nat :=
  let c0_i32_163 : BitVec 32 := 0#32
  let c0_i32_164 : BitVec 32 := 0#32
  ![v173.toNat, 0, 0]

def k0_chk238 (v173 : BitVec 32) : Prop :=
  (∀ a, (k0_off590 v173) a + S1x8x32.size a ≤ S125000x8x32.size a)
theorem k0_off590_inb : ∀ (v173 : BitVec 32) (k0_hw238 : k0_chk238 v173), ∀ a, (k0_off590 v173) a + S1x8x32.size a ≤ S125000x8x32.size a := fun v173 k0_hw238 => k0_hw238

def k0_off591 (v183 : BitVec 32) : Fin 3 → Nat :=
  let c0_i32_171 : BitVec 32 := 0#32
  let c0_i32_172 : BitVec 32 := 0#32
  ![v183.toNat, 0, 0]

def k0_chk239 (v183 : BitVec 32) : Prop :=
  (∀ a, (k0_off591 v183) a + S1x8x32.size a ≤ S125000x8x32.size a)
theorem k0_off591_inb : ∀ (v183 : BitVec 32) (k0_hw239 : k0_chk239 v183), ∀ a, (k0_off591 v183) a + S1x8x32.size a ≤ S125000x8x32.size a := fun v183 k0_hw239 => k0_hw239

def k0_off592 (v193 : BitVec 32) : Fin 3 → Nat :=
  let c0_i32_179 : BitVec 32 := 0#32
  let c0_i32_180 : BitVec 32 := 0#32
  ![v193.toNat, 0, 0]

def k0_chk240 (v193 : BitVec 32) : Prop :=
  (∀ a, (k0_off592 v193) a + S1x8x32.size a ≤ S125000x8x32.size a)
theorem k0_off592_inb : ∀ (v193 : BitVec 32) (k0_hw240 : k0_chk240 v193), ∀ a, (k0_off592 v193) a + S1x8x32.size a ≤ S125000x8x32.size a := fun v193 k0_hw240 => k0_hw240

def k0_off593 (v331 : BitVec 32) : Fin 3 → Nat :=
  let c0_i32_347 : BitVec 32 := 0#32
  let v334 : Index := Scalar.indexCast c0_i32_347
  let v335 : Index := Scalar.indexCast v331
  let c0 : Index := 0#32
  ![0, v335.toNat, 0]

def k0_off594 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_345 : BitVec 32 := 16#32
  let v332 : BitVec 32 := Scalar.muli arg15 c16_i32_345
  let c0_i32_346 : BitVec 32 := 0#32
  let v333 : BitVec 32 := Scalar.addi v332 c0_i32_346
  let v337 : Index := Scalar.indexCast v333
  let c0_348 : Index := 0#32
  ![v337.toNat, 0]
def k0_off595 (v331 : BitVec 32) : Fin 3 → Nat :=
  let c0_i32_349 : BitVec 32 := 0#32
  let v339 : Index := Scalar.indexCast c0_i32_349
  let v340 : Index := Scalar.indexCast v331
  let c16 : Index := 16#32
  ![0, v340.toNat, 16]

def k0_chk241 (v331 : BitVec 32) : Prop :=
  (∀ a, (k0_off593 v331) a + S1x1x16.size a ≤ S16x8x32.size a) ∧
  (∀ a, (k0_off595 v331) a + S1x1x16.size a ≤ S16x8x32.size a)
theorem k0_off593_inb : ∀ (v331 : BitVec 32) (k0_hw241 : k0_chk241 v331), ∀ a, (k0_off593 v331) a + S1x1x16.size a ≤ S16x8x32.size a := fun v331 k0_hw241 => k0_hw241.1
theorem k0_off595_inb : ∀ (v331 : BitVec 32) (k0_hw241 : k0_chk241 v331), ∀ a, (k0_off595 v331) a + S1x1x16.size a ≤ S16x8x32.size a := fun v331 k0_hw241 => k0_hw241.2

def k0_off596 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_345 : BitVec 32 := 16#32
  let v332 : BitVec 32 := Scalar.muli arg15 c16_i32_345
  let c0_i32_346 : BitVec 32 := 0#32
  let v333 : BitVec 32 := Scalar.addi v332 c0_i32_346
  let v342 : Index := Scalar.indexCast v333
  let c16_350 : Index := 16#32
  ![v342.toNat, 16]
def k0_off597 (v345 : BitVec 32) : Fin 3 → Nat :=
  let c1_i32_353 : BitVec 32 := 1#32
  let v348 : Index := Scalar.indexCast c1_i32_353
  let v349 : Index := Scalar.indexCast v345
  let c0_354 : Index := 0#32
  ![1, v349.toNat, 0]

def k0_off598 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_351 : BitVec 32 := 16#32
  let v346 : BitVec 32 := Scalar.muli arg15 c16_i32_351
  let c1_i32_352 : BitVec 32 := 1#32
  let v347 : BitVec 32 := Scalar.addi v346 c1_i32_352
  let v351 : Index := Scalar.indexCast v347
  let c0_355 : Index := 0#32
  ![v351.toNat, 0]
def k0_off599 (v345 : BitVec 32) : Fin 3 → Nat :=
  let c1_i32_356 : BitVec 32 := 1#32
  let v353 : Index := Scalar.indexCast c1_i32_356
  let v354 : Index := Scalar.indexCast v345
  let c16_357 : Index := 16#32
  ![1, v354.toNat, 16]

def k0_chk242 (v345 : BitVec 32) : Prop :=
  (∀ a, (k0_off597 v345) a + S1x1x16.size a ≤ S16x8x32.size a) ∧
  (∀ a, (k0_off599 v345) a + S1x1x16.size a ≤ S16x8x32.size a)
theorem k0_off597_inb : ∀ (v345 : BitVec 32) (k0_hw242 : k0_chk242 v345), ∀ a, (k0_off597 v345) a + S1x1x16.size a ≤ S16x8x32.size a := fun v345 k0_hw242 => k0_hw242.1
theorem k0_off599_inb : ∀ (v345 : BitVec 32) (k0_hw242 : k0_chk242 v345), ∀ a, (k0_off599 v345) a + S1x1x16.size a ≤ S16x8x32.size a := fun v345 k0_hw242 => k0_hw242.2

def k0_off600 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_351 : BitVec 32 := 16#32
  let v346 : BitVec 32 := Scalar.muli arg15 c16_i32_351
  let c1_i32_352 : BitVec 32 := 1#32
  let v347 : BitVec 32 := Scalar.addi v346 c1_i32_352
  let v356 : Index := Scalar.indexCast v347
  let c16_358 : Index := 16#32
  ![v356.toNat, 16]
def k0_off601 (v359 : BitVec 32) : Fin 3 → Nat :=
  let c2_i32_361 : BitVec 32 := 2#32
  let v362 : Index := Scalar.indexCast c2_i32_361
  let v363 : Index := Scalar.indexCast v359
  let c0_362 : Index := 0#32
  ![2, v363.toNat, 0]

def k0_off602 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_359 : BitVec 32 := 16#32
  let v360 : BitVec 32 := Scalar.muli arg15 c16_i32_359
  let c2_i32_360 : BitVec 32 := 2#32
  let v361 : BitVec 32 := Scalar.addi v360 c2_i32_360
  let v365 : Index := Scalar.indexCast v361
  let c0_363 : Index := 0#32
  ![v365.toNat, 0]
def k0_off603 (v359 : BitVec 32) : Fin 3 → Nat :=
  let c2_i32_364 : BitVec 32 := 2#32
  let v367 : Index := Scalar.indexCast c2_i32_364
  let v368 : Index := Scalar.indexCast v359
  let c16_365 : Index := 16#32
  ![2, v368.toNat, 16]

def k0_chk243 (v359 : BitVec 32) : Prop :=
  (∀ a, (k0_off601 v359) a + S1x1x16.size a ≤ S16x8x32.size a) ∧
  (∀ a, (k0_off603 v359) a + S1x1x16.size a ≤ S16x8x32.size a)
theorem k0_off601_inb : ∀ (v359 : BitVec 32) (k0_hw243 : k0_chk243 v359), ∀ a, (k0_off601 v359) a + S1x1x16.size a ≤ S16x8x32.size a := fun v359 k0_hw243 => k0_hw243.1
theorem k0_off603_inb : ∀ (v359 : BitVec 32) (k0_hw243 : k0_chk243 v359), ∀ a, (k0_off603 v359) a + S1x1x16.size a ≤ S16x8x32.size a := fun v359 k0_hw243 => k0_hw243.2

def k0_off604 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_359 : BitVec 32 := 16#32
  let v360 : BitVec 32 := Scalar.muli arg15 c16_i32_359
  let c2_i32_360 : BitVec 32 := 2#32
  let v361 : BitVec 32 := Scalar.addi v360 c2_i32_360
  let v370 : Index := Scalar.indexCast v361
  let c16_366 : Index := 16#32
  ![v370.toNat, 16]
def k0_off605 (v373 : BitVec 32) : Fin 3 → Nat :=
  let c3_i32_369 : BitVec 32 := 3#32
  let v376 : Index := Scalar.indexCast c3_i32_369
  let v377 : Index := Scalar.indexCast v373
  let c0_370 : Index := 0#32
  ![3, v377.toNat, 0]

def k0_off606 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_367 : BitVec 32 := 16#32
  let v374 : BitVec 32 := Scalar.muli arg15 c16_i32_367
  let c3_i32_368 : BitVec 32 := 3#32
  let v375 : BitVec 32 := Scalar.addi v374 c3_i32_368
  let v379 : Index := Scalar.indexCast v375
  let c0_371 : Index := 0#32
  ![v379.toNat, 0]
def k0_off607 (v373 : BitVec 32) : Fin 3 → Nat :=
  let c3_i32_372 : BitVec 32 := 3#32
  let v381 : Index := Scalar.indexCast c3_i32_372
  let v382 : Index := Scalar.indexCast v373
  let c16_373 : Index := 16#32
  ![3, v382.toNat, 16]

def k0_chk244 (v373 : BitVec 32) : Prop :=
  (∀ a, (k0_off605 v373) a + S1x1x16.size a ≤ S16x8x32.size a) ∧
  (∀ a, (k0_off607 v373) a + S1x1x16.size a ≤ S16x8x32.size a)
theorem k0_off605_inb : ∀ (v373 : BitVec 32) (k0_hw244 : k0_chk244 v373), ∀ a, (k0_off605 v373) a + S1x1x16.size a ≤ S16x8x32.size a := fun v373 k0_hw244 => k0_hw244.1
theorem k0_off607_inb : ∀ (v373 : BitVec 32) (k0_hw244 : k0_chk244 v373), ∀ a, (k0_off607 v373) a + S1x1x16.size a ≤ S16x8x32.size a := fun v373 k0_hw244 => k0_hw244.2

def k0_off608 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_367 : BitVec 32 := 16#32
  let v374 : BitVec 32 := Scalar.muli arg15 c16_i32_367
  let c3_i32_368 : BitVec 32 := 3#32
  let v375 : BitVec 32 := Scalar.addi v374 c3_i32_368
  let v384 : Index := Scalar.indexCast v375
  let c16_374 : Index := 16#32
  ![v384.toNat, 16]
def k0_off609 (v387 : BitVec 32) : Fin 3 → Nat :=
  let c4_i32_377 : BitVec 32 := 4#32
  let v390 : Index := Scalar.indexCast c4_i32_377
  let v391 : Index := Scalar.indexCast v387
  let c0_378 : Index := 0#32
  ![4, v391.toNat, 0]

def k0_off610 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_375 : BitVec 32 := 16#32
  let v388 : BitVec 32 := Scalar.muli arg15 c16_i32_375
  let c4_i32_376 : BitVec 32 := 4#32
  let v389 : BitVec 32 := Scalar.addi v388 c4_i32_376
  let v393 : Index := Scalar.indexCast v389
  let c0_379 : Index := 0#32
  ![v393.toNat, 0]
def k0_off611 (v387 : BitVec 32) : Fin 3 → Nat :=
  let c4_i32_380 : BitVec 32 := 4#32
  let v395 : Index := Scalar.indexCast c4_i32_380
  let v396 : Index := Scalar.indexCast v387
  let c16_381 : Index := 16#32
  ![4, v396.toNat, 16]

def k0_chk245 (v387 : BitVec 32) : Prop :=
  (∀ a, (k0_off609 v387) a + S1x1x16.size a ≤ S16x8x32.size a) ∧
  (∀ a, (k0_off611 v387) a + S1x1x16.size a ≤ S16x8x32.size a)
theorem k0_off609_inb : ∀ (v387 : BitVec 32) (k0_hw245 : k0_chk245 v387), ∀ a, (k0_off609 v387) a + S1x1x16.size a ≤ S16x8x32.size a := fun v387 k0_hw245 => k0_hw245.1
theorem k0_off611_inb : ∀ (v387 : BitVec 32) (k0_hw245 : k0_chk245 v387), ∀ a, (k0_off611 v387) a + S1x1x16.size a ≤ S16x8x32.size a := fun v387 k0_hw245 => k0_hw245.2

def k0_off612 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_375 : BitVec 32 := 16#32
  let v388 : BitVec 32 := Scalar.muli arg15 c16_i32_375
  let c4_i32_376 : BitVec 32 := 4#32
  let v389 : BitVec 32 := Scalar.addi v388 c4_i32_376
  let v398 : Index := Scalar.indexCast v389
  let c16_382 : Index := 16#32
  ![v398.toNat, 16]
def k0_off613 (v401 : BitVec 32) : Fin 3 → Nat :=
  let c5_i32_385 : BitVec 32 := 5#32
  let v404 : Index := Scalar.indexCast c5_i32_385
  let v405 : Index := Scalar.indexCast v401
  let c0_386 : Index := 0#32
  ![5, v405.toNat, 0]

def k0_off614 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_383 : BitVec 32 := 16#32
  let v402 : BitVec 32 := Scalar.muli arg15 c16_i32_383
  let c5_i32_384 : BitVec 32 := 5#32
  let v403 : BitVec 32 := Scalar.addi v402 c5_i32_384
  let v407 : Index := Scalar.indexCast v403
  let c0_387 : Index := 0#32
  ![v407.toNat, 0]
def k0_off615 (v401 : BitVec 32) : Fin 3 → Nat :=
  let c5_i32_388 : BitVec 32 := 5#32
  let v409 : Index := Scalar.indexCast c5_i32_388
  let v410 : Index := Scalar.indexCast v401
  let c16_389 : Index := 16#32
  ![5, v410.toNat, 16]

def k0_chk246 (v401 : BitVec 32) : Prop :=
  (∀ a, (k0_off613 v401) a + S1x1x16.size a ≤ S16x8x32.size a) ∧
  (∀ a, (k0_off615 v401) a + S1x1x16.size a ≤ S16x8x32.size a)
theorem k0_off613_inb : ∀ (v401 : BitVec 32) (k0_hw246 : k0_chk246 v401), ∀ a, (k0_off613 v401) a + S1x1x16.size a ≤ S16x8x32.size a := fun v401 k0_hw246 => k0_hw246.1
theorem k0_off615_inb : ∀ (v401 : BitVec 32) (k0_hw246 : k0_chk246 v401), ∀ a, (k0_off615 v401) a + S1x1x16.size a ≤ S16x8x32.size a := fun v401 k0_hw246 => k0_hw246.2

def k0_off616 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_383 : BitVec 32 := 16#32
  let v402 : BitVec 32 := Scalar.muli arg15 c16_i32_383
  let c5_i32_384 : BitVec 32 := 5#32
  let v403 : BitVec 32 := Scalar.addi v402 c5_i32_384
  let v412 : Index := Scalar.indexCast v403
  let c16_390 : Index := 16#32
  ![v412.toNat, 16]
def k0_off617 (v415 : BitVec 32) : Fin 3 → Nat :=
  let c6_i32_393 : BitVec 32 := 6#32
  let v418 : Index := Scalar.indexCast c6_i32_393
  let v419 : Index := Scalar.indexCast v415
  let c0_394 : Index := 0#32
  ![6, v419.toNat, 0]

def k0_off618 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_391 : BitVec 32 := 16#32
  let v416 : BitVec 32 := Scalar.muli arg15 c16_i32_391
  let c6_i32_392 : BitVec 32 := 6#32
  let v417 : BitVec 32 := Scalar.addi v416 c6_i32_392
  let v421 : Index := Scalar.indexCast v417
  let c0_395 : Index := 0#32
  ![v421.toNat, 0]
def k0_off619 (v415 : BitVec 32) : Fin 3 → Nat :=
  let c6_i32_396 : BitVec 32 := 6#32
  let v423 : Index := Scalar.indexCast c6_i32_396
  let v424 : Index := Scalar.indexCast v415
  let c16_397 : Index := 16#32
  ![6, v424.toNat, 16]

def k0_chk247 (v415 : BitVec 32) : Prop :=
  (∀ a, (k0_off617 v415) a + S1x1x16.size a ≤ S16x8x32.size a) ∧
  (∀ a, (k0_off619 v415) a + S1x1x16.size a ≤ S16x8x32.size a)
theorem k0_off617_inb : ∀ (v415 : BitVec 32) (k0_hw247 : k0_chk247 v415), ∀ a, (k0_off617 v415) a + S1x1x16.size a ≤ S16x8x32.size a := fun v415 k0_hw247 => k0_hw247.1
theorem k0_off619_inb : ∀ (v415 : BitVec 32) (k0_hw247 : k0_chk247 v415), ∀ a, (k0_off619 v415) a + S1x1x16.size a ≤ S16x8x32.size a := fun v415 k0_hw247 => k0_hw247.2

def k0_off620 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_391 : BitVec 32 := 16#32
  let v416 : BitVec 32 := Scalar.muli arg15 c16_i32_391
  let c6_i32_392 : BitVec 32 := 6#32
  let v417 : BitVec 32 := Scalar.addi v416 c6_i32_392
  let v426 : Index := Scalar.indexCast v417
  let c16_398 : Index := 16#32
  ![v426.toNat, 16]
def k0_off621 (v429 : BitVec 32) : Fin 3 → Nat :=
  let c7_i32_401 : BitVec 32 := 7#32
  let v432 : Index := Scalar.indexCast c7_i32_401
  let v433 : Index := Scalar.indexCast v429
  let c0_402 : Index := 0#32
  ![7, v433.toNat, 0]

def k0_off622 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_399 : BitVec 32 := 16#32
  let v430 : BitVec 32 := Scalar.muli arg15 c16_i32_399
  let c7_i32_400 : BitVec 32 := 7#32
  let v431 : BitVec 32 := Scalar.addi v430 c7_i32_400
  let v435 : Index := Scalar.indexCast v431
  let c0_403 : Index := 0#32
  ![v435.toNat, 0]
def k0_off623 (v429 : BitVec 32) : Fin 3 → Nat :=
  let c7_i32_404 : BitVec 32 := 7#32
  let v437 : Index := Scalar.indexCast c7_i32_404
  let v438 : Index := Scalar.indexCast v429
  let c16_405 : Index := 16#32
  ![7, v438.toNat, 16]

def k0_chk248 (v429 : BitVec 32) : Prop :=
  (∀ a, (k0_off621 v429) a + S1x1x16.size a ≤ S16x8x32.size a) ∧
  (∀ a, (k0_off623 v429) a + S1x1x16.size a ≤ S16x8x32.size a)
theorem k0_off621_inb : ∀ (v429 : BitVec 32) (k0_hw248 : k0_chk248 v429), ∀ a, (k0_off621 v429) a + S1x1x16.size a ≤ S16x8x32.size a := fun v429 k0_hw248 => k0_hw248.1
theorem k0_off623_inb : ∀ (v429 : BitVec 32) (k0_hw248 : k0_chk248 v429), ∀ a, (k0_off623 v429) a + S1x1x16.size a ≤ S16x8x32.size a := fun v429 k0_hw248 => k0_hw248.2

def k0_off624 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_399 : BitVec 32 := 16#32
  let v430 : BitVec 32 := Scalar.muli arg15 c16_i32_399
  let c7_i32_400 : BitVec 32 := 7#32
  let v431 : BitVec 32 := Scalar.addi v430 c7_i32_400
  let v440 : Index := Scalar.indexCast v431
  let c16_406 : Index := 16#32
  ![v440.toNat, 16]
def k0_off625 (v443 : BitVec 32) : Fin 3 → Nat :=
  let c8_i32_409 : BitVec 32 := 8#32
  let v446 : Index := Scalar.indexCast c8_i32_409
  let v447 : Index := Scalar.indexCast v443
  let c0_410 : Index := 0#32
  ![8, v447.toNat, 0]

def k0_off626 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_407 : BitVec 32 := 16#32
  let v444 : BitVec 32 := Scalar.muli arg15 c16_i32_407
  let c8_i32_408 : BitVec 32 := 8#32
  let v445 : BitVec 32 := Scalar.addi v444 c8_i32_408
  let v449 : Index := Scalar.indexCast v445
  let c0_411 : Index := 0#32
  ![v449.toNat, 0]
def k0_off627 (v443 : BitVec 32) : Fin 3 → Nat :=
  let c8_i32_412 : BitVec 32 := 8#32
  let v451 : Index := Scalar.indexCast c8_i32_412
  let v452 : Index := Scalar.indexCast v443
  let c16_413 : Index := 16#32
  ![8, v452.toNat, 16]

def k0_chk249 (v443 : BitVec 32) : Prop :=
  (∀ a, (k0_off625 v443) a + S1x1x16.size a ≤ S16x8x32.size a) ∧
  (∀ a, (k0_off627 v443) a + S1x1x16.size a ≤ S16x8x32.size a)
theorem k0_off625_inb : ∀ (v443 : BitVec 32) (k0_hw249 : k0_chk249 v443), ∀ a, (k0_off625 v443) a + S1x1x16.size a ≤ S16x8x32.size a := fun v443 k0_hw249 => k0_hw249.1
theorem k0_off627_inb : ∀ (v443 : BitVec 32) (k0_hw249 : k0_chk249 v443), ∀ a, (k0_off627 v443) a + S1x1x16.size a ≤ S16x8x32.size a := fun v443 k0_hw249 => k0_hw249.2

def k0_off628 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_407 : BitVec 32 := 16#32
  let v444 : BitVec 32 := Scalar.muli arg15 c16_i32_407
  let c8_i32_408 : BitVec 32 := 8#32
  let v445 : BitVec 32 := Scalar.addi v444 c8_i32_408
  let v454 : Index := Scalar.indexCast v445
  let c16_414 : Index := 16#32
  ![v454.toNat, 16]
def k0_off629 (v457 : BitVec 32) : Fin 3 → Nat :=
  let c9_i32_417 : BitVec 32 := 9#32
  let v460 : Index := Scalar.indexCast c9_i32_417
  let v461 : Index := Scalar.indexCast v457
  let c0_418 : Index := 0#32
  ![9, v461.toNat, 0]

def k0_off630 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_415 : BitVec 32 := 16#32
  let v458 : BitVec 32 := Scalar.muli arg15 c16_i32_415
  let c9_i32_416 : BitVec 32 := 9#32
  let v459 : BitVec 32 := Scalar.addi v458 c9_i32_416
  let v463 : Index := Scalar.indexCast v459
  let c0_419 : Index := 0#32
  ![v463.toNat, 0]
def k0_off631 (v457 : BitVec 32) : Fin 3 → Nat :=
  let c9_i32_420 : BitVec 32 := 9#32
  let v465 : Index := Scalar.indexCast c9_i32_420
  let v466 : Index := Scalar.indexCast v457
  let c16_421 : Index := 16#32
  ![9, v466.toNat, 16]

def k0_chk250 (v457 : BitVec 32) : Prop :=
  (∀ a, (k0_off629 v457) a + S1x1x16.size a ≤ S16x8x32.size a) ∧
  (∀ a, (k0_off631 v457) a + S1x1x16.size a ≤ S16x8x32.size a)
theorem k0_off629_inb : ∀ (v457 : BitVec 32) (k0_hw250 : k0_chk250 v457), ∀ a, (k0_off629 v457) a + S1x1x16.size a ≤ S16x8x32.size a := fun v457 k0_hw250 => k0_hw250.1
theorem k0_off631_inb : ∀ (v457 : BitVec 32) (k0_hw250 : k0_chk250 v457), ∀ a, (k0_off631 v457) a + S1x1x16.size a ≤ S16x8x32.size a := fun v457 k0_hw250 => k0_hw250.2

def k0_off632 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_415 : BitVec 32 := 16#32
  let v458 : BitVec 32 := Scalar.muli arg15 c16_i32_415
  let c9_i32_416 : BitVec 32 := 9#32
  let v459 : BitVec 32 := Scalar.addi v458 c9_i32_416
  let v468 : Index := Scalar.indexCast v459
  let c16_422 : Index := 16#32
  ![v468.toNat, 16]
def k0_off633 (v471 : BitVec 32) : Fin 3 → Nat :=
  let c10_i32_425 : BitVec 32 := 10#32
  let v474 : Index := Scalar.indexCast c10_i32_425
  let v475 : Index := Scalar.indexCast v471
  let c0_426 : Index := 0#32
  ![10, v475.toNat, 0]

def k0_off634 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_423 : BitVec 32 := 16#32
  let v472 : BitVec 32 := Scalar.muli arg15 c16_i32_423
  let c10_i32_424 : BitVec 32 := 10#32
  let v473 : BitVec 32 := Scalar.addi v472 c10_i32_424
  let v477 : Index := Scalar.indexCast v473
  let c0_427 : Index := 0#32
  ![v477.toNat, 0]
def k0_off635 (v471 : BitVec 32) : Fin 3 → Nat :=
  let c10_i32_428 : BitVec 32 := 10#32
  let v479 : Index := Scalar.indexCast c10_i32_428
  let v480 : Index := Scalar.indexCast v471
  let c16_429 : Index := 16#32
  ![10, v480.toNat, 16]

def k0_chk251 (v471 : BitVec 32) : Prop :=
  (∀ a, (k0_off633 v471) a + S1x1x16.size a ≤ S16x8x32.size a) ∧
  (∀ a, (k0_off635 v471) a + S1x1x16.size a ≤ S16x8x32.size a)
theorem k0_off633_inb : ∀ (v471 : BitVec 32) (k0_hw251 : k0_chk251 v471), ∀ a, (k0_off633 v471) a + S1x1x16.size a ≤ S16x8x32.size a := fun v471 k0_hw251 => k0_hw251.1
theorem k0_off635_inb : ∀ (v471 : BitVec 32) (k0_hw251 : k0_chk251 v471), ∀ a, (k0_off635 v471) a + S1x1x16.size a ≤ S16x8x32.size a := fun v471 k0_hw251 => k0_hw251.2

def k0_off636 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_423 : BitVec 32 := 16#32
  let v472 : BitVec 32 := Scalar.muli arg15 c16_i32_423
  let c10_i32_424 : BitVec 32 := 10#32
  let v473 : BitVec 32 := Scalar.addi v472 c10_i32_424
  let v482 : Index := Scalar.indexCast v473
  let c16_430 : Index := 16#32
  ![v482.toNat, 16]
def k0_off637 (v485 : BitVec 32) : Fin 3 → Nat :=
  let c11_i32_433 : BitVec 32 := 11#32
  let v488 : Index := Scalar.indexCast c11_i32_433
  let v489 : Index := Scalar.indexCast v485
  let c0_434 : Index := 0#32
  ![11, v489.toNat, 0]

def k0_off638 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_431 : BitVec 32 := 16#32
  let v486 : BitVec 32 := Scalar.muli arg15 c16_i32_431
  let c11_i32_432 : BitVec 32 := 11#32
  let v487 : BitVec 32 := Scalar.addi v486 c11_i32_432
  let v491 : Index := Scalar.indexCast v487
  let c0_435 : Index := 0#32
  ![v491.toNat, 0]
def k0_off639 (v485 : BitVec 32) : Fin 3 → Nat :=
  let c11_i32_436 : BitVec 32 := 11#32
  let v493 : Index := Scalar.indexCast c11_i32_436
  let v494 : Index := Scalar.indexCast v485
  let c16_437 : Index := 16#32
  ![11, v494.toNat, 16]

def k0_chk252 (v485 : BitVec 32) : Prop :=
  (∀ a, (k0_off637 v485) a + S1x1x16.size a ≤ S16x8x32.size a) ∧
  (∀ a, (k0_off639 v485) a + S1x1x16.size a ≤ S16x8x32.size a)
theorem k0_off637_inb : ∀ (v485 : BitVec 32) (k0_hw252 : k0_chk252 v485), ∀ a, (k0_off637 v485) a + S1x1x16.size a ≤ S16x8x32.size a := fun v485 k0_hw252 => k0_hw252.1
theorem k0_off639_inb : ∀ (v485 : BitVec 32) (k0_hw252 : k0_chk252 v485), ∀ a, (k0_off639 v485) a + S1x1x16.size a ≤ S16x8x32.size a := fun v485 k0_hw252 => k0_hw252.2

def k0_off640 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_431 : BitVec 32 := 16#32
  let v486 : BitVec 32 := Scalar.muli arg15 c16_i32_431
  let c11_i32_432 : BitVec 32 := 11#32
  let v487 : BitVec 32 := Scalar.addi v486 c11_i32_432
  let v496 : Index := Scalar.indexCast v487
  let c16_438 : Index := 16#32
  ![v496.toNat, 16]
def k0_off641 (v499 : BitVec 32) : Fin 3 → Nat :=
  let c12_i32_441 : BitVec 32 := 12#32
  let v502 : Index := Scalar.indexCast c12_i32_441
  let v503 : Index := Scalar.indexCast v499
  let c0_442 : Index := 0#32
  ![12, v503.toNat, 0]

def k0_off642 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_439 : BitVec 32 := 16#32
  let v500 : BitVec 32 := Scalar.muli arg15 c16_i32_439
  let c12_i32_440 : BitVec 32 := 12#32
  let v501 : BitVec 32 := Scalar.addi v500 c12_i32_440
  let v505 : Index := Scalar.indexCast v501
  let c0_443 : Index := 0#32
  ![v505.toNat, 0]
def k0_off643 (v499 : BitVec 32) : Fin 3 → Nat :=
  let c12_i32_444 : BitVec 32 := 12#32
  let v507 : Index := Scalar.indexCast c12_i32_444
  let v508 : Index := Scalar.indexCast v499
  let c16_445 : Index := 16#32
  ![12, v508.toNat, 16]

def k0_chk253 (v499 : BitVec 32) : Prop :=
  (∀ a, (k0_off641 v499) a + S1x1x16.size a ≤ S16x8x32.size a) ∧
  (∀ a, (k0_off643 v499) a + S1x1x16.size a ≤ S16x8x32.size a)
theorem k0_off641_inb : ∀ (v499 : BitVec 32) (k0_hw253 : k0_chk253 v499), ∀ a, (k0_off641 v499) a + S1x1x16.size a ≤ S16x8x32.size a := fun v499 k0_hw253 => k0_hw253.1
theorem k0_off643_inb : ∀ (v499 : BitVec 32) (k0_hw253 : k0_chk253 v499), ∀ a, (k0_off643 v499) a + S1x1x16.size a ≤ S16x8x32.size a := fun v499 k0_hw253 => k0_hw253.2

def k0_off644 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_439 : BitVec 32 := 16#32
  let v500 : BitVec 32 := Scalar.muli arg15 c16_i32_439
  let c12_i32_440 : BitVec 32 := 12#32
  let v501 : BitVec 32 := Scalar.addi v500 c12_i32_440
  let v510 : Index := Scalar.indexCast v501
  let c16_446 : Index := 16#32
  ![v510.toNat, 16]
def k0_off645 (v513 : BitVec 32) : Fin 3 → Nat :=
  let c13_i32_449 : BitVec 32 := 13#32
  let v516 : Index := Scalar.indexCast c13_i32_449
  let v517 : Index := Scalar.indexCast v513
  let c0_450 : Index := 0#32
  ![13, v517.toNat, 0]

def k0_off646 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_447 : BitVec 32 := 16#32
  let v514 : BitVec 32 := Scalar.muli arg15 c16_i32_447
  let c13_i32_448 : BitVec 32 := 13#32
  let v515 : BitVec 32 := Scalar.addi v514 c13_i32_448
  let v519 : Index := Scalar.indexCast v515
  let c0_451 : Index := 0#32
  ![v519.toNat, 0]
def k0_off647 (v513 : BitVec 32) : Fin 3 → Nat :=
  let c13_i32_452 : BitVec 32 := 13#32
  let v521 : Index := Scalar.indexCast c13_i32_452
  let v522 : Index := Scalar.indexCast v513
  let c16_453 : Index := 16#32
  ![13, v522.toNat, 16]

def k0_chk254 (v513 : BitVec 32) : Prop :=
  (∀ a, (k0_off645 v513) a + S1x1x16.size a ≤ S16x8x32.size a) ∧
  (∀ a, (k0_off647 v513) a + S1x1x16.size a ≤ S16x8x32.size a)
theorem k0_off645_inb : ∀ (v513 : BitVec 32) (k0_hw254 : k0_chk254 v513), ∀ a, (k0_off645 v513) a + S1x1x16.size a ≤ S16x8x32.size a := fun v513 k0_hw254 => k0_hw254.1
theorem k0_off647_inb : ∀ (v513 : BitVec 32) (k0_hw254 : k0_chk254 v513), ∀ a, (k0_off647 v513) a + S1x1x16.size a ≤ S16x8x32.size a := fun v513 k0_hw254 => k0_hw254.2

def k0_off648 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_447 : BitVec 32 := 16#32
  let v514 : BitVec 32 := Scalar.muli arg15 c16_i32_447
  let c13_i32_448 : BitVec 32 := 13#32
  let v515 : BitVec 32 := Scalar.addi v514 c13_i32_448
  let v524 : Index := Scalar.indexCast v515
  let c16_454 : Index := 16#32
  ![v524.toNat, 16]
def k0_off649 (v527 : BitVec 32) : Fin 3 → Nat :=
  let c14_i32_457 : BitVec 32 := 14#32
  let v530 : Index := Scalar.indexCast c14_i32_457
  let v531 : Index := Scalar.indexCast v527
  let c0_458 : Index := 0#32
  ![14, v531.toNat, 0]

def k0_off650 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_455 : BitVec 32 := 16#32
  let v528 : BitVec 32 := Scalar.muli arg15 c16_i32_455
  let c14_i32_456 : BitVec 32 := 14#32
  let v529 : BitVec 32 := Scalar.addi v528 c14_i32_456
  let v533 : Index := Scalar.indexCast v529
  let c0_459 : Index := 0#32
  ![v533.toNat, 0]
def k0_off651 (v527 : BitVec 32) : Fin 3 → Nat :=
  let c14_i32_460 : BitVec 32 := 14#32
  let v535 : Index := Scalar.indexCast c14_i32_460
  let v536 : Index := Scalar.indexCast v527
  let c16_461 : Index := 16#32
  ![14, v536.toNat, 16]

def k0_chk255 (v527 : BitVec 32) : Prop :=
  (∀ a, (k0_off649 v527) a + S1x1x16.size a ≤ S16x8x32.size a) ∧
  (∀ a, (k0_off651 v527) a + S1x1x16.size a ≤ S16x8x32.size a)
theorem k0_off649_inb : ∀ (v527 : BitVec 32) (k0_hw255 : k0_chk255 v527), ∀ a, (k0_off649 v527) a + S1x1x16.size a ≤ S16x8x32.size a := fun v527 k0_hw255 => k0_hw255.1
theorem k0_off651_inb : ∀ (v527 : BitVec 32) (k0_hw255 : k0_chk255 v527), ∀ a, (k0_off651 v527) a + S1x1x16.size a ≤ S16x8x32.size a := fun v527 k0_hw255 => k0_hw255.2

def k0_off652 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_455 : BitVec 32 := 16#32
  let v528 : BitVec 32 := Scalar.muli arg15 c16_i32_455
  let c14_i32_456 : BitVec 32 := 14#32
  let v529 : BitVec 32 := Scalar.addi v528 c14_i32_456
  let v538 : Index := Scalar.indexCast v529
  let c16_462 : Index := 16#32
  ![v538.toNat, 16]
def k0_off653 (v541 : BitVec 32) : Fin 3 → Nat :=
  let c15_i32_465 : BitVec 32 := 15#32
  let v544 : Index := Scalar.indexCast c15_i32_465
  let v545 : Index := Scalar.indexCast v541
  let c0_466 : Index := 0#32
  ![15, v545.toNat, 0]

def k0_off654 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_463 : BitVec 32 := 16#32
  let v542 : BitVec 32 := Scalar.muli arg15 c16_i32_463
  let c15_i32_464 : BitVec 32 := 15#32
  let v543 : BitVec 32 := Scalar.addi v542 c15_i32_464
  let v547 : Index := Scalar.indexCast v543
  let c0_467 : Index := 0#32
  ![v547.toNat, 0]
def k0_off655 (v541 : BitVec 32) : Fin 3 → Nat :=
  let c15_i32_468 : BitVec 32 := 15#32
  let v549 : Index := Scalar.indexCast c15_i32_468
  let v550 : Index := Scalar.indexCast v541
  let c16_469 : Index := 16#32
  ![15, v550.toNat, 16]

def k0_chk256 (v541 : BitVec 32) : Prop :=
  (∀ a, (k0_off653 v541) a + S1x1x16.size a ≤ S16x8x32.size a) ∧
  (∀ a, (k0_off655 v541) a + S1x1x16.size a ≤ S16x8x32.size a)
theorem k0_off653_inb : ∀ (v541 : BitVec 32) (k0_hw256 : k0_chk256 v541), ∀ a, (k0_off653 v541) a + S1x1x16.size a ≤ S16x8x32.size a := fun v541 k0_hw256 => k0_hw256.1
theorem k0_off655_inb : ∀ (v541 : BitVec 32) (k0_hw256 : k0_chk256 v541), ∀ a, (k0_off655 v541) a + S1x1x16.size a ≤ S16x8x32.size a := fun v541 k0_hw256 => k0_hw256.2

def k0_off656 (k0_t16 : Fin k0_t16_loop.trips) : Fin 2 → Nat :=
  let c0_i32_44 : BitVec 32 := 0#32
  let c1_i32_45 : BitVec 32 := 1#32
  let arg15 : BitVec 32 := Scf.iv c0_i32_44 c1_i32_45 k0_t16
  let c16_i32_463 : BitVec 32 := 16#32
  let v542 : BitVec 32 := Scalar.muli arg15 c16_i32_463
  let c15_i32_464 : BitVec 32 := 15#32
  let v543 : BitVec 32 := Scalar.addi v542 c15_i32_464
  let v552 : Index := Scalar.indexCast v543
  let c16_470 : Index := 16#32
  ![v552.toNat, 16]
def k0_off657 (i : grid0.Coords) (k0_t15 : Fin k0_t15_loop.trips) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_34 : BitVec 32 := 0#32
  let c1_i32_36 : BitVec 32 := 1#32
  let arg13 : BitVec 32 := Scf.iv c0_i32_34 c1_i32_36 k0_t15
  let c128_i32_47 : BitVec 32 := 128#32
  let v32 : BitVec 32 := Scalar.muli arg13 c128_i32_47
  let v33 : BitVec 32 := Scalar.addi v2 v32
  let c0_i32_49_r15 : BitVec 32 := 0#32
  ![7, v33.toNat, 0]
@[reducible] def k0_t17_loop : Scf.Loop 32 :=
  let c0_i32_39 : BitVec 32 := 0#32
  let c4_i32_40 : BitVec 32 := 4#32
  let v28 : BitVec 32 := Scalar.addi c0_i32_39 c4_i32_40
  let c1_i32_41 : BitVec 32 := 1#32
  ⟨c0_i32_39, v28, c1_i32_41⟩
@[reducible] def k0_t18_loop : Scf.Loop 32 :=
  let c0_i32_44 : BitVec 32 := 0#32
  let c8_i32 : BitVec 32 := 8#32
  let v30 : BitVec 32 := Scalar.addi c0_i32_44 c8_i32
  let c1_i32_45 : BitVec 32 := 1#32
  ⟨c0_i32_44, v30, c1_i32_45⟩
def k0_off658 (k0_t17 : Fin k0_t17_loop.trips) (k0_t18 : Fin k0_t18_loop.trips) : Fin 2 → Nat :=
  let c0_i32_39 : BitVec 32 := 0#32
  let c1_i32_41 : BitVec 32 := 1#32
  let arg13 : BitVec 32 := Scf.iv c0_i32_39 c1_i32_41 k0_t17
  let v35 : Index := Scalar.indexCast arg13
  let c0_i32_44 : BitVec 32 := 0#32
  let c1_i32_45 : BitVec 32 := 1#32
  let arg15 : BitVec 32 := Scf.iv c0_i32_44 c1_i32_45 k0_t18
  let c16_i32 : BitVec 32 := 16#32
  let v34 : BitVec 32 := Scalar.muli arg15 c16_i32
  let v36 : Index := Scalar.indexCast v34
  ![v35.toNat, v36.toNat]
def k0_off659 (v43 : BitVec 32) : Fin 3 → Nat :=
  let c0_i32_53 : BitVec 32 := 0#32
  let c0_i32_54 : BitVec 32 := 0#32
  ![v43.toNat, 0, 0]

def k0_chk257 (v43 : BitVec 32) : Prop :=
  (∀ a, (k0_off659 v43) a + S1x8x32.size a ≤ S125000x8x32.size a)
theorem k0_off659_inb : ∀ (v43 : BitVec 32) (k0_hw257 : k0_chk257 v43), ∀ a, (k0_off659 v43) a + S1x8x32.size a ≤ S125000x8x32.size a := fun v43 k0_hw257 => k0_hw257

def k0_off660 (v53 : BitVec 32) : Fin 3 → Nat :=
  let c0_i32_62 : BitVec 32 := 0#32
  let c0_i32_63 : BitVec 32 := 0#32
  ![v53.toNat, 0, 0]

def k0_chk258 (v53 : BitVec 32) : Prop :=
  (∀ a, (k0_off660 v53) a + S1x8x32.size a ≤ S125000x8x32.size a)
theorem k0_off660_inb : ∀ (v53 : BitVec 32) (k0_hw258 : k0_chk258 v53), ∀ a, (k0_off660 v53) a + S1x8x32.size a ≤ S125000x8x32.size a := fun v53 k0_hw258 => k0_hw258

def k0_off661 (v63 : BitVec 32) : Fin 3 → Nat :=
  let c0_i32_71 : BitVec 32 := 0#32
  let c0_i32_72 : BitVec 32 := 0#32
  ![v63.toNat, 0, 0]

def k0_chk259 (v63 : BitVec 32) : Prop :=
  (∀ a, (k0_off661 v63) a + S1x8x32.size a ≤ S125000x8x32.size a)
theorem k0_off661_inb : ∀ (v63 : BitVec 32) (k0_hw259 : k0_chk259 v63), ∀ a, (k0_off661 v63) a + S1x8x32.size a ≤ S125000x8x32.size a := fun v63 k0_hw259 => k0_hw259

def k0_off662 (v73 : BitVec 32) : Fin 3 → Nat :=
  let c0_i32_80 : BitVec 32 := 0#32
  let c0_i32_81 : BitVec 32 := 0#32
  ![v73.toNat, 0, 0]

def k0_chk260 (v73 : BitVec 32) : Prop :=
  (∀ a, (k0_off662 v73) a + S1x8x32.size a ≤ S125000x8x32.size a)
theorem k0_off662_inb : ∀ (v73 : BitVec 32) (k0_hw260 : k0_chk260 v73), ∀ a, (k0_off662 v73) a + S1x8x32.size a ≤ S125000x8x32.size a := fun v73 k0_hw260 => k0_hw260

def k0_off663 (v83 : BitVec 32) : Fin 3 → Nat :=
  let c0_i32_89 : BitVec 32 := 0#32
  let c0_i32_90 : BitVec 32 := 0#32
  ![v83.toNat, 0, 0]

def k0_chk261 (v83 : BitVec 32) : Prop :=
  (∀ a, (k0_off663 v83) a + S1x8x32.size a ≤ S125000x8x32.size a)
theorem k0_off663_inb : ∀ (v83 : BitVec 32) (k0_hw261 : k0_chk261 v83), ∀ a, (k0_off663 v83) a + S1x8x32.size a ≤ S125000x8x32.size a := fun v83 k0_hw261 => k0_hw261

def k0_off664 (v93 : BitVec 32) : Fin 3 → Nat :=
  let c0_i32_97 : BitVec 32 := 0#32
  let c0_i32_98 : BitVec 32 := 0#32
  ![v93.toNat, 0, 0]

def k0_chk262 (v93 : BitVec 32) : Prop :=
  (∀ a, (k0_off664 v93) a + S1x8x32.size a ≤ S125000x8x32.size a)
theorem k0_off664_inb : ∀ (v93 : BitVec 32) (k0_hw262 : k0_chk262 v93), ∀ a, (k0_off664 v93) a + S1x8x32.size a ≤ S125000x8x32.size a := fun v93 k0_hw262 => k0_hw262

def k0_off665 (v103 : BitVec 32) : Fin 3 → Nat :=
  let c0_i32_105 : BitVec 32 := 0#32
  let c0_i32_106 : BitVec 32 := 0#32
  ![v103.toNat, 0, 0]

def k0_chk263 (v103 : BitVec 32) : Prop :=
  (∀ a, (k0_off665 v103) a + S1x8x32.size a ≤ S125000x8x32.size a)
theorem k0_off665_inb : ∀ (v103 : BitVec 32) (k0_hw263 : k0_chk263 v103), ∀ a, (k0_off665 v103) a + S1x8x32.size a ≤ S125000x8x32.size a := fun v103 k0_hw263 => k0_hw263

def k0_off666 (v113 : BitVec 32) : Fin 3 → Nat :=
  let c0_i32_114 : BitVec 32 := 0#32
  let c0_i32_115 : BitVec 32 := 0#32
  ![v113.toNat, 0, 0]

def k0_chk264 (v113 : BitVec 32) : Prop :=
  (∀ a, (k0_off666 v113) a + S1x8x32.size a ≤ S125000x8x32.size a)
theorem k0_off666_inb : ∀ (v113 : BitVec 32) (k0_hw264 : k0_chk264 v113), ∀ a, (k0_off666 v113) a + S1x8x32.size a ≤ S125000x8x32.size a := fun v113 k0_hw264 => k0_hw264

def k0_off667 (v123 : BitVec 32) : Fin 3 → Nat :=
  let c0_i32_123 : BitVec 32 := 0#32
  let c0_i32_124 : BitVec 32 := 0#32
  ![v123.toNat, 0, 0]

def k0_chk265 (v123 : BitVec 32) : Prop :=
  (∀ a, (k0_off667 v123) a + S1x8x32.size a ≤ S125000x8x32.size a)
theorem k0_off667_inb : ∀ (v123 : BitVec 32) (k0_hw265 : k0_chk265 v123), ∀ a, (k0_off667 v123) a + S1x8x32.size a ≤ S125000x8x32.size a := fun v123 k0_hw265 => k0_hw265

def k0_off668 (v133 : BitVec 32) : Fin 3 → Nat :=
  let c0_i32_131 : BitVec 32 := 0#32
  let c0_i32_132 : BitVec 32 := 0#32
  ![v133.toNat, 0, 0]

def k0_chk266 (v133 : BitVec 32) : Prop :=
  (∀ a, (k0_off668 v133) a + S1x8x32.size a ≤ S125000x8x32.size a)
theorem k0_off668_inb : ∀ (v133 : BitVec 32) (k0_hw266 : k0_chk266 v133), ∀ a, (k0_off668 v133) a + S1x8x32.size a ≤ S125000x8x32.size a := fun v133 k0_hw266 => k0_hw266

def k0_off669 (v143 : BitVec 32) : Fin 3 → Nat :=
  let c0_i32_139 : BitVec 32 := 0#32
  let c0_i32_140 : BitVec 32 := 0#32
  ![v143.toNat, 0, 0]

def k0_chk267 (v143 : BitVec 32) : Prop :=
  (∀ a, (k0_off669 v143) a + S1x8x32.size a ≤ S125000x8x32.size a)
theorem k0_off669_inb : ∀ (v143 : BitVec 32) (k0_hw267 : k0_chk267 v143), ∀ a, (k0_off669 v143) a + S1x8x32.size a ≤ S125000x8x32.size a := fun v143 k0_hw267 => k0_hw267

def k0_off670 (v153 : BitVec 32) : Fin 3 → Nat :=
  let c0_i32_147 : BitVec 32 := 0#32
  let c0_i32_148 : BitVec 32 := 0#32
  ![v153.toNat, 0, 0]

def k0_chk268 (v153 : BitVec 32) : Prop :=
  (∀ a, (k0_off670 v153) a + S1x8x32.size a ≤ S125000x8x32.size a)
theorem k0_off670_inb : ∀ (v153 : BitVec 32) (k0_hw268 : k0_chk268 v153), ∀ a, (k0_off670 v153) a + S1x8x32.size a ≤ S125000x8x32.size a := fun v153 k0_hw268 => k0_hw268

def k0_off671 (v163 : BitVec 32) : Fin 3 → Nat :=
  let c0_i32_155 : BitVec 32 := 0#32
  let c0_i32_156 : BitVec 32 := 0#32
  ![v163.toNat, 0, 0]

def k0_chk269 (v163 : BitVec 32) : Prop :=
  (∀ a, (k0_off671 v163) a + S1x8x32.size a ≤ S125000x8x32.size a)
theorem k0_off671_inb : ∀ (v163 : BitVec 32) (k0_hw269 : k0_chk269 v163), ∀ a, (k0_off671 v163) a + S1x8x32.size a ≤ S125000x8x32.size a := fun v163 k0_hw269 => k0_hw269

def k0_off672 (v173 : BitVec 32) : Fin 3 → Nat :=
  let c0_i32_163 : BitVec 32 := 0#32
  let c0_i32_164 : BitVec 32 := 0#32
  ![v173.toNat, 0, 0]

def k0_chk270 (v173 : BitVec 32) : Prop :=
  (∀ a, (k0_off672 v173) a + S1x8x32.size a ≤ S125000x8x32.size a)
theorem k0_off672_inb : ∀ (v173 : BitVec 32) (k0_hw270 : k0_chk270 v173), ∀ a, (k0_off672 v173) a + S1x8x32.size a ≤ S125000x8x32.size a := fun v173 k0_hw270 => k0_hw270

def k0_off673 (v183 : BitVec 32) : Fin 3 → Nat :=
  let c0_i32_171 : BitVec 32 := 0#32
  let c0_i32_172 : BitVec 32 := 0#32
  ![v183.toNat, 0, 0]

def k0_chk271 (v183 : BitVec 32) : Prop :=
  (∀ a, (k0_off673 v183) a + S1x8x32.size a ≤ S125000x8x32.size a)
theorem k0_off673_inb : ∀ (v183 : BitVec 32) (k0_hw271 : k0_chk271 v183), ∀ a, (k0_off673 v183) a + S1x8x32.size a ≤ S125000x8x32.size a := fun v183 k0_hw271 => k0_hw271

def k0_off674 (v193 : BitVec 32) : Fin 3 → Nat :=
  let c0_i32_179 : BitVec 32 := 0#32
  let c0_i32_180 : BitVec 32 := 0#32
  ![v193.toNat, 0, 0]

def k0_chk272 (v193 : BitVec 32) : Prop :=
  (∀ a, (k0_off674 v193) a + S1x8x32.size a ≤ S125000x8x32.size a)
theorem k0_off674_inb : ∀ (v193 : BitVec 32) (k0_hw272 : k0_chk272 v193), ∀ a, (k0_off674 v193) a + S1x8x32.size a ≤ S125000x8x32.size a := fun v193 k0_hw272 => k0_hw272

def k0_off675 (v331 : BitVec 32) : Fin 3 → Nat :=
  let c0_i32_347 : BitVec 32 := 0#32
  let v334 : Index := Scalar.indexCast c0_i32_347
  let v335 : Index := Scalar.indexCast v331
  let c0 : Index := 0#32
  ![0, v335.toNat, 0]

def k0_off676 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_345 : BitVec 32 := 16#32
  let v332 : BitVec 32 := Scalar.muli arg15 c16_i32_345
  let c0_i32_346 : BitVec 32 := 0#32
  let v333 : BitVec 32 := Scalar.addi v332 c0_i32_346
  let v337 : Index := Scalar.indexCast v333
  let c0_348 : Index := 0#32
  ![v337.toNat, 0]
def k0_off677 (v331 : BitVec 32) : Fin 3 → Nat :=
  let c0_i32_349 : BitVec 32 := 0#32
  let v339 : Index := Scalar.indexCast c0_i32_349
  let v340 : Index := Scalar.indexCast v331
  let c16 : Index := 16#32
  ![0, v340.toNat, 16]

def k0_chk273 (v331 : BitVec 32) : Prop :=
  (∀ a, (k0_off675 v331) a + S1x1x16.size a ≤ S16x8x32.size a) ∧
  (∀ a, (k0_off677 v331) a + S1x1x16.size a ≤ S16x8x32.size a)
theorem k0_off675_inb : ∀ (v331 : BitVec 32) (k0_hw273 : k0_chk273 v331), ∀ a, (k0_off675 v331) a + S1x1x16.size a ≤ S16x8x32.size a := fun v331 k0_hw273 => k0_hw273.1
theorem k0_off677_inb : ∀ (v331 : BitVec 32) (k0_hw273 : k0_chk273 v331), ∀ a, (k0_off677 v331) a + S1x1x16.size a ≤ S16x8x32.size a := fun v331 k0_hw273 => k0_hw273.2

def k0_off678 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_345 : BitVec 32 := 16#32
  let v332 : BitVec 32 := Scalar.muli arg15 c16_i32_345
  let c0_i32_346 : BitVec 32 := 0#32
  let v333 : BitVec 32 := Scalar.addi v332 c0_i32_346
  let v342 : Index := Scalar.indexCast v333
  let c16_350 : Index := 16#32
  ![v342.toNat, 16]
def k0_off679 (v345 : BitVec 32) : Fin 3 → Nat :=
  let c1_i32_353 : BitVec 32 := 1#32
  let v348 : Index := Scalar.indexCast c1_i32_353
  let v349 : Index := Scalar.indexCast v345
  let c0_354 : Index := 0#32
  ![1, v349.toNat, 0]

def k0_off680 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_351 : BitVec 32 := 16#32
  let v346 : BitVec 32 := Scalar.muli arg15 c16_i32_351
  let c1_i32_352 : BitVec 32 := 1#32
  let v347 : BitVec 32 := Scalar.addi v346 c1_i32_352
  let v351 : Index := Scalar.indexCast v347
  let c0_355 : Index := 0#32
  ![v351.toNat, 0]
def k0_off681 (v345 : BitVec 32) : Fin 3 → Nat :=
  let c1_i32_356 : BitVec 32 := 1#32
  let v353 : Index := Scalar.indexCast c1_i32_356
  let v354 : Index := Scalar.indexCast v345
  let c16_357 : Index := 16#32
  ![1, v354.toNat, 16]

def k0_chk274 (v345 : BitVec 32) : Prop :=
  (∀ a, (k0_off679 v345) a + S1x1x16.size a ≤ S16x8x32.size a) ∧
  (∀ a, (k0_off681 v345) a + S1x1x16.size a ≤ S16x8x32.size a)
theorem k0_off679_inb : ∀ (v345 : BitVec 32) (k0_hw274 : k0_chk274 v345), ∀ a, (k0_off679 v345) a + S1x1x16.size a ≤ S16x8x32.size a := fun v345 k0_hw274 => k0_hw274.1
theorem k0_off681_inb : ∀ (v345 : BitVec 32) (k0_hw274 : k0_chk274 v345), ∀ a, (k0_off681 v345) a + S1x1x16.size a ≤ S16x8x32.size a := fun v345 k0_hw274 => k0_hw274.2

def k0_off682 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_351 : BitVec 32 := 16#32
  let v346 : BitVec 32 := Scalar.muli arg15 c16_i32_351
  let c1_i32_352 : BitVec 32 := 1#32
  let v347 : BitVec 32 := Scalar.addi v346 c1_i32_352
  let v356 : Index := Scalar.indexCast v347
  let c16_358 : Index := 16#32
  ![v356.toNat, 16]
def k0_off683 (v359 : BitVec 32) : Fin 3 → Nat :=
  let c2_i32_361 : BitVec 32 := 2#32
  let v362 : Index := Scalar.indexCast c2_i32_361
  let v363 : Index := Scalar.indexCast v359
  let c0_362 : Index := 0#32
  ![2, v363.toNat, 0]

def k0_off684 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_359 : BitVec 32 := 16#32
  let v360 : BitVec 32 := Scalar.muli arg15 c16_i32_359
  let c2_i32_360 : BitVec 32 := 2#32
  let v361 : BitVec 32 := Scalar.addi v360 c2_i32_360
  let v365 : Index := Scalar.indexCast v361
  let c0_363 : Index := 0#32
  ![v365.toNat, 0]
def k0_off685 (v359 : BitVec 32) : Fin 3 → Nat :=
  let c2_i32_364 : BitVec 32 := 2#32
  let v367 : Index := Scalar.indexCast c2_i32_364
  let v368 : Index := Scalar.indexCast v359
  let c16_365 : Index := 16#32
  ![2, v368.toNat, 16]

def k0_chk275 (v359 : BitVec 32) : Prop :=
  (∀ a, (k0_off683 v359) a + S1x1x16.size a ≤ S16x8x32.size a) ∧
  (∀ a, (k0_off685 v359) a + S1x1x16.size a ≤ S16x8x32.size a)
theorem k0_off683_inb : ∀ (v359 : BitVec 32) (k0_hw275 : k0_chk275 v359), ∀ a, (k0_off683 v359) a + S1x1x16.size a ≤ S16x8x32.size a := fun v359 k0_hw275 => k0_hw275.1
theorem k0_off685_inb : ∀ (v359 : BitVec 32) (k0_hw275 : k0_chk275 v359), ∀ a, (k0_off685 v359) a + S1x1x16.size a ≤ S16x8x32.size a := fun v359 k0_hw275 => k0_hw275.2

def k0_off686 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_359 : BitVec 32 := 16#32
  let v360 : BitVec 32 := Scalar.muli arg15 c16_i32_359
  let c2_i32_360 : BitVec 32 := 2#32
  let v361 : BitVec 32 := Scalar.addi v360 c2_i32_360
  let v370 : Index := Scalar.indexCast v361
  let c16_366 : Index := 16#32
  ![v370.toNat, 16]
def k0_off687 (v373 : BitVec 32) : Fin 3 → Nat :=
  let c3_i32_369 : BitVec 32 := 3#32
  let v376 : Index := Scalar.indexCast c3_i32_369
  let v377 : Index := Scalar.indexCast v373
  let c0_370 : Index := 0#32
  ![3, v377.toNat, 0]

def k0_off688 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_367 : BitVec 32 := 16#32
  let v374 : BitVec 32 := Scalar.muli arg15 c16_i32_367
  let c3_i32_368 : BitVec 32 := 3#32
  let v375 : BitVec 32 := Scalar.addi v374 c3_i32_368
  let v379 : Index := Scalar.indexCast v375
  let c0_371 : Index := 0#32
  ![v379.toNat, 0]
def k0_off689 (v373 : BitVec 32) : Fin 3 → Nat :=
  let c3_i32_372 : BitVec 32 := 3#32
  let v381 : Index := Scalar.indexCast c3_i32_372
  let v382 : Index := Scalar.indexCast v373
  let c16_373 : Index := 16#32
  ![3, v382.toNat, 16]

def k0_chk276 (v373 : BitVec 32) : Prop :=
  (∀ a, (k0_off687 v373) a + S1x1x16.size a ≤ S16x8x32.size a) ∧
  (∀ a, (k0_off689 v373) a + S1x1x16.size a ≤ S16x8x32.size a)
theorem k0_off687_inb : ∀ (v373 : BitVec 32) (k0_hw276 : k0_chk276 v373), ∀ a, (k0_off687 v373) a + S1x1x16.size a ≤ S16x8x32.size a := fun v373 k0_hw276 => k0_hw276.1
theorem k0_off689_inb : ∀ (v373 : BitVec 32) (k0_hw276 : k0_chk276 v373), ∀ a, (k0_off689 v373) a + S1x1x16.size a ≤ S16x8x32.size a := fun v373 k0_hw276 => k0_hw276.2

def k0_off690 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_367 : BitVec 32 := 16#32
  let v374 : BitVec 32 := Scalar.muli arg15 c16_i32_367
  let c3_i32_368 : BitVec 32 := 3#32
  let v375 : BitVec 32 := Scalar.addi v374 c3_i32_368
  let v384 : Index := Scalar.indexCast v375
  let c16_374 : Index := 16#32
  ![v384.toNat, 16]
def k0_off691 (v387 : BitVec 32) : Fin 3 → Nat :=
  let c4_i32_377 : BitVec 32 := 4#32
  let v390 : Index := Scalar.indexCast c4_i32_377
  let v391 : Index := Scalar.indexCast v387
  let c0_378 : Index := 0#32
  ![4, v391.toNat, 0]

def k0_off692 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_375 : BitVec 32 := 16#32
  let v388 : BitVec 32 := Scalar.muli arg15 c16_i32_375
  let c4_i32_376 : BitVec 32 := 4#32
  let v389 : BitVec 32 := Scalar.addi v388 c4_i32_376
  let v393 : Index := Scalar.indexCast v389
  let c0_379 : Index := 0#32
  ![v393.toNat, 0]
def k0_off693 (v387 : BitVec 32) : Fin 3 → Nat :=
  let c4_i32_380 : BitVec 32 := 4#32
  let v395 : Index := Scalar.indexCast c4_i32_380
  let v396 : Index := Scalar.indexCast v387
  let c16_381 : Index := 16#32
  ![4, v396.toNat, 16]

def k0_chk277 (v387 : BitVec 32) : Prop :=
  (∀ a, (k0_off691 v387) a + S1x1x16.size a ≤ S16x8x32.size a) ∧
  (∀ a, (k0_off693 v387) a + S1x1x16.size a ≤ S16x8x32.size a)
theorem k0_off691_inb : ∀ (v387 : BitVec 32) (k0_hw277 : k0_chk277 v387), ∀ a, (k0_off691 v387) a + S1x1x16.size a ≤ S16x8x32.size a := fun v387 k0_hw277 => k0_hw277.1
theorem k0_off693_inb : ∀ (v387 : BitVec 32) (k0_hw277 : k0_chk277 v387), ∀ a, (k0_off693 v387) a + S1x1x16.size a ≤ S16x8x32.size a := fun v387 k0_hw277 => k0_hw277.2

def k0_off694 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_375 : BitVec 32 := 16#32
  let v388 : BitVec 32 := Scalar.muli arg15 c16_i32_375
  let c4_i32_376 : BitVec 32 := 4#32
  let v389 : BitVec 32 := Scalar.addi v388 c4_i32_376
  let v398 : Index := Scalar.indexCast v389
  let c16_382 : Index := 16#32
  ![v398.toNat, 16]
def k0_off695 (v401 : BitVec 32) : Fin 3 → Nat :=
  let c5_i32_385 : BitVec 32 := 5#32
  let v404 : Index := Scalar.indexCast c5_i32_385
  let v405 : Index := Scalar.indexCast v401
  let c0_386 : Index := 0#32
  ![5, v405.toNat, 0]

def k0_off696 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_383 : BitVec 32 := 16#32
  let v402 : BitVec 32 := Scalar.muli arg15 c16_i32_383
  let c5_i32_384 : BitVec 32 := 5#32
  let v403 : BitVec 32 := Scalar.addi v402 c5_i32_384
  let v407 : Index := Scalar.indexCast v403
  let c0_387 : Index := 0#32
  ![v407.toNat, 0]
def k0_off697 (v401 : BitVec 32) : Fin 3 → Nat :=
  let c5_i32_388 : BitVec 32 := 5#32
  let v409 : Index := Scalar.indexCast c5_i32_388
  let v410 : Index := Scalar.indexCast v401
  let c16_389 : Index := 16#32
  ![5, v410.toNat, 16]

def k0_chk278 (v401 : BitVec 32) : Prop :=
  (∀ a, (k0_off695 v401) a + S1x1x16.size a ≤ S16x8x32.size a) ∧
  (∀ a, (k0_off697 v401) a + S1x1x16.size a ≤ S16x8x32.size a)
theorem k0_off695_inb : ∀ (v401 : BitVec 32) (k0_hw278 : k0_chk278 v401), ∀ a, (k0_off695 v401) a + S1x1x16.size a ≤ S16x8x32.size a := fun v401 k0_hw278 => k0_hw278.1
theorem k0_off697_inb : ∀ (v401 : BitVec 32) (k0_hw278 : k0_chk278 v401), ∀ a, (k0_off697 v401) a + S1x1x16.size a ≤ S16x8x32.size a := fun v401 k0_hw278 => k0_hw278.2

def k0_off698 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_383 : BitVec 32 := 16#32
  let v402 : BitVec 32 := Scalar.muli arg15 c16_i32_383
  let c5_i32_384 : BitVec 32 := 5#32
  let v403 : BitVec 32 := Scalar.addi v402 c5_i32_384
  let v412 : Index := Scalar.indexCast v403
  let c16_390 : Index := 16#32
  ![v412.toNat, 16]
def k0_off699 (v415 : BitVec 32) : Fin 3 → Nat :=
  let c6_i32_393 : BitVec 32 := 6#32
  let v418 : Index := Scalar.indexCast c6_i32_393
  let v419 : Index := Scalar.indexCast v415
  let c0_394 : Index := 0#32
  ![6, v419.toNat, 0]

def k0_off700 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_391 : BitVec 32 := 16#32
  let v416 : BitVec 32 := Scalar.muli arg15 c16_i32_391
  let c6_i32_392 : BitVec 32 := 6#32
  let v417 : BitVec 32 := Scalar.addi v416 c6_i32_392
  let v421 : Index := Scalar.indexCast v417
  let c0_395 : Index := 0#32
  ![v421.toNat, 0]
def k0_off701 (v415 : BitVec 32) : Fin 3 → Nat :=
  let c6_i32_396 : BitVec 32 := 6#32
  let v423 : Index := Scalar.indexCast c6_i32_396
  let v424 : Index := Scalar.indexCast v415
  let c16_397 : Index := 16#32
  ![6, v424.toNat, 16]

def k0_chk279 (v415 : BitVec 32) : Prop :=
  (∀ a, (k0_off699 v415) a + S1x1x16.size a ≤ S16x8x32.size a) ∧
  (∀ a, (k0_off701 v415) a + S1x1x16.size a ≤ S16x8x32.size a)
theorem k0_off699_inb : ∀ (v415 : BitVec 32) (k0_hw279 : k0_chk279 v415), ∀ a, (k0_off699 v415) a + S1x1x16.size a ≤ S16x8x32.size a := fun v415 k0_hw279 => k0_hw279.1
theorem k0_off701_inb : ∀ (v415 : BitVec 32) (k0_hw279 : k0_chk279 v415), ∀ a, (k0_off701 v415) a + S1x1x16.size a ≤ S16x8x32.size a := fun v415 k0_hw279 => k0_hw279.2

def k0_off702 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_391 : BitVec 32 := 16#32
  let v416 : BitVec 32 := Scalar.muli arg15 c16_i32_391
  let c6_i32_392 : BitVec 32 := 6#32
  let v417 : BitVec 32 := Scalar.addi v416 c6_i32_392
  let v426 : Index := Scalar.indexCast v417
  let c16_398 : Index := 16#32
  ![v426.toNat, 16]
def k0_off703 (v429 : BitVec 32) : Fin 3 → Nat :=
  let c7_i32_401 : BitVec 32 := 7#32
  let v432 : Index := Scalar.indexCast c7_i32_401
  let v433 : Index := Scalar.indexCast v429
  let c0_402 : Index := 0#32
  ![7, v433.toNat, 0]

def k0_off704 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_399 : BitVec 32 := 16#32
  let v430 : BitVec 32 := Scalar.muli arg15 c16_i32_399
  let c7_i32_400 : BitVec 32 := 7#32
  let v431 : BitVec 32 := Scalar.addi v430 c7_i32_400
  let v435 : Index := Scalar.indexCast v431
  let c0_403 : Index := 0#32
  ![v435.toNat, 0]
def k0_off705 (v429 : BitVec 32) : Fin 3 → Nat :=
  let c7_i32_404 : BitVec 32 := 7#32
  let v437 : Index := Scalar.indexCast c7_i32_404
  let v438 : Index := Scalar.indexCast v429
  let c16_405 : Index := 16#32
  ![7, v438.toNat, 16]

def k0_chk280 (v429 : BitVec 32) : Prop :=
  (∀ a, (k0_off703 v429) a + S1x1x16.size a ≤ S16x8x32.size a) ∧
  (∀ a, (k0_off705 v429) a + S1x1x16.size a ≤ S16x8x32.size a)
theorem k0_off703_inb : ∀ (v429 : BitVec 32) (k0_hw280 : k0_chk280 v429), ∀ a, (k0_off703 v429) a + S1x1x16.size a ≤ S16x8x32.size a := fun v429 k0_hw280 => k0_hw280.1
theorem k0_off705_inb : ∀ (v429 : BitVec 32) (k0_hw280 : k0_chk280 v429), ∀ a, (k0_off705 v429) a + S1x1x16.size a ≤ S16x8x32.size a := fun v429 k0_hw280 => k0_hw280.2

def k0_off706 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_399 : BitVec 32 := 16#32
  let v430 : BitVec 32 := Scalar.muli arg15 c16_i32_399
  let c7_i32_400 : BitVec 32 := 7#32
  let v431 : BitVec 32 := Scalar.addi v430 c7_i32_400
  let v440 : Index := Scalar.indexCast v431
  let c16_406 : Index := 16#32
  ![v440.toNat, 16]
def k0_off707 (v443 : BitVec 32) : Fin 3 → Nat :=
  let c8_i32_409 : BitVec 32 := 8#32
  let v446 : Index := Scalar.indexCast c8_i32_409
  let v447 : Index := Scalar.indexCast v443
  let c0_410 : Index := 0#32
  ![8, v447.toNat, 0]

def k0_off708 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_407 : BitVec 32 := 16#32
  let v444 : BitVec 32 := Scalar.muli arg15 c16_i32_407
  let c8_i32_408 : BitVec 32 := 8#32
  let v445 : BitVec 32 := Scalar.addi v444 c8_i32_408
  let v449 : Index := Scalar.indexCast v445
  let c0_411 : Index := 0#32
  ![v449.toNat, 0]
def k0_off709 (v443 : BitVec 32) : Fin 3 → Nat :=
  let c8_i32_412 : BitVec 32 := 8#32
  let v451 : Index := Scalar.indexCast c8_i32_412
  let v452 : Index := Scalar.indexCast v443
  let c16_413 : Index := 16#32
  ![8, v452.toNat, 16]

def k0_chk281 (v443 : BitVec 32) : Prop :=
  (∀ a, (k0_off707 v443) a + S1x1x16.size a ≤ S16x8x32.size a) ∧
  (∀ a, (k0_off709 v443) a + S1x1x16.size a ≤ S16x8x32.size a)
theorem k0_off707_inb : ∀ (v443 : BitVec 32) (k0_hw281 : k0_chk281 v443), ∀ a, (k0_off707 v443) a + S1x1x16.size a ≤ S16x8x32.size a := fun v443 k0_hw281 => k0_hw281.1
theorem k0_off709_inb : ∀ (v443 : BitVec 32) (k0_hw281 : k0_chk281 v443), ∀ a, (k0_off709 v443) a + S1x1x16.size a ≤ S16x8x32.size a := fun v443 k0_hw281 => k0_hw281.2

def k0_off710 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_407 : BitVec 32 := 16#32
  let v444 : BitVec 32 := Scalar.muli arg15 c16_i32_407
  let c8_i32_408 : BitVec 32 := 8#32
  let v445 : BitVec 32 := Scalar.addi v444 c8_i32_408
  let v454 : Index := Scalar.indexCast v445
  let c16_414 : Index := 16#32
  ![v454.toNat, 16]
def k0_off711 (v457 : BitVec 32) : Fin 3 → Nat :=
  let c9_i32_417 : BitVec 32 := 9#32
  let v460 : Index := Scalar.indexCast c9_i32_417
  let v461 : Index := Scalar.indexCast v457
  let c0_418 : Index := 0#32
  ![9, v461.toNat, 0]

def k0_off712 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_415 : BitVec 32 := 16#32
  let v458 : BitVec 32 := Scalar.muli arg15 c16_i32_415
  let c9_i32_416 : BitVec 32 := 9#32
  let v459 : BitVec 32 := Scalar.addi v458 c9_i32_416
  let v463 : Index := Scalar.indexCast v459
  let c0_419 : Index := 0#32
  ![v463.toNat, 0]
def k0_off713 (v457 : BitVec 32) : Fin 3 → Nat :=
  let c9_i32_420 : BitVec 32 := 9#32
  let v465 : Index := Scalar.indexCast c9_i32_420
  let v466 : Index := Scalar.indexCast v457
  let c16_421 : Index := 16#32
  ![9, v466.toNat, 16]

def k0_chk282 (v457 : BitVec 32) : Prop :=
  (∀ a, (k0_off711 v457) a + S1x1x16.size a ≤ S16x8x32.size a) ∧
  (∀ a, (k0_off713 v457) a + S1x1x16.size a ≤ S16x8x32.size a)
theorem k0_off711_inb : ∀ (v457 : BitVec 32) (k0_hw282 : k0_chk282 v457), ∀ a, (k0_off711 v457) a + S1x1x16.size a ≤ S16x8x32.size a := fun v457 k0_hw282 => k0_hw282.1
theorem k0_off713_inb : ∀ (v457 : BitVec 32) (k0_hw282 : k0_chk282 v457), ∀ a, (k0_off713 v457) a + S1x1x16.size a ≤ S16x8x32.size a := fun v457 k0_hw282 => k0_hw282.2

def k0_off714 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_415 : BitVec 32 := 16#32
  let v458 : BitVec 32 := Scalar.muli arg15 c16_i32_415
  let c9_i32_416 : BitVec 32 := 9#32
  let v459 : BitVec 32 := Scalar.addi v458 c9_i32_416
  let v468 : Index := Scalar.indexCast v459
  let c16_422 : Index := 16#32
  ![v468.toNat, 16]
def k0_off715 (v471 : BitVec 32) : Fin 3 → Nat :=
  let c10_i32_425 : BitVec 32 := 10#32
  let v474 : Index := Scalar.indexCast c10_i32_425
  let v475 : Index := Scalar.indexCast v471
  let c0_426 : Index := 0#32
  ![10, v475.toNat, 0]

def k0_off716 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_423 : BitVec 32 := 16#32
  let v472 : BitVec 32 := Scalar.muli arg15 c16_i32_423
  let c10_i32_424 : BitVec 32 := 10#32
  let v473 : BitVec 32 := Scalar.addi v472 c10_i32_424
  let v477 : Index := Scalar.indexCast v473
  let c0_427 : Index := 0#32
  ![v477.toNat, 0]
def k0_off717 (v471 : BitVec 32) : Fin 3 → Nat :=
  let c10_i32_428 : BitVec 32 := 10#32
  let v479 : Index := Scalar.indexCast c10_i32_428
  let v480 : Index := Scalar.indexCast v471
  let c16_429 : Index := 16#32
  ![10, v480.toNat, 16]

def k0_chk283 (v471 : BitVec 32) : Prop :=
  (∀ a, (k0_off715 v471) a + S1x1x16.size a ≤ S16x8x32.size a) ∧
  (∀ a, (k0_off717 v471) a + S1x1x16.size a ≤ S16x8x32.size a)
theorem k0_off715_inb : ∀ (v471 : BitVec 32) (k0_hw283 : k0_chk283 v471), ∀ a, (k0_off715 v471) a + S1x1x16.size a ≤ S16x8x32.size a := fun v471 k0_hw283 => k0_hw283.1
theorem k0_off717_inb : ∀ (v471 : BitVec 32) (k0_hw283 : k0_chk283 v471), ∀ a, (k0_off717 v471) a + S1x1x16.size a ≤ S16x8x32.size a := fun v471 k0_hw283 => k0_hw283.2

def k0_off718 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_423 : BitVec 32 := 16#32
  let v472 : BitVec 32 := Scalar.muli arg15 c16_i32_423
  let c10_i32_424 : BitVec 32 := 10#32
  let v473 : BitVec 32 := Scalar.addi v472 c10_i32_424
  let v482 : Index := Scalar.indexCast v473
  let c16_430 : Index := 16#32
  ![v482.toNat, 16]
def k0_off719 (v485 : BitVec 32) : Fin 3 → Nat :=
  let c11_i32_433 : BitVec 32 := 11#32
  let v488 : Index := Scalar.indexCast c11_i32_433
  let v489 : Index := Scalar.indexCast v485
  let c0_434 : Index := 0#32
  ![11, v489.toNat, 0]

def k0_off720 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_431 : BitVec 32 := 16#32
  let v486 : BitVec 32 := Scalar.muli arg15 c16_i32_431
  let c11_i32_432 : BitVec 32 := 11#32
  let v487 : BitVec 32 := Scalar.addi v486 c11_i32_432
  let v491 : Index := Scalar.indexCast v487
  let c0_435 : Index := 0#32
  ![v491.toNat, 0]
def k0_off721 (v485 : BitVec 32) : Fin 3 → Nat :=
  let c11_i32_436 : BitVec 32 := 11#32
  let v493 : Index := Scalar.indexCast c11_i32_436
  let v494 : Index := Scalar.indexCast v485
  let c16_437 : Index := 16#32
  ![11, v494.toNat, 16]

def k0_chk284 (v485 : BitVec 32) : Prop :=
  (∀ a, (k0_off719 v485) a + S1x1x16.size a ≤ S16x8x32.size a) ∧
  (∀ a, (k0_off721 v485) a + S1x1x16.size a ≤ S16x8x32.size a)
theorem k0_off719_inb : ∀ (v485 : BitVec 32) (k0_hw284 : k0_chk284 v485), ∀ a, (k0_off719 v485) a + S1x1x16.size a ≤ S16x8x32.size a := fun v485 k0_hw284 => k0_hw284.1
theorem k0_off721_inb : ∀ (v485 : BitVec 32) (k0_hw284 : k0_chk284 v485), ∀ a, (k0_off721 v485) a + S1x1x16.size a ≤ S16x8x32.size a := fun v485 k0_hw284 => k0_hw284.2

def k0_off722 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_431 : BitVec 32 := 16#32
  let v486 : BitVec 32 := Scalar.muli arg15 c16_i32_431
  let c11_i32_432 : BitVec 32 := 11#32
  let v487 : BitVec 32 := Scalar.addi v486 c11_i32_432
  let v496 : Index := Scalar.indexCast v487
  let c16_438 : Index := 16#32
  ![v496.toNat, 16]
def k0_off723 (v499 : BitVec 32) : Fin 3 → Nat :=
  let c12_i32_441 : BitVec 32 := 12#32
  let v502 : Index := Scalar.indexCast c12_i32_441
  let v503 : Index := Scalar.indexCast v499
  let c0_442 : Index := 0#32
  ![12, v503.toNat, 0]

def k0_off724 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_439 : BitVec 32 := 16#32
  let v500 : BitVec 32 := Scalar.muli arg15 c16_i32_439
  let c12_i32_440 : BitVec 32 := 12#32
  let v501 : BitVec 32 := Scalar.addi v500 c12_i32_440
  let v505 : Index := Scalar.indexCast v501
  let c0_443 : Index := 0#32
  ![v505.toNat, 0]
def k0_off725 (v499 : BitVec 32) : Fin 3 → Nat :=
  let c12_i32_444 : BitVec 32 := 12#32
  let v507 : Index := Scalar.indexCast c12_i32_444
  let v508 : Index := Scalar.indexCast v499
  let c16_445 : Index := 16#32
  ![12, v508.toNat, 16]

def k0_chk285 (v499 : BitVec 32) : Prop :=
  (∀ a, (k0_off723 v499) a + S1x1x16.size a ≤ S16x8x32.size a) ∧
  (∀ a, (k0_off725 v499) a + S1x1x16.size a ≤ S16x8x32.size a)
theorem k0_off723_inb : ∀ (v499 : BitVec 32) (k0_hw285 : k0_chk285 v499), ∀ a, (k0_off723 v499) a + S1x1x16.size a ≤ S16x8x32.size a := fun v499 k0_hw285 => k0_hw285.1
theorem k0_off725_inb : ∀ (v499 : BitVec 32) (k0_hw285 : k0_chk285 v499), ∀ a, (k0_off725 v499) a + S1x1x16.size a ≤ S16x8x32.size a := fun v499 k0_hw285 => k0_hw285.2

def k0_off726 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_439 : BitVec 32 := 16#32
  let v500 : BitVec 32 := Scalar.muli arg15 c16_i32_439
  let c12_i32_440 : BitVec 32 := 12#32
  let v501 : BitVec 32 := Scalar.addi v500 c12_i32_440
  let v510 : Index := Scalar.indexCast v501
  let c16_446 : Index := 16#32
  ![v510.toNat, 16]
def k0_off727 (v513 : BitVec 32) : Fin 3 → Nat :=
  let c13_i32_449 : BitVec 32 := 13#32
  let v516 : Index := Scalar.indexCast c13_i32_449
  let v517 : Index := Scalar.indexCast v513
  let c0_450 : Index := 0#32
  ![13, v517.toNat, 0]

def k0_off728 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_447 : BitVec 32 := 16#32
  let v514 : BitVec 32 := Scalar.muli arg15 c16_i32_447
  let c13_i32_448 : BitVec 32 := 13#32
  let v515 : BitVec 32 := Scalar.addi v514 c13_i32_448
  let v519 : Index := Scalar.indexCast v515
  let c0_451 : Index := 0#32
  ![v519.toNat, 0]
def k0_off729 (v513 : BitVec 32) : Fin 3 → Nat :=
  let c13_i32_452 : BitVec 32 := 13#32
  let v521 : Index := Scalar.indexCast c13_i32_452
  let v522 : Index := Scalar.indexCast v513
  let c16_453 : Index := 16#32
  ![13, v522.toNat, 16]

def k0_chk286 (v513 : BitVec 32) : Prop :=
  (∀ a, (k0_off727 v513) a + S1x1x16.size a ≤ S16x8x32.size a) ∧
  (∀ a, (k0_off729 v513) a + S1x1x16.size a ≤ S16x8x32.size a)
theorem k0_off727_inb : ∀ (v513 : BitVec 32) (k0_hw286 : k0_chk286 v513), ∀ a, (k0_off727 v513) a + S1x1x16.size a ≤ S16x8x32.size a := fun v513 k0_hw286 => k0_hw286.1
theorem k0_off729_inb : ∀ (v513 : BitVec 32) (k0_hw286 : k0_chk286 v513), ∀ a, (k0_off729 v513) a + S1x1x16.size a ≤ S16x8x32.size a := fun v513 k0_hw286 => k0_hw286.2

def k0_off730 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_447 : BitVec 32 := 16#32
  let v514 : BitVec 32 := Scalar.muli arg15 c16_i32_447
  let c13_i32_448 : BitVec 32 := 13#32
  let v515 : BitVec 32 := Scalar.addi v514 c13_i32_448
  let v524 : Index := Scalar.indexCast v515
  let c16_454 : Index := 16#32
  ![v524.toNat, 16]
def k0_off731 (v527 : BitVec 32) : Fin 3 → Nat :=
  let c14_i32_457 : BitVec 32 := 14#32
  let v530 : Index := Scalar.indexCast c14_i32_457
  let v531 : Index := Scalar.indexCast v527
  let c0_458 : Index := 0#32
  ![14, v531.toNat, 0]

def k0_off732 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_455 : BitVec 32 := 16#32
  let v528 : BitVec 32 := Scalar.muli arg15 c16_i32_455
  let c14_i32_456 : BitVec 32 := 14#32
  let v529 : BitVec 32 := Scalar.addi v528 c14_i32_456
  let v533 : Index := Scalar.indexCast v529
  let c0_459 : Index := 0#32
  ![v533.toNat, 0]
def k0_off733 (v527 : BitVec 32) : Fin 3 → Nat :=
  let c14_i32_460 : BitVec 32 := 14#32
  let v535 : Index := Scalar.indexCast c14_i32_460
  let v536 : Index := Scalar.indexCast v527
  let c16_461 : Index := 16#32
  ![14, v536.toNat, 16]

def k0_chk287 (v527 : BitVec 32) : Prop :=
  (∀ a, (k0_off731 v527) a + S1x1x16.size a ≤ S16x8x32.size a) ∧
  (∀ a, (k0_off733 v527) a + S1x1x16.size a ≤ S16x8x32.size a)
theorem k0_off731_inb : ∀ (v527 : BitVec 32) (k0_hw287 : k0_chk287 v527), ∀ a, (k0_off731 v527) a + S1x1x16.size a ≤ S16x8x32.size a := fun v527 k0_hw287 => k0_hw287.1
theorem k0_off733_inb : ∀ (v527 : BitVec 32) (k0_hw287 : k0_chk287 v527), ∀ a, (k0_off733 v527) a + S1x1x16.size a ≤ S16x8x32.size a := fun v527 k0_hw287 => k0_hw287.2

def k0_off734 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_455 : BitVec 32 := 16#32
  let v528 : BitVec 32 := Scalar.muli arg15 c16_i32_455
  let c14_i32_456 : BitVec 32 := 14#32
  let v529 : BitVec 32 := Scalar.addi v528 c14_i32_456
  let v538 : Index := Scalar.indexCast v529
  let c16_462 : Index := 16#32
  ![v538.toNat, 16]
def k0_off735 (v541 : BitVec 32) : Fin 3 → Nat :=
  let c15_i32_465 : BitVec 32 := 15#32
  let v544 : Index := Scalar.indexCast c15_i32_465
  let v545 : Index := Scalar.indexCast v541
  let c0_466 : Index := 0#32
  ![15, v545.toNat, 0]

def k0_off736 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_463 : BitVec 32 := 16#32
  let v542 : BitVec 32 := Scalar.muli arg15 c16_i32_463
  let c15_i32_464 : BitVec 32 := 15#32
  let v543 : BitVec 32 := Scalar.addi v542 c15_i32_464
  let v547 : Index := Scalar.indexCast v543
  let c0_467 : Index := 0#32
  ![v547.toNat, 0]
def k0_off737 (v541 : BitVec 32) : Fin 3 → Nat :=
  let c15_i32_468 : BitVec 32 := 15#32
  let v549 : Index := Scalar.indexCast c15_i32_468
  let v550 : Index := Scalar.indexCast v541
  let c16_469 : Index := 16#32
  ![15, v550.toNat, 16]

def k0_chk288 (v541 : BitVec 32) : Prop :=
  (∀ a, (k0_off735 v541) a + S1x1x16.size a ≤ S16x8x32.size a) ∧
  (∀ a, (k0_off737 v541) a + S1x1x16.size a ≤ S16x8x32.size a)
theorem k0_off735_inb : ∀ (v541 : BitVec 32) (k0_hw288 : k0_chk288 v541), ∀ a, (k0_off735 v541) a + S1x1x16.size a ≤ S16x8x32.size a := fun v541 k0_hw288 => k0_hw288.1
theorem k0_off737_inb : ∀ (v541 : BitVec 32) (k0_hw288 : k0_chk288 v541), ∀ a, (k0_off737 v541) a + S1x1x16.size a ≤ S16x8x32.size a := fun v541 k0_hw288 => k0_hw288.2

def k0_off738 (k0_t18 : Fin k0_t18_loop.trips) : Fin 2 → Nat :=
  let c0_i32_44 : BitVec 32 := 0#32
  let c1_i32_45 : BitVec 32 := 1#32
  let arg15 : BitVec 32 := Scf.iv c0_i32_44 c1_i32_45 k0_t18
  let c16_i32_463 : BitVec 32 := 16#32
  let v542 : BitVec 32 := Scalar.muli arg15 c16_i32_463
  let c15_i32_464 : BitVec 32 := 15#32
  let v543 : BitVec 32 := Scalar.addi v542 c15_i32_464
  let v552 : Index := Scalar.indexCast v543
  let c16_470 : Index := 16#32
  ![v552.toNat, 16]
def k0_off739 (i : grid0.Coords) (k0_t17 : Fin k0_t17_loop.trips) : Fin 3 → Nat :=
  let c8_i32_48 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_39 : BitVec 32 := 0#32
  let c1_i32_41 : BitVec 32 := 1#32
  let arg13 : BitVec 32 := Scf.iv c0_i32_39 c1_i32_41 k0_t17
  let c128_i32_47 : BitVec 32 := 128#32
  let v32 : BitVec 32 := Scalar.muli arg13 c128_i32_47
  let v33 : BitVec 32 := Scalar.addi v2 v32
  let c0_i32_50_r17 : BitVec 32 := 0#32
  ![8, v33.toNat, 0]
abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S9x1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S292x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1024x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x32 : Shape := ⟨2, ![100000, 32]⟩
abbrev S1000000x32 : Shape := ⟨2, ![1000000, 32]⟩
abbrev S1000x32 : Shape := ⟨2, ![1000, 32]⟩
abbrev S292x512 : Shape := ⟨2, ![292, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x32 : Shape := ⟨2, ![16384, 32]⟩
abbrev S16384x4 : Shape := ⟨2, ![16384, 4]⟩
abbrev S16384x292 : Shape := ⟨2, ![16384, 292]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩

abbrev nBuf : Space → Nat
  | .hbm => 272
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S16384, .i32⟩
  | 5 => ⟨S16384, .i32⟩
  | 6 => ⟨S16384, .i32⟩
  | 7 => ⟨S16384, .i32⟩
  | 8 => ⟨S16384, .i32⟩
  | 9 => ⟨S16384, .f32⟩
  | 10 => ⟨S16384, .f32⟩
  | 11 => ⟨S16384, .f32⟩
  | 12 => ⟨S16384, .f32⟩
  | 13 => ⟨S100000x32, .f32⟩
  | 14 => ⟨S1000000x32, .f32⟩
  | 15 => ⟨S1000x32, .f32⟩
  | 16 => ⟨S1000000x32, .f32⟩
  | 17 => ⟨S292x512, .f32⟩
  | 18 => ⟨S512, .f32⟩
  | 19 => ⟨S512x256, .f32⟩
  | 20 => ⟨S256, .f32⟩
  | 21 => ⟨S256x128, .f32⟩
  | 22 => ⟨S128, .f32⟩
  | 23 => ⟨S128x1, .f32⟩
  | 24 => ⟨S1, .f32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S1, .i32⟩
  | 34 => ⟨S_, .i32⟩
  | 35 => ⟨S16384x1, .i32⟩
  | 36 => ⟨S16384x1, .i1⟩
  | 37 => ⟨S1x1, .i32⟩
  | 38 => ⟨S16384x1, .i32⟩
  | 39 => ⟨S16384x1, .i1⟩
  | 40 => ⟨S16384x1, .i1⟩
  | 41 => ⟨S_, .i1⟩
  | 42 => ⟨S16384, .i1⟩
  | 43 => ⟨S16384x32, .f32⟩
  | 44 => ⟨S16384x32, .i1⟩
  | 45 => ⟨S_, .f32⟩
  | 46 => ⟨S16384x32, .f32⟩
  | 47 => ⟨S16384x32, .f32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S1, .i32⟩
  | 57 => ⟨S_, .i32⟩
  | 58 => ⟨S16384x1, .i32⟩
  | 59 => ⟨S16384x1, .i1⟩
  | 60 => ⟨S1x1, .i32⟩
  | 61 => ⟨S16384x1, .i32⟩
  | 62 => ⟨S16384x1, .i1⟩
  | 63 => ⟨S16384x1, .i1⟩
  | 64 => ⟨S_, .i1⟩
  | 65 => ⟨S16384, .i1⟩
  | 66 => ⟨S16384x32, .f32⟩
  | 67 => ⟨S16384x32, .i1⟩
  | 68 => ⟨S_, .f32⟩
  | 69 => ⟨S16384x32, .f32⟩
  | 70 => ⟨S16384x32, .f32⟩
  | 71 => ⟨S_, .i32⟩
  | 72 => ⟨S16384, .i32⟩
  | 73 => ⟨S16384, .i1⟩
  | 74 => ⟨S_, .i32⟩
  | 75 => ⟨S16384, .i32⟩
  | 76 => ⟨S16384, .i32⟩
  | 77 => ⟨S16384, .i32⟩
  | 78 => ⟨S16384x1, .i32⟩
  | 79 => ⟨S1, .i32⟩
  | 80 => ⟨S_, .i32⟩
  | 81 => ⟨S16384x1, .i32⟩
  | 82 => ⟨S16384x1, .i1⟩
  | 83 => ⟨S1x1, .i32⟩
  | 84 => ⟨S16384x1, .i32⟩
  | 85 => ⟨S16384x1, .i1⟩
  | 86 => ⟨S16384x1, .i1⟩
  | 87 => ⟨S_, .i1⟩
  | 88 => ⟨S16384, .i1⟩
  | 89 => ⟨S16384x32, .f32⟩
  | 90 => ⟨S16384x32, .i1⟩
  | 91 => ⟨S_, .f32⟩
  | 92 => ⟨S16384x32, .f32⟩
  | 93 => ⟨S16384x32, .f32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S1, .i32⟩
  | 103 => ⟨S_, .i32⟩
  | 104 => ⟨S16384x1, .i32⟩
  | 105 => ⟨S16384x1, .i1⟩
  | 106 => ⟨S1x1, .i32⟩
  | 107 => ⟨S16384x1, .i32⟩
  | 108 => ⟨S16384x1, .i1⟩
  | 109 => ⟨S16384x1, .i1⟩
  | 110 => ⟨S_, .i1⟩
  | 111 => ⟨S16384, .i1⟩
  | 112 => ⟨S16384x32, .f32⟩
  | 113 => ⟨S16384x32, .i1⟩
  | 114 => ⟨S_, .f32⟩
  | 115 => ⟨S16384x32, .f32⟩
  | 116 => ⟨S16384x32, .f32⟩
  | 117 => ⟨S_, .i32⟩
  | 118 => ⟨S16384, .i32⟩
  | 119 => ⟨S16384, .i1⟩
  | 120 => ⟨S_, .i32⟩
  | 121 => ⟨S16384, .i32⟩
  | 122 => ⟨S16384, .i32⟩
  | 123 => ⟨S16384, .i32⟩
  | 124 => ⟨S16384x1, .i32⟩
  | 125 => ⟨S1, .i32⟩
  | 126 => ⟨S_, .i32⟩
  | 127 => ⟨S16384x1, .i32⟩
  | _ => ⟨S16384, .i32⟩

abbrev hbmTy0_1 (i : Nat) : BufTy := match i % 128 with
  | 0 => ⟨S16384x1, .i1⟩
  | 1 => ⟨S1x1, .i32⟩
  | 2 => ⟨S16384x1, .i32⟩
  | 3 => ⟨S16384x1, .i1⟩
  | 4 => ⟨S16384x1, .i1⟩
  | 5 => ⟨S_, .i1⟩
  | 6 => ⟨S16384, .i1⟩
  | 7 => ⟨S16384x32, .f32⟩
  | 8 => ⟨S16384x32, .i1⟩
  | 9 => ⟨S_, .f32⟩
  | 10 => ⟨S16384x32, .f32⟩
  | 11 => ⟨S16384x32, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S1, .i32⟩
  | 21 => ⟨S_, .i32⟩
  | 22 => ⟨S16384x1, .i32⟩
  | 23 => ⟨S16384x1, .i1⟩
  | 24 => ⟨S1x1, .i32⟩
  | 25 => ⟨S16384x1, .i32⟩
  | 26 => ⟨S16384x1, .i1⟩
  | 27 => ⟨S16384x1, .i1⟩
  | 28 => ⟨S_, .i1⟩
  | 29 => ⟨S16384, .i1⟩
  | 30 => ⟨S16384x32, .f32⟩
  | 31 => ⟨S16384x32, .i1⟩
  | 32 => ⟨S_, .f32⟩
  | 33 => ⟨S16384x32, .f32⟩
  | 34 => ⟨S16384x32, .f32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S1, .i32⟩
  | 44 => ⟨S_, .i32⟩
  | 45 => ⟨S16384x1, .i32⟩
  | 46 => ⟨S16384x1, .i1⟩
  | 47 => ⟨S1x1, .i32⟩
  | 48 => ⟨S16384x1, .i32⟩
  | 49 => ⟨S16384x1, .i1⟩
  | 50 => ⟨S16384x1, .i1⟩
  | 51 => ⟨S_, .i1⟩
  | 52 => ⟨S16384, .i1⟩
  | 53 => ⟨S16384x32, .f32⟩
  | 54 => ⟨S16384x32, .i1⟩
  | 55 => ⟨S_, .f32⟩
  | 56 => ⟨S16384x32, .f32⟩
  | 57 => ⟨S16384x32, .f32⟩
  | 58 => ⟨S_, .i32⟩
  | 59 => ⟨S16384, .i32⟩
  | 60 => ⟨S16384, .i1⟩
  | 61 => ⟨S_, .i32⟩
  | 62 => ⟨S16384, .i32⟩
  | 63 => ⟨S16384, .i32⟩
  | 64 => ⟨S16384, .i32⟩
  | 65 => ⟨S16384x1, .i32⟩
  | 66 => ⟨S1, .i32⟩
  | 67 => ⟨S_, .i32⟩
  | 68 => ⟨S16384x1, .i32⟩
  | 69 => ⟨S16384x1, .i1⟩
  | 70 => ⟨S1x1, .i32⟩
  | 71 => ⟨S16384x1, .i32⟩
  | 72 => ⟨S16384x1, .i1⟩
  | 73 => ⟨S16384x1, .i1⟩
  | 74 => ⟨S_, .i1⟩
  | 75 => ⟨S16384, .i1⟩
  | 76 => ⟨S16384x32, .f32⟩
  | 77 => ⟨S16384x32, .i1⟩
  | 78 => ⟨S_, .f32⟩
  | 79 => ⟨S16384x32, .f32⟩
  | 80 => ⟨S16384x32, .f32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x32, .f32⟩
  | 100 => ⟨S16384x32, .i1⟩
  | 101 => ⟨S_, .f32⟩
  | 102 => ⟨S16384x32, .f32⟩
  | 103 => ⟨S16384x32, .f32⟩
  | 104 => ⟨S16384x1, .f32⟩
  | 105 => ⟨S16384x1, .f32⟩
  | 106 => ⟨S16384x1, .f32⟩
  | 107 => ⟨S16384x1, .f32⟩
  | 108 => ⟨S16384x4, .f32⟩
  | 109 => ⟨S16384x292, .f32⟩
  | 110 => ⟨S16384x512, .f32⟩
  | 111 => ⟨S1x512, .f32⟩
  | 112 => ⟨S16384x512, .f32⟩
  | 113 => ⟨S16384x512, .f32⟩
  | 114 => ⟨S_, .f32⟩
  | 115 => ⟨S16384x512, .f32⟩
  | 116 => ⟨S16384x512, .f32⟩
  | 117 => ⟨S16384x256, .f32⟩
  | 118 => ⟨S1x256, .f32⟩
  | 119 => ⟨S16384x256, .f32⟩
  | 120 => ⟨S16384x256, .f32⟩
  | 121 => ⟨S_, .f32⟩
  | 122 => ⟨S16384x256, .f32⟩
  | 123 => ⟨S16384x256, .f32⟩
  | 124 => ⟨S16384x128, .f32⟩
  | 125 => ⟨S1x128, .f32⟩
  | 126 => ⟨S16384x128, .f32⟩
  | 127 => ⟨S16384x128, .f32⟩
  | _ => ⟨S16384, .i32⟩

abbrev hbmTy0_2 (i : Nat) : BufTy := match i % 128 with
  | 0 => ⟨S_, .f32⟩
  | 1 => ⟨S16384x128, .f32⟩
  | 2 => ⟨S16384x128, .f32⟩
  | 3 => ⟨S16384x1, .f32⟩
  | 4 => ⟨S1x1, .f32⟩
  | 5 => ⟨S16384x1, .f32⟩
  | 6 => ⟨S16384x1, .f32⟩
  | 7 => ⟨S16384x1, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384x1, .f32⟩
  | 14 => ⟨S16384x1, .f32⟩
  | 15 => ⟨S16384, .f32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v0 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v1 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v2 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v3 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v4 : Ref sig .tc := ⟨.hbm, 139, rfl⟩
abbrev main_call5_c : Ref sig .tc := ⟨.hbm, 140, rfl⟩
abbrev main_call5_v0 : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_v5 : Ref sig .tc := ⟨.hbm, 147, rfl⟩
abbrev main_call5_c_1 : Ref sig .tc := ⟨.hbm, 148, rfl⟩
abbrev main_call5_c_2 : Ref sig .tc := ⟨.hbm, 149, rfl⟩
abbrev main_call5_v6 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_call5_v11 : Ref sig .tc := ⟨.hbm, 155, rfl⟩
abbrev main_call5_c_3 : Ref sig .tc := ⟨.hbm, 156, rfl⟩
abbrev main_call5_v12 : Ref sig .tc := ⟨.hbm, 157, rfl⟩
abbrev main_call5_v13 : Ref sig .tc := ⟨.hbm, 158, rfl⟩
abbrev main_call5_v14 : Ref sig .tc := ⟨.hbm, 159, rfl⟩
abbrev main_call5_cst : Ref sig .tc := ⟨.hbm, 160, rfl⟩
abbrev main_call5_v15 : Ref sig .tc := ⟨.hbm, 161, rfl⟩
abbrev main_v5 : Ref sig .tc := ⟨.hbm, 162, rfl⟩
abbrev main_call6_c : Ref sig .tc := ⟨.hbm, 163, rfl⟩
abbrev main_call6_v0 : Ref sig .tc := ⟨.hbm, 164, rfl⟩
abbrev main_call6_v1 : Ref sig .tc := ⟨.hbm, 165, rfl⟩
abbrev main_call6_c_0 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_call6_v5 : Ref sig .tc := ⟨.hbm, 170, rfl⟩
abbrev main_call6_c_1 : Ref sig .tc := ⟨.hbm, 171, rfl⟩
abbrev main_call6_c_2 : Ref sig .tc := ⟨.hbm, 172, rfl⟩
abbrev main_call6_v6 : Ref sig .tc := ⟨.hbm, 173, rfl⟩
abbrev main_call6_v7 : Ref sig .tc := ⟨.hbm, 174, rfl⟩
abbrev main_call6_v8 : Ref sig .tc := ⟨.hbm, 175, rfl⟩
abbrev main_call6_v9 : Ref sig .tc := ⟨.hbm, 176, rfl⟩
abbrev main_call6_v10 : Ref sig .tc := ⟨.hbm, 177, rfl⟩
abbrev main_call6_v11 : Ref sig .tc := ⟨.hbm, 178, rfl⟩
abbrev main_call6_c_3 : Ref sig .tc := ⟨.hbm, 179, rfl⟩
abbrev main_call6_v12 : Ref sig .tc := ⟨.hbm, 180, rfl⟩
abbrev main_call6_v13 : Ref sig .tc := ⟨.hbm, 181, rfl⟩
abbrev main_call6_v14 : Ref sig .tc := ⟨.hbm, 182, rfl⟩
abbrev main_call6_cst : Ref sig .tc := ⟨.hbm, 183, rfl⟩
abbrev main_call6_v15 : Ref sig .tc := ⟨.hbm, 184, rfl⟩
abbrev main_v6 : Ref sig .tc := ⟨.hbm, 185, rfl⟩
abbrev main_call7_c : Ref sig .tc := ⟨.hbm, 186, rfl⟩
abbrev main_call7_v0 : Ref sig .tc := ⟨.hbm, 187, rfl⟩
abbrev main_call7_v1 : Ref sig .tc := ⟨.hbm, 188, rfl⟩
abbrev main_call7_c_0 : Ref sig .tc := ⟨.hbm, 189, rfl⟩
abbrev main_call7_v2 : Ref sig .tc := ⟨.hbm, 190, rfl⟩
abbrev main_call7_v3 : Ref sig .tc := ⟨.hbm, 191, rfl⟩
abbrev main_call7_v4 : Ref sig .tc := ⟨.hbm, 192, rfl⟩
abbrev main_call7_v5 : Ref sig .tc := ⟨.hbm, 193, rfl⟩
abbrev main_call7_c_1 : Ref sig .tc := ⟨.hbm, 194, rfl⟩
abbrev main_call7_c_2 : Ref sig .tc := ⟨.hbm, 195, rfl⟩
abbrev main_call7_v6 : Ref sig .tc := ⟨.hbm, 196, rfl⟩
abbrev main_call7_v7 : Ref sig .tc := ⟨.hbm, 197, rfl⟩
abbrev main_call7_v8 : Ref sig .tc := ⟨.hbm, 198, rfl⟩
abbrev main_call7_v9 : Ref sig .tc := ⟨.hbm, 199, rfl⟩
abbrev main_call7_v10 : Ref sig .tc := ⟨.hbm, 200, rfl⟩
abbrev main_call7_v11 : Ref sig .tc := ⟨.hbm, 201, rfl⟩
abbrev main_call7_c_3 : Ref sig .tc := ⟨.hbm, 202, rfl⟩
abbrev main_call7_v12 : Ref sig .tc := ⟨.hbm, 203, rfl⟩
abbrev main_call7_v13 : Ref sig .tc := ⟨.hbm, 204, rfl⟩
abbrev main_call7_v14 : Ref sig .tc := ⟨.hbm, 205, rfl⟩
abbrev main_call7_cst : Ref sig .tc := ⟨.hbm, 206, rfl⟩
abbrev main_call7_v15 : Ref sig .tc := ⟨.hbm, 207, rfl⟩
abbrev main_v7 : Ref sig .tc := ⟨.hbm, 208, rfl⟩
abbrev main_call8_c : Ref sig .tc := ⟨.hbm, 209, rfl⟩
abbrev main_call8_v0 : Ref sig .tc := ⟨.hbm, 210, rfl⟩
abbrev main_call8_v1 : Ref sig .tc := ⟨.hbm, 211, rfl⟩
abbrev main_call8_c_0 : Ref sig .tc := ⟨.hbm, 212, rfl⟩
abbrev main_call8_v2 : Ref sig .tc := ⟨.hbm, 213, rfl⟩
abbrev main_call8_v3 : Ref sig .tc := ⟨.hbm, 214, rfl⟩
abbrev main_call8_v4 : Ref sig .tc := ⟨.hbm, 215, rfl⟩
abbrev main_call8_v5 : Ref sig .tc := ⟨.hbm, 216, rfl⟩
abbrev main_call8_c_1 : Ref sig .tc := ⟨.hbm, 217, rfl⟩
abbrev main_call8_c_2 : Ref sig .tc := ⟨.hbm, 218, rfl⟩
abbrev main_call8_v6 : Ref sig .tc := ⟨.hbm, 219, rfl⟩
abbrev main_call8_v7 : Ref sig .tc := ⟨.hbm, 220, rfl⟩
abbrev main_call8_v8 : Ref sig .tc := ⟨.hbm, 221, rfl⟩
abbrev main_call8_v9 : Ref sig .tc := ⟨.hbm, 222, rfl⟩
abbrev main_call8_v10 : Ref sig .tc := ⟨.hbm, 223, rfl⟩
abbrev main_call8_v11 : Ref sig .tc := ⟨.hbm, 224, rfl⟩
abbrev main_call8_c_3 : Ref sig .tc := ⟨.hbm, 225, rfl⟩
abbrev main_call8_v12 : Ref sig .tc := ⟨.hbm, 226, rfl⟩
abbrev main_call8_v13 : Ref sig .tc := ⟨.hbm, 227, rfl⟩
abbrev main_call8_v14 : Ref sig .tc := ⟨.hbm, 228, rfl⟩
abbrev main_call8_cst : Ref sig .tc := ⟨.hbm, 229, rfl⟩
abbrev main_call8_v15 : Ref sig .tc := ⟨.hbm, 230, rfl⟩
abbrev main_v8 : Ref sig .tc := ⟨.hbm, 231, rfl⟩
abbrev main_v9 : Ref sig .tc := ⟨.hbm, 232, rfl⟩
abbrev main_v10 : Ref sig .tc := ⟨.hbm, 233, rfl⟩
abbrev main_v11 : Ref sig .tc := ⟨.hbm, 234, rfl⟩
abbrev main_v12 : Ref sig .tc := ⟨.hbm, 235, rfl⟩
abbrev main_v13 : Ref sig .tc := ⟨.hbm, 236, rfl⟩
abbrev main_v14 : Ref sig .tc := ⟨.hbm, 237, rfl⟩
abbrev main_v15 : Ref sig .tc := ⟨.hbm, 238, rfl⟩
abbrev main_v16 : Ref sig .tc := ⟨.hbm, 239, rfl⟩
abbrev main_v17 : Ref sig .tc := ⟨.hbm, 240, rfl⟩
abbrev main_v18 : Ref sig .tc := ⟨.hbm, 241, rfl⟩
abbrev main_call9_cst : Ref sig .tc := ⟨.hbm, 242, rfl⟩
abbrev main_call9_v0 : Ref sig .tc := ⟨.hbm, 243, rfl⟩
abbrev main_v19 : Ref sig .tc := ⟨.hbm, 244, rfl⟩
abbrev main_v20 : Ref sig .tc := ⟨.hbm, 245, rfl⟩
abbrev main_v21 : Ref sig .tc := ⟨.hbm, 246, rfl⟩
abbrev main_v22 : Ref sig .tc := ⟨.hbm, 247, rfl⟩
abbrev main_v23 : Ref sig .tc := ⟨.hbm, 248, rfl⟩
abbrev main_call10_cst : Ref sig .tc := ⟨.hbm, 249, rfl⟩
abbrev main_call10_v0 : Ref sig .tc := ⟨.hbm, 250, rfl⟩
abbrev main_v24 : Ref sig .tc := ⟨.hbm, 251, rfl⟩
abbrev main_v25 : Ref sig .tc := ⟨.hbm, 252, rfl⟩
abbrev main_v26 : Ref sig .tc := ⟨.hbm, 253, rfl⟩
abbrev main_v27 : Ref sig .tc := ⟨.hbm, 254, rfl⟩
abbrev main_v28 : Ref sig .tc := ⟨.hbm, 255, rfl⟩
abbrev main_call11_cst : Ref sig .tc := ⟨.hbm, 256, rfl⟩
abbrev main_call11_v0 : Ref sig .tc := ⟨.hbm, 257, rfl⟩
abbrev main_v29 : Ref sig .tc := ⟨.hbm, 258, rfl⟩
abbrev main_v30 : Ref sig .tc := ⟨.hbm, 259, rfl⟩
abbrev main_v31 : Ref sig .tc := ⟨.hbm, 260, rfl⟩
abbrev main_v32 : Ref sig .tc := ⟨.hbm, 261, rfl⟩
abbrev main_v33 : Ref sig .tc := ⟨.hbm, 262, rfl⟩
abbrev main_v34 : Ref sig .tc := ⟨.hbm, 263, rfl⟩
abbrev main_v35 : Ref sig .tc := ⟨.hbm, 264, rfl⟩
abbrev main_cst : Ref sig .tc := ⟨.hbm, 265, rfl⟩
abbrev main_v36 : Ref sig .tc := ⟨.hbm, 266, rfl⟩
abbrev main_v37 : Ref sig .tc := ⟨.hbm, 267, rfl⟩
abbrev main_cst_0 : Ref sig .tc := ⟨.hbm, 268, rfl⟩
abbrev main_v38 : Ref sig .tc := ⟨.hbm, 269, rfl⟩
abbrev main_v39 : Ref sig .tc := ⟨.hbm, 270, rfl⟩
abbrev main_v40 : Ref sig .tc := ⟨.hbm, 271, rfl⟩

abbrev nD : Nat := 1
abbrev τ : Topo := Topo.v7x

variable {F : FTy → Type} [FloatOps F]
-- ==== Proof.Slot.lean ====
/- The gather body of one tile, folded: every one of the nine slots is ONE program, `slotP`, at its own table, its own
   row of the index array, its own plane of the result and its own two semaphores. A slot is a loop over four chunks of
   128 rows, a chunk a loop over eight batches of 16 rows, a batch (`batchP`) sixteen launches, sixteen waits and
   sixteen selections. The printed body is this program, and the proofs of the other modules speak of it alone. -/
module

public import proofs.«01_k».proof.Proof.Gen.KernelIdeal

@[expose] public section

noncomputable section

namespace Cert.Proof.Gather

open Idealize.ShloMosaic Idealize.SL.Sem
open Cert.KernelIdeal Cert.KernelIdeal.Gen

variable {F : FTy → Type} [FloatOps F]

/-- The shape of a table laid out in groups of eight rows of 32 lanes. -/
abbrev Tab (n : ℕ) : Shape := ⟨3, ![n, 8, 32]⟩

/-- Programs of the tile at coordinates `i`. -/
abbrev TP (F : FTy → Type) (i : grid0.Coords) : Type → Type _ :=
  Prog (TpuEff nD τ sig (Elt F) Λ₀ (.scVector ((i 0).castLE hcore0) ((i 1).castLE hsub0)))

theorem slices_lane (r : Fin 16) : S16.Slices ![r.val] S1 := by revert r; decide
theorem inb_row (r : Fin 16) : ∀ a, (![r.val, 0, 0] : Fin 3 → Nat) a + S1x8x32.size a ≤ S16x8x32.size a := by revert r; decide

/-- Lane `r` of a vector of 16 words. -/
def lane (v : IVec S16 32) (r : Fin 16) : BitVec 32 :=
  extractAt ![0] (extractStridedSlice S1 ![r.val] v (slices_lane r)) inpos_S1_p0

/-- Where group `w` of a table starts. -/
def gOff (w : BitVec 32) : Fin 3 → Nat := ![w.toNat, 0, 0]
/-- Group `w` lies inside a table of `n` groups. -/
def gChk (n : ℕ) (w : BitVec 32) : Prop := (∀ a, (gOff w) a + S1x8x32.size a ≤ (Tab n).size a)
instance gChk.dec (n : ℕ) : ∀ w : BitVec 32, Decidable (gChk n w) := fun w => decidable_of_iff' _ (Iff.of_eq (gChk.eq_1 n w))

/-- Where the half row at lane `c` of row `w` of the fetched group `r` starts. -/
def sOff (r : Fin 16) (w : BitVec 32) (c : ℕ) : Fin 3 → Nat := ![r.val, (Scalar.indexCast w).toNat, c]
/-- Both halves of row `w` of the fetched group `r` lie inside the group buffer. -/
def sChk (r : Fin 16) (w : BitVec 32) : Prop :=
  (∀ a, (sOff r w 0) a + S1x1x16.size a ≤ S16x8x32.size a) ∧
  (∀ a, (sOff r w 16) a + S1x1x16.size a ≤ S16x8x32.size a)
instance sChk.dec (r : Fin 16) : ∀ w : BitVec 32, Decidable (sChk r w) := fun w => decidable_of_iff' _ (Iff.of_eq (sChk.eq_1 r w))

/-- Where the half row at lane `c` of row `16 t + r` of the chunk buffer starts. -/
def rOff (t : Fin k0_t2_loop.trips) (r : Fin 16) (c : ℕ) : Fin 2 → Nat :=
  ![(Scalar.indexCast (Scalar.addi (Scalar.muli (Scf.iv 0#32 1#32 t) 16#32) (BitVec.ofNat 32 r.val)) : Index).toNat, c]

theorem rOff_row (t : Fin k0_t2_loop.trips) (r : Fin 16) :
    (Scalar.indexCast (Scalar.addi (Scalar.muli (Scf.iv 0#32 1#32 t) 16#32) (BitVec.ofNat 32 r.val)) : Index).toNat = 16 * t.val + r.val := by
  revert t r; decide

theorem rOff_inb (t : Fin k0_t2_loop.trips) (r : Fin 16) (c : ℕ) (hc : c + 16 ≤ 32) :
    ∀ a, (rOff t r c) a + S1x16.size a ≤ S128x32.size a := by
  have ht : t.val < 8 := lt_of_lt_of_eq t.isLt (by decide)
  intro a
  match a with
  | 0 => show (Scalar.indexCast _ : Index).toNat + 1 ≤ 128; rw [rOff_row]; omega
  | 1 => show c + 16 ≤ 32; exact hc

section
variable (i : grid0.Coords) {n : ℕ} (tab : Memref sig .scVector .hbm (Tab n) .f32)
  (hz : ∀ a, (![0, 0, 0] : Fin 3 → Nat) a + S1x8x32.size a ≤ (Tab n).size a)
  (idx : Memref sig .scVector .hbm S288x4x128 .i32) (out : Memref sig .scVector .hbm S9x16384x32 .f32)
  (grp : Memref sig .scVector .vmem S16x8x32 .f32) (sel : Memref sig .scVector .vmem S128x32 .f32) (hsel : sel.IsWhole)
  (ids : Memref sig .scVector .vmem S4x128 .i32) (hids : ids.IsWhole)
  (sG sI sO : DmaSem sig)

/-- The launch of row `r` of a batch: the group of the table the row's index names, into row `r` of the group buffer. -/
def launchP (v39 : IVec S16 32) (r : Fin 16) : TP F i PUnit := do
  have h : gChk n (lane v39 r) := (← Prog.lift (TpuEff.assume (gChk n (lane v39 r)) (gChk.dec n (lane v39 r)))).down
  Prog.lift (.enqueueDma ((tab.slice (Rect.unit (s := Tab n) (gOff (lane v39 r)) S1x8x32.size h) (fun _ => rfl)).squeeze S8x32 squeezes_S1x8x32_S8x32)
    (.here ((grp.slice (Rect.unit (s := S16x8x32) ![r.val, 0, 0] S1x8x32.size (inb_row r)) (fun _ => rfl)).squeeze S8x32 squeezes_S1x8x32_S8x32))
    (.dma sG) ((View.wordExact_bits rfl).reshape _ _) ((View.wordExact_bits rfl).reshape _ _) ⟨Or.inl rfl, trivial⟩)

/-- One of a batch's sixteen waits. -/
def waitP : TP F i PUnit :=
  Prog.lift (.waitDma2 sG ((tab.slice (Rect.unit (s := Tab n) ![0, 0, 0] S1x8x32.size hz) (fun _ => rfl)).squeeze S8x32 squeezes_S1x8x32_S8x32)
    ((grp.slice (Rect.unit (s := S16x8x32) ![0, 0, 0] S1x8x32.size inb_S16x8x32_S1x8x32_0_0_0) (fun _ => rfl)).squeeze S8x32 squeezes_S1x8x32_S8x32)
    ((View.wordExact_bits rfl).reshape _ _) ((View.wordExact_bits rfl).reshape _ _))

/-- The selection of row `r` of a batch: row `idx mod 8` of the fetched group, half by half, into the chunk buffer. -/
def selectP (v41 : IVec S16 32) (t : Fin k0_t2_loop.trips) (r : Fin 16) : TP F i PUnit := do
  have h : sChk r (lane v41 r) := (← Prog.lift (TpuEff.assume (sChk r (lane v41 r)) (sChk.dec r (lane v41 r)))).down
  let x : Vec F S1x1x16 .f32 ← Prog.lift (.load grp (Rect.unit (s := S16x8x32) (sOff r (lane v41 r) 0) S1x1x16.size h.1).toLoadRect (View.loadsAt_vmem h_S1x1x16))
  let _ : Vec F S1x16 .f32 ← Prog.lift (.load sel (Rect.unit (s := S128x32) (rOff t r 0) S1x16.size (rOff_inb t r 0 (by decide))).toLoadRect (View.loadsAt_vmem h_S1x16))
  Prog.lift (.store sel (Rect.unit (s := S128x32) (rOff t r 0) S1x16.size (rOff_inb t r 0 (by decide)))
    (shapeCast S1x16 (shapeCast S16 x shapeCasts_S1x1x16_S16) shapeCasts_S16_S1x16) Finset.univ (View.stores_vmem_bits_univ h_S1x16 rfl) (.inl rfl))
  let y : Vec F S1x1x16 .f32 ← Prog.lift (.load grp (Rect.unit (s := S16x8x32) (sOff r (lane v41 r) 16) S1x1x16.size h.2).toLoadRect (View.loadsAt_vmem h_S1x1x16))
  let _ : Vec F S1x16 .f32 ← Prog.lift (.load sel (Rect.unit (s := S128x32) (rOff t r 16) S1x16.size (rOff_inb t r 16 (by decide))).toLoadRect (View.loadsAt_vmem h_S1x16))
  Prog.lift (.store sel (Rect.unit (s := S128x32) (rOff t r 16) S1x16.size (rOff_inb t r 16 (by decide)))
    (shapeCast S1x16 (shapeCast S16 y shapeCasts_S1x1x16_S16) shapeCasts_S16_S1x16) Finset.univ (View.stores_vmem_bits_univ h_S1x16 rfl) (.inl rfl))

/-- A step for each of the sixteen rows, in order. -/
def rowsP (f : Fin 16 → TP F i PUnit) : TP F i PUnit := do
  f 0; f 1; f 2; f 3; f 4; f 5; f 6; f 7; f 8; f 9; f 10; f 11; f 12; f 13; f 14; f 15

/-- A batch of sixteen rows. -/
def batchP (t₁ : Fin k0_t1_loop.trips) (t₂ : Fin k0_t2_loop.trips) : TP F i PUnit := do
  let v : Vec F S1x16 .i32 ← Prog.lift (.load ids (Rect.unit (s := S4x128) (k0_off2 t₁ t₂) S1x16.size (k0_off2_inb t₁ t₂)).toLoadRect (View.loadsAt_vmem h_S1x16))
  rowsP i (launchP i tab grp sG (shrsi (shapeCast S16 v shapeCasts_S1x16_S16) (broadcast S16 3#32)))
  rowsP i (fun _ => waitP i tab hz grp sG)
  rowsP i (selectP i grp sel (andi (shapeCast S16 v shapeCasts_S1x16_S16) (broadcast S16 7#32)) t₂)

/-- Where the index row of slot `k` starts, and that it lies inside the index array. -/
theorem iOff_inb (k : Fin 9) : ∀ a, (k0_off1 i (BitVec.ofNat 32 (32 * k.val))) a + S1x4x128.size a ≤ S288x4x128.size a :=
  k0_off1_inb i k

/-- Where chunk `t` of slot `k`'s plane of the result starts. -/
def oOff (k : Fin 9) (t : Fin k0_t1_loop.trips) : Fin 3 → Nat :=
  ![k.val, (Scalar.addi (Scalar.muli (Scalar.addi (Scalar.muli (BitVec.ofNat 32 (i 1).val) 2#32) (BitVec.ofNat 32 (i 0).val)) 512#32)
    (Scalar.muli (Scf.iv 0#32 1#32 t) 128#32)).toNat, 0]
theorem oOff_inb : ∀ (i : grid0.Coords) (k : Fin 9) (t : Fin k0_t1_loop.trips), ∀ a, (oOff i k t) a + S1x128x32.size a ≤ S9x16384x32.size a := by decide +kernel

/-- The index row of slot `k`. -/
def idxRow (k : Fin 9) : Memref sig .scVector .hbm S4x128 .i32 :=
  (idx.slice (Rect.unit (s := S288x4x128) (k0_off1 i (BitVec.ofNat 32 (32 * k.val))) S1x4x128.size (iOff_inb i k)) (fun _ => rfl)).squeeze S4x128 squeezes_S1x4x128_S4x128
/-- Chunk `t` of slot `k`'s plane of the result. -/
def outChunk (k : Fin 9) (t : Fin k0_t1_loop.trips) : Memref sig .scVector .hbm S128x32 .f32 :=
  (out.slice (Rect.unit (s := S9x16384x32) (oOff i k t) S1x128x32.size (oOff_inb i k t)) (fun _ => rfl)).squeeze S128x32 squeezes_S1x128x32_S128x32

/-- A chunk of 128 rows: eight batches, then the chunk buffer out to the result. -/
def chunkP (k : Fin 9) (t₁ : Fin k0_t1_loop.trips) : TP F i PUnit := do
  let _ ← Scf.Loop.for k0_t2_loop k0_t2_ok (0#32 : BitVec 32) fun t₂ _ => do
    batchP i tab hz grp sel ids sG t₁ t₂
    pure (0#32 : BitVec 32)
  Prog.lift (.enqueueDma sel (.here (outChunk i out k t₁)) (.dma sO) hsel.wordExact ((View.wordExact_bits rfl).reshape _ _) ⟨Or.inl rfl, trivial⟩)
  Prog.lift (.waitDma2 sO sel (outChunk i out k t₁) hsel.wordExact ((View.wordExact_bits rfl).reshape _ _))

/-- Slot `k`: its index row fetched, then four chunks. -/
def slotP (k : Fin 9) : TP F i PUnit := do
  Prog.lift (.enqueueDma (idxRow i idx k) (.here ids) (.dma sI) ((View.wordExact_bits rfl).reshape _ _) hids.wordExact ⟨Or.inl rfl, trivial⟩)
  Prog.lift (.waitDma2 sI (idxRow i idx k) ids ((View.wordExact_bits rfl).reshape _ _) hids.wordExact)
  let _ ← Scf.Loop.for k0_t1_loop k0_t1_ok (0#32 : BitVec 32) fun t₁ _ => do
    chunkP i tab hz out grp sel hsel ids sG sO k t₁
    pure (0#32 : BitVec 32)
  pure PUnit.unit

end

set_option maxHeartbeats 4000000 in
/-- The printed body is its nine slots. -/
theorem body_eq (i : grid0.Coords) (arg2 : Memref sig .scVector .hbm S12500x8x32 .f32) (harg2 : arg2.IsWhole) (arg3 : Memref sig .scVector .hbm S125000x8x32 .f32) (harg3 : arg3.IsWhole) (arg4 : Memref sig .scVector .hbm S125x8x32 .f32) (harg4 : arg4.IsWhole) (arg5 : Memref sig .scVector .hbm S125000x8x32 .f32) (harg5 : arg5.IsWhole) (arg6 : Memref sig .scVector .hbm S288x4x128 .i32) (harg6 : arg6.IsWhole) (arg7 : Memref sig .scVector .hbm S9x16384x32 .f32) (harg7 : arg7.IsWhole) (arg8 : Memref sig .scVector .vmem S4x128 .i32) (harg8 : arg8.IsWhole) (arg9 : Memref sig .scVector .vmem S16x8x32 .f32) (harg9 : arg9.IsWhole) (arg10 : Memref sig .scVector .vmem S128x32 .f32) (harg10 : arg10.IsWhole) (arg11 : Memref sig .scVector .vmem S4x128 .i32) (harg11 : arg11.IsWhole) (arg12 : DmaSems sig S_) (v30_r0 : DmaSems sig S_) (v34_r1 : DmaSems sig S_) (v30_r2 : DmaSems sig S_) (v34_r3 : DmaSems sig S_) (v30_r4 : DmaSems sig S_) (v34_r5 : DmaSems sig S_) (v30_r6 : DmaSems sig S_) (v34_r7 : DmaSems sig S_) (v30_r8 : DmaSems sig S_) (v34_r9 : DmaSems sig S_) (v30_r10 : DmaSems sig S_) (v34_r11 : DmaSems sig S_) (v30_r12 : DmaSems sig S_) (v34_r13 : DmaSems sig S_) (v30_r14 : DmaSems sig S_) (v34_r15 : DmaSems sig S_) (v30_r16 : DmaSems sig S_) (v34_r17 : DmaSems sig S_) :
    (cc0__sc_gather_body i arg2 harg2 arg3 harg3 arg4 harg4 arg5 harg5 arg6 harg6 arg7 harg7 arg8 harg8 arg9 harg9 arg10 harg10 arg11 harg11 arg12 v30_r0 v34_r1 v30_r2 v34_r3 v30_r4 v34_r5 v30_r6 v34_r7 v30_r8 v34_r9 v30_r10 v34_r11 v30_r12 v34_r13 v30_r14 v34_r15 v30_r16 v34_r17 : TP F i PUnit)
      = (do
        slotP i arg2 inb_S12500x8x32_S1x8x32_0_0_0 arg6 arg7 arg9 arg10 harg10 arg11 harg11 arg12.sem v30_r0.sem v34_r1.sem 0
        slotP i arg3 inb_S125000x8x32_S1x8x32_0_0_0 arg6 arg7 arg9 arg10 harg10 arg11 harg11 arg12.sem v30_r2.sem v34_r3.sem 1
        slotP i arg4 inb_S125x8x32_S1x8x32_0_0_0 arg6 arg7 arg9 arg10 harg10 arg11 harg11 arg12.sem v30_r4.sem v34_r5.sem 2
        slotP i arg4 inb_S125x8x32_S1x8x32_0_0_0 arg6 arg7 arg9 arg10 harg10 arg11 harg11 arg12.sem v30_r6.sem v34_r7.sem 3
        slotP i arg4 inb_S125x8x32_S1x8x32_0_0_0 arg6 arg7 arg9 arg10 harg10 arg11 harg11 arg12.sem v30_r8.sem v34_r9.sem 4
        slotP i arg4 inb_S125x8x32_S1x8x32_0_0_0 arg6 arg7 arg9 arg10 harg10 arg11 harg11 arg12.sem v30_r10.sem v34_r11.sem 5
        slotP i arg5 inb_S125000x8x32_S1x8x32_0_0_0 arg6 arg7 arg9 arg10 harg10 arg11 harg11 arg12.sem v30_r12.sem v34_r13.sem 6
        slotP i arg5 inb_S125000x8x32_S1x8x32_0_0_0 arg6 arg7 arg9 arg10 harg10 arg11 harg11 arg12.sem v30_r14.sem v34_r15.sem 7
        slotP i arg5 inb_S125000x8x32_S1x8x32_0_0_0 arg6 arg7 arg9 arg10 harg10 arg11 harg11 arg12.sem v30_r16.sem v34_r17.sem 8) := by
  unfold cc0__sc_gather_body k0_part163 k0_part164 k0_part165 k0_part166
  simp only [bind_assoc, pure_bind, slotP, chunkP]
  rfl

end Cert.Proof.Gather

end
-- ==== Proof.Base.lean ====
/- What the proofs of one tile share: the resource algebra, the tile's thread, the specification of a run of a tile's
   program, and the rule for sixteen steps in order. -/
module

public import proofs.«01_k».proof.Proof.Slot
public import Idealize.ShloMosaic.Lib.SparseCore.Quiescent
public import Idealize.ShloMosaic.Lib.SparseCore.Ops
public import Idealize.ShloMosaic.Lib.Batch
public import Idealize.ShloMosaic.Lib.StableHlo.Run
public import Idealize.ShloMosaic.Lib.Pipeline.Kit
public import Idealize.ShloMosaic.Lib.Tactic
public import Idealize.ShloMosaic.Lib.Pointwise

@[expose] public section

noncomputable section

namespace Cert.Proof.Gather

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

/-- Rounds of the handshakes, of the grid's windows, and the counters of the transfers. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The windows' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_lands : (EP : Emb UP 𝕄).LandsIn (upEmb : UEmb _ 𝕄) := by unfold EP; infer_instance
abbrev EC : UEmb Counters (MT nD τ sig (HIx 1) (Elt F) ℕ UU ℕ) := countersEmb (U := UU)

/-- The thread of the tile at coordinates `i` on device `d`. -/
abbrev thr (d : Dev nD) (i : grid0.Coords) : Thread nD τ := V d ((i 0).castLE hcore0) ((i 1).castLE hsub0)

/-- The tile at `i` runs `p` safely and ends with `Q`. -/
abbrev Runs (d : Dev nD) (i : grid0.Coords) {α : Type} (p : TP F i α) (Q : α → sProp 𝕄) : sProp 𝕄 :=
  wp frame (wpE (defs₀ (F := F)) Variants.none (thr d i) none) Set.univ p Q

theorem ret_bind {E : Type → Type} {α β : Type} (a : α) (k : α → Prog E β) : (Prog.ret a).bind k = k a := rfl

/-- Sixteen steps in order keep an invariant that each step carries from its number to the next. -/
theorem runs_rows (d : Dev nD) (i : grid0.Coords) (I : ℕ → sProp 𝕄) (f : Fin 16 → TP F i PUnit)
    (h : ∀ r : Fin 16, I r.val ⊢ Runs d i (f r) fun _ => I (r.val + 1)) : I 0 ⊢ Runs d i (rowsP i f) fun _ => I 16 := by
  have step (r : Fin 16) (R : PUnit → sProp 𝕄) (hR : ∀ x, I (r.val + 1) ⊢ R x) : I r.val ⊢ Runs d i (f r) R :=
    (h r).trans (wp_mono frame _ _ hR)
  unfold rowsP
  simp only [Runs, wp_bind]
  exact step 0 _ fun _ => step 1 _ fun _ => step 2 _ fun _ => step 3 _ fun _ => step 4 _ fun _ => step 5 _ fun _ => step 6 _ fun _ =>
    step 7 _ fun _ => step 8 _ fun _ => step 9 _ fun _ => step 10 _ fun _ => step 11 _ fun _ => step 12 _ fun _ => step 13 _ fun _ =>
    step 14 _ fun _ => h 15

/-- A tile waiting at the index transfers use: what it has waited for grows by waits at that index alone. -/
abbrev Owes (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W')

end Cert.Proof.Gather

end
-- ==== Proof.Batch.lean ====
/- The sixteen launches and the sixteen waits of a batch: a batch of transfers on one counter, each bringing one group of
   the table, the last wait returning every landed group and every share of the table. -/
module

public import proofs.«01_k».proof.Proof.Base

@[expose] public section

noncomputable section

namespace Cert.Proof.Gather

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

local notation "𝕄" => MT nD τ sig (HIx 1) (Elt F) ℕ UU ℕ

section
variable (d : Dev nD) (i : grid0.Coords) {n : ℕ} [NeZero n] (tab : Memref sig .scVector .hbm (Tab n) .f32)
  (hz : ∀ a, (![0, 0, 0] : Fin 3 → Nat) a + S1x8x32.size a ≤ (Tab n).size a)
  (grp : Memref sig .scVector .vmem S16x8x32 .f32) (sG : DmaSem sig)

/-- Group `w` of the table as a launch addresses it. -/
abbrev srcM (w : BitVec 32) (h : gChk n w) : Memref sig .scVector .hbm S8x32 .f32 :=
  (tab.slice (Rect.unit (s := Tab n) (gOff w) S1x8x32.size h) (fun _ => rfl)).squeeze S8x32 squeezes_S1x8x32_S8x32
/-- Row `r` of the group buffer as a launch addresses it. -/
abbrev dstM (r : Fin 16) : Memref sig .scVector .vmem S8x32 .f32 :=
  (grp.slice (Rect.unit (s := S16x8x32) ![r.val, 0, 0] S1x8x32.size (inb_row r)) (fun _ => rfl)).squeeze S8x32 squeezes_S1x8x32_S8x32

/-- The group buffer's values once a batch has landed: row `r` is the group lane `r` names. -/
def gVal (T : Vec F (Tab n) .f32) (v : IVec S16 32) : Vec F S16x8x32 .f32 := fun y =>
  T (ValueIdx.ix3 (Fin.ofNat n (lane v (y 0)).toNat) (y 1) (y 2))

variable (fT : Buf (Elt F) (tab.view.loc (thr d i))) (q : PosShare TreeShare)
  (fd : Buf (Elt F) (grp.view.loc (thr d i))) (v : IVec S16 32) (hv : ∀ r, gChk n (lane v r))

/-- The group buffer's contents once a batch has landed. -/
abbrev gLand : Buf (Elt F) (grp.view.loc (thr d i)) := grp.view.write (Elt F) fd (gVal (tab.view.read (Elt F) fT) v) Finset.univ

/-- Row `r` of the group buffer. -/
abbrev gRow (r : Fin 16) (f : Buf (Elt F) (grp.view.loc (thr d i))) : sProp 𝕄 :=
  (dstM grp r).view.loc (thr d i) ↦[(dstM grp r).view.set]{fullShare} f
/-- Launch `r`'s share of its group of the table. -/
abbrev tRow (r : Fin 16) : sProp 𝕄 :=
  (srcM tab (lane v r) (hv r)).view.loc (thr d i) ↦[(srcM tab (lane v r) (hv r)).view.set]{Transfers.shareTokN q r.val} fT

/-- What transfer `r` of a batch delivers. -/
def dlv (r : Fin 16) : sProp 𝕄 := iprop(gRow d i grp r (gLand d i tab grp fT fd v) ∗ tRow d i tab fT q v hv r)

instance dlv_storable (r : Fin 16) : Storable (upEmb : UEmb _ 𝕄) (dlv d i tab grp fT q fd v hv r) := by
  unfold dlv; infer_instance

/-- The credit of one transfer of a batch. -/
abbrev gN : ℕ := (dstM grp 0).view.dmaCredit

/-- What lands in row `r` is the group its lane names. -/
theorem landed_row (r : Fin 16) : ∀ y ∈ (dstM grp r).view.set,
    (dstM grp r).view.write (Elt F) fd ((srcM tab (lane v r) (hv r)).view.read (Elt F) fT) Finset.univ y
      = gLand d i tab grp fT fd v y := by
  intro y hy
  obtain ⟨x, -, rfl⟩ := Finset.mem_map.mp hy
  rw [View.write_emb_of_mem _ _ (Finset.mem_univ x)]
  have e : (dstM grp r).view.emb x = grp.view.emb ((Rect.unit (s := S16x8x32) ![r.val, 0, 0] S1x8x32.size (inb_row r)).emb
      (Shape.reshapeEquiv squeezes_S1x8x32_S8x32.numel_eq x)) := rfl
  unfold gLand
  rw [e, View.write_emb_of_mem _ _ (Finset.mem_univ _)]
  congr 1
  generalize hzz : Shape.reshapeEquiv squeezes_S1x8x32_S8x32.numel_eq x = z
  have hs : (srcM tab (lane v r) (hv r)).view.read (Elt F) fT x
      = tab.view.read (Elt F) fT ((Rect.unit (s := Tab n) (gOff (lane v r)) S1x8x32.size (hv r)).emb z) := by rw [← hzz]; rfl
  rw [hs]
  unfold gVal
  have h0 : (z 0).val = 0 := by have := (z 0).isLt; change _ < 1 at this; omega
  have hr : ((Rect.unit (s := S16x8x32) ![r.val, 0, 0] S1x8x32.size (inb_row r)).emb z 0) = r := Fin.ext (by
    rw [Rect.emb_apply]; show r.val + 1 * (z 0).val = r.val; omega)
  rw [hr]
  congr 1
  funext a
  have hl := hv r 0
  change (lane v r).toNat + 1 ≤ n at hl
  match a with
  | 0 => exact Fin.ext (by
      rw [Rect.emb_apply]; show (lane v r).toNat + 1 * (z 0).val = (lane v r).toNat % n
      rw [Nat.mod_eq_of_lt (by omega)]; omega)
  | 1 => exact Fin.ext (by rw [Rect.emb_apply]; show 0 + 1 * (z 1).val = 0 + 1 * (z 1).val; rfl)
  | 2 => exact Fin.ext (by rw [Rect.emb_apply]; show 0 + 1 * (z 2).val = 0 + 1 * (z 2).val; rfl)

/-- The sixteen launches. -/
theorem runs_launch :
    iprop(bigSep Finset.univ (fun r : Fin 16 => iprop(tRow d i tab fT q v hv r ∗ gRow d i grp r fd))
        ∗ Transfers.Batch EC (thr d i) (.dma sG) (default : HIx 1) (gN grp) (dlv d i tab grp fT q fd v hv) 0 0)
      ⊢ Runs d i (rowsP i (launchP i tab grp sG v)) fun _ =>
          Transfers.Batch EC (thr d i) (.dma sG) (default : HIx 1) (gN grp) (dlv d i tab grp fT q fd v hv) 16 0 := by
  have key := runs_rows d i (fun r => iprop(bigSep (Transfers.pending (n := 16) r) (fun r : Fin 16 => iprop(tRow d i tab fT q v hv r ∗ gRow d i grp r fd))
        ∗ Transfers.Batch EC (thr d i) (.dma sG) (default : HIx 1) (gN grp) (dlv d i tab grp fT q fd v hv) r 0)) (launchP i tab grp sG v) fun r => by
    unfold launchP
    rw [Transfers.bigSep_pending_step _ r.val r.isLt]
    iintro ⟨⟨⟨Hs, Hd⟩, Hrest⟩, HB⟩
    iapply (wp_assume _ _ _ _ (hv r))
    iapply (Transfers.wp_dmaBatch EC Variants.none (thr d i) none (src := srcM tab (lane v r) (hv r)) (dst := dstM grp r) (default : HIx 1) (gN grp) rfl subset_rfl
      (D := dlv d i tab grp fT q fd v hv) (j := r.val) (u := 0) r.isLt (Nat.zero_le _) (by
        unfold dlv
        exact sep_mono_left (Entails.of_eq (pointsTo_congr (landed_row d i tab grp fT fd v hv r))))) $$ [Hs Hd HB]
    · isplitl [Hs]; · iexact Hs
      isplitl [Hd]; · iexact Hd
      iexact HB
    iintro HB
    simp only [ret_bind]
    sl_step
    isplitl [Hrest]; · iexact Hrest
    iexact HB
  refine .trans ?_ (key.trans (wp_mono frame _ _ fun _ => ?_))
  · rw [Transfers.pending_zero]
  · iintro ⟨-, HB⟩; iexact HB

theorem gN_pos : 0 < gN grp := View.dmaCredit_pos _ (by decide)

/-- The sixteen waits: the last returns everything. -/
theorem runs_wait (O : CellTallies nD τ sig (HIx 1)) (W : Waits sig (HIx 1)) :
    iprop(Transfers.MayWaits (thr d i) (default : HIx 1) O ∗ Owes d i O W
        ∗ Transfers.Batch EC (thr d i) (.dma sG) (default : HIx 1) (gN grp) (dlv d i tab grp fT q fd v hv) 16 0)
      ⊢ Runs d i (rowsP i (fun _ => waitP i tab hz grp sG)) fun _ =>
          iprop(bigSep Finset.univ (dlv d i tab grp fT q fd v hv) ∗ semVal (thr d i, .dma sG) 0 ∗ Owes d i O W) := by
  have key := runs_rows d i (fun r => iprop(Transfers.MayWaits (thr d i) (default : HIx 1) O ∗ Owes d i O W
      ∗ (if r < 16 then Transfers.Batch EC (thr d i) (.dma sG) (default : HIx 1) (gN grp) (dlv d i tab grp fT q fd v hv) 16 (r * gN grp)
          else iprop(bigSep Finset.univ (dlv d i tab grp fT q fd v hv) ∗ semVal (thr d i, .dma sG) 0)))) (fun _ => waitP i tab hz grp sG) fun r => by
    have hp := gN_pos grp
    unfold waitP
    rw [if_pos r.isLt]
    iintro ⟨#Hmw, ⟨%W', %hW, HO⟩, HB⟩
    ihave Hm := (Transfers.MayWaits.elim (SemLoc.dma sG)) $$ Hmw
    have hW' : ∀ p ∈ insert (SemLoc.dma sG, (default : HIx 1)) W', p ∈ W ∨ p.2 = none := fun p hp => by
      rcases Finset.mem_insert.mp hp with rfl | h
      · exact .inr rfl
      · exact hW p h
    by_cases hr : r.val + 1 < 16
    · rw [if_pos hr]
      have hu : r.val * gN grp + gN grp < gN grp * 16 := by
        have := Nat.mul_lt_mul_of_pos_left hr hp
        rw [← Nat.succ_mul, Nat.mul_comm]; exact this
      iapply (Transfers.wp_waitBatchO EC Variants.none (thr d i) none (default : HIx 1) (N := gN grp) rfl (D := dlv d i tab grp fT q fd v hv)
        (u := r.val * gN grp) hu) $$ [HB HO Hm]
      · isplitl [HB]; · iexact HB
        isplitl [HO]; · iexact HO
        iexact Hm
      iintro ⟨HB, HO⟩
      simp only [ret_bind]
      sl_step
      isplitl []; · iexact Hmw
      isplitl [HO]
      · iexists _; isplitr; · ipureintro; exact hW'
        iexact HO
      rw [Nat.succ_mul]
      iexact HB
    · rw [if_neg hr]
      have hu : r.val * gN grp + gN grp = gN grp * 16 := by
        have : r.val + 1 = 16 := by have := r.isLt; omega
        rw [← Nat.succ_mul, Nat.mul_comm]; show _ * (r.val + 1) = _; rw [this]
      iapply (Transfers.wp_waitBatchLastO EC Variants.none (thr d i) none (default : HIx 1) (N := gN grp) rfl hp (D := dlv d i tab grp fT q fd v hv)
        (u := r.val * gN grp) hu) $$ [HB HO Hm]
      · isplitl [HB]; · iexact HB
        isplitl [HO]; · iexact HO
        iexact Hm
      iintro ⟨HD, Hs, HO⟩
      simp only [ret_bind]
      sl_step
      isplitl []; · iexact Hmw
      isplitl [HO]
      · iexists _; isplitr; · ipureintro; exact hW'
        iexact HO
      isplitl [HD]; · iexact HD
      iexact Hs
  refine .trans ?_ (key.trans (wp_mono frame _ _ fun _ => ?_))
  · rw [if_pos (by decide), Nat.zero_mul]
  · rw [if_neg (by decide)]
    iintro ⟨-, HO, HD, Hs⟩
    isplitl [HD]; · iexact HD
    isplitl [Hs]; · iexact Hs
    iexact HO

/-- The rows of the group buffer. -/
theorem dstM_set (r : Fin 16) : (dstM grp r).view.set
    = (Rect.unit (s := S16x8x32) ![r.val, 0, 0] S1x8x32.size (inb_row r)).set.map grp.view.emb := by
  show ((grp.view.slice (Rect.unit (s := S16x8x32) ![r.val, 0, 0] S1x8x32.size (inb_row r))).reshape S8x32 _).set = _
  rw [View.set_reshape, View.set_slice]

theorem mem_row (r : Fin 16) (y : S16x8x32.Idx) :
    y ∈ (Rect.unit (s := S16x8x32) ![r.val, 0, 0] S1x8x32.size (inb_row r)).set ↔ (y 0).val = r.val := by
  rw [Rect.mem_set_unit]
  constructor
  · intro h; have h0 := h 0; change r.val ≤ (y 0).val ∧ (y 0).val < r.val + 1 at h0; omega
  · intro h a
    match a with
    | 0 => show r.val ≤ (y 0).val ∧ (y 0).val < r.val + 1; omega
    | 1 => exact ⟨Nat.zero_le _, by show (y 1).val < 0 + 8; have := (y 1).isLt; change _ < 8 at this; omega⟩
    | 2 => exact ⟨Nat.zero_le _, by show (y 2).val < 0 + 32; have := (y 2).isLt; change _ < 32 at this; omega⟩

theorem rows_disjoint : ∀ r ∈ (Finset.univ : Finset (Fin 16)), ∀ r' ∈ (Finset.univ : Finset (Fin 16)), r ≠ r' →
    Disjoint (dstM grp r).view.set (dstM grp r').view.set := by
  intro r _ r' _ hne
  rw [dstM_set, dstM_set, Finset.disjoint_map, Finset.disjoint_left]
  intro y h h'
  rw [mem_row] at h h'
  exact hne (Fin.ext (h.symm.trans h'))

theorem rows_union : (Finset.univ : Finset (Fin 16)).biUnion (fun r => (dstM grp r).view.set) = grp.view.set := by
  ext y
  rw [Finset.mem_biUnion]
  constructor
  · rintro ⟨r, -, h⟩
    rw [dstM_set] at h
    obtain ⟨x, -, rfl⟩ := Finset.mem_map.mp h
    exact View.emb_mem_set grp.view x
  · intro h
    obtain ⟨x, -, rfl⟩ := Finset.mem_map.mp h
    obtain ⟨r, hr⟩ : ∃ r : Fin 16, (x 0).val = r.val := ⟨x 0, rfl⟩
    refine ⟨r, Finset.mem_univ _, ?_⟩
    rw [dstM_set]
    exact Finset.mem_map_of_mem _ ((mem_row r x).mpr hr)

/-- The group buffer is its rows. -/
theorem grp_rows (f : Buf (Elt F) (grp.view.loc (thr d i))) :
    (grp.view.loc (thr d i) ↦[grp.view.set]{fullShare} f : sProp 𝕄) = bigSep Finset.univ fun r => gRow d i grp r f := by
  rw [← rows_union grp]
  exact pointsTo_biUnion _ _ (rows_disjoint grp)

theorem srcM_subset (w : BitVec 32) (h : gChk n w) : (srcM tab w h).view.set ⊆ tab.view.set := by
  show ((tab.view.slice (Rect.unit (s := Tab n) (gOff w) S1x8x32.size h)).reshape S8x32 _).set ⊆ _
  rw [View.set_reshape]
  exact View.set_slice_subset _ _

/-- A share of the table is a share for each launch, of the launch's group and of the rest, and what is left over. -/
theorem tab_shares :
    (tab.view.loc (thr d i) ↦[tab.view.set]{q} fT : sProp 𝕄)
      ⊣⊢ iprop((tab.view.loc (thr d i) ↦[tab.view.set]{Transfers.shareDrop q 16} fT)
          ∗ bigSep Finset.univ (fun r : Fin 16 => tRow d i tab fT q v hv r)
          ∗ bigSep Finset.univ (fun r : Fin 16 =>
              tab.view.loc (thr d i) ↦[tab.view.set \ (srcM tab (lane v r) (hv r)).view.set]{Transfers.shareTokN q r.val} fT)) := by
  have h := Transfers.pointsTo_toks (Lvl := ℕ) (Val := Elt F) (Ix := HIx 1) (Name := ℕ) (U := UU) (ℓ := tab.view.loc (thr d i)) (S := tab.view.set) (f := fT) q 16
  refine ⟨h.1.trans (sep_mono_right (.trans ?_ (Entails.of_eq (bigSep_sep _ _ _)))), (sep_mono_right (.trans (Entails.of_eq (bigSep_sep _ _ _).symm) ?_)).trans h.2⟩
  · exact bigSep_mono fun r _ => (pointsTo_split_subset (srcM_subset tab _ (hv r))).1
  · exact bigSep_mono fun r _ => (pointsTo_split_subset (srcM_subset tab _ (hv r))).2

include hv in
/-- The launches and the waits of a batch: the group buffer holds the groups its lanes name. -/
theorem runs_fetch (O : CellTallies nD τ sig (HIx 1)) (W : Waits sig (HIx 1)) :
    iprop(Transfers.MayWaits (thr d i) (default : HIx 1) O ∗ Owes d i O W ∗ semVal (thr d i, .dma sG) 0
        ∗ (tab.view.loc (thr d i) ↦[tab.view.set]{q} fT) ∗ (grp.view.loc (thr d i) ↦[grp.view.set]{fullShare} fd))
      ⊢ Runs d i (do rowsP i (launchP i tab grp sG v); rowsP i (fun _ => waitP i tab hz grp sG)) fun _ =>
          iprop(Owes d i O W ∗ semVal (thr d i, .dma sG) 0
            ∗ (tab.view.loc (thr d i) ↦[tab.view.set]{q} fT)
            ∗ (grp.view.loc (thr d i) ↦[grp.view.set]{fullShare} gLand d i tab grp fT fd v)) := by
  rw [BI.Entails.antisymm (tab_shares d i tab fT q v hv).1 (tab_shares d i tab fT q v hv).2, grp_rows, grp_rows]
  simp only [Runs, wp_bind]
  iintro ⟨#Hmw, HO, Hs, ⟨Hl, Hsrc, Hrest⟩, Hg⟩
  imod (Transfers.batch_alloc' (Lvl := ℕ) EC (thr d i) (default : HIx 1) (gN grp) (dlv d i tab grp fT q fd v hv) (sm := .dma sG) (E := Set.univ)) $$ Hs with HB
  iapply (wp_wand_r frame)
  isplitl [Hsrc Hg HB]
  · iapply (runs_launch d i tab grp sG fT q fd v hv)
    isplitl [Hsrc Hg]
    · rw [bigSep_sep']
      isplitl [Hsrc]; · iexact Hsrc
      iexact Hg
    iexact HB
  iintro %_ HB
  iapply (wp_wand_r frame)
  isplitl [HO HB]
  · iapply (runs_wait d i tab hz grp sG fT q fd v hv O W)
    isplitl []; · iexact Hmw
    isplitl [HO]; · iexact HO
    iexact HB
  iintro %_ ⟨HD, Hs, HO⟩
  isplitl [HO]; · iexact HO
  isplitl [Hs]; · iexact Hs
  ihave HD' := (show bigSep Finset.univ (dlv d i tab grp fT q fd v hv) ⊢ _ from Entails.of_eq (bigSep_sep' Finset.univ (fun r => gRow d i grp r (gLand d i tab grp fT fd v)) (fun r => tRow d i tab fT q v hv r))) $$ HD
  icases HD' with ⟨HD, Hsrc⟩
  isplitr [HD]
  · isplitl [Hl]; · iexact Hl
    isplitl [Hsrc]; · iexact Hsrc
    iexact Hrest
  iexact HD

end

end Cert.Proof.Gather

end
-- ==== Proof.Select.lean ====
/- The sixteen selections of a batch: row `idx mod 8` of each fetched group, as two half rows, into the chunk buffer. -/
module

public import proofs.«01_k».proof.Proof.Batch
public import Idealize.ShloMosaic.Lib.WritesUnit

@[expose] public section

noncomputable section

namespace Cert.Proof.Gather

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

local notation "𝕄" => MT nD τ sig (HIx 1) (Elt F) ℕ UU ℕ

theorem lane_eq (v : IVec S16 32) (r : Fin 16) : lane v r = v (ValueIdx.ix1 r) := by
  unfold lane
  pointwise
  rfl

theorem half_val {α : Type} (X : S1x1x16.Idx → α) (x : S1x16.Idx) :
    shapeCast S1x16 (shapeCast S16 X shapeCasts_S1x1x16_S16) shapeCasts_S16_S1x16 x = X (ValueIdx.ix3 0 0 (x 1)) := by
  pointwise
  rfl

section
variable (d : Dev nD) (i : grid0.Coords)
  (grp : Memref sig .scVector .vmem S16x8x32 .f32) (sel : Memref sig .scVector .vmem S128x32 .f32)
  (g : Buf (Elt F) (grp.view.loc (thr d i)))

theorem sOff_ok (r : Fin 16) (w : BitVec 32) (h : w.toNat < 8) : sChk r w := by
  have hr := r.isLt
  refine ⟨fun a => ?_, fun a => ?_⟩
  all_goals
    match a with
    | 0 => show r.val + 1 ≤ 16; omega
    | 1 => show w.toNat + 1 ≤ 8; omega
    | 2 => first | exact (by decide : 0 + 16 ≤ 32) | exact (by decide : 16 + 16 ≤ 32)

/-- Lane `x` of the half row at lane `c` of row `w` of the group `r`. -/
theorem half_read (r : Fin 16) (w : BitVec 32) (hw : w.toNat < 8) (c : ℕ) (h : ∀ a, (sOff r w c) a + S1x1x16.size a ≤ S16x8x32.size a)
    (y : S1x1x16.Idx) (b : Fin 32) (hb : b.val = c + (y 2).val) :
    grp.view.readAt (Elt F) (Rect.unit (s := S16x8x32) (sOff r w c) S1x1x16.size h).toLoadRect g y
      = grp.view.read (Elt F) g (ValueIdx.ix3 r (Fin.ofNat 8 w.toNat) b) := by
  rw [View.readAt_apply]
  congr 1
  funext a
  have h0 : (y 0).val = 0 := by have := (y 0).isLt; change _ < 1 at this; omega
  have h1 : (y 1).val = 0 := by have := (y 1).isLt; change _ < 1 at this; omega
  match a with
  | 0 => exact Fin.ext (by show r.val + 1 * (y 0).val = r.val; omega)
  | 1 => exact Fin.ext (by show w.toNat + 1 * (y 1).val = w.toNat % 8; rw [Nat.mod_eq_of_lt hw]; omega)
  | 2 => exact Fin.ext (by show c + 1 * (y 2).val = b.val; omega)

/-- The chunk buffer holds the rows wanted of it, `V`, up to row `k`. -/
abbrev SelTo (V : Vec F S128x32 .f32) (k : ℕ) : sProp 𝕄 :=
  iprop(∃ f, ⌜∀ y : S128x32.Idx, (y 0).val < k → sel.view.read (Elt F) f y = V y⌝ ∗ sel.view.loc (thr d i) ↦[sel.view.set]{fullShare} f)

/-- The sixteen selections of batch `t`, from the fetched groups `g` and the rows `v` within them. -/
theorem runs_select (v : IVec S16 32) (hv : ∀ r, (lane v r).toNat < 8) (t : Fin k0_t2_loop.trips) (V : Vec F S128x32 .f32)
    (hV : ∀ (r : Fin 16) (y : S128x32.Idx), (y 0).val = 16 * t.val + r.val →
      V y = grp.view.read (Elt F) g (ValueIdx.ix3 r (Fin.ofNat 8 (lane v r).toNat) (y 1))) :
    iprop((grp.view.loc (thr d i) ↦[grp.view.set]{fullShare} g) ∗ SelTo d i sel V (16 * t.val))
      ⊢ Runs d i (rowsP i (selectP i grp sel v t)) fun _ =>
          iprop((grp.view.loc (thr d i) ↦[grp.view.set]{fullShare} g) ∗ SelTo d i sel V (16 * (t.val + 1))) := by
  refine runs_rows d i (fun r => iprop((grp.view.loc (thr d i) ↦[grp.view.set]{fullShare} g) ∗ SelTo d i sel V (16 * t.val + r)))
    (selectP i grp sel v t) fun r => ?_
  unfold selectP
  iintro ⟨Hg, ⟨%f, %hf, Hs⟩⟩
  iapply (wp_assume _ _ _ _ (sOff_ok r _ (hv r)))
  iapply (wp_load _ _ _ _ (S := grp.view.set) (View.setOn_subset_set _ _)) $$ Hg
  iintro Hg
  iapply (wp_load _ _ _ _ (S := sel.view.set) (View.setOn_subset_set _ _)) $$ Hs
  iintro Hs
  ihave Hs := (show (sel.view.loc (thr d i) ↦[sel.view.set]{fullShare} f : sProp 𝕄) ⊢ (sel.view.loc (thr d i) ↦[sel.view.set]{fullShare} sel.view.writes (Elt F) f []) from .rfl) $$ Hs
  iapply (wp_store_writes Variants.none (thr d i) none Set.univ (defs := defs₀ (F := F)) (m := sel) (f := f) (L := []) (View.set_slice_subset _ _)) $$ Hs
  iintro Hs
  iapply (wp_load _ _ _ _ (S := grp.view.set) (View.setOn_subset_set _ _)) $$ Hg
  iintro Hg
  iapply (wp_load _ _ _ _ (S := sel.view.set) (View.setOn_subset_set _ _)) $$ Hs
  iintro Hs
  iapply (wp_store_writes Variants.none (thr d i) none Set.univ (defs := defs₀ (F := F)) (m := sel) (f := f) (View.set_slice_subset _ _)) $$ Hs
  iintro Hs
  simp only [ret_bind]
  sl_step
  isplitl [Hg]; · iexact Hg
  iexists _
  isplitr
  rotate_left
  · iexact Hs
  ipureintro
  intro y hy
  have hoff (c : ℕ) : rOff t r c = ![16 * t.val + r.val, c] := by unfold rOff; rw [rOff_row]
  have hy1 : (y 1).val < 32 := (y 1).isLt
  rw [View.read_writes_cons_unit (s := S128x32) sel.view f _ _ _ y (hoff 16), View.read_writes_cons_unit (s := S128x32) sel.view f _ _ _ y (hoff 0), View.writes_nil]
  split_ifs with h1 h2
  · have e : (y 0).val = 16 * t.val + r.val := by have := h1 0; change 16 * t.val + r.val ≤ (y 0).val ∧ (y 0).val < 16 * t.val + r.val + 1 at this; omega
    rw [hV r y e, half_val]
    exact half_read d i grp g r _ (hv r) 16 _ _ _ (by
      have := h1 1; change 16 ≤ (y 1).val ∧ _ at this
      show (y 1).val = 16 + ((y 1).val - 16); omega)
  · have e : (y 0).val = 16 * t.val + r.val := by have := h2 0; change 16 * t.val + r.val ≤ (y 0).val ∧ (y 0).val < 16 * t.val + r.val + 1 at this; omega
    rw [hV r y e, half_val]
    exact half_read d i grp g r _ (hv r) 0 _ _ _ (by
      show (y 1).val = 0 + ((y 1).val - 0); omega)
  · refine hf y ?_
    by_contra hc
    have e : (y 0).val = 16 * t.val + r.val := by omega
    by_cases hb : (y 1).val < 16
    · exact h2 fun a => match a with
        | 0 => by show 16 * t.val + r.val ≤ (y 0).val ∧ (y 0).val < 16 * t.val + r.val + 1; omega
        | 1 => by show 0 ≤ (y 1).val ∧ (y 1).val < 0 + 16; omega
    · exact h1 fun a => match a with
        | 0 => by show 16 * t.val + r.val ≤ (y 0).val ∧ (y 0).val < 16 * t.val + r.val + 1; omega
        | 1 => by show 16 ≤ (y 1).val ∧ (y 1).val < 16 + 16; omega

end

end Cert.Proof.Gather

end
-- ==== Proof.Chunk.lean ====
/- A batch of sixteen rows, a chunk of 128 rows and a slot of four chunks, each carried to the VALUES it leaves: row `p`
   of a slot's plane of the result is the table row that word `p` of the slot's indices names. -/
module

public import proofs.«01_k».proof.Proof.Select

@[expose] public section

noncomputable section

namespace Cert.Proof.Gather

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

local notation "𝕄" => MT nD τ sig (HIx 1) (Elt F) ℕ UU ℕ

/-- Lane `b` of the row of a grouped table that the word `w` names: row `w mod 8` of group `w div 8`. -/
def pick {n : ℕ} [NeZero n] (T : Vec F (Tab n) .f32) (w : BitVec 32) (b : Fin 32) : Elt F .f32 :=
  T (ValueIdx.ix3 (Fin.ofNat n (w.toNat / 8)) (Fin.ofNat 8 (w.toNat % 8)) b)

/-- Shifting a word below 2^31 right by three, as a signed word, divides it by eight. -/
theorem shr_toNat (w : BitVec 32) (h : w.toNat < 2 ^ 31) : (w.sshiftRight 3).toNat = w.toNat / 8 := by
  have hm : w.msb = false := by rw [BitVec.msb_eq_decide]; simp; omega
  rw [BitVec.sshiftRight_eq_of_msb_false hm, BitVec.toNat_ushiftRight, Nat.shiftRight_eq_div_pow]

theorem and_toNat (w : BitVec 32) : (w &&& 7#32).toNat = w.toNat % 8 := by
  rw [BitVec.toNat_and]
  exact Nat.and_two_pow_sub_one_eq_mod w.toNat 3

theorem lane_shr (v : Vec F S1x16 .i32) (r : Fin 16) (h : (v (ValueIdx.ix2 0 r)).toNat < 2 ^ 31) :
    (lane (shrsi (shapeCast S16 v shapeCasts_S1x16_S16) (broadcast S16 3#32)) r).toNat = (v (ValueIdx.ix2 0 r)).toNat / 8 := by
  rw [lane_eq, ← shr_toNat _ h]
  pointwise
  rfl

theorem lane_and (v : Vec F S1x16 .i32) (r : Fin 16) :
    (lane (andi (shapeCast S16 v shapeCasts_S1x16_S16) (broadcast S16 7#32)) r).toNat = (v (ValueIdx.ix2 0 r)).toNat % 8 := by
  rw [lane_eq, ← and_toNat]
  pointwise
  rfl

section
variable (d : Dev nD) (i : grid0.Coords)

theorem runs_bind {α β : Type} {p : TP F i α} {k : α → TP F i β} {Q : β → sProp 𝕄} {A : sProp 𝕄}
    (h : A ⊢ Runs d i p fun x => Runs d i (k x) Q) : A ⊢ Runs d i (p >>= k) Q := by
  simp only [Runs, wp_bind]; exact h

/-- A program at the head, by its triple. -/
theorem runs_seq {α β : Type} {p : TP F i α} {k : α → TP F i β} {Q : β → sProp 𝕄} {A : sProp 𝕄} {B : α → sProp 𝕄}
    (h : A ⊢ Runs d i p B) : iprop(A ∗ (∀ x, B x -∗ Runs d i (k x) Q)) ⊢ Runs d i (p >>= k) Q := by
  simp only [Runs, wp_bind]
  iintro ⟨HA, HK⟩
  iapply (wp_wand_r frame)
  isplitl [HA]
  · iapply h; iexact HA
  iexact HK

/-- A loop whose every trip carries its own resource from `A` to `B`, beside what all trips share. -/
theorem runs_each (l : Scf.Loop 32) (hok : l.OK) (a : BitVec 32) (body : Fin l.trips → TP F i PUnit) (C : sProp 𝕄) (A B : Fin l.trips → sProp 𝕄)
    (h : ∀ t, iprop(C ∗ A t) ⊢ Runs d i (body t) fun _ => iprop(C ∗ B t)) :
    iprop(C ∗ bigSep Finset.univ A) ⊢ Runs d i (Scf.Loop.for l hok a fun t _ => do body t; pure a) fun _ => iprop(C ∗ bigSep Finset.univ B) := by
  have hbody (t : Fin l.trips) (_ : BitVec 32) :
      iprop(C ∗ bigSep (Transfers.pending t.val) A ∗ bigSep (Transfers.issued t.val) B)
        ⊢ Runs d i (do body t; pure a) fun _ => iprop(C ∗ bigSep (Transfers.pending (t.val + 1)) A ∗ bigSep (Transfers.issued (t.val + 1)) B) := by
    have e : bigSep (Transfers.issued (m := l.trips) (t.val + 1)) B = iprop(B t ∗ bigSep (Transfers.issued t.val) B) := by
      rw [Transfers.issued_succ t.isLt, bigSep_insert (Transfers.not_mem_issued t.isLt)]; rfl
    rw [Transfers.bigSep_pending_step A t.val t.isLt, e]
    iintro ⟨HC, ⟨HA, HAs⟩, HBs⟩
    iapply (runs_seq d i (h t))
    isplitl [HC HA]
    · isplitl [HC]; · iexact HC
      iexact HA
    iintro %_ ⟨HC, HB⟩
    simp only [Runs]
    sl_step
    isplitl [HC]; · iexact HC
    isplitl [HAs]; · iexact HAs
    isplitl [HB]; · iexact HB
    iexact HBs
  refine BIBase.Entails.trans ?_ (Scf.wp_for frame (wpE (defs₀ (F := F)) Variants.none (thr d i) none) Set.univ _ _ _ _ _ _
    (fun j _ => iprop(C ∗ bigSep (Transfers.pending j) A ∗ bigSep (Transfers.issued j) B)) hbody)
  rw [Transfers.pending_zero, Transfers.issued_zero, bigSep_empty]
  iintro ⟨HC, HA⟩
  isplitl [HC HA]
  · isplitl [HC]; · iexact HC
    isplitl [HA]; · iexact HA
    iempintro
  iintro %_ ⟨HC, -, HB⟩
  isplitl [HC]; · iexact HC
  rw [← Transfers.issued_all (m := l.trips) rfl]
  iexact HB

/-- Contents a view reads alike agree under the view. -/
theorem eq_of_read {κ : Kind} {sp : Space} {s : Shape} {e : EltTy} (v : View sig κ sp s e) (f g : v.ty.Contents (Elt F))
    (h : ∀ x, v.read (Elt F) f x = v.read (Elt F) g x) : ∀ y ∈ v.set, f y = g y := by
  intro y hy
  obtain ⟨x, -, rfl⟩ := Finset.mem_map.mp hy
  have := h x
  rw [View.read_apply, View.read_apply] at this
  exact cast_inj _ |>.mp this

/-- A copy and its wait: the destination holds any contents that read as the source does. -/
theorem runs_copy {sp sp' : Space} {s : Shape} {e : EltTy} (src : Memref sig .scVector sp s e) (dst : Memref sig .scVector sp' s e) (sm : DmaSem sig)
    (hs : 0 < s.numel) {h₁ h₁' : src.view.WordExact} {h₂ h₂' : dst.view.WordExact}
    {h₃ : (DmaTarget.here dst : DmaTarget nD τ sig (.scVector ((i 0).castLE hcore0) ((i 1).castLE hsub0)) sp' s e).Typed sp (.dma sm)}
    (q : PosShare TreeShare) (fs : Buf (Elt F) (src.view.loc (thr d i))) (fd G : Buf (Elt F) (dst.view.loc (thr d i)))
    (hG : ∀ x, dst.view.read (Elt F) G x = src.view.read (Elt F) fs x) (O : CellTallies nD τ sig (HIx 1)) (W : Waits sig (HIx 1)) :
    iprop(Transfers.MayWaits (thr d i) (default : HIx 1) O ∗ Owes d i O W ∗ semVal (thr d i, .dma sm) 0
        ∗ (src.view.loc (thr d i) ↦[src.view.set]{q} fs) ∗ (dst.view.loc (thr d i) ↦[dst.view.set]{fullShare} fd))
      ⊢ Runs d i (do
          Prog.lift (.enqueueDma src (.here dst) (.dma sm) h₁ h₂ h₃)
          Prog.lift (.waitDma2 sm src dst h₁' h₂')) fun _ =>
          iprop(Owes d i O W ∗ semVal (thr d i, .dma sm) 0 ∗ (src.view.loc (thr d i) ↦[src.view.set]{q} fs)
            ∗ (dst.view.loc (thr d i) ↦[dst.view.set]{fullShare} G)) := by
  iintro ⟨#Hmw, ⟨%W', %hW, HO⟩, Hv, Hs, Hd⟩
  ihave Hm := (Transfers.MayWaits.elim (SemLoc.dma sm)) $$ Hmw
  have hW' : ∀ p ∈ insert (SemLoc.dma sm, (default : HIx 1)) W', p ∈ W ∨ p.2 = none := fun p hp => by
    rcases Finset.mem_insert.mp hp with rfl | h
    · exact .inr rfl
    · exact hW p h
  imod (Transfers.batch_alloc' (Lvl := ℕ) EC (thr d i) (default : HIx 1) dst.view.dmaCredit
    (fun _ : Fin 1 => iprop((dst.view.loc (thr d i) ↦[dst.view.set]{fullShare} G) ∗ (src.view.loc (thr d i) ↦[src.view.set]{q} fs))) (sm := .dma sm) (E := Set.univ)) $$ Hv with HB
  iapply (Transfers.wp_dmaBatch EC Variants.none (thr d i) none (src := src) (dst := dst) (default : HIx 1) dst.view.dmaCredit rfl subset_rfl
      (D := fun _ : Fin 1 => iprop((dst.view.loc (thr d i) ↦[dst.view.set]{fullShare} G) ∗ (src.view.loc (thr d i) ↦[src.view.set]{q} fs)))
      (j := 0) (u := 0) (by decide) (Nat.zero_le _)
      (sep_mono_left (Entails.of_eq (pointsTo_congr (eq_of_read dst.view (dst.view.write (Elt F) fd (src.view.read (Elt F) fs) Finset.univ) G
        fun x => (View.read_write_of_mem _ _ (Finset.mem_univ x)).trans (hG x).symm))))) $$ [Hs Hd HB]
  · isplitl [Hs]; · iexact Hs
    isplitl [Hd]; · iexact Hd
    iexact HB
  iintro HB
  simp only [ret_bind]
  iapply (Transfers.wp_waitBatchLastO EC Variants.none (thr d i) none (default : HIx 1) (N := dst.view.dmaCredit) rfl (View.dmaCredit_pos _ hs)
    (D := fun _ : Fin 1 => iprop((dst.view.loc (thr d i) ↦[dst.view.set]{fullShare} G) ∗ (src.view.loc (thr d i) ↦[src.view.set]{q} fs)))
    (u := 0) (by omega)) $$ [HB HO Hm]
  · isplitl [HB]; · iexact HB
    isplitl [HO]; · iexact HO
    iexact Hm
  iintro ⟨HD, Hv, HO⟩
  simp only [ret_bind]
  sl_step
  isplitl [HO]
  · iexists _; isplitr
    · ipureintro; exact hW'
    iexact HO
  isplitl [Hv]; · iexact Hv
  ihave HD' := (show bigSep Finset.univ (fun _ : Fin 1 => iprop((dst.view.loc (thr d i) ↦[dst.view.set]{fullShare} G) ∗ (src.view.loc (thr d i) ↦[src.view.set]{q} fs))) ⊢ (_ : sProp 𝕄) from
    Entails.of_eq (bigSep_univ_of_subsingleton (0 : Fin 1))) $$ HD
  icases HD' with ⟨Hd, Hs⟩
  isplitl [Hs]; · iexact Hs
  iexact Hd

section
variable {n : ℕ} [NeZero n] (tab : Memref sig .scVector .hbm (Tab n) .f32)
  (hz : ∀ a, (![0, 0, 0] : Fin 3 → Nat) a + S1x8x32.size a ≤ (Tab n).size a)
  (idx : Memref sig .scVector .hbm S288x4x128 .i32) (out : Memref sig .scVector .hbm S9x16384x32 .f32)
  (grp : Memref sig .scVector .vmem S16x8x32 .f32) (sel : Memref sig .scVector .vmem S128x32 .f32) (hsel : sel.IsWhole)
  (ids : Memref sig .scVector .vmem S4x128 .i32) (hids : ids.IsWhole)
  (sG sI sO : DmaSem sig)
  (O : CellTallies nD τ sig (HIx 1)) (W : Waits sig (HIx 1))
  (fT : Buf (Elt F) (tab.view.loc (thr d i))) (q : PosShare TreeShare)
  (fX : Buf (Elt F) (ids.view.loc (thr d i)))

/-- What a batch needs and gives back: the debts, the counter of the launches, a share of the table, the group buffer, the
    indices. -/
abbrev Kit : sProp 𝕄 := iprop(Owes d i O W ∗ semVal (thr d i, .dma sG) 0
  ∗ (tab.view.loc (thr d i) ↦[tab.view.set]{q} fT)
  ∗ (∃ g, grp.view.loc (thr d i) ↦[grp.view.set]{fullShare} g)
  ∗ (ids.view.loc (thr d i) ↦[ids.view.set]{fullShare} fX))

/-- The rows of chunk `t`: of the table `T`, by the indices `X`. -/
def chunkV (T : Vec F (Tab n) .f32) (X : Vec F S4x128 .i32) (t : Fin k0_t1_loop.trips) : Vec F S128x32 .f32 := fun y =>
  pick T (X (ValueIdx.ix2 (Fin.cast (by decide) t) (y 0))) (y 1)

theorem trips1 : k0_t1_loop.trips = 4 := by decide
theorem trips2 : k0_t2_loop.trips = 8 := by decide

/-- Lane `r` of the indices batch `t₂` of chunk `t₁` loads. -/
theorem ids_lane (t₁ : Fin k0_t1_loop.trips) (t₂ : Fin k0_t2_loop.trips) (r : Fin 16) (p : Fin 128) (hp : p.val = 16 * t₂.val + r.val) :
    ids.view.readAt (Elt F) (Rect.unit (s := S4x128) (k0_off2 t₁ t₂) S1x16.size (k0_off2_inb t₁ t₂)).toLoadRect fX (ValueIdx.ix2 0 r)
      = ids.view.read (Elt F) fX (ValueIdx.ix2 (Fin.cast trips1 t₁) p) := by
  rw [View.readAt_apply]
  congr 1
  funext a
  have e := k0_off2_eq t₁ t₂
  match a with
  | 0 => exact Fin.ext (by show k0_off2 t₁ t₂ 0 + 1 * 0 = t₁.val; rw [e]; show t₁.val + 1 * 0 = t₁.val; omega)
  | 1 => exact Fin.ext (by show k0_off2 t₁ t₂ 1 + 1 * r.val = p.val; rw [e]; show 16 * t₂.val + 1 * r.val = p.val; omega)

/-- A batch: sixteen more rows of the chunk. -/
theorem runs_batch (hn : 8 * n ≤ 2 ^ 31) (hX : ∀ y, (ids.view.read (Elt F) fX y : BitVec 32).toNat < 8 * n)
    (t₁ : Fin k0_t1_loop.trips) (t₂ : Fin k0_t2_loop.trips) :
    iprop(Transfers.MayWaits (thr d i) (default : HIx 1) O ∗ Kit d i tab grp ids sG O W fT q fX
        ∗ SelTo d i sel (chunkV (tab.view.read (Elt F) fT) (ids.view.read (Elt F) fX) t₁) (16 * t₂.val))
      ⊢ Runs d i (batchP i tab hz grp sel ids sG t₁ t₂) fun _ =>
          iprop(Kit d i tab grp ids sG O W fT q fX
            ∗ SelTo d i sel (chunkV (tab.view.read (Elt F) fT) (ids.view.read (Elt F) fX) t₁) (16 * (t₂.val + 1))) := by
  have ht2 : t₂.val < 8 := lt_of_lt_of_eq t₂.isLt trips2
  have hp (r : Fin 16) : 16 * t₂.val + r.val < 128 := by have := r.isLt; omega
  set v := ids.view.readAt (Elt F) (Rect.unit (s := S4x128) (k0_off2 t₁ t₂) S1x16.size (k0_off2_inb t₁ t₂)).toLoadRect fX with hv
  have hl (r : Fin 16) : v (ValueIdx.ix2 0 r) = ids.view.read (Elt F) fX (ValueIdx.ix2 (Fin.cast trips1 t₁) ⟨16 * t₂.val + r.val, hp r⟩) :=
    ids_lane d i ids fX t₁ t₂ r _ rfl
  have hr (r : Fin 16) : (v (ValueIdx.ix2 0 r) : BitVec 32).toNat < 8 * n := by rw [hl]; exact hX _
  have hg (r : Fin 16) : gChk n (lane (shrsi (shapeCast S16 v shapeCasts_S1x16_S16) (broadcast S16 3#32)) r) := by
    have h := hr r
    have e := lane_shr (F := F) v r (by omega)
    intro a
    match a with
    | 0 => show (lane _ r).toNat + 1 ≤ n; rw [e]; omega
    | 1 => exact (by decide : 0 + 8 ≤ 8)
    | 2 => exact (by decide : 0 + 32 ≤ 32)
  have hs (r : Fin 16) : (lane (andi (shapeCast S16 v shapeCasts_S1x16_S16) (broadcast S16 7#32)) r).toNat < 8 := by
    rw [lane_and (F := F)]; omega
  have hV (g : Buf (Elt F) (grp.view.loc (thr d i))) (r : Fin 16) (y : S128x32.Idx) (hy : (y 0).val = 16 * t₂.val + r.val) :
      chunkV (tab.view.read (Elt F) fT) (ids.view.read (Elt F) fX) t₁ y
        = grp.view.read (Elt F) (gLand d i tab grp fT g (shrsi (shapeCast S16 v shapeCasts_S1x16_S16) (broadcast S16 3#32)))
          (ValueIdx.ix3 r (Fin.ofNat 8 (lane (andi (shapeCast S16 v shapeCasts_S1x16_S16) (broadcast S16 7#32)) r).toNat) (y 1)) := by
    rw [View.read_write_of_mem _ _ (Finset.mem_univ _)]
    show pick _ _ _ = (tab.view.read (Elt F) fT) (ValueIdx.ix3 (Fin.ofNat n (lane _ r).toNat) (Fin.ofNat 8 (lane _ r).toNat) (y 1))
    have hy' : y 0 = (⟨16 * t₂.val + r.val, hp r⟩ : Fin 128) := Fin.ext hy
    rw [lane_and (F := F), lane_shr (F := F) v r (by have := hr r; omega), hl r, hy']
    rfl
  unfold batchP
  iintro ⟨#Hmw, ⟨HO, Hv, Ht, ⟨%g, Hg⟩, Hx⟩, Hs⟩
  iapply (runs_bind d i (p := Prog.lift _) .rfl)
  iapply (wp_load _ _ _ _ (S := ids.view.set) (View.setOn_subset_set _ _)) $$ Hx
  iintro Hx
  sl_step
  rw [← hv, ← bind_assoc]
  iapply (runs_seq d i (runs_fetch d i tab hz grp sG fT q g _ hg O W))
  isplitl [HO Hv Ht Hg]
  · isplitl []; · iexact Hmw
    isplitl [HO]; · iexact HO
    isplitl [Hv]; · iexact Hv
    isplitl [Ht]; · iexact Ht
    iexact Hg
  iintro %_ ⟨HO, Hv, Ht, Hg⟩
  iapply (wp_wand_r frame)
  isplitl [Hg Hs]
  · iapply (runs_select d i grp sel (gLand d i tab grp fT g _) _ hs t₂ (chunkV (tab.view.read (Elt F) fT) (ids.view.read (Elt F) fX) t₁) (hV g))
    isplitl [Hg]; · iexact Hg
    iexact Hs
  iintro %_ ⟨Hg, Hs⟩
  isplitr [Hs]
  · isplitl [HO]; · iexact HO
    isplitl [Hv]; · iexact Hv
    isplitl [Ht]; · iexact Ht
    isplitl [Hg]; · iexists _; iexact Hg
    iexact Hx
  iexact Hs

variable (k : Fin 9)

/-- A chunk: 128 rows selected, then written out. -/
theorem runs_chunk (hn : 8 * n ≤ 2 ^ 31) (hX : ∀ y, (ids.view.read (Elt F) fX y : BitVec 32).toNat < 8 * n)
    (t₁ : Fin k0_t1_loop.trips) (Go fo : Buf (Elt F) ((outChunk i out k t₁).view.loc (thr d i)))
    (hG : ∀ x, (outChunk i out k t₁).view.read (Elt F) Go x = chunkV (tab.view.read (Elt F) fT) (ids.view.read (Elt F) fX) t₁ x) :
    iprop(Transfers.MayWaits (thr d i) (default : HIx 1) O ∗ Kit d i tab grp ids sG O W fT q fX
        ∗ (∃ f, sel.view.loc (thr d i) ↦[sel.view.set]{fullShare} f) ∗ semVal (thr d i, .dma sO) 0
        ∗ ((outChunk i out k t₁).view.loc (thr d i) ↦[(outChunk i out k t₁).view.set]{fullShare} fo))
      ⊢ Runs d i (chunkP i tab hz out grp sel hsel ids sG sO k t₁) fun _ =>
          iprop(Kit d i tab grp ids sG O W fT q fX
            ∗ (∃ f, sel.view.loc (thr d i) ↦[sel.view.set]{fullShare} f) ∗ semVal (thr d i, .dma sO) 0
            ∗ ((outChunk i out k t₁).view.loc (thr d i) ↦[(outChunk i out k t₁).view.set]{fullShare} Go)) := by
  have hbody (t₂ : Fin k0_t2_loop.trips) (_ : BitVec 32) :
      iprop(Transfers.MayWaits (thr d i) (default : HIx 1) O ∗ Kit d i tab grp ids sG O W fT q fX
          ∗ SelTo d i sel (chunkV (tab.view.read (Elt F) fT) (ids.view.read (Elt F) fX) t₁) (16 * t₂.val))
        ⊢ Runs d i (do batchP i tab hz grp sel ids sG t₁ t₂; pure (0#32 : BitVec 32)) fun _ =>
          iprop(Transfers.MayWaits (thr d i) (default : HIx 1) O ∗ Kit d i tab grp ids sG O W fT q fX
            ∗ SelTo d i sel (chunkV (tab.view.read (Elt F) fT) (ids.view.read (Elt F) fX) t₁) (16 * (t₂.val + 1))) := by
    iintro ⟨#Hmw, HK, Hs⟩
    iapply (runs_seq d i (runs_batch d i tab hz grp sel ids sG O W fT q fX hn hX t₁ t₂))
    isplitl [HK Hs]
    · isplitl []; · iexact Hmw
      isplitl [HK]; · iexact HK
      iexact Hs
    iintro %_ ⟨HK, Hs⟩
    simp only [Runs]
    sl_step
    isplitl []; · iexact Hmw
    isplitl [HK]; · iexact HK
    iexact Hs
  unfold chunkP
  iintro ⟨#Hmw, HK, ⟨%f, Hs⟩, Hv, Ho⟩
  iapply (Scf.wp_for_bind frame (wpE (defs₀ (F := F)) Variants.none (thr d i) none) Set.univ _ _ _ _ _ _
    (fun j _ => iprop(Transfers.MayWaits (thr d i) (default : HIx 1) O ∗ Kit d i tab grp ids sG O W fT q fX
        ∗ SelTo d i sel (chunkV (tab.view.read (Elt F) fT) (ids.view.read (Elt F) fX) t₁) (16 * j))) hbody) $$ [HK Hs]
  · isplitl []; · iexact Hmw
    isplitl [HK]; · iexact HK
    iexists f
    isplitl []
    · ipureintro; intro y hy; exact absurd hy (Nat.not_lt_zero _)
    iexact Hs
  iintro %_ ⟨-, ⟨HO, HK⟩, ⟨%f', %hf', Hs⟩⟩
  iapply (wp_wand_r frame)
  isplitl [HO Hs Hv Ho]
  · iapply (runs_copy d i sel (outChunk i out k t₁) sO (by decide) fullShare f' fo Go
      (fun x => (hG x).trans (hf' x (lt_of_lt_of_eq (x 0).isLt (by decide))).symm) O W)
    · isplitl []; · iexact Hmw
      isplitl [HO]; · iexact HO
      isplitl [Hv]; · iexact Hv
      isplitl [Hs]; · iexact Hs
      iexact Ho
  iintro %_ ⟨HO, Hv, Hs, Ho⟩
  isplitl [HO HK]
  · isplitl [HO]; · iexact HO
    iexact HK
  isplitl [Hs]; · iexists _; iexact Hs
  isplitl [Hv]; · iexact Hv
  iexact Ho

/-- What a slot needs beside its table, its two counters and its plane of the result, and gives back. -/
abbrev Bench (q' : PosShare TreeShare) (fI : Buf (Elt F) (idx.view.loc (thr d i))) : sProp 𝕄 :=
  iprop(Owes d i O W ∗ semVal (thr d i, .dma sG) 0
    ∗ (∃ g, grp.view.loc (thr d i) ↦[grp.view.set]{fullShare} g)
    ∗ (∃ g, ids.view.loc (thr d i) ↦[ids.view.set]{fullShare} g)
    ∗ (∃ f, sel.view.loc (thr d i) ↦[sel.view.set]{fullShare} f)
    ∗ (idx.view.loc (thr d i) ↦[idx.view.set]{q'} fI))

/-- A slot: its plane's four chunks of this tile hold the rows its indices name. -/
theorem runs_slot (hn : 8 * n ≤ 2 ^ 31) (q' : PosShare TreeShare) (fI : Buf (Elt F) (idx.view.loc (thr d i)))
    (hX : ∀ y, ((idxRow i idx k).view.read (Elt F) fI y : BitVec 32).toNat < 8 * n)
    (Go fo : Buf (Elt F) (out.view.loc (thr d i)))
    (hG : ∀ t x, (outChunk i out k t).view.read (Elt F) Go x
      = chunkV (tab.view.read (Elt F) fT) ((idxRow i idx k).view.read (Elt F) fI) t x) :
    iprop(Transfers.MayWaits (thr d i) (default : HIx 1) O ∗ Bench d i idx grp sel ids sG O W q' fI
        ∗ (tab.view.loc (thr d i) ↦[tab.view.set]{q} fT) ∗ semVal (thr d i, .dma sI) 0 ∗ semVal (thr d i, .dma sO) 0
        ∗ bigSep Finset.univ fun t => (out.view.loc (thr d i) ↦[(outChunk i out k t).view.set]{fullShare} fo))
      ⊢ Runs d i (slotP i tab hz idx out grp sel hsel ids hids sG sI sO k) fun _ =>
          iprop(Bench d i idx grp sel ids sG O W q' fI
            ∗ (tab.view.loc (thr d i) ↦[tab.view.set]{q} fT) ∗ semVal (thr d i, .dma sI) 0 ∗ semVal (thr d i, .dma sO) 0
            ∗ bigSep Finset.univ fun t => (out.view.loc (thr d i) ↦[(outChunk i out k t).view.set]{fullShare} Go)) := by
  have hrd (g : Buf (Elt F) (ids.view.loc (thr d i))) :
      ids.view.read (Elt F) (ids.view.write (Elt F) g ((idxRow i idx k).view.read (Elt F) fI) Finset.univ) = (idxRow i idx k).view.read (Elt F) fI :=
    View.read_write_univ _ _
  have hsub : (idxRow i idx k).view.set ⊆ idx.view.set := (View.set_reshape ..).subset.trans (View.set_slice_subset ..)
  have hsplit : (idx.view.loc (thr d i) ↦[idx.view.set]{q'} fI : sProp 𝕄)
      ⊣⊢ iprop(((idxRow i idx k).view.loc (thr d i) ↦[(idxRow i idx k).view.set]{q'} fI)
        ∗ (idx.view.loc (thr d i) ↦[idx.view.set \ (idxRow i idx k).view.set]{q'} fI)) := pointsTo_split_subset hsub
  have hchunk (g : Buf (Elt F) (ids.view.loc (thr d i))) (t : Fin k0_t1_loop.trips) :=
    runs_chunk d i tab hz out grp sel hsel ids sG sO O W fT q (ids.view.write (Elt F) g ((idxRow i idx k).view.read (Elt F) fI) Finset.univ) k hn
      (fun y => by rw [hrd]; exact hX y) t Go fo (fun x => by rw [hrd]; exact hG t x)
  have hstep (g : Buf (Elt F) (ids.view.loc (thr d i))) (t : Fin k0_t1_loop.trips) :
      iprop(iprop(Transfers.MayWaits (thr d i) (default : HIx 1) O
        ∗ Kit d i tab grp ids sG O W fT q (ids.view.write (Elt F) g ((idxRow i idx k).view.read (Elt F) fI) Finset.univ)
        ∗ (∃ f, sel.view.loc (thr d i) ↦[sel.view.set]{fullShare} f) ∗ semVal (thr d i, .dma sO) 0)
        ∗ (out.view.loc (thr d i) ↦[(outChunk i out k t).view.set]{fullShare} fo))
      ⊢ Runs d i (chunkP i tab hz out grp sel hsel ids sG sO k t) fun _ =>
        iprop(iprop(Transfers.MayWaits (thr d i) (default : HIx 1) O
        ∗ Kit d i tab grp ids sG O W fT q (ids.view.write (Elt F) g ((idxRow i idx k).view.read (Elt F) fI) Finset.univ)
        ∗ (∃ f, sel.view.loc (thr d i) ↦[sel.view.set]{fullShare} f) ∗ semVal (thr d i, .dma sO) 0)
        ∗ (out.view.loc (thr d i) ↦[(outChunk i out k t).view.set]{fullShare} Go)) := by
    iintro ⟨⟨#Hmw, HK, Hs, Hv⟩, Ho⟩
    iapply (wp_wand_r frame)
    isplitl [HK Hs Hv Ho]
    · iapply (hchunk g t)
      isplitl []; · iexact Hmw
      isplitl [HK]; · iexact HK
      isplitl [Hs]; · iexact Hs
      isplitl [Hv]; · iexact Hv
      iexact Ho
    iintro %_ ⟨HK, Hs, Hv, Ho⟩
    isplitr [Ho]
    · isplitl []; · iexact Hmw
      isplitl [HK]; · iexact HK
      isplitl [Hs]; · iexact Hs
      iexact Hv
    iexact Ho
  unfold slotP
  iintro ⟨#Hmw, ⟨HO, Hv, Hg, ⟨%g, Hx⟩, Hs, Hi⟩, Ht, HvI, HvO, Ho⟩
  rw [← bind_assoc]
  ihave Hi := hsplit.1 $$ Hi
  icases Hi with ⟨Hi, Hr⟩
  iapply (runs_seq d i (runs_copy d i (idxRow i idx k) ids sI (by decide) q' fI g _ (fun x => congrFun (hrd g) x) O W))
  isplitl [HO HvI Hi Hx]
  · isplitl []; · iexact Hmw
    isplitl [HO]; · iexact HO
    isplitl [HvI]; · iexact HvI
    isplitl [Hi]; · iexact Hi
    iexact Hx
  iintro %_ ⟨HO, HvI, Hi, Hx⟩
  ihave Hi := hsplit.2 $$ [Hi Hr]
  · isplitl [Hi]; · iexact Hi
    iexact Hr
  iapply (runs_seq d i (runs_each d i k0_t1_loop k0_t1_ok 0#32 (chunkP i tab hz out grp sel hsel ids sG sO k)
    iprop(Transfers.MayWaits (thr d i) (default : HIx 1) O
        ∗ Kit d i tab grp ids sG O W fT q (ids.view.write (Elt F) g ((idxRow i idx k).view.read (Elt F) fI) Finset.univ)
        ∗ (∃ f, sel.view.loc (thr d i) ↦[sel.view.set]{fullShare} f) ∗ semVal (thr d i, .dma sO) 0)
    (fun t => (out.view.loc (thr d i) ↦[(outChunk i out k t).view.set]{fullShare} fo))
    (fun t => (out.view.loc (thr d i) ↦[(outChunk i out k t).view.set]{fullShare} Go)) (hstep g)))
  isplitl [HO Hv Hg Hx Hs Ht HvO Ho]
  · isplitr [Ho]
    · isplitl []; · iexact Hmw
      isplitl [HO Hv Hg Hx Ht]
      · isplitl [HO]; · iexact HO
        isplitl [Hv]; · iexact Hv
        isplitl [Ht]; · iexact Ht
        isplitl [Hg]; · iexact Hg
        iexact Hx
      isplitl [Hs]; · iexact Hs
      iexact HvO
    iexact Ho
  iintro %_ ⟨⟨-, ⟨HO, Hv, Ht, Hg, Hx⟩, Hs, HvO⟩, Ho⟩
  simp only [Runs]
  sl_step
  isplitl [HO Hv Hg Hx Hs Hi]
  · isplitl [HO]; · iexact HO
    isplitl [Hv]; · iexact Hv
    isplitl [Hg]; · iexact Hg
    isplitl [Hx]; · iexists _; iexact Hx
    isplitl [Hs]; · iexact Hs
    iexact Hi
  isplitl [Ht]; · iexact Ht
  isplitl [HvI]; · iexact HvI
  isplitl [HvO]; · iexact HvO
  iexact Ho

end

end

end Cert.Proof.Gather

end
-- ==== Proof.Tile.lean ====
/- One tile's whole task: the nine slots in order, from a share of each table and of the index array and the tile's part
   of the result at any contents, to the same shares and the tile's part holding the gathered rows `rowsOf`. -/
module

public import proofs.«01_k».proof.Proof.Chunk
public import Idealize.ShloMosaic.Lib.ValueLayout

@[expose] public section

noncomputable section

namespace Cert.Proof.Gather

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

local notation "𝕄" => MT nD τ sig (HIx 1) (Elt F) ℕ UU ℕ

/-! ## What the gather computes -/

/-- The rows of slot `k`, by the word that names one: slot 0 from the user table, 1 from the item table, 2 to 5 from the
    category table, 6 to 8 from the history table. -/
def slotRow (TU : Vec F (Tab 12500) .f32) (TI : Vec F (Tab 125000) .f32) (TC : Vec F (Tab 125) .f32) (TH : Vec F (Tab 125000) .f32) :
    Fin 9 → BitVec 32 → Fin 32 → Elt F .f32 :=
  ![pick TU, pick TI, pick TC, pick TC, pick TC, pick TC, pick TH, pick TH, pick TH]

/-- How many rows slot `k`'s table has. -/
def lim : Fin 9 → ℕ := ![100000, 1000000, 1000, 1000, 1000, 1000, 1000000, 1000000, 1000000]

/-- Where the index of row `p` of slot `k` stands in the index array of blocks of 512. -/
def idxAt (k : Fin 9) (p : Fin 16384) : S288x4x128.Idx :=
  ValueIdx.ix3 ⟨32 * k.val + p.val / 512, by have := k.isLt; have := p.isLt; omega⟩ ⟨p.val % 512 / 128, by omega⟩ ⟨p.val % 128, by omega⟩

/-- Every index names a row of its table. -/
def Fits (X : Vec F S288x4x128 .i32) : Prop := ∀ k p, (X (idxAt k p) : BitVec 32).toNat < lim k

/-- The gathered rows: row `p` of plane `k` is the row of slot `k`'s table that its index names. -/
def rowsOf (TU : Vec F (Tab 12500) .f32) (TI : Vec F (Tab 125000) .f32) (TC : Vec F (Tab 125) .f32) (TH : Vec F (Tab 125000) .f32)
    (X : Vec F S288x4x128 .i32) : Vec F S9x16384x32 .f32 := fun y => slotRow TU TI TC TH (y 0) (X (idxAt (y 0) (y 1))) (y 2)

/-! ## The parts of the result -/

/-- The TensorCore's thread of device `d`, under whose names the arrays stand. -/
abbrev tc (d : Dev nD) : Thread nD τ := SparseCore.T d

/-- The number of the tile at `i`, from 0 to 31: it works on rows `512 n` to `512 n + 511` of every plane. -/
def num (i : grid0.Coords) : ℕ := 2 * (i 1).val + (i 0).val
theorem num_lt (i : grid0.Coords) : num i < 32 := by
  have h0 := (i 0).isLt; have h1 := (i 1).isLt
  change _ < 2 at h0; change _ < 16 at h1
  unfold num; omega

/-- The rows tile `n` works on. -/
def tileSet (n : ℕ) : Finset S9x16384x32.Idx := Finset.univ.filter fun y => (y 1).val / 512 = n
/-- Those of plane `k`. -/
def slotSet (n : ℕ) (k : Fin 9) : Finset S9x16384x32.Idx := Finset.univ.filter fun y => (y 0).val = k.val ∧ (y 1).val / 512 = n

theorem oOff_row : ∀ (i : grid0.Coords) (t : Fin k0_t1_loop.trips), oOff i 0 t 1 = 512 * (2 * (i 1).val + (i 0).val) + 128 * t.val := by
  decide +kernel

abbrev uV : Memref sig .scVector .hbm (Tab 12500) .f32 := Memref.whole main_v11_scv
abbrev iV : Memref sig .scVector .hbm (Tab 125000) .f32 := Memref.whole main_v12_scv
abbrev cV : Memref sig .scVector .hbm (Tab 125) .f32 := Memref.whole main_v13_scv
abbrev hV : Memref sig .scVector .hbm (Tab 125000) .f32 := Memref.whole main_v14_scv
abbrev xV : Memref sig .scVector .hbm S288x4x128 .i32 := Memref.whole main_v10_scv
abbrev oV : Memref sig .scVector .hbm S9x16384x32 .f32 := Memref.whole main_v15_scv
abbrev gV : Memref sig .scVector .vmem S16x8x32 .f32 := Memref.whole cc0_scratch1
abbrev sV : Memref sig .scVector .vmem S128x32 .f32 := Memref.whole cc0_scratch2
abbrev nV : Memref sig .scVector .vmem S4x128 .i32 := Memref.whole cc0_scratch3

/-- Those of chunk `t` of plane `k`. -/
def chunkSet (i : grid0.Coords) (k : Fin 9) (t : Fin k0_t1_loop.trips) : Finset S9x16384x32.Idx :=
  (Rect.unit (s := S9x16384x32) (oOff i k t) S1x128x32.size (oOff_inb i k t)).set

theorem chunk_set (i : grid0.Coords) (k : Fin 9) (t : Fin k0_t1_loop.trips) : (outChunk i oV k t).view.set = chunkSet i k t := by
  show ((oV.view.slice (Rect.unit (s := S9x16384x32) (oOff i k t) S1x128x32.size (oOff_inb i k t))).reshape S128x32 _).set = _
  rw [View.set_reshape, View.set_slice]; exact Finset.map_refl

theorem mem_chunk (i : grid0.Coords) (k : Fin 9) (t : Fin k0_t1_loop.trips) (y : S9x16384x32.Idx) :
    y ∈ chunkSet i k t ↔ (y 0).val = k.val ∧ (y 1).val / 128 = 4 * num i + t.val := by
  have hr : oOff i k t 1 = 512 * num i + 128 * t.val := oOff_row i t
  unfold chunkSet
  rw [Rect.mem_set_unit]
  constructor
  · intro h
    have h0 := h 0; have h1 := h 1
    change k.val ≤ (y 0).val ∧ (y 0).val < k.val + 1 at h0
    rw [hr] at h1
    change _ ≤ (y 1).val ∧ (y 1).val < _ + 128 at h1
    omega
  · intro h a
    match a with
    | 0 => show k.val ≤ (y 0).val ∧ (y 0).val < k.val + 1; omega
    | 1 => rw [hr]; show _ ≤ (y 1).val ∧ (y 1).val < _ + 128; omega
    | 2 => exact ⟨Nat.zero_le _, by show (y 2).val < 0 + 32; have := (y 2).isLt; change _ < 32 at this; omega⟩

theorem chunk_disjoint (i : grid0.Coords) (k : Fin 9) : ∀ t ∈ (Finset.univ : Finset (Fin k0_t1_loop.trips)), ∀ t' ∈ (Finset.univ : Finset (Fin k0_t1_loop.trips)),
    t ≠ t' → Disjoint (chunkSet i k t) (chunkSet i k t') := by
  intro t _ t' _ hne
  rw [Finset.disjoint_left]
  intro y h h'
  rw [mem_chunk] at h h'
  exact hne (Fin.ext (by omega))

theorem chunk_union (i : grid0.Coords) (k : Fin 9) :
    (Finset.univ : Finset (Fin k0_t1_loop.trips)).biUnion (chunkSet i k) = slotSet (num i) k := by
  ext y
  rw [Finset.mem_biUnion]
  simp only [mem_chunk, slotSet, Finset.mem_filter, Finset.mem_univ, true_and]
  constructor
  · rintro ⟨t, h0, h1⟩
    have ht : t.val < 4 := lt_of_lt_of_eq t.isLt trips1
    exact ⟨h0, by omega⟩
  · rintro ⟨h0, h1⟩
    exact ⟨⟨(y 1).val / 128 - 4 * num i, by rw [trips1]; omega⟩, h0, by show _ = _ + ((y 1).val / 128 - 4 * num i); omega⟩

theorem slot_disjoint (n : ℕ) : ∀ k ∈ (Finset.univ : Finset (Fin 9)), ∀ k' ∈ (Finset.univ : Finset (Fin 9)),
    k ≠ k' → Disjoint (slotSet n k) (slotSet n k') := by
  intro k _ k' _ hne
  rw [Finset.disjoint_left]
  intro y h h'
  simp only [slotSet, Finset.mem_filter, Finset.mem_univ, true_and] at h h'
  exact hne (Fin.ext (by omega))

theorem slot_union (n : ℕ) : (Finset.univ : Finset (Fin 9)).biUnion (slotSet n) = tileSet n := by
  ext y
  rw [Finset.mem_biUnion]
  simp only [slotSet, tileSet, Finset.mem_filter, Finset.mem_univ, true_and]
  constructor
  · rintro ⟨k, h⟩; exact h.2
  · intro h; exact ⟨y 0, rfl, h⟩

section
variable (d : Dev nD) (i : grid0.Coords)

/-- Row `l`, lane `b` of chunk `t` of plane `k` is row `512 n + 128 t + l` of the plane. -/
theorem read_chunk (k : Fin 9) (t : Fin k0_t1_loop.trips) (f : Vec F S9x16384x32 .f32) (l : Fin 128) (b : Fin 32) (p : Fin 16384)
    (hp : p.val = 512 * num i + 128 * t.val + l.val) :
    (outChunk i oV k t).view.read (Elt F) f (ValueIdx.ix2 l b) = f (ValueIdx.ix3 k p b) := by
  have e : (outChunk i oV k t).view.read (Elt F) f (ValueIdx.ix2 l b)
      = f ((Rect.unit (s := S9x16384x32) (oOff i k t) S1x128x32.size (oOff_inb i k t)).emb
        (Shape.reshapeEquiv squeezes_S1x128x32_S128x32.numel_eq (ValueIdx.ix2 l b))) := rfl
  have hr : oOff i k t 1 = 512 * num i + 128 * t.val := oOff_row i t
  have hq : Shape.reshapeEquiv squeezes_S1x128x32_S128x32.numel_eq (ValueIdx.ix2 l b) = ValueIdx.ix3 (0 : Fin 1) l b :=
    ValueIdx.reshapeEquiv_ix2_1ab _ l b
  rw [e, hq]
  congr 1
  funext a
  match a with
  | 0 => exact Fin.ext (by rw [Rect.emb_apply]; show k.val + 1 * 0 = k.val; omega)
  | 1 => exact Fin.ext (by rw [Rect.emb_apply]; show oOff i k t 1 + 1 * l.val = p.val; rw [hr]; omega)
  | 2 => exact Fin.ext (by rw [Rect.emb_apply]; show 0 + 1 * b.val = b.val; omega)

/-- Word `(t, l)` of slot `k`'s indices is that of row `512 n + 128 t + l`. -/
theorem read_idx (k : Fin 9) (f : Vec F S288x4x128 .i32) (t : Fin 4) (l : Fin 128) (p : Fin 16384)
    (hp : p.val = 512 * num i + 128 * t.val + l.val) :
    (idxRow i xV k).view.read (Elt F) f (ValueIdx.ix2 t l) = f (idxAt k p) := by
  have e : (idxRow i xV k).view.read (Elt F) f (ValueIdx.ix2 t l)
      = f ((Rect.unit (s := S288x4x128) (k0_off1 i (BitVec.ofNat 32 (32 * k.val))) S1x4x128.size (iOff_inb i k)).emb
        (Shape.reshapeEquiv squeezes_S1x4x128_S4x128.numel_eq (ValueIdx.ix2 t l))) := rfl
  have hq : Shape.reshapeEquiv squeezes_S1x4x128_S4x128.numel_eq (ValueIdx.ix2 t l) = ValueIdx.ix3 (0 : Fin 1) t l :=
    ValueIdx.reshapeEquiv_ix2_1ab _ t l
  have ht := t.isLt
  have hl := l.isLt
  have ho := k0_off1_eq i k
  rw [e, hq]
  unfold idxAt
  congr 1
  funext a
  match a with
  | 0 => exact Fin.ext (by
      rw [Rect.emb_apply]; show k0_off1 i (BitVec.ofNat 32 (32 * k.val)) 0 + 1 * 0 = 32 * k.val + p.val / 512
      rw [ho]; show 32 * k.val + 2 * (i 1).val + (i 0).val + 1 * 0 = _
      unfold num at hp; omega)
  | 1 => exact Fin.ext (by
      rw [Rect.emb_apply]; show k0_off1 i (BitVec.ofNat 32 (32 * k.val)) 1 + 1 * t.val = p.val % 512 / 128
      rw [ho]; show 0 + 1 * t.val = _
      omega)
  | 2 => exact Fin.ext (by
      rw [Rect.emb_apply]; show k0_off1 i (BitVec.ofNat 32 (32 * k.val)) 2 + 1 * l.val = p.val % 128
      rw [ho]; show 0 + 1 * l.val = _
      omega)

theorem ix2_eta {a b : ℕ} (x : (⟨2, ![a, b]⟩ : Shape).Idx) : x = ValueIdx.ix2 (x 0 : Fin a) (x 1 : Fin b) := by
  funext c
  match c with
  | 0 => rfl
  | 1 => rfl

/-- A slot's plane of the gathered rows, chunk by chunk: where its rows are those of the table `T`. -/
theorem chunk_rows (TU : Vec F (Tab 12500) .f32) (TI : Vec F (Tab 125000) .f32) (TC : Vec F (Tab 125) .f32) (TH : Vec F (Tab 125000) .f32)
    (X : Vec F S288x4x128 .i32) (k : Fin 9) {n : ℕ} [NeZero n] (T : Vec F (Tab n) .f32) (hT : slotRow TU TI TC TH k = pick T)
    (t : Fin k0_t1_loop.trips) (x : S128x32.Idx) :
    (outChunk i oV k t).view.read (Elt F) (rowsOf TU TI TC TH X) x = chunkV T ((idxRow i xV k).view.read (Elt F) X) t x := by
  have ht : t.val < 4 := lt_of_lt_of_eq t.isLt trips1
  have hn := num_lt i
  have hl : (x 0).val < 128 := (x 0).isLt
  have hp : 512 * num i + 128 * t.val + (x 0).val < 16384 := by omega
  have hx : x = ValueIdx.ix2 (x 0 : Fin 128) (x 1 : Fin 32) := ix2_eta x
  have h := read_chunk (F := F) i k t (rowsOf TU TI TC TH X) (x 0) (x 1) ⟨_, hp⟩ rfl
  rw [hx]
  refine h.trans ?_
  show slotRow TU TI TC TH k (X (idxAt k ⟨_, hp⟩)) (x 1) = pick T _ (x 1)
  rw [hT]
  congr 1
  exact (read_idx (F := F) i k X _ _ ⟨_, hp⟩ rfl).symm

/-- Slot `k`'s indices name rows of its table. -/
theorem fits_row (X : Vec F S288x4x128 .i32) (hX : Fits (F := F) X) (k : Fin 9) (y : S4x128.Idx) :
    ((idxRow i xV k).view.read (Elt F) X y : BitVec 32).toNat < lim k := by
  have hn := num_lt i
  have h0 : (y 0).val < 4 := (y 0).isLt
  have hl : (y 1).val < 128 := (y 1).isLt
  have hp : 512 * num i + 128 * (y 0).val + (y 1).val < 16384 := by omega
  have hy : y = ValueIdx.ix2 (y 0 : Fin 4) (y 1 : Fin 128) := ix2_eta y
  have h := read_idx (F := F) i k X (y 0) (y 1) ⟨_, hp⟩ rfl
  rw [hy]
  exact lt_of_eq_of_lt (congrArg BitVec.toNat h) (hX k _)

/-! ## The run -/

/-- The counters of a slot's index fetch and of its write-outs. -/
def semI : Fin 9 → DmaSem sig := ![cc0_scoped0.sem, cc0_scoped2.sem, cc0_scoped4.sem, cc0_scoped6.sem, cc0_scoped8.sem, cc0_scoped10.sem,
  cc0_scoped12.sem, cc0_scoped14.sem, cc0_scoped16.sem]
def semO : Fin 9 → DmaSem sig := ![cc0_scoped1.sem, cc0_scoped3.sem, cc0_scoped5.sem, cc0_scoped7.sem, cc0_scoped9.sem, cc0_scoped11.sem,
  cc0_scoped13.sem, cc0_scoped15.sem, cc0_scoped17.sem]
abbrev semG : DmaSem sig := cc0_scratch4.sem

variable (O : CellTallies nD τ sig (HIx 1)) (W : Waits sig (HIx 1)) (q : PosShare TreeShare)
  (fU : Buf (Elt F) ((tc d).loc main_v11)) (fI : Buf (Elt F) ((tc d).loc main_v12)) (fC : Buf (Elt F) ((tc d).loc main_v13))
  (fH : Buf (Elt F) ((tc d).loc main_v14)) (fX : Buf (Elt F) ((tc d).loc main_v10)) (fo : Buf (Elt F) ((tc d).loc main_v15))

/-- What the slots share: the evidence for the waits, the buffers, a share of the index array. -/
abbrev Desk : sProp 𝕄 := iprop(Transfers.MayWaits (thr d i) (default : HIx 1) O ∗ Bench d i xV gV sV nV semG O W q fX)
/-- A share of each table. -/
abbrev Tabs : sProp 𝕄 := iprop((uV.view.loc (thr d i) ↦[uV.view.set]{q} fU) ∗ (iV.view.loc (thr d i) ↦[iV.view.set]{q} fI)
  ∗ (cV.view.loc (thr d i) ↦[cV.view.set]{q} fC) ∗ (hV.view.loc (thr d i) ↦[hV.view.set]{q} fH))
/-- Slot `k`'s own: its two counters and its part of the result. -/
abbrev Own (f : Buf (Elt F) ((tc d).loc main_v15)) (k : Fin 9) : sProp 𝕄 :=
  iprop(semVal (thr d i, .dma (semI k)) 0 ∗ semVal (thr d i, .dma (semO k)) 0 ∗ ((tc d).loc main_v15 ↦[slotSet (num i) k]{fullShare} f))

/-- A slot's part of the result is its chunks. -/
theorem slot_chunks (k : Fin 9) (f : Buf (Elt F) ((tc d).loc main_v15)) :
    ((tc d).loc main_v15 ↦[slotSet (num i) k]{fullShare} f : sProp 𝕄)
      = bigSep Finset.univ fun t => (oV.view.loc (thr d i) ↦[(outChunk i oV k t).view.set]{fullShare} f) := by
  refine Eq.trans ?_ ((pointsTo_biUnion (ℓ := (tc d).loc main_v15) (q := fullShare) (f := f) Finset.univ (chunkSet i k) (chunk_disjoint i k)).trans (bigSep_congr fun t _ => ?_))
  · rw [chunk_union]
  · rw [← chunk_set]

/-- After `j` slots: those before `j` are done. -/
abbrev Mid (j : ℕ) : sProp 𝕄 := iprop(Desk d i O W q fX ∗ Tabs d i q fU fI fC fH
  ∗ bigSep (Transfers.pending (n := 9) j) (Own d i fo) ∗ bigSep (Transfers.issued (m := 9) j) (Own d i (rowsOf fU fI fC fH fX)))

/-- One slot more. -/
theorem runs_next (hX : Fits (F := F) fX) (k : Fin 9) {n : ℕ} [NeZero n] (tab : Memref sig .scVector .hbm (Tab n) .f32)
    (hz : ∀ a, (![0, 0, 0] : Fin 3 → Nat) a + S1x8x32.size a ≤ (Tab n).size a) (hs : sV.IsWhole) (hi : nV.IsWhole)
    (fT : Buf (Elt F) (tab.view.loc (thr d i))) (hn : 8 * n ≤ 2 ^ 31) (hk : lim k = 8 * n)
    (hT : slotRow fU fI fC fH k = pick (tab.view.read (Elt F) fT)) (R : sProp 𝕄)
    (h₁ : Tabs d i q fU fI fC fH ⊢ iprop((tab.view.loc (thr d i) ↦[tab.view.set]{q} fT) ∗ R))
    (h₂ : iprop((tab.view.loc (thr d i) ↦[tab.view.set]{q} fT) ∗ R) ⊢ Tabs d i q fU fI fC fH) :
    Mid d i O W q fU fI fC fH fX fo k.val
      ⊢ Runs d i (slotP i tab hz xV oV gV sV hs nV hi semG (semI k) (semO k) k) fun _ => Mid d i O W q fU fI fC fH fX fo (k.val + 1) := by
  have e : bigSep (Transfers.issued (m := 9) (k.val + 1)) (Own d i (rowsOf fU fI fC fH fX))
      = iprop(Own d i (rowsOf fU fI fC fH fX) k ∗ bigSep (Transfers.issued k.val) (Own d i (rowsOf fU fI fC fH fX))) := by
    rw [Transfers.issued_succ k.isLt, bigSep_insert (Transfers.not_mem_issued k.isLt)]; rfl
  have hslot := runs_slot d i tab hz xV oV gV sV hs nV hi semG (semI k) (semO k) O W fT q k hn q fX
    (fun y => lt_of_lt_of_eq (fits_row i fX hX k y) hk) (rowsOf fU fI fC fH fX) fo
    (fun t x => chunk_rows i fU fI fC fH fX k (tab.view.read (Elt F) fT) hT t x)
  unfold Mid
  rw [Transfers.bigSep_pending_step _ k.val k.isLt, e]
  iintro ⟨⟨#Hmw, HB⟩, HT, ⟨⟨HI, HO, Ho⟩, Hp⟩, Hd⟩
  ihave HT := h₁ $$ HT
  icases HT with ⟨Ht, HR⟩
  ihave Ho := (Entails.of_eq (slot_chunks d i k fo)) $$ Ho
  iapply (wp_wand_r frame)
  isplitl [HB Ht HI HO Ho]
  · iapply hslot
    isplitl []; · iexact Hmw
    isplitl [HB]; · iexact HB
    isplitl [Ht]; · iexact Ht
    isplitl [HI]; · iexact HI
    isplitl [HO]; · iexact HO
    iexact Ho
  iintro %_ ⟨HB, Ht, HI, HO, Ho⟩
  ihave Ho := (Entails.of_eq (slot_chunks d i k (rowsOf fU fI fC fH fX)).symm) $$ Ho
  isplitl [HB]
  · isplitl []; · iexact Hmw
    iexact HB
  isplitl [Ht HR]
  · iapply h₂
    isplitl [Ht]; · iexact Ht
    iexact HR
  isplitl [Hp]; · iexact Hp
  isplitl [HI HO Ho]
  · isplitl [HI]; · iexact HI
    isplitl [HO]; · iexact HO
    iexact Ho
  iexact Hd

/-- The whole task. -/
theorem runs_task (hX : Fits (F := F) fX) :
    Mid d i O W q fU fI fC fH fX fo 0
      ⊢ Runs d i (cc0__sc_gather_body i uV (Memref.isWhole_whole _) iV (Memref.isWhole_whole _) cV (Memref.isWhole_whole _) hV (Memref.isWhole_whole _)
          xV (Memref.isWhole_whole _) oV (Memref.isWhole_whole _) (Memref.whole cc0_scratch0) (Memref.isWhole_whole _) gV (Memref.isWhole_whole _)
          sV (Memref.isWhole_whole _) nV (Memref.isWhole_whole _) cc0_scratch4 cc0_scoped0 cc0_scoped1 cc0_scoped2 cc0_scoped3 cc0_scoped4 cc0_scoped5
          cc0_scoped6 cc0_scoped7 cc0_scoped8 cc0_scoped9 cc0_scoped10 cc0_scoped11 cc0_scoped12 cc0_scoped13 cc0_scoped14 cc0_scoped15
          cc0_scoped16 cc0_scoped17) fun _ => Mid d i O W q fU fI fC fH fX fo 9 := by
  rw [body_eq]
  have u := runs_next d i O W q fU fI fC fH fX fo hX
  have hU (k : Fin 9) (hk : lim k = 8 * 12500) (hT : slotRow fU fI fC fH k = pick fU) :=
    u k uV inb_S12500x8x32_S1x8x32_0_0_0 (Memref.isWhole_whole _) (Memref.isWhole_whole _) fU (by decide) hk hT _ .rfl .rfl
  have hI (k : Fin 9) (hk : lim k = 8 * 125000) (hT : slotRow fU fI fC fH k = pick fI) :=
    u k iV inb_S125000x8x32_S1x8x32_0_0_0 (Memref.isWhole_whole _) (Memref.isWhole_whole _) fI (by decide) hk hT
      iprop((uV.view.loc (thr d i) ↦[uV.view.set]{q} fU) ∗ (cV.view.loc (thr d i) ↦[cV.view.set]{q} fC) ∗ (hV.view.loc (thr d i) ↦[hV.view.set]{q} fH))
      (by iintro ⟨A, B, C, D⟩
          isplitl [B]; · iexact B
          isplitl [A]; · iexact A
          isplitl [C]; · iexact C
          iexact D)
      (by iintro ⟨B, A, C, D⟩
          isplitl [A]; · iexact A
          isplitl [B]; · iexact B
          isplitl [C]; · iexact C
          iexact D)
  have hC (k : Fin 9) (hk : lim k = 8 * 125) (hT : slotRow fU fI fC fH k = pick fC) :=
    u k cV inb_S125x8x32_S1x8x32_0_0_0 (Memref.isWhole_whole _) (Memref.isWhole_whole _) fC (by decide) hk hT
      iprop((uV.view.loc (thr d i) ↦[uV.view.set]{q} fU) ∗ (iV.view.loc (thr d i) ↦[iV.view.set]{q} fI) ∗ (hV.view.loc (thr d i) ↦[hV.view.set]{q} fH))
      (by iintro ⟨A, B, C, D⟩
          isplitl [C]; · iexact C
          isplitl [A]; · iexact A
          isplitl [B]; · iexact B
          iexact D)
      (by iintro ⟨C, A, B, D⟩
          isplitl [A]; · iexact A
          isplitl [B]; · iexact B
          isplitl [C]; · iexact C
          iexact D)
  have hH (k : Fin 9) (hk : lim k = 8 * 125000) (hT : slotRow fU fI fC fH k = pick fH) :=
    u k hV inb_S125000x8x32_S1x8x32_0_0_0 (Memref.isWhole_whole _) (Memref.isWhole_whole _) fH (by decide) hk hT
      iprop((uV.view.loc (thr d i) ↦[uV.view.set]{q} fU) ∗ (iV.view.loc (thr d i) ↦[iV.view.set]{q} fI) ∗ (cV.view.loc (thr d i) ↦[cV.view.set]{q} fC))
      (by iintro ⟨A, B, C, D⟩
          isplitl [D]; · iexact D
          isplitl [A]; · iexact A
          isplitl [B]; · iexact B
          iexact C)
      (by iintro ⟨D, A, B, C⟩
          isplitl [A]; · iexact A
          isplitl [B]; · iexact B
          isplitl [C]; · iexact C
          iexact D)
  have step {p : TP F i PUnit} {r : PUnit → TP F i PUnit} {A B C : sProp 𝕄} (h : A ⊢ Runs d i p fun _ => B) (h' : ∀ x, B ⊢ Runs d i (r x) fun _ => C) :
      A ⊢ Runs d i (p >>= r) fun _ => C := runs_bind d i (h.trans (wp_mono frame _ _ h'))
  exact step (hU 0 rfl rfl) fun _ => step (hI 1 rfl rfl) fun _ => step (hC 2 rfl rfl) fun _ => step (hC 3 rfl rfl) fun _ =>
    step (hC 4 rfl rfl) fun _ => step (hC 5 rfl rfl) fun _ => step (hH 6 rfl rfl) fun _ => step (hH 7 rfl rfl) fun _ => hH 8 rfl rfl

end

end Cert.Proof.Gather

end
-- ==== Proof.Call.lean ====
/- The SparseCore call: what each SparseCore and each of its tiles is handed and gives back, and that the tiles' tasks keep to it.
   A tile is handed a share of each table and of the index array and its part of the result; it gives the same back, the part
   now holding the gathered rows. -/
module

public import proofs.«01_k».proof.Proof.Tile
public import Idealize.ShloMosaic.Lib.SparseCore.Quiescent
public import Idealize.ShloMosaic.Lib.StableHlo.Run

@[expose] public section

noncomputable section

namespace Cert.Proof.Gather

open Idealize.ShloMosaic
open Idealize.ShloMosaic.SparseCore (S V T)
open Idealize.ShloMosaic.SparseCore.Cfg (HIx ownSems0 ownBufs ownCells mem_ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

/-! ## The program's tables of bodies -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-! ## What the call carries -/

/-- The TensorCore's buffer `r`, as a buffer of its device. -/
abbrev at' (r : Ref sig .tc) : DevRef τ sig := Proc.devRef .tc r

variable (A : Dev nD → Valuation τ sig (Elt F))

/-- A share of the four tables and of the index array. -/
abbrev Five (d : Dev nD) (q : PosShare TreeShare) : sProp 𝕄 :=
  iprop(((tc d).loc main_v11 ↦{q} A d (at' main_v11)) ∗ ((tc d).loc main_v12 ↦{q} A d (at' main_v12)) ∗ ((tc d).loc main_v13 ↦{q} A d (at' main_v13))
    ∗ ((tc d).loc main_v14 ↦{q} A d (at' main_v14)) ∗ ((tc d).loc main_v10 ↦{q} A d (at' main_v10)))
/-- The rows gathered from the tables. -/
abbrev rows (d : Dev nD) : Vec F S9x16384x32 .f32 :=
  rowsOf (A d (at' main_v11)) (A d (at' main_v12)) (A d (at' main_v13)) (A d (at' main_v14)) (A d (at' main_v10))
/-- Part `Z` of the result at `f`. -/
abbrev Part (d : Dev nD) (Z : Finset S9x16384x32.Idx) (f : Vec F S9x16384x32 .f32) : sProp 𝕄 := (tc d).loc main_v15 ↦[Z]{fullShare} f

/-- A share is what stays of it and `n` shares dealt from it. -/
theorem five_toks (d : Dev nD) (q : PosShare TreeShare) (n : ℕ) :
    Five A d q ⊣⊢ iprop(Five A d (Transfers.shareDrop q n) ∗ bigSep Finset.univ fun i : Fin n => Five A d (Transfers.shareTok q n i)) := by
  have t (r : Ref sig .tc) := Transfers.pointsTo_toks (Ix := HIx 1) (Name := ℕ) (U := UU) (Lvl := ℕ) (ℓ := (tc d).loc r) (S := Finset.univ) (f := A d (at' r)) q n
  constructor
  · rw [bigSep_sep', bigSep_sep', bigSep_sep', bigSep_sep']
    iintro ⟨H1, H2, H3, H4, H5⟩
    ihave H1 := (t main_v11).1 $$ H1
    ihave H2 := (t main_v12).1 $$ H2
    ihave H3 := (t main_v13).1 $$ H3
    ihave H4 := (t main_v14).1 $$ H4
    ihave H5 := (t main_v10).1 $$ H5
    icases H1 with ⟨A1, B1⟩
    icases H2 with ⟨A2, B2⟩
    icases H3 with ⟨A3, B3⟩
    icases H4 with ⟨A4, B4⟩
    icases H5 with ⟨A5, B5⟩
    isplitl [A1 A2 A3 A4 A5]
    · isplitl [A1]; · iexact A1
      isplitl [A2]; · iexact A2
      isplitl [A3]; · iexact A3
      isplitl [A4]; · iexact A4
      iexact A5
    · isplitl [B1]; · iexact B1
      isplitl [B2]; · iexact B2
      isplitl [B3]; · iexact B3
      isplitl [B4]; · iexact B4
      iexact B5
  · rw [bigSep_sep', bigSep_sep', bigSep_sep', bigSep_sep']
    iintro ⟨⟨A1, A2, A3, A4, A5⟩, B1, B2, B3, B4, B5⟩
    isplitl [A1 B1]; · iapply (t main_v11).2; isplitl [A1] <;> iassumption
    isplitl [A2 B2]; · iapply (t main_v12).2; isplitl [A2] <;> iassumption
    isplitl [A3 B3]; · iapply (t main_v13).2; isplitl [A3] <;> iassumption
    isplitl [A4 B4]; · iapply (t main_v14).2; isplitl [A4] <;> iassumption
    iapply (t main_v10).2; isplitl [A5] <;> iassumption

/-- The part of the result SparseCore `c` fills: its tiles are those of number `c` modulo two. -/
def coreSet (c : ℕ) : Finset S9x16384x32.Idx := Finset.univ.filter fun y => (y 1).val / 512 % 2 = c

/-- What SparseCore `c` is handed, the result at `f`; and tile `j` of it. -/
abbrev CoreHas (d : Dev nD) (c : Fin ((K (F := F)).nCore 0)) (f : Vec F S9x16384x32 .f32) : sProp 𝕄 :=
  iprop(Five A d (Transfers.shareTok fullShare _ c) ∗ Part d (coreSet c.val) f)
abbrev TileHas (d : Dev nD) (c : Fin ((K (F := F)).nCore 0)) (j : Fin ((K (F := F)).nSub 0)) (f : Vec F S9x16384x32 .f32) : sProp 𝕄 :=
  iprop(Five A d (Transfers.shareTok (Transfers.shareTok fullShare _ c) _ j) ∗ Part d (tileSet (2 * j.val + c.val)) f)

/-- The handshakes' resources. -/
def P : (K (F := F)).Pay (nD := nD) (Val := Elt F) (Name := ℕ) (U := UU) where
  st := fun q d c => match q with | 0 => CoreHas A d c (A d (at' main_v15))
  dn := fun q d c => match q with | 0 => CoreHas A d c (rows A d)
  go := fun q d c j => match q with | 0 => TileHas A d c j (A d (at' main_v15))
  td := fun q d c j => match q with | 0 => TileHas A d c j (rows A d)
  x := fun _ _ => iprop(emp)

instance P_storable : (P A).IsStorable where
  st q d c := match q with | 0 => (inferInstance : BI.Storable (upEmb : UEmb _ 𝕄) (CoreHas A d c (A d (at' main_v15))))
  dn q d c := match q with | 0 => (inferInstance : BI.Storable (upEmb : UEmb _ 𝕄) (CoreHas A d c (rows A d)))
  go q d c j := match q with | 0 => (inferInstance : BI.Storable (upEmb : UEmb _ 𝕄) (TileHas A d c j (A d (at' main_v15))))
  td q d c j := match q with | 0 => (inferInstance : BI.Storable (upEmb : UEmb _ 𝕄) (TileHas A d c j (rows A d)))

/-! ## The parts split and join -/

theorem tile_disjoint (c : ℕ) (n : ℕ) : ∀ j ∈ (Finset.univ : Finset (Fin n)), ∀ j' ∈ (Finset.univ : Finset (Fin n)),
    j ≠ j' → Disjoint (tileSet (2 * j.val + c)) (tileSet (2 * j'.val + c)) := by
  intro j _ j' _ h
  refine Finset.disjoint_left.mpr fun y h1 h2 => h (Fin.ext ?_)
  have e1 := (Finset.mem_filter.mp h1).2
  have e2 := (Finset.mem_filter.mp h2).2
  omega

theorem row_lt (y : S9x16384x32.Idx) : (y 1).val < 16384 := (y 1).isLt

theorem tile_union (c : Fin 2) : (Finset.univ : Finset (Fin 16)).biUnion (fun j => tileSet (2 * j.val + c.val)) = coreSet c.val := by
  ext y
  have := row_lt y
  simp only [Finset.mem_biUnion, tileSet, coreSet, Finset.mem_filter, Finset.mem_univ, true_and]
  constructor
  · rintro ⟨j, hj⟩; omega
  · intro h; exact ⟨⟨(y 1).val / 512 / 2, by omega⟩, by show _ = 2 * ((y 1).val / 512 / 2) + c.val; omega⟩

theorem core_disjoint (n : ℕ) : ∀ c ∈ (Finset.univ : Finset (Fin n)), ∀ c' ∈ (Finset.univ : Finset (Fin n)),
    c ≠ c' → Disjoint (coreSet c.val) (coreSet c'.val) := by
  intro c _ c' _ h
  refine Finset.disjoint_left.mpr fun y h1 h2 => h (Fin.ext ?_)
  exact ((Finset.mem_filter.mp h1).2.symm.trans (Finset.mem_filter.mp h2).2)

theorem core_union : (Finset.univ : Finset (Fin 2)).biUnion (fun c => coreSet c.val) = Finset.univ := by
  ext y
  simp only [Finset.mem_biUnion, coreSet, Finset.mem_filter, Finset.mem_univ, true_and, iff_true]
  exact ⟨⟨(y 1).val / 512 % 2, by omega⟩, rfl⟩

theorem part_tiles (d : Dev nD) (c : Fin ((K (F := F)).nCore 0)) (f : Vec F S9x16384x32 .f32) :
    (Part d (coreSet c.val) f : sProp 𝕄) = bigSep Finset.univ fun j : Fin ((K (F := F)).nSub 0) => Part d (tileSet (2 * j.val + c.val)) f := by
  refine Eq.trans ?_ (pointsTo_biUnion (ℓ := (tc d).loc main_v15) (q := fullShare) (f := f) Finset.univ _ (tile_disjoint c.val _))
  exact congrArg (fun Z => (Part d Z f : sProp 𝕄)) (tile_union c).symm

theorem part_cores (d : Dev nD) (f : Vec F S9x16384x32 .f32) :
    ((tc d).loc main_v15 ↦{fullShare} f : sProp 𝕄) = bigSep Finset.univ fun c : Fin ((K (F := F)).nCore 0) => Part d (coreSet c.val) f := by
  refine Eq.trans ?_ (pointsTo_biUnion (ℓ := (tc d).loc main_v15) (q := fullShare) (f := f) Finset.univ _ (core_disjoint _))
  exact congrArg (fun Z => (Part d Z f : sProp 𝕄)) core_union.symm

theorem tiles_eq (d : Dev nD) (c : Fin ((K (F := F)).nCore 0)) (f : Vec F S9x16384x32 .f32) :
    (bigSep Finset.univ fun j : Fin ((K (F := F)).nSub 0) => TileHas A d c j f : sProp 𝕄)
      = iprop((bigSep Finset.univ fun j : Fin ((K (F := F)).nSub 0) => Five A d (Transfers.shareTok (Transfers.shareTok fullShare _ c) _ j)) ∗ Part d (coreSet c.val) f) := by
  rw [part_tiles]; exact bigSep_sep' ..
theorem cores_eq (d : Dev nD) (f : Vec F S9x16384x32 .f32) :
    (bigSep Finset.univ fun c : Fin ((K (F := F)).nCore 0) => CoreHas A d c f : sProp 𝕄)
      = iprop((bigSep Finset.univ fun c : Fin ((K (F := F)).nCore 0) => Five A d (Transfers.shareTok fullShare _ c)) ∗ ((tc d).loc main_v15 ↦{fullShare} f)) := by
  rw [part_cores]; exact bigSep_sep' ..

/-- A SparseCore's resources are its tiles', and a remainder of the shares kept until they come back. -/
theorem vecSplit : (K (F := F)).VecSplit' (P A) 0 := by
  intro d c
  show CoreHas A d c (A d (at' main_v15)) ⊢ |={Set.univ}=> iprop(
      (bigSep Finset.univ fun j : Fin ((K (F := F)).nSub 0) => TileHas A d c j (A d (at' main_v15)))
      ∗ ((bigSep Finset.univ fun j : Fin ((K (F := F)).nSub 0) => TileHas A d c j (rows A d)) -∗ CoreHas A d c (rows A d)))
  rw [tiles_eq, tiles_eq]
  iintro ⟨HF, HP⟩
  ihave HF := (five_toks A d _ _).1 $$ HF
  icases HF with ⟨Hd, Ht⟩
  imodintro
  isplitl [Ht HP]
  · isplitl [Ht]; · iexact Ht
    iexact HP
  iintro ⟨Ht, HP⟩
  isplitl [Hd Ht]
  · iapply (five_toks A d _ _).2
    isplitl [Hd]; · iexact Hd
    iexact Ht
  iexact HP

/-- The TensorCore's: everything it has of the operands, dealt to the SparseCores, and a remainder of the shares. -/
theorem st_intro (d : Dev nD) (f : Vec F S9x16384x32 .f32) :
    iprop(Five A d fullShare ∗ ((tc d).loc main_v15 ↦{fullShare} f))
      ⊢ iprop(Five A d (Transfers.shareDrop fullShare ((K (F := F)).nCore 0)) ∗ bigSep Finset.univ fun c : Fin ((K (F := F)).nCore 0) => CoreHas A d c f) := by
  rw [cores_eq]
  iintro ⟨HF, HP⟩
  ihave HF := (five_toks A d _ ((K (F := F)).nCore 0)).1 $$ HF
  icases HF with ⟨Hd, Ht⟩
  isplitl [Hd]; · iexact Hd
  isplitl [Ht]; · iexact Ht
  iexact HP
theorem dn_elim (d : Dev nD) (f : Vec F S9x16384x32 .f32) :
    iprop(Five A d (Transfers.shareDrop fullShare ((K (F := F)).nCore 0)) ∗ bigSep Finset.univ fun c : Fin ((K (F := F)).nCore 0) => CoreHas A d c f)
      ⊢ iprop(Five A d fullShare ∗ ((tc d).loc main_v15 ↦{fullShare} f)) := by
  rw [cores_eq]
  iintro ⟨Hd, Ht, HP⟩
  isplitl [Hd Ht]
  · iapply (five_toks A d _ ((K (F := F)).nCore 0)).2
    isplitl [Hd]; · iexact Hd
    iexact Ht
  iexact HP

/-! ## The task of a tile -/

section Task

variable (d : Dev nD) (i : grid0.Coords)

/-- The tile's nineteen counters by name. -/
def semAt : Unit ⊕ (Fin 9 ⊕ Fin 9) → SemLoc sig := Sum.elim (fun _ => .dma semG) (Sum.elim (fun k => .dma (semI k)) (fun k => .dma (semO k)))
theorem semAt_inj : Function.Injective semAt := by decide
theorem semAt_scoped : ∀ x, (semAt x).isScoped .scVector = true := by decide

/-- The tile's counters at zero: the nineteen, and others. -/
theorem ownSems0_tile : ∃ R : sProp 𝕄, (ownSems0 (thr d i) : sProp 𝕄)
    = iprop((semVal (thr d i, .dma semG) 0 ∗ (bigSep Finset.univ fun k => semVal (thr d i, .dma (semI k)) 0)
        ∗ (bigSep Finset.univ fun k => semVal (thr d i, .dma (semO k)) 0)) ∗ R) := by
  classical
  let e : Unit ⊕ (Fin 9 ⊕ Fin 9) → GSem nD τ sig := fun x => (thr d i, semAt x)
  have he : Function.Injective e := fun a b h => semAt_inj (Prod.mk.inj h).2
  have hsub : Finset.univ.image e ⊆ ownCells (thr d i) := by
    intro g hg
    obtain ⟨x, -, rfl⟩ := Finset.mem_image.mp hg
    exact mem_ownCells.mpr ⟨rfl, semAt_scoped x⟩
  refine ⟨bigSep (ownCells (thr d i) \ Finset.univ.image e) fun g => semVal g 0, ?_⟩
  unfold SparseCore.Cfg.ownSems0
  conv_lhs => rw [← Finset.union_sdiff_of_subset hsub]
  refine (bigSep_union Finset.disjoint_sdiff).trans ?_
  rw [SparseCore.bigSep_image_of_injOn (fun a _ b _ h => he h), bigSep_univ_sum, bigSep_univ_sum, bigSep_univ_of_subsingleton ()]
  rfl

/-- The tile's buffers: the three it works in, and others. -/
theorem ownBufs_tile : ∃ R : sProp 𝕄, (ownBufs (thr d i) : sProp 𝕄)
    = iprop((∃ f, (thr d i).loc cc0_scratch1 ↦{fullShare} f) ∗ (∃ f, (thr d i).loc cc0_scratch2 ↦{fullShare} f)
        ∗ (∃ f, (thr d i).loc cc0_scratch3 ↦{fullShare} f) ∗ R) := by
  refine ⟨bigSep ((((ownRefs (τ := τ) (sig := sig) (Proc.scVector ((i 0).castLE hcore0) ((i 1).castLE hsub0))).erase ((Proc.scVector ((i 0).castLE hcore0) ((i 1).castLE hsub0)).devRef cc0_scratch1)).erase
    ((Proc.scVector ((i 0).castLE hcore0) ((i 1).castLE hsub0)).devRef cc0_scratch2)).erase ((Proc.scVector ((i 0).castLE hcore0) ((i 1).castLE hsub0)).devRef cc0_scratch3))
    fun b => iprop(∃ f, ((d, b) : Loc nD τ sig) ↦{fullShare} f), ?_⟩
  unfold SparseCore.Cfg.ownBufs
  have hm (r : Ref sig .scVector) := fun h => SparseCore.Cfg.mem_ownRefs_of_owner (p := (Proc.scVector ((i 0).castLE hcore0) ((i 1).castLE hsub0) : Proc τ))
    (b := (Proc.scVector ((i 0).castLE hcore0) ((i 1).castLE hsub0)).devRef r) h
  have hne (r r' : Ref sig .scVector) (h : r ≠ r') : (Proc.scVector ((i 0).castLE hcore0) ((i 1).castLE hsub0)).devRef r ≠ ((Proc.scVector ((i 0).castLE hcore0) ((i 1).castLE hsub0)).devRef r' : DevRef τ sig) :=
    fun e => h (Proc.devRef_injective _ e)
  refine (SparseCore.bigSep_erase' (hm cc0_scratch1 rfl)).trans ?_
  rw [SparseCore.bigSep_erase' (Finset.mem_erase.mpr ⟨hne cc0_scratch2 cc0_scratch1 (by decide), hm cc0_scratch2 rfl⟩),
    SparseCore.bigSep_erase' (Finset.mem_erase.mpr ⟨hne cc0_scratch3 cc0_scratch2 (by decide), Finset.mem_erase.mpr ⟨hne cc0_scratch3 cc0_scratch1 (by decide), hm cc0_scratch3 rfl⟩⟩)]

/-- The nine slots' own resources: all counters, and the tile's part of the result. -/
theorem owns_eq (f : Buf (Elt F) ((tc d).loc main_v15)) :
    (bigSep Finset.univ (Own d i f) : sProp 𝕄) = iprop((bigSep Finset.univ fun k => semVal (thr d i, .dma (semI k)) 0)
      ∗ (bigSep Finset.univ fun k => semVal (thr d i, .dma (semO k)) 0) ∗ Part d (tileSet (num i)) f) := by
  unfold Own
  rw [bigSep_sep', bigSep_sep']
  congr 2
  refine ((pointsTo_biUnion (ℓ := (tc d).loc main_v15) (q := fullShare) (f := f) Finset.univ (slotSet (num i)) (slot_disjoint _)).symm).trans ?_
  exact congrArg (fun Z => (Part d Z f : sProp 𝕄)) (slot_union (num i))

/-- A tile's own buffer, through the whole of it. -/
theorem own_eq (r : Ref sig .scVector) : (iprop(∃ f, (Memref.whole r).view.loc (thr d i) ↦[(Memref.whole r).view.set]{fullShare} f) : sProp 𝕄)
    = iprop(∃ f, (thr d i).loc r ↦{fullShare} f) := by
  rw [show (Memref.whole r).view.set = Finset.univ from View.set_whole _]
/-- The operands, as the tile addresses them. -/
theorem five_eq (q : PosShare TreeShare) :
    (iprop(Tabs d i q (A d (at' main_v11)) (A d (at' main_v12)) (A d (at' main_v13)) (A d (at' main_v14))
        ∗ (xV.view.loc (thr d i) ↦[xV.view.set]{q} (A d (at' main_v10)))) : sProp 𝕄) = Five A d q := by
  have a (X Y Z : sProp 𝕄) : iprop((X ∗ Y) ∗ Z) = iprop(X ∗ Y ∗ Z) := Entails.antisymm BI.sep_assoc BI.sep_assoc'
  unfold Tabs
  rw [show uV.view.set = Finset.univ from View.set_whole _, show iV.view.set = Finset.univ from View.set_whole _,
    show cV.view.set = Finset.univ from View.set_whole _, show hV.view.set = Finset.univ from View.set_whole _, show xV.view.set = Finset.univ from View.set_whole _,
    a, a, a]

theorem tile_body (hF : (K (F := F)).Facts) (hX : Fits (F := F) (A d (at' main_v10))) (q : PosShare TreeShare)
    (O : CellTallies nD τ sig (HIx 1)) (W : Waits sig (HIx 1)) (hO : ∀ g, O g none = 0) :
    iprop(levAts (K (F := F)).L (K (F := F)).lev ∗ emp ∗ (Five A d q ∗ Part d (tileSet (num i)) (A d (at' main_v15)))
        ∗ scopedBufs (thr d i) ∗ scopedSems0 (thr d i) ∗ owes (thr d i) O W)
      ⊢ Runs d i (cc0__sc_gather_body i uV (Memref.isWhole_whole _) iV (Memref.isWhole_whole _) cV (Memref.isWhole_whole _) hV (Memref.isWhole_whole _)
          xV (Memref.isWhole_whole _) oV (Memref.isWhole_whole _) (Memref.whole cc0_scratch0) (Memref.isWhole_whole _) gV (Memref.isWhole_whole _)
          sV (Memref.isWhole_whole _) nV (Memref.isWhole_whole _) cc0_scratch4 cc0_scoped0 cc0_scoped1 cc0_scoped2 cc0_scoped3 cc0_scoped4 cc0_scoped5
          cc0_scoped6 cc0_scoped7 cc0_scoped8 cc0_scoped9 cc0_scoped10 cc0_scoped11 cc0_scoped12 cc0_scoped13 cc0_scoped14 cc0_scoped15
          cc0_scoped16 cc0_scoped17) fun _ => iprop((Five A d q ∗ Part d (tileSet (num i)) (rows A d))
            ∗ scopedBufs (thr d i) ∗ scopedSems0 (thr d i) ∗ ∃ W', ⌜∀ p ∈ W', p ∈ W ∨ p.2 = none⌝ ∗ owes (thr d i) O W') := by
  obtain ⟨RS, hRS⟩ := ownSems0_tile (F := F) d i
  obtain ⟨RB, hRB⟩ := ownBufs_tile (F := F) d i
  rw [(K (F := F)).scopedBufs_V hF d ((i 0).castLE hcore0) ((i 1).castLE hsub0),
    SparseCore.Cfg.scopedSems0_V (Val := Elt F) d ((i 0).castLE hcore0) ((i 1).castLE hsub0), hRS, hRB]
  have hrun := runs_task d i O W q (A d (at' main_v11)) (A d (at' main_v12)) (A d (at' main_v13)) (A d (at' main_v14)) (A d (at' main_v10)) (A d (at' main_v15)) hX
  rw [← five_eq]
  iintro ⟨#Hlv, -, ⟨HF, HP⟩, ⟨H1, H2, H3, HB⟩, ⟨⟨Hg, HI, HO⟩, HS⟩, Ho⟩
  ihave Hmw := (show levAts (K (F := F)).L (K (F := F)).lev ⊢ Transfers.MayWaits (thr d i) (default : HIx 1) O from (K (F := F)).mayWaits_none (thr := thr d i) hO) $$ Hlv
  ihave Hown := (Entails.of_eq (owns_eq d i (A d (at' main_v15))).symm) $$ [HI HO HP]
  · isplitl [HI]; · iexact HI
    isplitl [HO]; · iexact HO
    iexact HP
  icases HF with ⟨HT, HX⟩
  iapply (wp_wand_r frame)
  isplitr [HS HB]
  · iapply hrun
    unfold Mid
    rw [Transfers.pending_zero, Transfers.issued_zero, bigSep_empty]
    isplitl [Hmw H1 H2 H3 Hg HX Ho]
    · isplitl [Hmw]; · iexact Hmw
      isplitl [Ho]
      · unfold Owes
        iexists W
        isplitl []; · ipureintro; exact fun p hp => .inl hp
        iexact Ho
      isplitl [Hg]; · iexact Hg
      isplitl [H1]; · iapply (Entails.of_eq (own_eq d i cc0_scratch1).symm); iexact H1
      isplitl [H3]; · iapply (Entails.of_eq (own_eq d i cc0_scratch3).symm); iexact H3
      isplitl [H2]; · iapply (Entails.of_eq (own_eq d i cc0_scratch2).symm); iexact H2
      iexact HX
    isplitl [HT]; · iexact HT
    isplitl [Hown]; · iexact Hown
    iempintro
  unfold Mid
  rw [Transfers.issued_all (m := 9) rfl, owns_eq]
  iintro %_ ⟨⟨-, Ho, Hg, H1, H3, H2, HX⟩, HT, -, HI, HO, HP⟩
  unfold Owes
  isplitl [HT HX HP]
  · isplitl [HT HX]
    · isplitl [HT]; · iexact HT
      iexact HX
    iexact HP
  isplitl [H1 H2 H3 HB]
  · isplitl [H1]; · iapply (Entails.of_eq (own_eq d i cc0_scratch1)); iexact H1
    isplitl [H2]; · iapply (Entails.of_eq (own_eq d i cc0_scratch2)); iexact H2
    isplitl [H3]; · iapply (Entails.of_eq (own_eq d i cc0_scratch3)); iexact H3
    iexact HB
  isplitl [Hg HI HO HS]
  · isplitl [Hg HI HO]
    · isplitl [Hg]; · iexact Hg
      isplitl [HI]; · iexact HI
      iexact HO
    iexact HS
  iexact Ho

end Task

/-- A tile's coordinates in the grid. -/
def coordsV (c : Fin (grid0.bound 0)) (s : Fin (grid0.bound 1)) : grid0.Coords := fun | 0 => c | 1 => s | ⟨_ + 2, h⟩ => absurd h (Nat.not_lt.2 (Nat.le_add_left _ _))

theorem defs₀_vector (c : Fin τ.nSC) (s : Fin τ.nSub) : defs₀ (F := F) (.scVector c s) 0 ()
    = SparseCore.onTile hcore0 hsub0 (fun c s => cc0__sc_gather_body (coordsV c s) uV (Memref.isWhole_whole _) iV (Memref.isWhole_whole _) cV (Memref.isWhole_whole _) hV (Memref.isWhole_whole _)
          xV (Memref.isWhole_whole _) oV (Memref.isWhole_whole _) (Memref.whole cc0_scratch0) (Memref.isWhole_whole _) gV (Memref.isWhole_whole _)
          sV (Memref.isWhole_whole _) nV (Memref.isWhole_whole _) cc0_scratch4 cc0_scoped0 cc0_scoped1 cc0_scoped2 cc0_scoped3 cc0_scoped4 cc0_scoped5
          cc0_scoped6 cc0_scoped7 cc0_scoped8 cc0_scoped9 cc0_scoped10 cc0_scoped11 cc0_scoped12 cc0_scoped13 cc0_scoped14 cc0_scoped15
          cc0_scoped16 cc0_scoped17) ⟨⟩ c s := rfl

/-- The recorded waits of a tile's run, as its obligation states them. -/
theorem weaken_record {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW, HO⟩
  isplitl [HX]; · iexact HX
  isplitl [HY]; · iexact HY
  isplitl [HZ]; · iexact HZ
  iexists W'
  isplitr; · ipureintro; exact fun p hp => (hW p hp).imp_right Or.inl
  iexact HO

set_option maxRecDepth 16384 in
/-- Every tile's task meets its obligation. -/
theorem tileObl (hF : (K (F := F)).Facts) (hX : ∀ d, Fits (F := F) (A d (at' main_v10))) : (K (F := F)).TileObl (D (F := F)) 𝒱 (P A) v₀ 0 := by
  intro d c j O W hO _ _
  simp only [show (P A).ox = fun _ _ => 0 from rfl, add_zero]
  have hcj : ((K (F := F)).core 0 c).val < grid0.bound 0 ∧ ((K (F := F)).sub 0 j).val < grid0.bound 1 := ⟨c.isLt, j.isLt⟩
  change _ ⊢ wp _ _ _ (Pipeline.liftProg (defs₀ (F := F) (.scVector ((K (F := F)).core 0 c) ((K (F := F)).sub 0 j)) 0 ())) _
  refine BI.Entails.trans ?_ (Pipeline.wp_liftProg (D (F := F)) (Pipeline.defs_kernel pcfgs defs₀) 𝒱₀ _ Set.univ none _ _)
  rw [defs₀_vector]; simp only [SparseCore.onTile, hcj, and_self, ↓reduceDIte]
  exact (tile_body A d (coordsV ⟨_, hcj.1⟩ ⟨_, hcj.2⟩) hF (hX d) _ O W hO).trans (wp_mono frame _ _ fun _ => weaken_record)

end Cert.Proof.Gather

end
-- ==== Proof.Mlp.lean ====
/- The dense layers' kernel: its body on the blocks of a grid point, and its region of the program. -/
module

public import proofs.«01_k».proof.Proof.Call
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.FrameTail
public import Idealize.ShloMosaic.Lib.Tactic

@[expose] public section

noncomputable section

namespace Cert.Proof.Gather

open Idealize.ShloMosaic
open Idealize.ShloMosaic.SparseCore (S V T)
open Idealize.ShloMosaic.SparseCore.Cfg (HIx ownSems0 ownBufs ownCells mem_ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation ucRefs afterRegion)
open Idealize.ShloMosaic.View (ld)
open Cert.KernelIdeal Cert.KernelIdeal.Gen

variable {F : FTy → Type} [FloatOps F]

local notation "𝕄" => MT nD τ sig (HIx 1) (Elt F) ℕ UU ℕ

/-! ## The body -/

/-- The rectangle of a whole shape selects every index as itself. -/
theorem all_idx {s : Shape} {o : Fin s.rank → ℕ} (ho : ∀ a, o a = 0) (h : ∀ a, o a + s.size a ≤ s.size a) (x : s.Idx) :
    (Rect.unit (s := s) o s.size h).emb x = x := by
  funext a
  apply Fin.ext
  rw [Rect.emb_apply]
  show o a + _ = _
  rw [ho, Nat.zero_add]
  exact Nat.one_mul _

/-- Contents written whole read back. -/
theorem read_all {κ : Kind} {sp : Space} {s : Shape} {e : EltTy} {o : Fin s.rank → ℕ} (ho : ∀ a, o a = 0) (h : ∀ a, o a + s.size a ≤ s.size a)
    (v : View sig κ sp s e) (f : v.ty.Contents (Elt F)) (w : s.Idx → Elt F e) :
    v.read (Elt F) (v.writes (Elt F) f [⟨Rect.unit (s := s) o s.size h, w⟩]) = w := by
  funext y
  have k := View.read_writes_cons_emb v f (Rect.unit (s := s) o s.size h) w [] y
  rwa [all_idx ho h] at k

/-- The scores of a block of rows, from the ten blocks the body loads. -/
def score (X : Vec F S9x1024x32 .f32) (N : Vec F S1024x4 .f32) (W₁ : Vec F S292x512 .f32) (B₁ : Vec F S1x512 .f32) (W₂ : Vec F S512x256 .f32) (B₂ : Vec F S1x256 .f32) (W₃ : Vec F S256x128 .f32) (B₃ : Vec F S1x128 .f32) (W₄ : Vec F S128x1 .f32) (B₄ : Vec F S1x1 .f32) : Vec F S1024x1 .f32 :=
  k1_pay1 (k1_pay2 (ld X (Rect.unit (s := S9x1024x32) ![0, 0, 0] S1x1024x32.size inb_S9x1024x32_S1x1024x32_0_0_0)) (ld X (Rect.unit (s := S9x1024x32) ![1, 0, 0] S1x1024x32.size inb_S9x1024x32_S1x1024x32_1_0_0)) (ld X (Rect.unit (s := S9x1024x32) ![2, 0, 0] S1x1024x32.size inb_S9x1024x32_S1x1024x32_2_0_0)) (ld X (Rect.unit (s := S9x1024x32) ![6, 0, 0] S1x1024x32.size inb_S9x1024x32_S1x1024x32_6_0_0)) (ld X (Rect.unit (s := S9x1024x32) ![7, 0, 0] S1x1024x32.size inb_S9x1024x32_S1x1024x32_7_0_0)) (ld X (Rect.unit (s := S9x1024x32) ![8, 0, 0] S1x1024x32.size inb_S9x1024x32_S1x1024x32_8_0_0)) (ld X (Rect.unit (s := S9x1024x32) ![3, 0, 0] S1x1024x32.size inb_S9x1024x32_S1x1024x32_3_0_0)) (ld X (Rect.unit (s := S9x1024x32) ![4, 0, 0] S1x1024x32.size inb_S9x1024x32_S1x1024x32_4_0_0)) (ld X (Rect.unit (s := S9x1024x32) ![5, 0, 0] S1x1024x32.size inb_S9x1024x32_S1x1024x32_5_0_0)) (ld N (Rect.unit (s := S1024x4) ![0, 0] S1024x4.size inb_S1024x4_S1024x4_0_0)) (ld W₁ (Rect.unit (s := S292x512) ![0, 0] S292x512.size inb_S292x512_S292x512_0_0))) (k1_pay3 (ld B₁ (Rect.unit (s := S1x512) ![0, 0] S1x512.size inb_S1x512_S1x512_0_0))) (ld W₂ (Rect.unit (s := S512x256) ![0, 0] S512x256.size inb_S512x256_S512x256_0_0)) (ld B₂ (Rect.unit (s := S1x256) ![0, 0] S1x256.size inb_S1x256_S1x256_0_0)) (ld W₃ (Rect.unit (s := S256x128) ![0, 0] S256x128.size inb_S256x128_S256x128_0_0)) (ld B₃ (Rect.unit (s := S1x128) ![0, 0] S1x128.size inb_S1x128_S1x128_0_0)) (ld W₄ (Rect.unit (s := S128x1) ![0, 0] S128x1.size inb_S128x1_S128x1_0_0)) (ld B₄ (Rect.unit (s := S1x1) ![0, 0] S1x1.size inb_S1x1_S1x1_0_0))

/-- The body, on any whole staging buffers: the inputs stay, the result holds the scores. -/
theorem body_runs (c : Dev nD) (t : grid1.Coords) (M0 : Memref sig .tc .vmem S9x1024x32 .f32) (h0 : M0.IsWhole) (M1 : Memref sig .tc .vmem S1024x4 .f32) (h1 : M1.IsWhole) (M2 : Memref sig .tc .vmem S292x512 .f32) (h2 : M2.IsWhole) (M3 : Memref sig .tc .vmem S1x512 .f32) (h3 : M3.IsWhole) (M4 : Memref sig .tc .vmem S512x256 .f32) (h4 : M4.IsWhole) (M5 : Memref sig .tc .vmem S1x256 .f32) (h5 : M5.IsWhole) (M6 : Memref sig .tc .vmem S256x128 .f32) (h6 : M6.IsWhole) (M7 : Memref sig .tc .vmem S1x128 .f32) (h7 : M7.IsWhole) (M8 : Memref sig .tc .vmem S128x1 .f32) (h8 : M8.IsWhole) (M9 : Memref sig .tc .vmem S1x1 .f32) (h9 : M9.IsWhole) (M10 : Memref sig .tc .vmem S1024x1 .f32) (h10 : M10.IsWhole)
    (X : Vec F S9x1024x32 .f32) (N : Vec F S1024x4 .f32) (W₁ : Vec F S292x512 .f32) (B₁ : Vec F S1x512 .f32) (W₂ : Vec F S512x256 .f32) (B₂ : Vec F S1x256 .f32) (W₃ : Vec F S256x128 .f32) (B₃ : Vec F S1x128 .f32) (W₄ : Vec F S128x1 .f32) (B₄ : Vec F S1x1 .f32) (Q : PUnit → sProp 𝕄) :
    iprop(owns (tc c) M0 fullShare X ∗ owns (tc c) M1 fullShare N ∗ owns (tc c) M2 fullShare W₁ ∗ owns (tc c) M3 fullShare B₁ ∗ owns (tc c) M4 fullShare W₂ ∗ owns (tc c) M5 fullShare B₂ ∗ owns (tc c) M6 fullShare W₃ ∗ owns (tc c) M7 fullShare B₃ ∗ owns (tc c) M8 fullShare W₄ ∗ owns (tc c) M9 fullShare B₄ ∗ (∃ Y, owns (tc c) M10 fullShare Y)
        ∗ (iprop(owns (tc c) M0 fullShare X ∗ owns (tc c) M1 fullShare N ∗ owns (tc c) M2 fullShare W₁ ∗ owns (tc c) M3 fullShare B₁ ∗ owns (tc c) M4 fullShare W₂ ∗ owns (tc c) M5 fullShare B₂ ∗ owns (tc c) M6 fullShare W₃ ∗ owns (tc c) M7 fullShare B₃ ∗ owns (tc c) M8 fullShare W₄ ∗ owns (tc c) M9 fullShare B₄ ∗ owns (tc c) M10 fullShare (score X N W₁ B₁ W₂ B₂ W₃ B₃ W₄ B₄)) -∗ Q ⟨⟩))
      ⊢ wp frame (wpE (defs₀ (F := F)) 𝒱₀ (tc c) none) Set.univ (cc1__mlp_body t M0 h0 M1 h1 M2 h2 M3 h3 M4 h4 M5 h5 M6 h6 M7 h7 M8 h8 M9 h9 M10 h10) Q := by
  simp only [cc1__mlp_body_eq_skeleton]; unfold cc1__mlp_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%Y, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  unfold score
  exact read_all (by decide) inb_S1024x1_S1024x1_0_0 _ _ _

/-! ## The proof data -/

variable (B : Dev nD → Valuation τ sig (Elt F))

/-- Window `w`'s block at point `t`, of its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (B c (at' (Pipeline.arrRef spec1 w)))

/-- The recorded waits sit at the levels the TensorCore has reached after the SparseCore call. -/
abbrev seen (c : Dev nD) : Set (SemLoc sig × HIx 1) := {p | (K (F := F)).lev (T c, p.1) p.2 ≤ 8}

/-- The region's data: the arrays as found; after the body each input as fetched and the result the scores; nothing owed. -/
def dats (_ : Fin 1) (c : Dev nD) : Dat τ (Elt F) (HIx 1) ℕ UU ℕ cfg1 c where
  A w := B c (at' (Pipeline.arrRef spec1 w))
  after w t := match w with
    | ⟨0, _⟩ => iblk B c 0 t
    | ⟨1, _⟩ => iblk B c 1 t
    | ⟨2, _⟩ => iblk B c 2 t
    | ⟨3, _⟩ => iblk B c 3 t
    | ⟨4, _⟩ => iblk B c 4 t
    | ⟨5, _⟩ => iblk B c 5 t
    | ⟨6, _⟩ => iblk B c 6 t
    | ⟨7, _⟩ => iblk B c 7 t
    | ⟨8, _⟩ => iblk B c 8 t
    | ⟨9, _⟩ => iblk B c 9 t
    | ⟨10, _⟩ => score (iblk B c 0 t) (iblk B c 1 t) (iblk B c 2 t) (iblk B c 3 t) (iblk B c 4 t) (iblk B c 5 t) (iblk B c 6 t) (iblk B c 7 t) (iblk B c 8 t) (iblk B c 9 t)
  Φ _ := iprop(emp)
  q _ := fullShare
  owed _ := 0
  recorded _ := seen (F := F) c

theorem A_eq (c : Dev nD) (w : Fin cfg1.W) : (dats B 0 c).A w = B c (at' (Pipeline.arrRef spec1 w)) := by dsimp only [dats]

/-- An input window the body leaves in place holds its block when the body runs. -/
theorem before_of (c : Dev nD) (w : Fin cfg1.W) (hw : (cfg1.win w).isOut = false)
    (hclip : ∀ t t' : Fin cfg1.N, (cfg1.win w).index t = (cfg1.win w).index t' → (cfg1.win w).clip (cfg1.grid.coords t) = (cfg1.win w).clip (cfg1.grid.coords t'))
    (Z : Fin cfg1.N → (cfg1.win w).block.Idx → Elt F (cfg1.win w).elt)
    (ha : ∀ t, (cfg1.win w).cut (cfg1.grid.coords t) ((dats B 0 c).after w t) = iblk B c w t) (hf : ∀ t d, (dats B 0 c).fetched w t d = Z t)
    (t : Fin cfg1.N) (d) : (dats B 0 c).before w t d = Z t :=
  ((dats B 0 c).before_in_eq_fetched w hw (fun _ => rfl) hclip (fun t => (ha t).trans (by unfold Dat.blockOf iblk; rw [A_eq])) t d).trans (hf t d)
theorem before_0 (c : Dev nD) (t : Fin cfg1.N) (d) : (dats B 0 c).before 0 t d = iblk B c 0 t := before_of B c 0 rfl (fun _ _ _ => rfl) (iblk B c 0) (fun _ => by dsimp only [dats]) (fun _ _ => rfl) t d
theorem before_1 (c : Dev nD) (t : Fin cfg1.N) (d) : (dats B 0 c).before 1 t d = iblk B c 1 t := before_of B c 1 rfl (fun _ _ _ => rfl) (iblk B c 1) (fun _ => by dsimp only [dats]) (fun _ _ => rfl) t d
theorem before_2 (c : Dev nD) (t : Fin cfg1.N) (d) : (dats B 0 c).before 2 t d = iblk B c 2 t := before_of B c 2 rfl (fun _ _ _ => rfl) (iblk B c 2) (fun _ => by dsimp only [dats]) (fun _ _ => rfl) t d
theorem before_3 (c : Dev nD) (t : Fin cfg1.N) (d) : (dats B 0 c).before 3 t d = iblk B c 3 t := before_of B c 3 rfl (fun _ _ _ => rfl) (iblk B c 3) (fun _ => by dsimp only [dats]) (fun _ _ => rfl) t d
theorem before_4 (c : Dev nD) (t : Fin cfg1.N) (d) : (dats B 0 c).before 4 t d = iblk B c 4 t := before_of B c 4 rfl (fun _ _ _ => rfl) (iblk B c 4) (fun _ => by dsimp only [dats]) (fun _ _ => rfl) t d
theorem before_5 (c : Dev nD) (t : Fin cfg1.N) (d) : (dats B 0 c).before 5 t d = iblk B c 5 t := before_of B c 5 rfl (fun _ _ _ => rfl) (iblk B c 5) (fun _ => by dsimp only [dats]) (fun _ _ => rfl) t d
theorem before_6 (c : Dev nD) (t : Fin cfg1.N) (d) : (dats B 0 c).before 6 t d = iblk B c 6 t := before_of B c 6 rfl (fun _ _ _ => rfl) (iblk B c 6) (fun _ => by dsimp only [dats]) (fun _ _ => rfl) t d
theorem before_7 (c : Dev nD) (t : Fin cfg1.N) (d) : (dats B 0 c).before 7 t d = iblk B c 7 t := before_of B c 7 rfl (fun _ _ _ => rfl) (iblk B c 7) (fun _ => by dsimp only [dats]) (fun _ _ => rfl) t d
theorem before_8 (c : Dev nD) (t : Fin cfg1.N) (d) : (dats B 0 c).before 8 t d = iblk B c 8 t := before_of B c 8 rfl (fun _ _ _ => rfl) (iblk B c 8) (fun _ => by dsimp only [dats]) (fun _ _ => rfl) t d
theorem before_9 (c : Dev nD) (t : Fin cfg1.N) (d) : (dats B 0 c).before 9 t d = iblk B c 9 t := before_of B c 9 rfl (fun _ _ _ => rfl) (iblk B c 9) (fun _ => by dsimp only [dats]) (fun _ _ => rfl) t d

/-- The body table's row at a point is the body on the current buffers. -/
theorem row_eq (t : Fin cfg1.N) : defs₀ (F := F) .tc cfg1.body (cfg1.bodyArgs t (cfg1.slots t)) = bodyAt1 t := by
  unfold defs₀; rfl

set_option maxRecDepth 8192 in
/-- The body meets its obligation at every point. -/
theorem body_ob (c : Dev nD) : BodyObligation (dats B 0 c) (defs₀ (F := F)) 𝒱₀ (default : HIx 1) Set.univ := fun t => by
  rw [bigSep_W1, bigSep_W1, row_eq]
  simp only [before_0, before_1, before_2, before_3, before_4, before_5, before_6, before_7, before_8, before_9]
  rw [show (dats B 0 c).Φ t.castSucc = iprop(emp) from rfl, show (dats B 0 c).Φ t.succ = iprop(emp) from rfl,
    show (dats B 0 c).owesAt default t.succ = (dats B 0 c).owesAt default t.castSucc from rfl]
  iintro ⟨-, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_runs c (grid1.coords t) _ _ _ _ _ _ _ _ _ _ _ _ _ _ _ _ _ _ _ _ _ _ (iblk B c 0 t) (iblk B c 1 t) (iblk B c 2 t) (iblk B c 3 t) (iblk B c 4 t) (iblk B c 5 t) (iblk B c 6 t) (iblk B c 7 t) (iblk B c 8 t) (iblk B c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl []; · iempintro
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The region -/

/-- The tables' admissible contents: no table. -/
abbrev adm : (p : Fin 1) → (pcfgs (F := F) p).Adm := fun p => (cfgs p).toPCfg_adm

/-- A core's buffers after the region: the result's array at what the points leave, the rest as found. -/
def leave (c : Dev nD) : Valuation τ sig (Elt F) := afterRegion (dats B 0 c) (B c)

/-- The core's debts around the region: none, with waits recorded at levels already reached. -/
abbrev Clear (c : Dev nD) : sProp 𝕄 := iprop(∃ W, ⌜(K (F := F)).WBelow (T c) W 8⌝ ∗ owes (T c) (0 : CellTallies nD τ sig (HIx 1)) W)

set_option backward.isDefEq.respectTransparency.types false in
/-- The region: entered with the unscoped buffers as `B` has them, left with them as `leave` has them. -/
def region : Pipeline.RegionSeg (pcfgs (F := F)) adm (dats B) (default : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_ob B c).loose
  hwaits := Pipeline.hwaits_of_owed_zero _ _ _ _ (K (F := F)).L (K (F := F)).lev 0 fun _ _ => rfl
  pre c := iprop(StableHlo.held (T c) (ucRefs τ sig) (B c) ∗ Clear (F := F) c)
  post c := iprop(StableHlo.held (T c) (ucRefs τ sig) (leave B c) ∗ Clear (F := F) c)
  X _ := iprop(emp)
  Y _ := iprop(emp)
  Z c := Pipeline.unscopedRest (Ix := HIx 1) (Name := ℕ) (U := UU) (Lvl := ℕ) spec1 c (fun b => B c (at' b))
  hentry c := by
    rw [Pipeline.ownSems0_none, show StableHlo.held (T c) (ucRefs τ sig) (B c) = unscopedBufs c (fun b => B c (at' b))
      from (Pipeline.unscopedBufs_held (Ix := HIx 1) (Name := ℕ) (U := UU) (Lvl := ℕ) c (B c)).symm]
    have hsplit := Pipeline.arrays_of_unscopedBufs (p := 0) (pcfgs (F := F)) adm (dats B) launch1.win launch1.arr_whole c
      ((dats B 0 c).share_full fun _ => rfl) (fun b => B c (at' b)) (A_eq B c)
    iintro ⟨⟨Hb, HO⟩, -, -⟩
    ihave H := hsplit $$ Hb
    icases H with ⟨Ha, Hr⟩
    imodintro
    isplitl [Ha]; · iexact Ha
    isplitr
    · unfold Pipeline.prefHeld
      rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun p hp => Or.inl (hW p hp)
      iexact HO
    isplitr; · iempintro
    iexact Hr
  hin c := by
    rw [show (dats B 0 c).Φ 0 = iprop(emp) from rfl]
    iintro -
    iempintro
  hout c := by
    rw [Pipeline.ownSems0_none, show (dats B 0 c).Φ (Fin.last cfg1.N) = iprop(emp) from rfl]
    iintro -
    isplitr; · iempintro
    isplitr; · iempintro
    iapply (Entails.of_eq (scopedRest1_eq (Ix := HIx 1) (Val := Elt F) (Name := ℕ) (U := UU) (Lvl := ℕ) c).symm)
    iempintro
  hexit c := by
    have hjoin := Pipeline.unscopedBufs_of_arrays (p := 0) (pcfgs (F := F)) adm (Ix := HIx 1) (Name := ℕ) (U := UU) (Lvl := ℕ)
      launch1.win launch1.arr_whole c (dats B) ((dats B 0 c).share_full fun _ => rfl) (fun b => B c (at' b)) (fun b => leave B c (at' b))
      ((dats B 0 c).arrAt · cfg1.N) (fun w => (Pipeline.afterRegion_arr (dats B 0 c) (B c) launch1.win.arr_inj w).symm)
      (fun b hb => Pipeline.afterRegion_of_not_arr (dats B 0 c) (B c) fun w h => hb (h ▸ Finset.mem_image.mpr ⟨w, Finset.mem_univ _, rfl⟩))
    rw [show StableHlo.held (T c) (ucRefs τ sig) (leave B c) = unscopedBufs c (fun b => leave B c (at' b))
      from (Pipeline.unscopedBufs_held (Ix := HIx 1) (Name := ℕ) (U := UU) (Lvl := ℕ) c (leave B c)).symm]
    iintro ⟨Ha, HO, -, Hr⟩
    imodintro
    isplitl [Ha Hr]; · iapply hjoin; isplitl [Ha] <;> iassumption
    unfold Pipeline.Dat.owesAt Pipeline.owesWithin
    icases HO with ⟨%W, %hW, HO⟩
    iexists W; isplitr
    · ipureintro
      intro p hp
      rcases hW hp with h | h
      · exact h
      · obtain ⟨w, s, rfl⟩ := h; exact Nat.zero_le _
    iexact HO

end Cert.Proof.Gather

end
-- ==== Proof.Ops.lean ====
/- The steps of @main on the TensorCore: three lines of host operations, around the SparseCore call and the dense layers' region. -/
module

public import proofs.«01_k».proof.Proof.Mlp

@[expose] public section

noncomputable section

namespace Cert.Proof.Gather

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The operations before the SparseCore call: the index array laid out by chunks, the tables by groups of eight rows. -/
def opsA : List (HloOp τ sig (Elt F)) := [
  StableHlo.unary main_arg0 main_v0 (broadcastInDim S1x16384 ![1] bcast_S16384_S1x16384_1 : (⟨S16384, .i32⟩ : BufTy).Contents (Elt F) → (⟨S1x16384, .i32⟩ : BufTy).Contents (Elt F)),
  StableHlo.unary main_arg1 main_v1 (broadcastInDim S1x16384 ![1] bcast_S16384_S1x16384_1 : (⟨S16384, .i32⟩ : BufTy).Contents (Elt F) → (⟨S1x16384, .i32⟩ : BufTy).Contents (Elt F)),
  StableHlo.unary main_arg2 main_v2 (broadcastInDim S1x16384 ![1] bcast_S16384_S1x16384_1 : (⟨S16384, .i32⟩ : BufTy).Contents (Elt F) → (⟨S1x16384, .i32⟩ : BufTy).Contents (Elt F)),
  StableHlo.unary main_arg6 main_v3 (broadcastInDim S1x16384 ![1] bcast_S16384_S1x16384_1 : (⟨S16384, .i32⟩ : BufTy).Contents (Elt F) → (⟨S1x16384, .i32⟩ : BufTy).Contents (Elt F)),
  StableHlo.unary main_arg7 main_v4 (broadcastInDim S1x16384 ![1] bcast_S16384_S1x16384_1 : (⟨S16384, .i32⟩ : BufTy).Contents (Elt F) → (⟨S1x16384, .i32⟩ : BufTy).Contents (Elt F)),
  StableHlo.unary main_arg8 main_v5 (broadcastInDim S1x16384 ![1] bcast_S16384_S1x16384_1 : (⟨S16384, .i32⟩ : BufTy).Contents (Elt F) → (⟨S1x16384, .i32⟩ : BufTy).Contents (Elt F)),
  StableHlo.unary main_arg3 main_v6 (broadcastInDim S1x16384 ![1] bcast_S16384_S1x16384_1 : (⟨S16384, .i32⟩ : BufTy).Contents (Elt F) → (⟨S1x16384, .i32⟩ : BufTy).Contents (Elt F)),
  StableHlo.unary main_arg4 main_v7 (broadcastInDim S1x16384 ![1] bcast_S16384_S1x16384_1 : (⟨S16384, .i32⟩ : BufTy).Contents (Elt F) → (⟨S1x16384, .i32⟩ : BufTy).Contents (Elt F)),
  StableHlo.unary main_arg5 main_v8 (broadcastInDim S1x16384 ![1] bcast_S16384_S1x16384_1 : (⟨S16384, .i32⟩ : BufTy).Contents (Elt F) → (⟨S1x16384, .i32⟩ : BufTy).Contents (Elt F)),
  StableHlo.nary ![main_v0, main_v1, main_v2, main_v3, main_v4, main_v5, main_v6, main_v7, main_v8] main_v9 (fun u => (concatenate S9x16384 0 [⟨S1x16384, (u 0 : (⟨S1x16384, .i32⟩ : BufTy).Contents (Elt F))⟩, ⟨S1x16384, (u 1 : (⟨S1x16384, .i32⟩ : BufTy).Contents (Elt F))⟩, ⟨S1x16384, (u 2 : (⟨S1x16384, .i32⟩ : BufTy).Contents (Elt F))⟩, ⟨S1x16384, (u 3 : (⟨S1x16384, .i32⟩ : BufTy).Contents (Elt F))⟩, ⟨S1x16384, (u 4 : (⟨S1x16384, .i32⟩ : BufTy).Contents (Elt F))⟩, ⟨S1x16384, (u 5 : (⟨S1x16384, .i32⟩ : BufTy).Contents (Elt F))⟩, ⟨S1x16384, (u 6 : (⟨S1x16384, .i32⟩ : BufTy).Contents (Elt F))⟩, ⟨S1x16384, (u 7 : (⟨S1x16384, .i32⟩ : BufTy).Contents (Elt F))⟩, ⟨S1x16384, (u 8 : (⟨S1x16384, .i32⟩ : BufTy).Contents (Elt F))⟩] concatenates_S1x16384_S1x16384_S1x16384_S1x16384_S1x16384_S1x16384_S1x16384_S1x16384_S1x16384_S9x16384_d0 : (⟨S9x16384, .i32⟩ : BufTy).Contents (Elt F))),
  StableHlo.reshape main_v9 main_v10 (rfl : (.i32 : EltTy) = .i32) shapeCasts_S9x16384_S288x4x128,
  StableHlo.reshape main_arg13 main_v11 (rfl : (.f32 : EltTy) = .f32) shapeCasts_S100000x32_S12500x8x32,
  StableHlo.reshape main_arg14 main_v12 (rfl : (.f32 : EltTy) = .f32) shapeCasts_S1000000x32_S125000x8x32,
  StableHlo.reshape main_arg15 main_v13 (rfl : (.f32 : EltTy) = .f32) shapeCasts_S1000x32_S125x8x32,
  StableHlo.reshape main_arg16 main_v14 (rfl : (.f32 : EltTy) = .f32) shapeCasts_S1000000x32_S125000x8x32]

abbrev opsAW : List (Ref sig .tc) := [main_v0, main_v1, main_v2, main_v3, main_v4, main_v5, main_v6, main_v7, main_v8, main_v9, main_v10, main_v11, main_v12, main_v13, main_v14]
theorem opsA_writes : ((opsA (F := F)).map HloOp.writes) = opsAW.map fun w => {Proc.devRef (τ := τ) .tc w} := rfl

/-- Those between the call and the region: the numbers' columns, the biases as rows. -/
def opsB : List (HloOp τ sig (Elt F)) := [
  StableHlo.unary main_arg9 main_v16 (broadcastInDim S16384x1 ![0] bcast_S16384_S16384x1_0 : (⟨S16384, .f32⟩ : BufTy).Contents (Elt F) → (⟨S16384x1, .f32⟩ : BufTy).Contents (Elt F)),
  StableHlo.unary main_arg10 main_v17 (broadcastInDim S16384x1 ![0] bcast_S16384_S16384x1_0 : (⟨S16384, .f32⟩ : BufTy).Contents (Elt F) → (⟨S16384x1, .f32⟩ : BufTy).Contents (Elt F)),
  StableHlo.unary main_arg11 main_v18 (broadcastInDim S16384x1 ![0] bcast_S16384_S16384x1_0 : (⟨S16384, .f32⟩ : BufTy).Contents (Elt F) → (⟨S16384x1, .f32⟩ : BufTy).Contents (Elt F)),
  StableHlo.unary main_arg12 main_v19 (broadcastInDim S16384x1 ![0] bcast_S16384_S16384x1_0 : (⟨S16384, .f32⟩ : BufTy).Contents (Elt F) → (⟨S16384x1, .f32⟩ : BufTy).Contents (Elt F)),
  StableHlo.nary ![main_v16, main_v17, main_v18, main_v19] main_v20 (fun u => (concatenate S16384x4 1 [⟨S16384x1, (u 0 : (⟨S16384x1, .f32⟩ : BufTy).Contents (Elt F))⟩, ⟨S16384x1, (u 1 : (⟨S16384x1, .f32⟩ : BufTy).Contents (Elt F))⟩, ⟨S16384x1, (u 2 : (⟨S16384x1, .f32⟩ : BufTy).Contents (Elt F))⟩, ⟨S16384x1, (u 3 : (⟨S16384x1, .f32⟩ : BufTy).Contents (Elt F))⟩] concatenates_S16384x1_S16384x1_S16384x1_S16384x1_S16384x4_d1 : (⟨S16384x4, .f32⟩ : BufTy).Contents (Elt F))),
  StableHlo.reshape main_arg18 main_v21 (rfl : (.f32 : EltTy) = .f32) shapeCasts_S512_S1x512,
  StableHlo.reshape main_arg20 main_v22 (rfl : (.f32 : EltTy) = .f32) shapeCasts_S256_S1x256,
  StableHlo.reshape main_arg22 main_v23 (rfl : (.f32 : EltTy) = .f32) shapeCasts_S128_S1x128,
  StableHlo.reshape main_arg24 main_v24 (rfl : (.f32 : EltTy) = .f32) shapeCasts_S1_S1x1]

abbrev opsBW : List (Ref sig .tc) := [main_v16, main_v17, main_v18, main_v19, main_v20, main_v21, main_v22, main_v23, main_v24]
theorem opsB_writes : ((opsB (F := F)).map HloOp.writes) = opsBW.map fun w => {Proc.devRef (τ := τ) .tc w} := rfl

/-- The one after the region. -/
def opsC : List (HloOp τ sig (Elt F)) := [
  StableHlo.reshape main_v25 main_v26 (rfl : (.f32 : EltTy) = .f32) shapeCasts_S16384x1_S16384]

abbrev opsCW : List (Ref sig .tc) := [main_v26]
theorem opsC_writes : ((opsC (F := F)).map HloOp.writes) = opsCW.map fun w => {Proc.devRef (τ := τ) .tc w} := rfl

set_option maxRecDepth 4096 in
/-- @main is these steps. -/
theorem main_eq (d : Dev nD) : main (F := F) d = StableHlo.seq opsA >>= fun _ => (K (F := F)).run d 0 >>= fun _ => StableHlo.seq opsB >>= fun _ =>
    Prog.lift (.customCall (SparseCore.inner (Pipeline.entry 0)) ()) >>= fun _ => StableHlo.seq opsC := rfl

theorem opsA_fresh : ∀ op ∈ opsA (F := F), op.fresh = ∅ := by
  unfold opsA; simp only [List.forall_mem_cons, List.not_mem_nil, false_imp_iff, implies_true, and_true]
  repeat' apply And.intro
  all_goals rfl
theorem opsA_bufs : ∀ op ∈ opsA (F := F), op.bufs ⊆ Pipeline.ucRefs τ sig := by
  unfold opsA; simp only [List.forall_mem_cons, List.not_mem_nil, false_imp_iff, implies_true, and_true]
  repeat' apply And.intro
  all_goals refine Pipeline.sub_ucRefs _ ?_
  all_goals first | exact StableHlo.unary_bufs_sub .. | exact StableHlo.reshape_bufs_sub .. | exact StableHlo.nary_bufs_sub ..
theorem opsB_fresh : ∀ op ∈ opsB (F := F), op.fresh = ∅ := by
  unfold opsB; simp only [List.forall_mem_cons, List.not_mem_nil, false_imp_iff, implies_true, and_true]
  repeat' apply And.intro
  all_goals rfl
theorem opsB_bufs : ∀ op ∈ opsB (F := F), op.bufs ⊆ Pipeline.ucRefs τ sig := by
  unfold opsB; simp only [List.forall_mem_cons, List.not_mem_nil, false_imp_iff, implies_true, and_true]
  repeat' apply And.intro
  all_goals refine Pipeline.sub_ucRefs _ ?_
  all_goals first | exact StableHlo.unary_bufs_sub .. | exact StableHlo.reshape_bufs_sub .. | exact StableHlo.nary_bufs_sub ..
theorem opsC_fresh : ∀ op ∈ opsC (F := F), op.fresh = ∅ := by
  unfold opsC; simp only [List.forall_mem_cons, List.not_mem_nil, false_imp_iff, implies_true, and_true]
  repeat' apply And.intro
  all_goals rfl
theorem opsC_bufs : ∀ op ∈ opsC (F := F), op.bufs ⊆ Pipeline.ucRefs τ sig := by
  unfold opsC; simp only [List.forall_mem_cons, List.not_mem_nil, false_imp_iff, implies_true, and_true]
  repeat' apply And.intro
  all_goals refine Pipeline.sub_ucRefs _ ?_
  all_goals first | exact StableHlo.unary_bufs_sub .. | exact StableHlo.reshape_bufs_sub .. | exact StableHlo.nary_bufs_sub ..

end Cert.Proof.Gather
-- ==== Proof.Run.lean ====
/- The program's run: what @main's TensorCore does from the launch to the end, and what every buffer holds in every final state. -/
module

public import proofs.«01_k».proof.Proof.Ops

@[expose] public section

noncomputable section

namespace Cert.Proof.Gather

open Idealize.ShloMosaic
open Idealize.ShloMosaic.SparseCore (S V T)
open Idealize.ShloMosaic.SparseCore.Cfg (HIx)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig (HIx 1) (Elt F) ℕ UU ℕ

/-! ## The SparseCore call -/

section Call

variable (A : Dev nD → Valuation τ sig (Elt F))

/-- A device's buffers after the call: the result's array at the gathered rows, the rest as found. -/
def gathered (d : Dev nD) : Valuation τ sig (Elt F) := Function.update (A d) (at' main_v15) (rows A d)

theorem gathered_self (d : Dev nD) : gathered A d (at' main_v15) = rows A d := Function.update_self ..
theorem gathered_ne (d : Dev nD) {b : DevRef τ sig} (h : b ≠ at' main_v15) : gathered A d b = A d b := Function.update_of_ne h ..

/-- The call's operands and its result. -/
def six : Finset (DevRef τ sig) := {at' main_v11, at' main_v12, at' main_v13, at' main_v14, at' main_v10, at' main_v15}

theorem six_sub : six ⊆ ucRefs τ sig := by decide

theorem held_six (d : Dev nD) (W : Valuation τ sig (Elt F)) :
    (StableHlo.held (T d) six W : sProp 𝕄) = iprop(((tc d).loc main_v11 ↦{fullShare} W (at' main_v11)) ∗ ((tc d).loc main_v12 ↦{fullShare} W (at' main_v12))
      ∗ ((tc d).loc main_v13 ↦{fullShare} W (at' main_v13)) ∗ ((tc d).loc main_v14 ↦{fullShare} W (at' main_v14))
      ∗ ((tc d).loc main_v10 ↦{fullShare} W (at' main_v10)) ∗ ((tc d).loc main_v15 ↦{fullShare} W (at' main_v15))) := by
  unfold StableHlo.held six
  rw [SparseCore.bigSep_insert' (by decide), SparseCore.bigSep_insert' (by decide), SparseCore.bigSep_insert' (by decide), SparseCore.bigSep_insert' (by decide),
    SparseCore.bigSep_insert' (by decide), bigSep_singleton]

/-- The operands and the result at `f` are `Five` and the result. -/
theorem held_split6 (d : Dev nD) :
    (StableHlo.held (T d) (ucRefs τ sig) (A d) : sProp 𝕄) ⊢ iprop((Five A d fullShare ∗ ((tc d).loc main_v15 ↦{fullShare} A d (at' main_v15)))
      ∗ StableHlo.held (T d) (ucRefs τ sig \ six) (A d)) := by
  rw [StableHlo.held_sub_split (T d) six_sub (A d), held_six]
  iintro ⟨⟨H1, H2, H3, H4, H5, H6⟩, Hr⟩
  isplitr [Hr]
  · isplitr [H6]
    · isplitl [H1]; · iexact H1
      isplitl [H2]; · iexact H2
      isplitl [H3]; · iexact H3
      isplitl [H4]; · iexact H4
      iexact H5
    · iexact H6
  · iexact Hr

theorem held_join6 (d : Dev nD) :
    iprop((Five A d fullShare ∗ ((tc d).loc main_v15 ↦{fullShare} rows A d)) ∗ StableHlo.held (T d) (ucRefs τ sig \ six) (A d))
      ⊢ (StableHlo.held (T d) (ucRefs τ sig) (gathered A d) : sProp 𝕄) := by
  rw [StableHlo.held_sub_split (T d) six_sub (gathered A d), held_six, gathered_self, gathered_ne A d (b := at' main_v11) (by decide),
    gathered_ne A d (b := at' main_v12) (by decide), gathered_ne A d (b := at' main_v13) (by decide), gathered_ne A d (b := at' main_v14) (by decide),
    gathered_ne A d (b := at' main_v10) (by decide),
    StableHlo.held_congr (T d) (S := ucRefs τ sig \ six) (V := gathered A d) (V' := A d) fun b hb => gathered_ne A d fun h =>
      (Finset.mem_sdiff.mp hb).2 (h ▸ by decide)]
  iintro ⟨⟨⟨H1, H2, H3, H4, H5⟩, H6⟩, Hr⟩
  isplitr [Hr]
  · isplitl [H1]; · iexact H1
    isplitl [H2]; · iexact H2
    isplitl [H3]; · iexact H3
    isplitl [H4]; · iexact H4
    isplitl [H5]; · iexact H5
    iexact H6
  · iexact Hr

/-- The call, from the unscoped buffers as `A` has them to them as `gathered` has them. -/
theorem call_step (κ : GSem nD τ sig → ℕ) (d : Dev nD) (Φ : PUnit → sProp 𝕄) :
    iprop((K (F := F)).ctx EH (P A) κ ∗ (K (F := F)).tcSt EH d 0 ∗ StableHlo.held (T d) (ucRefs τ sig) (A d)
        ∗ (((K (F := F)).tcSt EH d 1 ∗ StableHlo.held (T d) (ucRefs τ sig) (gathered A d)) -∗ Φ ⟨⟩))
      ⊢ wp frame (wpE ((K (F := F)).defs (D (F := F))) 𝒱 (T d) none) Set.univ ((K (F := F)).run d 0) Φ := by
  iintro ⟨#Hctx, Hst, Hh, Hk⟩
  ihave Hh := (held_split6 A d) $$ Hh
  icases Hh with ⟨H6, Hr⟩
  ihave H6 := (st_intro A d _) $$ H6
  icases H6 with ⟨Hd, Hc⟩
  iapply ((K (F := F)).wp_run (D (F := F)) 𝒱 (EH := EH) (P := P A) κ d 0) $$ [Hst Hc Hd Hr Hk]
  isplitr; · iexact Hctx
  isplitl [Hst]; · iexact Hst
  isplitl [Hc]
  · iexact Hc
  iintro ⟨Hst, Hdn⟩
  iapply Hk
  isplitl [Hst]; · iexact Hst
  iapply (held_join6 A d)
  isplitr [Hr]
  · iapply (dn_elim A d (rows A d))
    isplitl [Hd]; · iexact Hd
    iexact Hdn
  · iexact Hr

end Call

/-! ## The region -/

/-- The region's launch facts with its tables, of which there are none. -/
theorem plaunch : Pipeline.PLaunchFacts (nD := nD) (τ := τ) (pcfgs (F := F)) 0 := launch1.toP

/-- The ghost state of the region's own cells on a device. -/
abbrev Ghost (d : Dev nD) : sProp 𝕄 :=
  iprop(Pipeline.cellsGhost (Pipeline.pin (pcfgs (F := F)) adm) EP 0 d ∗ Pipeline.toksInit (Pipeline.pin (pcfgs (F := F)) adm) EP 0 d)

theorem owed_one (d : Dev nD) : (K (F := F)).Otc d 1 = 0 := by
  unfold SparseCore.Cfg.Otc
  refine Finset.sum_eq_zero fun q _ => ?_
  rw [if_neg]
  omega

section Region

variable (B : Dev nD → Valuation τ sig (Elt F)) [∀ e, Nonempty (Elt F e)]

set_option backward.isDefEq.respectTransparency.types false in
/-- The region, from the unscoped buffers as `B` has them to them as `leave` has them. -/
theorem region_step (κ : GSem nD τ sig → ℕ) (A : Dev nD → Valuation τ sig (Elt F)) (d : Dev nD) (Φ : PUnit → sProp 𝕄) :
    iprop((K (F := F)).ctx EH (P A) κ ∗ (K (F := F)).tcSt EH d 1 ∗ boundary (T d) ∗ StableHlo.held (T d) (ucRefs τ sig) (B d) ∗ Ghost d
        ∗ (((K (F := F)).tcSt EH d 1 ∗ boundary (T d) ∗ StableHlo.held (T d) (ucRefs τ sig) (leave B d)) -∗ Φ ⟨⟩))
      ⊢ wp frame (wpE ((K (F := F)).defs (D (F := F))) 𝒱 (T d) none) Set.univ (Prog.lift (.customCall (SparseCore.inner (Pipeline.entry 0)) ())) Φ := by
  iintro ⟨#Hctx, Hst, Hb, Hh, ⟨Hg, Ht⟩, Hk⟩
  ihave #Hlev := ((K (F := F)).ctx_levAts κ) $$ Hctx
  unfold SparseCore.Cfg.tcSt
  rw [owed_one]
  icases Hst with ⟨HO, Hrest⟩
  iapply ((K (F := F)).wp_liftProg (D (F := F)) 𝒱 (T d) Set.univ none (Prog.lift (.customCall (Pipeline.entry 0) ())) Φ)
  iapply ((region B).wp (pcfgs (F := F)) adm (dats B) default ((plaunch (F := F)).cellOf_inj adm) EP defs₀ 𝒱₀ (K (F := F)).L (K (F := F)).lev d none
    (fun _ h => nomatch h) Prog.ret Φ)
  isplitl [Hk Hrest]
  · rw [wp_ret]
    iintro H
    ihave H := (show iprop(boundary (T d) ∗ (region B).post d) ⊢ iprop(boundary (T d) ∗ StableHlo.held (T d) (ucRefs τ sig) (leave B d) ∗ Clear (F := F) d) from .rfl) $$ H
    icases H with ⟨Hb, Hh, HO⟩
    imodintro
    iapply Hk
    isplitl [HO Hrest]
    · isplitl [HO]; · iexact HO
      iexact Hrest
    isplitl [Hb]; · iexact Hb
    iexact Hh
  isplitl [Hb]; · iexact Hb
  isplitl [Hh HO]
  · iapply (show iprop(StableHlo.held (T d) (ucRefs τ sig) (B d) ∗ Clear (F := F) d) ⊢ (region B).pre d from .rfl)
    isplitl [Hh]; · iexact Hh
    iexact HO
  isplitr; · iexact Hlev
  isplitl [Hg]; · iexact Hg
  iexact Ht

end Region

/-! ## @main -/

variable (m : (ℓ : Loc nD τ sig) → Buf (Elt F) ℓ) (ρ : Dev nD → PrngReg)

/-- A device's buffers at the SparseCore call, after it, at the region, after it, and at the end. -/
def atCall (d : Dev nD) : Valuation τ sig (Elt F) := StableHlo.after opsA (StableHlo.launchContents m d)
def pastCall (d : Dev nD) : Valuation τ sig (Elt F) := gathered (atCall m) d
def atRegion (d : Dev nD) : Valuation τ sig (Elt F) := StableHlo.after opsB (pastCall m d)
def pastRegion (d : Dev nD) : Valuation τ sig (Elt F) := leave (atRegion m) d
def atEnd (d : Dev nD) : Valuation τ sig (Elt F) := StableHlo.after opsC (pastRegion m d)

/-- What a device ends with: its unscoped buffers. -/
abbrev FIN (d : Dev nD) : sProp 𝕄 := StableHlo.held (T d) (ucRefs τ sig) (atEnd m d)

variable [∀ e, Nonempty (Elt F e)]

theorem hmain (κ : GSem nD τ sig → ℕ) (d : Dev nD) :
    iprop((K (F := F)).ctx EH (P (atCall m)) κ ∗ (K (F := F)).tcSt EH d 0 ∗ (K (F := F)).tcRes m ρ d ∗ Ghost d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, show unscopedBufs d (fun b => m ((T d : Thread nD τ).loc b)) = StableHlo.held (T d) (ucRefs τ sig) (StableHlo.launchContents m d)
    from Pipeline.unscopedBufs_held (Ix := HIx 1) (Name := ℕ) (U := UU) (Lvl := ℕ) d (StableHlo.launchContents m d)]
  iintro ⟨#Hctx, Hst, ⟨Hb, Hh, Hts, -⟩, HG⟩
  iapply (StableHlo.wp_seq 𝒱 none Set.univ (defs := (K (F := F)).defs (D (F := F))) d (ucRefs τ sig) _ opsA opsA_bufs opsA_fresh (StableHlo.launchContents m d)) $$ [Hb Hh]
  · isplitl [Hb] <;> iassumption
  iintro ⟨Hb, Hh⟩
  rw [wp_bind]
  iapply (call_step (atCall m) κ d)
  isplitr; · iexact Hctx
  isplitl [Hst]; · iexact Hst
  isplitl [Hh]; · iexact Hh
  iintro ⟨Hst, Hh⟩
  iapply (StableHlo.wp_seq 𝒱 none Set.univ (defs := (K (F := F)).defs (D (F := F))) d (ucRefs τ sig) _ opsB opsB_bufs opsB_fresh (pastCall m d)) $$ [Hb Hh]
  · isplitl [Hb]; · iexact Hb
    iexact Hh
  iintro ⟨Hb, Hh⟩
  rw [wp_bind]
  iapply (region_step (atRegion m) κ (atCall m) d)
  isplitr; · iexact Hctx
  isplitl [Hst]; · iexact Hst
  isplitl [Hb]; · iexact Hb
  isplitl [Hh]; · iexact Hh
  isplitl [HG]; · iexact HG
  iintro ⟨Hst, Hb, Hh⟩
  rw [show (StableHlo.seq opsC : Prog (TpuEff nD τ sig (Elt F) _ .tc) PUnit) = StableHlo.seq opsC >>= fun _ => pure ⟨⟩ from (bind_pure _).symm]
  iapply (StableHlo.wp_seq 𝒱 none Set.univ (defs := (K (F := F)).defs (D (F := F))) d (ucRefs τ sig) _ opsC opsC_bufs opsC_fresh (pastRegion m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb] <;> iassumption

/-! ## The launch -/

/-- The launch element of the ghost state: the handshakes' part, the region's cells, no counter. -/
def u₀ : UU := (initOf (K (F := F)).hsCells (K (F := F)).hsToks,
  initOf (Pipeline.cells (Pipeline.pin (pcfgs (F := F)) adm) ((plaunch (F := F)).cellOf_inj adm))
    (Pipeline.launchToks (Pipeline.pin (pcfgs (F := F)) adm) ((plaunch (F := F)).cellOf_inj adm)), 1)

omit [∀ e, Nonempty (Elt F e)] in
theorem own_halves (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [∀ e, Nonempty (Elt F e)] in
theorem ghosts : (iprop((bigSep Finset.univ fun c : Dev nD => bigSep Finset.univ fun p => Pipeline.cellsGhost (Pipeline.pin (pcfgs (F := F)) adm) EP p c)
    ∗ (bigSep Finset.univ fun c : Dev nD => bigSep Finset.univ fun p => Pipeline.toksInit (Pipeline.pin (pcfgs (F := F)) adm) EP p c)) : sProp 𝕄)
    ⊢ bigSep Finset.univ fun d : Dev nD => Ghost d := by
  rw [show (bigSep Finset.univ fun d : Dev nD => Ghost (F := F) d) = iprop((bigSep Finset.univ fun d : Dev nD => Pipeline.cellsGhost (Pipeline.pin (pcfgs (F := F)) adm) EP 0 d)
      ∗ (bigSep Finset.univ fun d : Dev nD => Pipeline.toksInit (Pipeline.pin (pcfgs (F := F)) adm) EP 0 d)) from bigSep_sep' ..,
    show (fun c : Dev nD => (bigSep Finset.univ fun p => Pipeline.cellsGhost (Pipeline.pin (pcfgs (F := F)) adm) EP p c : sProp 𝕄)) =
      fun c => Pipeline.cellsGhost (Pipeline.pin (pcfgs (F := F)) adm) EP 0 c from funext fun c => bigSep_univ_of_subsingleton (0 : Fin 1),
    show (fun c : Dev nD => (bigSep Finset.univ fun p => Pipeline.toksInit (Pipeline.pin (pcfgs (F := F)) adm) EP p c : sProp 𝕄)) =
      fun c => Pipeline.toksInit (Pipeline.pin (pcfgs (F := F)) adm) EP 0 c from funext fun c => bigSep_univ_of_subsingleton (0 : Fin 1)]

omit [∀ e, Nonempty (Elt F e)] in
theorem hu₀ (A : Dev nD → Valuation τ sig (Elt F)) : (ownU (u₀ (F := F)) : sProp 𝕄)
    ⊢ |={Set.univ}=> iprop(BI.own (EH (initOf (K (F := F)).hsCells (K (F := F)).hsToks)) ∗ (bigSep Finset.univ fun d : Dev nD => Ghost d)
        ∗ bigSep Finset.univ fun thr : Thread nD τ => bigSep Finset.univ fun q : Fin 1 => (P A).x q thr) := by
  unfold u₀
  iintro Hu
  ihave H := (own_halves _ _) $$ Hu
  icases H with ⟨HH, HP⟩
  imod (Pipeline.fund_ghost (Pipeline.pin (pcfgs (F := F)) adm) EP ((plaunch (F := F)).cellOf_inj adm)) $$ HP with H
  imodintro
  isplitl [HH]; · iexact HH
  isplitl [H]; · iapply ghosts; iexact H
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), show (bigSep Finset.univ fun _ : Thread nD τ => (iprop(emp) : sProp 𝕄)) = iprop(emp) from bigSep_emp_const _]
  iempintro

/-! ## The end -/

/-- What is read off a final state: every unscoped buffer of the device. -/
def fq (d : Dev nD) (s' : Phys nD τ sig (Elt F)) : Prop := ∀ b ∈ ucRefs τ sig, s'.mem.mem (d, b) = atEnd m d b

omit [∀ e, Nonempty (Elt F e)] in
theorem hfin (d : Dev nD) (s' : Phys nD τ sig (Elt F)) : iprop(FIN m d ∗ SI s') ⊢ (⌜fq m d s'⌝ : sProp 𝕄) := by
  exact (pointsTo_read_all (Ix := HIx 1) (Name := ℕ) (U := UU) (Lvl := ℕ) (ucRefs τ sig) (fun b => (d, b)) (atEnd m d) s').trans sep_elim_left

def QC : PUnit × MemSt nD τ sig (Elt F) → Prop := fun r => (∀ d : Dev nD, ∀ b ∈ ucRefs τ sig, r.2.mem (d, b) = atEnd m d b) ∧ r.2.sem = fun _ => 0

/-- The run: from any memory whose index array names rows of the tables, every execution ends, every unscoped buffer of the
    TensorCore as `atEnd` has it and every counter zero. -/
theorem run_main (hX : ∀ d, Fits (F := F) (atCall m d (at' main_v10))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (atCall m)) (A := ∅) facts v₀
    (fun q hq => match q with | 0 => nomatch hq)
    (fun q _ => match q with | 0 => tileObl (atCall m) facts hX)
    (fun q _ => match q with | 0 => SparseCore.Cfg.VecSplit.of_plain (vecSplit (atCall m)))
    m ρ main (fun d => Ghost d) (FIN m) (u₀ (F := F)) (sep_elim_left.trans (hu₀ (atCall m))) (hmain m ρ) (fq m) (hfin m) (QC m) (fun _ h hz => ⟨h, hz⟩)

end Cert.Proof.Gather
-- ==== Proof.Kept.lean ====
/- What the program's run leaves as it was, where the indices stand at the SparseCore call, and what the precondition says of them. -/
module

public import proofs.«01_k».proof.Proof.Run
public import proofs.«01_k».proof.Defs
public import proofs.«01_k».proof.Proof.Gen.Pre_in_range
public import Idealize.ShloMosaic.Lib.StableHlo.ReadAt
public import Idealize.ShloMosaic.Lib.ReduceAll

@[expose] public section

noncomputable section

namespace Cert.Proof.Gather

open Idealize.ShloMosaic
open Idealize.ShloMosaic.StableHlo
open Idealize.ShloMosaic.Pipeline (ucRefs arrRef)
open Idealize.SL.Sem
open Cert.KernelIdeal Cert.KernelIdeal.Gen

variable {F : FTy → Type} [FloatOps F]

/-! ## The buffers no step writes -/

/-- The region's windows stand on different arrays. -/
theorem arr_inj : Function.Injective (arrRef spec1) := by decide

/-- The region leaves every array alone but its result. -/
theorem leave_kept (B : Dev nD → Valuation τ sig (Elt F)) (d : Dev nD) {r : Ref sig .tc} (h : r ≠ main_v25) :
    leave B d (at' r) = B d (at' r) := by
  unfold leave
  by_cases hw : ∃ w, r = arrRef spec1 w
  · obtain ⟨w, rfl⟩ := hw
    have hin : (cfg1.win w).isOut = false := by
      revert h; revert w; decide
    exact (Pipeline.afterRegion_arr (dats B 0 d) (B d) arr_inj w).trans (((dats B 0 d).arrAt_in w hin _).trans (A_eq B d w))
  · exact Pipeline.afterRegion_of_not_arr (dats B 0 d) (B d) fun w e => hw ⟨w, e⟩

variable (m : (ℓ : Loc nD τ sig) → Buf (Elt F) ℓ)

/-- What the region finds in a buffer that neither the operations before it nor the SparseCore call write. -/
theorem atRegion_kept (d : Dev nD) {r : Ref sig .tc} (hA : r ∉ opsAW) (h15 : r ≠ main_v15) (hB : r ∉ opsBW) :
    atRegion m d (at' r) = m ((tc d).loc r) :=
  (after_unwritten opsBW opsB_writes hB _).trans
    ((gathered_ne (atCall m) d fun e => h15 (Proc.devRef_injective _ e)).trans (after_unwritten opsAW opsA_writes hA _))

/-- A buffer that no step writes ends as the launch found it. -/
theorem kept (d : Dev nD) {r : Ref sig .tc} (h : r ∉ opsAW ++ main_v15 :: (opsBW ++ main_v25 :: opsCW)) :
    atEnd m d (at' r) = m ((tc d).loc r) := by
  simp only [List.mem_append, List.mem_cons, not_or] at h
  exact (after_unwritten opsCW opsC_writes (by simpa using h.2.2.2.2) _).trans
    ((leave_kept (atRegion m) d h.2.2.2.1).trans (atRegion_kept m d (by simpa using h.1) h.2.1 (by simpa using h.2.2.1)))

/-- The same, of a final state. -/
theorem arg_kept {r : Ref sig .tc} (hu : r.isScoped = false) (h : r ∉ opsAW ++ main_v15 :: (opsBW ++ main_v25 :: opsCW))
    {s} (hs : QC m s) (d : Dev nD) : s.2.mem ((tc d).loc r) = m ((tc d).loc r) :=
  (hs.1 d (at' r) (Pipeline.devRef_mem_ucRefs hu)).trans (kept m d h)

/-! ## The indices -/

/-- The index array of slot `k`. -/
def words (d : Dev nD) : Fin 9 → Vec F S16384 .i32 :=
  ![m ((tc d).loc main_arg0), m ((tc d).loc main_arg1), m ((tc d).loc main_arg2), m ((tc d).loc main_arg6), m ((tc d).loc main_arg7),
    m ((tc d).loc main_arg8), m ((tc d).loc main_arg3), m ((tc d).loc main_arg4), m ((tc d).loc main_arg5)]

/-- The index array as the operations before the call lay it out. -/
theorem words_eq (d : Dev nD) : (atCall m d (at' main_v10) : Vec F S288x4x128 .i32) =
    shapeCast S288x4x128 (concatenate S9x16384 0 [⟨S1x16384, broadcastInDim S1x16384 ![1] bcast_S16384_S1x16384_1 (m ((tc d).loc main_arg0) : Vec F S16384 .i32)⟩,
        ⟨S1x16384, broadcastInDim S1x16384 ![1] bcast_S16384_S1x16384_1 (m ((tc d).loc main_arg1) : Vec F S16384 .i32)⟩,
        ⟨S1x16384, broadcastInDim S1x16384 ![1] bcast_S16384_S1x16384_1 (m ((tc d).loc main_arg2) : Vec F S16384 .i32)⟩,
        ⟨S1x16384, broadcastInDim S1x16384 ![1] bcast_S16384_S1x16384_1 (m ((tc d).loc main_arg6) : Vec F S16384 .i32)⟩,
        ⟨S1x16384, broadcastInDim S1x16384 ![1] bcast_S16384_S1x16384_1 (m ((tc d).loc main_arg7) : Vec F S16384 .i32)⟩,
        ⟨S1x16384, broadcastInDim S1x16384 ![1] bcast_S16384_S1x16384_1 (m ((tc d).loc main_arg8) : Vec F S16384 .i32)⟩,
        ⟨S1x16384, broadcastInDim S1x16384 ![1] bcast_S16384_S1x16384_1 (m ((tc d).loc main_arg3) : Vec F S16384 .i32)⟩,
        ⟨S1x16384, broadcastInDim S1x16384 ![1] bcast_S16384_S1x16384_1 (m ((tc d).loc main_arg4) : Vec F S16384 .i32)⟩,
        ⟨S1x16384, broadcastInDim S1x16384 ![1] bcast_S16384_S1x16384_1 (m ((tc d).loc main_arg5) : Vec F S16384 .i32)⟩]
      concatenates_S1x16384_S1x16384_S1x16384_S1x16384_S1x16384_S1x16384_S1x16384_S1x16384_S1x16384_S9x16384_d0) shapeCasts_S9x16384_S288x4x128 := by
  unfold atCall opsA at'
  after_results
  rfl

/-- Nine arrays laid one under another and cut into blocks of 512: where entry `p` of the array `k` stands. -/
theorem laid (x0 x1 x2 x3 x4 x5 x6 x7 x8 : Vec F S16384 .i32) (k : Fin 9) (p : Fin 16384) :
    shapeCast S288x4x128 (concatenate S9x16384 0 [⟨S1x16384, broadcastInDim S1x16384 ![1] bcast_S16384_S1x16384_1 x0⟩,
        ⟨S1x16384, broadcastInDim S1x16384 ![1] bcast_S16384_S1x16384_1 x1⟩, ⟨S1x16384, broadcastInDim S1x16384 ![1] bcast_S16384_S1x16384_1 x2⟩,
        ⟨S1x16384, broadcastInDim S1x16384 ![1] bcast_S16384_S1x16384_1 x3⟩, ⟨S1x16384, broadcastInDim S1x16384 ![1] bcast_S16384_S1x16384_1 x4⟩,
        ⟨S1x16384, broadcastInDim S1x16384 ![1] bcast_S16384_S1x16384_1 x5⟩, ⟨S1x16384, broadcastInDim S1x16384 ![1] bcast_S16384_S1x16384_1 x6⟩,
        ⟨S1x16384, broadcastInDim S1x16384 ![1] bcast_S16384_S1x16384_1 x7⟩, ⟨S1x16384, broadcastInDim S1x16384 ![1] bcast_S16384_S1x16384_1 x8⟩]
      concatenates_S1x16384_S1x16384_S1x16384_S1x16384_S1x16384_S1x16384_S1x16384_S1x16384_S1x16384_S9x16384_d0) shapeCasts_S9x16384_S288x4x128
      (idxAt k p) = (![x0, x1, x2, x3, x4, x5, x6, x7, x8] : Fin 9 → Vec F S16384 .i32) k (ValueIdx.ix1 p) := by
  unfold idxAt
  pointwise
  have hk : (32 * k.val + p.val / 512) / 32 = k.val := by have := p.isLt; omega
  have hp : (32 * k.val + p.val / 512) % 32 * 512 + p.val % 512 / 128 * 128 + p.val % 128 = p.val := by have := p.isLt; omega
  simp only [hk, hp]
  fin_cases k <;> rfl

/-- The call finds the index of row `p` of slot `k` where its tiles look for it. -/
theorem word_at (d : Dev nD) (k : Fin 9) (p : Fin 16384) :
    (atCall m d (at' main_v10) : Vec F S288x4x128 .i32) (idxAt k p) = words m d k (ValueIdx.ix1 p) :=
  (congrFun (words_eq m d) _).trans (laid _ _ _ _ _ _ _ _ _ k p)

/-! ## The precondition -/

/-- A word at least zero and below a small bound, both read with the sign, is below the bound read without. -/
theorem below_of_both (v b : BitVec 32) (hb : b.toNat < 2 ^ 31) (e : IntOp.andi (IntOp.cmpi .sge v 0#32) (IntOp.cmpi .slt v b) = 1#1) :
    v.toNat < b.toNat := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

/-- Two bits whose conjunction is one are both one. -/
theorem both_of_and {p q : BitVec 1} (e : IntOp.andi p q = 1#1) : p = 1#1 ∧ q = 1#1 := by
  revert p q; decide

/-- An array of indices all of which the comparisons find within the bound has them all below it. -/
theorem below_of_all [Cert.Pre_in_range.Facts] (x : IVec Cert.Pre_in_range.S16384 32) (b : BitVec 32) (hb : b.toNat < 2 ^ 31) (j : Cert.Pre_in_range.S_.Idx)
    (e : Host.reduce IntOp.andi (andi (cmpi .sge x (broadcastInDim Cert.Pre_in_range.S16384 ![] Cert.Pre_in_range.Facts.bcast_S_S16384 (constantI Cert.Pre_in_range.S_ 32 0#32)))
        (cmpi .slt x (broadcastInDim Cert.Pre_in_range.S16384 ![] Cert.Pre_in_range.Facts.bcast_S_S16384 (constantI Cert.Pre_in_range.S_ 32 b))))
      (constantI Cert.Pre_in_range.S_ 1 1#1) Cert.Pre_in_range.Facts.reducesTo_S16384_S_d0 Cert.Pre_in_range.Facts.h_S_ j = 1#1)
    (i : Cert.Pre_in_range.S16384.Idx) : (x i).toNat < b.toNat :=
  below_of_both _ _ hb (Host.reduce_andi_eq_one _ _ _ _ j e i (funext fun a => a.elim0))

/-- The precondition says of each index array that its words are below the number of its table's rows. -/
theorem below_of_pre [Cert.Pre_in_range.Facts] {x0 x1 x2 x3 x4 x5 x6 x7 x8 : IVec Cert.Pre_in_range.S16384 32} {x9 x10 x11 x12 x13 x14 x15 x16 x17 x18 x19 x20 x21 x22 x23 x24}
    (h : Cert.Pre_in_range.fn (F := F) x0 x1 x2 x3 x4 x5 x6 x7 x8 x9 x10 x11 x12 x13 x14 x15 x16 x17 x18 x19 x20 x21 x22 x23 x24 = fun _ => 1#1)
    (i : Cert.Pre_in_range.S16384.Idx) :
    (x0 i).toNat < 100000 ∧ (x1 i).toNat < 1000000 ∧ (x2 i).toNat < 1000 ∧ (x3 i).toNat < 1000000 ∧ (x4 i).toNat < 1000000
      ∧ (x5 i).toNat < 1000000 ∧ (x6 i).toNat < 1000 ∧ (x7 i).toNat < 1000 ∧ (x8 i).toNat < 1000 := by
  have e := congrFun h (fun a => a.elim0)
  obtain ⟨e, e8⟩ := both_of_and e
  obtain ⟨e, e7⟩ := both_of_and e
  obtain ⟨e, e6⟩ := both_of_and e
  obtain ⟨e, e2⟩ := both_of_and e
  obtain ⟨e, e5⟩ := both_of_and e
  obtain ⟨e, e4⟩ := both_of_and e
  obtain ⟨e, e3⟩ := both_of_and e
  obtain ⟨e0, e1⟩ := both_of_and e
  exact ⟨below_of_all x0 _ (by decide) _ e0 i, below_of_all x1 _ (by decide) _ e1 i, below_of_all x2 _ (by decide) _ e2 i,
    below_of_all x3 _ (by decide) _ e3 i, below_of_all x4 _ (by decide) _ e4 i, below_of_all x5 _ (by decide) _ e5 i,
    below_of_all x6 _ (by decide) _ e6 i, below_of_all x7 _ (by decide) _ e7 i, below_of_all x8 _ (by decide) _ e8 i⟩

end Cert.Proof.Gather
-- ==== Proof.Same.lean ====
/- The program printed for the floating-point words and the one printed for the ideal numbers are the same text: read over any
numbers, the two are equal, which lets one run serve both frames. -/
module

public import proofs.«01_k».proof.Proof.Gen.KernelIdeal
public import proofs.«01_k».proof.Proof.Gen.Kernel

@[expose] public section

noncomputable section

namespace Cert.Proof.Gather

open Idealize.ShloMosaic
open Cert.KernelIdeal Cert.KernelIdeal.Gen

variable {F : FTy → Type} [FloatOps F]

set_option maxHeartbeats 0 in
/-- The tiles' body. -/
theorem gather_body_same (i : grid0.Coords) (arg2 : Memref sig .scVector .hbm S12500x8x32 .f32) (harg2 : arg2.IsWhole) (arg3 : Memref sig .scVector .hbm S125000x8x32 .f32) (harg3 : arg3.IsWhole) (arg4 : Memref sig .scVector .hbm S125x8x32 .f32) (harg4 : arg4.IsWhole) (arg5 : Memref sig .scVector .hbm S125000x8x32 .f32) (harg5 : arg5.IsWhole) (arg6 : Memref sig .scVector .hbm S288x4x128 .i32) (harg6 : arg6.IsWhole) (arg7 : Memref sig .scVector .hbm S9x16384x32 .f32) (harg7 : arg7.IsWhole) (arg8 : Memref sig .scVector .vmem S4x128 .i32) (harg8 : arg8.IsWhole) (arg9 : Memref sig .scVector .vmem S16x8x32 .f32) (harg9 : arg9.IsWhole) (arg10 : Memref sig .scVector .vmem S128x32 .f32) (harg10 : arg10.IsWhole) (arg11 : Memref sig .scVector .vmem S4x128 .i32) (harg11 : arg11.IsWhole) (arg12 : DmaSems sig S_) (v30_r0 : DmaSems sig S_) (v34_r1 : DmaSems sig S_) (v30_r2 : DmaSems sig S_) (v34_r3 : DmaSems sig S_) (v30_r4 : DmaSems sig S_) (v34_r5 : DmaSems sig S_) (v30_r6 : DmaSems sig S_) (v34_r7 : DmaSems sig S_) (v30_r8 : DmaSems sig S_) (v34_r9 : DmaSems sig S_) (v30_r10 : DmaSems sig S_) (v34_r11 : DmaSems sig S_) (v30_r12 : DmaSems sig S_) (v34_r13 : DmaSems sig S_) (v30_r14 : DmaSems sig S_) (v34_r15 : DmaSems sig S_) (v30_r16 : DmaSems sig S_) (v34_r17 : DmaSems sig S_) : Cert.Kernel.cc0__sc_gather_body (F := F) i arg2 harg2 arg3 harg3 arg4 harg4 arg5 harg5 arg6 harg6 arg7 harg7 arg8 harg8 arg9 harg9 arg10 harg10 arg11 harg11 arg12 v30_r0 v34_r1 v30_r2 v34_r3 v30_r4 v34_r5 v30_r6 v34_r7 v30_r8 v34_r9 v30_r10 v34_r11 v30_r12 v34_r13 v30_r14 v34_r15 v30_r16 v34_r17 = cc0__sc_gather_body i arg2 harg2 arg3 harg3 arg4 harg4 arg5 harg5 arg6 harg6 arg7 harg7 arg8 harg8 arg9 harg9 arg10 harg10 arg11 harg11 arg12 v30_r0 v34_r1 v30_r2 v34_r3 v30_r4 v34_r5 v30_r6 v34_r7 v30_r8 v34_r9 v30_r10 v34_r11 v30_r12 v34_r13 v30_r14 v34_r15 v30_r16 v34_r17 := rfl

/-- A tile's place in the grid. -/
def gridAt (c : Fin (grid0.bound 0)) (s : Fin (grid0.bound 1)) : grid0.Coords := fun | 0 => c | 1 => s | ⟨_ + 2, h⟩ => absurd h (Nat.not_lt.2 (Nat.le_add_left _ _))

/-- A tile's program at its place. -/
theorem tile_same (c : Fin τ.nSC) (s : Fin τ.nSub) : Cert.Kernel.defs₀ (F := F) (.scVector c s) 0 () = defs₀ (.scVector c s) 0 () :=
  have e : (fun c s => Cert.Kernel.cc0__sc_gather_body (F := F) (gridAt c s) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v10_scv) (Memref.isWhole_whole _) (Memref.whole main_v15_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17) = fun c s => cc0__sc_gather_body (gridAt c s) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v10_scv) (Memref.isWhole_whole _) (Memref.whole main_v15_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 :=
    funext fun _ => funext fun _ => gather_body_same ..
  congrArg (fun f => SparseCore.onTile hcore0 hsub0 f () c s) e

/-- The bodies at every label of every processor. -/
theorem bodies_same : Cert.Kernel.defs₀ (F := F) = defs₀ := by
  funext p ℓ a
  match p, ℓ, a with
  | .scVector c s, 0, _ => exact tile_same c s
  | .tc, 1, (t, s) => exact rfl
  | .scVector _ _, 1, _ => exact rfl
  | .scScalar _, 0, _ => exact rfl
  | .scScalar _, 1, _ => exact rfl
  | .tc, 0, _ => exact rfl

/-- The whole programs. -/
theorem defs_same : Cert.Kernel.defs (F := F) = defs :=
  congrArg (fun D => sc.defs (Pipeline.defs pcfgs D)) bodies_same

end Cert.Proof.Gather
-- ==== Proof.Frames.lean ====
/- The three frames: from any memory within the precondition each program ends, its arguments as they were and every counter zero. -/
module

public import proofs.«01_k».proof.Proof.Kept
public import proofs.«01_k».proof.Proof.Same
public import proofs.«01_k».proof.Proof.Gen.Kernel
public import proofs.«01_k».proof.Proof.Gen.ReferenceIdeal
public import proofs.«01_k».proof.Proof.Gen.ReferenceIdeal.Run

@[expose] public section

noncomputable section

namespace Cert.Proof.Gather

open Idealize.ShloMosaic
open Idealize.SL.Sem
open Cert.KernelIdeal Cert.KernelIdeal.Gen

variable {F : FTy → Type} [FloatOps F] (m : (ℓ : Loc nD τ sig) → Buf (Elt F) ℓ)

/-- Within the precondition every index of the array that the call takes names a row of its table. -/
theorem fits_of_pre (h : ∀ c : Dev nD, Cert.Pre_in_range.fn (F := F) (m ((tc c).loc main_arg0)) (m ((tc c).loc main_arg1)) (m ((tc c).loc main_arg2)) (m ((tc c).loc main_arg3)) (m ((tc c).loc main_arg4)) (m ((tc c).loc main_arg5)) (m ((tc c).loc main_arg6)) (m ((tc c).loc main_arg7)) (m ((tc c).loc main_arg8)) (m ((tc c).loc main_arg9)) (m ((tc c).loc main_arg10)) (m ((tc c).loc main_arg11)) (m ((tc c).loc main_arg12)) (m ((tc c).loc main_arg13)) (m ((tc c).loc main_arg14)) (m ((tc c).loc main_arg15)) (m ((tc c).loc main_arg16)) (m ((tc c).loc main_arg17)) (m ((tc c).loc main_arg18)) (m ((tc c).loc main_arg19)) (m ((tc c).loc main_arg20)) (m ((tc c).loc main_arg21)) (m ((tc c).loc main_arg22)) (m ((tc c).loc main_arg23)) (m ((tc c).loc main_arg24)) = fun _ => 1#1) (d : Dev nD) :
    Fits (F := F) (atCall m d (at' main_v10)) := by
  intro k p
  obtain ⟨h0, h1, h2, h3, h4, h5, h6, h7, h8⟩ := below_of_pre (h d) (ValueIdx.ix1 p)
  rw [word_at]
  fin_cases k
  exacts [h0, h1, h2, h6, h7, h8, h3, h4, h5]

/-- The arguments of a state as the launch's memory `m` has them. -/
def Kept (s : PUnit × MemSt nD τ sig (Elt F)) : Prop :=
  ∀ d : Dev nD, s.2.mem ((tc d).loc main_arg0) = m ((tc d).loc main_arg0)
      ∧ s.2.mem ((tc d).loc main_arg1) = m ((tc d).loc main_arg1)
      ∧ s.2.mem ((tc d).loc main_arg2) = m ((tc d).loc main_arg2)
      ∧ s.2.mem ((tc d).loc main_arg3) = m ((tc d).loc main_arg3)
      ∧ s.2.mem ((tc d).loc main_arg4) = m ((tc d).loc main_arg4)
      ∧ s.2.mem ((tc d).loc main_arg5) = m ((tc d).loc main_arg5)
      ∧ s.2.mem ((tc d).loc main_arg6) = m ((tc d).loc main_arg6)
      ∧ s.2.mem ((tc d).loc main_arg7) = m ((tc d).loc main_arg7)
      ∧ s.2.mem ((tc d).loc main_arg8) = m ((tc d).loc main_arg8)
      ∧ s.2.mem ((tc d).loc main_arg9) = m ((tc d).loc main_arg9)
      ∧ s.2.mem ((tc d).loc main_arg10) = m ((tc d).loc main_arg10)
      ∧ s.2.mem ((tc d).loc main_arg11) = m ((tc d).loc main_arg11)
      ∧ s.2.mem ((tc d).loc main_arg12) = m ((tc d).loc main_arg12)
      ∧ s.2.mem ((tc d).loc main_arg13) = m ((tc d).loc main_arg13)
      ∧ s.2.mem ((tc d).loc main_arg14) = m ((tc d).loc main_arg14)
      ∧ s.2.mem ((tc d).loc main_arg15) = m ((tc d).loc main_arg15)
      ∧ s.2.mem ((tc d).loc main_arg16) = m ((tc d).loc main_arg16)
      ∧ s.2.mem ((tc d).loc main_arg17) = m ((tc d).loc main_arg17)
      ∧ s.2.mem ((tc d).loc main_arg18) = m ((tc d).loc main_arg18)
      ∧ s.2.mem ((tc d).loc main_arg19) = m ((tc d).loc main_arg19)
      ∧ s.2.mem ((tc d).loc main_arg20) = m ((tc d).loc main_arg20)
      ∧ s.2.mem ((tc d).loc main_arg21) = m ((tc d).loc main_arg21)
      ∧ s.2.mem ((tc d).loc main_arg22) = m ((tc d).loc main_arg22)
      ∧ s.2.mem ((tc d).loc main_arg23) = m ((tc d).loc main_arg23)
      ∧ s.2.mem ((tc d).loc main_arg24) = m ((tc d).loc main_arg24)

/-- The arguments end as the launch found them. -/
theorem args_kept {s} (hs : QC m s) : Kept m s := fun d =>
  ⟨arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d, arg_kept m rfl (by decide) hs d⟩

/-- The frame, of the program over any numbers. -/
theorem frame_any [∀ e, Nonempty (Elt F e)] (ρ : Dev nD → PrngReg)
    (h : ∀ c : Dev nD, Cert.Pre_in_range.fn (F := F) (m ((tc c).loc main_arg0)) (m ((tc c).loc main_arg1)) (m ((tc c).loc main_arg2)) (m ((tc c).loc main_arg3)) (m ((tc c).loc main_arg4)) (m ((tc c).loc main_arg5)) (m ((tc c).loc main_arg6)) (m ((tc c).loc main_arg7)) (m ((tc c).loc main_arg8)) (m ((tc c).loc main_arg9)) (m ((tc c).loc main_arg10)) (m ((tc c).loc main_arg11)) (m ((tc c).loc main_arg12)) (m ((tc c).loc main_arg13)) (m ((tc c).loc main_arg14)) (m ((tc c).loc main_arg15)) (m ((tc c).loc main_arg16)) (m ((tc c).loc main_arg17)) (m ((tc c).loc main_arg18)) (m ((tc c).loc main_arg19)) (m ((tc c).loc main_arg20)) (m ((tc c).loc main_arg21)) (m ((tc c).loc main_arg22)) (m ((tc c).loc main_arg23)) (m ((tc c).loc main_arg24)) = fun _ => 1#1) :
    θ_run (Cert.KernelIdeal.defs (F := F)) Cert.KernelIdeal.threads ⟨m, fun _ => 0, ρ⟩ fun s => Kept m s ∧ s.2.sem = fun _ => 0 :=
  (θ_run Cert.KernelIdeal.defs _ _).mono (fun _ hs => ⟨args_kept m hs, hs.2⟩) (run_main m ρ (fits_of_pre m h))

/-- `Cert.quiescent_KernelIdeal`. -/
theorem frame_kernelIdeal : Cert.quiescent_KernelIdeal := fun m ρ h => frame_any (F := Ideal) m ρ h

set_option maxHeartbeats 4000000 in
/-- `Cert.quiescent_Kernel`: the same program over the floating-point words. -/
theorem frame_kernel : Cert.quiescent_Kernel := fun m ρ h => by
  have k := frame_any (F := Bits) m ρ h
  rw [← defs_same] at k
  exact k

/-- `Cert.quiescent_ReferenceIdeal`: its run, read at the arguments; it declares no semaphore. -/
theorem frame_reference : Cert.quiescent_ReferenceIdeal := fun m ρ _ =>
  (θ_run Cert.ReferenceIdeal.defs _ _).mono (fun r hs => ⟨fun c => (hs c).2, Idealize.ShloMosaic.sem_eq_zero_of_no_sems (by decide) r.2⟩)
    (Cert.ReferenceIdeal.Value.run (F := Ideal) m ρ)

end Cert.Proof.Gather
-- ==== Proof.Net.lean ====
/- The dense layers of one row, over the ideal numbers: what the region's body and the reference both compute. -/
module

public import proofs.«01_k».proof.Proof.Mlp
public import proofs.«01_k».proof.Defs
public import Idealize.ShloMosaic.Lib.MatmulPlain
public import Idealize.ShloMosaic.Lib.StackMember
public import Idealize.ShloMosaic.Lib.ValueLayout
public import Idealize.ShloMosaic.Lib.ValueIdx
public import Idealize.ShloMosaic.Lib.PointwiseCore

@[expose] public section

noncomputable section

namespace Cert.Proof.Gather

open Idealize.ShloMosaic hiding ix1 ix2 ix3
open Cert.KernelIdeal Cert.KernelIdeal.Gen
open Idealize.ShloMosaic.ValueIdx (ix1 ix2 ix3)

/-- A layer of a row `x`: the products with the columns of `W`, the bias, and the negative ones put to zero. -/
def dense {K N : ℕ} (x : Fin K → Ideal .f32) (W : FVec Ideal ⟨2, ![K, N]⟩ .f32) (b : Fin N → Ideal .f32) (n : Fin N) : Ideal .f32 :=
  max ((∑ k : Fin K, x k * W (ix2 k n)) + b n) 0

/-- The score of a row: three layers, the last product and bias, and the logistic function. -/
def net (x : Fin 292 → Ideal .f32) (W₁ : FVec Ideal ⟨2, ![292, 512]⟩ .f32) (b₁ : Fin 512 → Ideal .f32) (W₂ : FVec Ideal ⟨2, ![512, 256]⟩ .f32) (b₂ : Fin 256 → Ideal .f32)
    (W₃ : FVec Ideal ⟨2, ![256, 128]⟩ .f32) (b₃ : Fin 128 → Ideal .f32) (W₄ : FVec Ideal ⟨2, ![128, 1]⟩ .f32) (b₄ : Fin 1 → Ideal .f32) : Ideal .f32 :=
  FloatOps.divf (Ideal.ofBits .f32 0x3F800000#32) (Ideal.ofBits .f32 0x3F800000#32
    + FloatOps.exp (-((∑ k : Fin 128, dense (dense (dense x W₁ b₁) W₂ b₂) W₃ b₃ k * W₄ (ix2 k 0)) + b₄ 0)))

/-- A product and a bias as the body writes them, at a row and a column. -/
theorem body_affine {M K N : ℕ} (X : FVec Ideal ⟨2, ![M, K]⟩ .f32) (W : FVec Ideal ⟨2, ![K, N]⟩ .f32) (B : FVec Ideal ⟨2, ![1, N]⟩ .f32)
    (h : (⟨2, ![1, N]⟩ : Shape).ShapeCasts ⟨2, ![1, N]⟩) (h' : (⟨2, ![1, N]⟩ : Shape).Broadcasts ⟨2, ![M, N]⟩) (r : Fin M) (n : Fin N) :
    addf (FloatOps.matmul (DotDims.plain M K N) none X W (constant ⟨2, ![M, N]⟩ .f32 0x00000000#32)) (broadcastTo ⟨2, ![M, N]⟩ (shapeCast ⟨2, ![1, N]⟩ B h) h') (ix2 r n)
      = (∑ k : Fin K, X (ix2 r k) * W (ix2 k n)) + B (ix2 0 n) := by
  rw [ValueIdx.addf_apply, Ideal.matmul_plain_apply, ValueIdx.broadcastTo_1b_ab_apply, shapeCast_self, ValueIdx.constant_apply, Ideal.ofBits_zero_f32, zero_add]

/-- A vector laid along the rows of a rectangle, at a row and a column. -/
theorem bias_row {α : Type} {M N : ℕ} (h₂ : (⟨2, ![1, N]⟩ : Shape).BroadcastsInDim ⟨2, ![M, N]⟩ ![0, 1]) (h₁ : (⟨1, ![N]⟩ : Shape).BroadcastsInDim ⟨2, ![1, N]⟩ ![1])
    (v : (⟨1, ![N]⟩ : Shape).Idx → α) (r : Fin M) (n : Fin N) :
    broadcastInDim ⟨2, ![M, N]⟩ ![0, 1] h₂ (broadcastInDim ⟨2, ![1, N]⟩ ![1] h₁ v) (ix2 r n) = v (ix1 n) := by
  simp only [broadcastInDim]
  congr 1
  funext a
  have ha : a = 0 := Subsingleton.elim _ _
  subst ha
  apply Fin.ext
  have hn := n.isLt
  by_cases h1 : N = 1
  · subst h1
    have : n = 0 := Subsingleton.elim _ _
    subst this
    simp
  · simp [h1]
    rfl

/-- The same product and bias as the reference writes them. -/
theorem host_affine {M K N : ℕ} (X : FVec Ideal ⟨2, ![M, K]⟩ .f32) (W : FVec Ideal ⟨2, ![K, N]⟩ .f32) (b : FVec Ideal ⟨1, ![N]⟩ .f32)
    (h₂ : (⟨2, ![1, N]⟩ : Shape).BroadcastsInDim ⟨2, ![M, N]⟩ ![0, 1]) (h₁ : (⟨1, ![N]⟩ : Shape).BroadcastsInDim ⟨2, ![1, N]⟩ ![1]) (r : Fin M) (n : Fin N) :
    addf (Host.dotGeneral (DotDims.plain M K N) none X W) (broadcastInDim ⟨2, ![M, N]⟩ ![0, 1] h₂ (broadcastInDim ⟨2, ![1, N]⟩ ![1] h₁ b)) (ix2 r n)
      = (∑ k : Fin K, X (ix2 r k) * W (ix2 k n)) + b (ix1 n) := by
  rw [ValueIdx.addf_apply, bias_row, StackMember.dotGeneral_plain_apply]

/-- A layer as the body writes it, at a row and a column. -/
theorem body_dense {M K N : ℕ} (X : FVec Ideal ⟨2, ![M, K]⟩ .f32) (W : FVec Ideal ⟨2, ![K, N]⟩ .f32) (B : FVec Ideal ⟨2, ![1, N]⟩ .f32)
    (h : (⟨2, ![1, N]⟩ : Shape).ShapeCasts ⟨2, ![1, N]⟩) (h' : (⟨2, ![1, N]⟩ : Shape).Broadcasts ⟨2, ![M, N]⟩) (r : Fin M) (n : Fin N) :
    maximumf (addf (FloatOps.matmul (DotDims.plain M K N) none X W (constant ⟨2, ![M, N]⟩ .f32 0x00000000#32)) (broadcastTo ⟨2, ![M, N]⟩ (shapeCast ⟨2, ![1, N]⟩ B h) h'))
        (broadcast ⟨2, ![M, N]⟩ (Scalar.ofBits .f32 0x00000000#32)) (ix2 r n)
      = dense (fun k => X (ix2 r k)) W (fun n => B (ix2 0 n)) n := by
  rw [ValueIdx.maximumf_apply, body_affine]
  unfold dense
  congr 1
  exact Ideal.ofBits_zero_f32

/-- A layer as the reference writes it, at a row and a column. -/
theorem host_dense {M K N : ℕ} (X : FVec Ideal ⟨2, ![M, K]⟩ .f32) (W : FVec Ideal ⟨2, ![K, N]⟩ .f32) (b : FVec Ideal ⟨1, ![N]⟩ .f32)
    (h₂ : (⟨2, ![1, N]⟩ : Shape).BroadcastsInDim ⟨2, ![M, N]⟩ ![0, 1]) (h₁ : (⟨1, ![N]⟩ : Shape).BroadcastsInDim ⟨2, ![1, N]⟩ ![1])
    (h₀ : (⟨0, ![]⟩ : Shape).BroadcastsInDim ⟨2, ![M, N]⟩ ![]) (r : Fin M) (n : Fin N) :
    maximumf (addf (Host.dotGeneral (DotDims.plain M K N) none X W) (broadcastInDim ⟨2, ![M, N]⟩ ![0, 1] h₂ (broadcastInDim ⟨2, ![1, N]⟩ ![1] h₁ b)))
        (broadcastInDim ⟨2, ![M, N]⟩ ![] h₀ (constant ⟨0, ![]⟩ .f32 0x00000000#32)) (ix2 r n)
      = dense (fun k => X (ix2 r k)) W (fun n => b (ix1 n)) n := by
  rw [ValueIdx.maximumf_apply, host_affine]
  unfold dense
  congr 1
  exact Ideal.ofBits_zero_f32

/-- Nine arrays of 32 columns and one of 4, side by side. -/
abbrev parts {α : Type} {M : ℕ} (x : Fin 9 → (⟨2, ![M, 32]⟩ : Shape).Idx → α) (y : (⟨2, ![M, 4]⟩ : Shape).Idx → α) : List ((s : Shape) × (s.Idx → α)) :=
  [⟨⟨2, ![M, 32]⟩, x 0⟩, ⟨⟨2, ![M, 32]⟩, x 1⟩, ⟨⟨2, ![M, 32]⟩, x 2⟩, ⟨⟨2, ![M, 32]⟩, x 3⟩, ⟨⟨2, ![M, 32]⟩, x 4⟩, ⟨⟨2, ![M, 32]⟩, x 5⟩, ⟨⟨2, ![M, 32]⟩, x 6⟩, ⟨⟨2, ![M, 32]⟩, x 7⟩, ⟨⟨2, ![M, 32]⟩, x 8⟩, ⟨⟨2, ![M, 4]⟩, y⟩]

section Parts
variable {α : Type} {M : ℕ} (x : Fin 9 → (⟨2, ![M, 32]⟩ : Shape).Idx → α) (y : (⟨2, ![M, 4]⟩ : Shape).Idx → α)
  (h : Shape.Concatenates ((parts x y).map (·.1)) ⟨2, ![M, 292]⟩ 1) (r : Fin M) (j : Fin 292)

/-- A column of one of the nine. -/
theorem part_at (k : Fin 9) (c : Fin 32) (hj : 32 * k.val + c.val = j.val) : concatenate ⟨2, ![M, 292]⟩ 1 (parts x y) h (ix2 r j) = x k (ix2 r c) := by
  refine concatenate_apply_piece 1 _ h (ix2 r j) k.val (by show k.val < 10; omega) ⟨2, ![M, 32]⟩ (x k) (by fin_cases k <;> rfl) rfl (32 * k.val) (by fin_cases k <;> rfl) (ix2 r c) (fun b hb => ?_) hj
  fin_cases b
  · rfl
  · exact absurd rfl hb

/-- A column of the last. -/
theorem last_at (c : Fin 4) (hj : 288 + c.val = j.val) : concatenate ⟨2, ![M, 292]⟩ 1 (parts x y) h (ix2 r j) = y (ix2 r c) := by
  refine concatenate_apply_piece 1 _ h (ix2 r j) 9 (by show 9 < 10; omega) ⟨2, ![M, 4]⟩ y rfl rfl 288 rfl (ix2 r c) (fun b hb => ?_) hj
  fin_cases b
  · rfl
  · exact absurd rfl hb

end Parts

/-- Rows of two such arrays agree when the pieces' rows do. -/
theorem parts_congr {α : Type} {M M' : ℕ} {x : Fin 9 → (⟨2, ![M, 32]⟩ : Shape).Idx → α} {y : (⟨2, ![M, 4]⟩ : Shape).Idx → α} {x' : Fin 9 → (⟨2, ![M', 32]⟩ : Shape).Idx → α} {y' : (⟨2, ![M', 4]⟩ : Shape).Idx → α}
    {h : Shape.Concatenates ((parts x y).map (·.1)) ⟨2, ![M, 292]⟩ 1} {h' : Shape.Concatenates ((parts x' y').map (·.1)) ⟨2, ![M', 292]⟩ 1} {r : Fin M} {r' : Fin M'}
    (e : ∀ k c, x k (ix2 r c) = x' k (ix2 r' c)) (e' : ∀ c, y (ix2 r c) = y' (ix2 r' c)) (j : Fin 292) :
    concatenate ⟨2, ![M, 292]⟩ 1 (parts x y) h (ix2 r j) = concatenate ⟨2, ![M', 292]⟩ 1 (parts x' y') h' (ix2 r' j) := by
  by_cases hj : j.val < 288
  · have a : 32 * (j.val / 32) + j.val % 32 = j.val := Nat.div_add_mod ..
    rw [part_at x y h r j ⟨j.val / 32, by omega⟩ ⟨j.val % 32, Nat.mod_lt _ (by decide)⟩ a, part_at x' y' h' r' j ⟨j.val / 32, by omega⟩ ⟨j.val % 32, Nat.mod_lt _ (by decide)⟩ a]
    exact e _ _
  · have a : 288 + (j.val - 288) = j.val := by omega
    rw [last_at x y h r j ⟨j.val - 288, by omega⟩ a, last_at x' y' h' r' j ⟨j.val - 288, by omega⟩ a]
    exact e' _

/-- The order in which the planes stand in a row. -/
def order : Fin 9 → Fin 9 := ![0, 1, 2, 6, 7, 8, 3, 4, 5]

/-- The planes of a stack in that order. -/
abbrev planes {α : Type} {M : ℕ} (Y : (⟨3, ![9, M, 32]⟩ : Shape).Idx → α) : Fin 9 → (⟨2, ![M, 32]⟩ : Shape).Idx → α := fun k i => Y (ix3 (order k) (i 0) (i 1))

/-- The rows the layers take: the nine planes in that order, then the numbers. -/
def feats {M : ℕ} (Y : (⟨3, ![9, M, 32]⟩ : Shape).Idx → Ideal .f32) (N : (⟨2, ![M, 4]⟩ : Shape).Idx → Ideal .f32)
    (h : Shape.Concatenates ((parts (planes Y) N).map (·.1)) ⟨2, ![M, 292]⟩ 1) : FVec Ideal ⟨2, ![M, 292]⟩ .f32 :=
  concatenate ⟨2, ![M, 292]⟩ 1 (parts (planes Y) N) h

/-- Plane `k` of a block, loaded and laid flat. -/
theorem plane_eq (X : Vec Ideal S9x1024x32 .f32) (k : ℕ) (hk : k < 9) (h : ∀ a, (![k, 0, 0] : Fin 3 → ℕ) a + S1x1024x32.size a ≤ S9x1024x32.size a) (h' : S1x1024x32.ShapeCasts S1024x32) :
    shapeCast S1024x32 (View.ld X (Rect.unit (s := S9x1024x32) ![k, 0, 0] S1x1024x32.size h)) h' = fun i => X (ix3 ⟨k, hk⟩ (i 0) (i 1)) := by
  funext i
  obtain ⟨r, c, rfl⟩ : ∃ (r : Fin 1024) (c : Fin 32), i = ix2 r c := ⟨i 0, i 1, ValueIdx.eq_ix2 i⟩
  refine (shapeCast_dropUnit_apply (n := 2) ![1024, 32] _ _ _).trans ?_
  refine congrArg X ?_
  funext a
  apply Fin.ext
  fin_cases a
  · show k + _ = k
    rfl
  · show 0 + 1 * r.val = r.val
    omega
  · show 0 + 1 * c.val = c.val
    omega

/-- A block's scores are the network's, row by row. -/
theorem score_row (X : Vec Ideal S9x1024x32 .f32) (N : Vec Ideal S1024x4 .f32) (W₁ : Vec Ideal S292x512 .f32) (B₁ : Vec Ideal S1x512 .f32) (W₂ : Vec Ideal S512x256 .f32) (B₂ : Vec Ideal S1x256 .f32)
    (W₃ : Vec Ideal S256x128 .f32) (B₃ : Vec Ideal S1x128 .f32) (W₄ : Vec Ideal S128x1 .f32) (B₄ : Vec Ideal S1x1 .f32) (r : Fin 1024) :
    score X N W₁ B₁ W₂ B₂ W₃ B₃ W₄ B₄ (ix2 r 0)
      = net (fun j => feats X N concatenates_S1024x32_S1024x32_S1024x32_S1024x32_S1024x32_S1024x32_S1024x32_S1024x32_S1024x32_S1024x4_S1024x292_d1 (ix2 r j)) W₁ (fun n => B₁ (ix2 0 n)) W₂ (fun n => B₂ (ix2 0 n)) W₃ (fun n => B₃ (ix2 0 n)) W₄ (fun n => B₄ (ix2 0 n)) := by
  have z : (![0, 0] : Fin 2 → ℕ) = fun _ => 0 := by decide
  unfold score k1_pay1 k1_pay2 k1_pay3
  rw [View.ld_unit_zero z inb_S1024x4_S1024x4_0_0, View.ld_unit_zero z inb_S292x512_S292x512_0_0, View.ld_unit_zero z inb_S1x512_S1x512_0_0, View.ld_unit_zero z inb_S512x256_S512x256_0_0, View.ld_unit_zero z inb_S1x256_S1x256_0_0,
    View.ld_unit_zero z inb_S256x128_S256x128_0_0, View.ld_unit_zero z inb_S1x128_S1x128_0_0, View.ld_unit_zero z inb_S128x1_S128x1_0_0, View.ld_unit_zero z inb_S1x1_S1x1_0_0]
  rw [plane_eq X 0 (by decide), plane_eq X 1 (by decide), plane_eq X 2 (by decide), plane_eq X 3 (by decide), plane_eq X 4 (by decide), plane_eq X 5 (by decide), plane_eq X 6 (by decide), plane_eq X 7 (by decide), plane_eq X 8 (by decide)]
  show FloatOps.divf (Ideal.ofBits .f32 0x3F800000#32) (Ideal.ofBits .f32 0x3F800000#32 + FloatOps.exp (Ideal.ofBits .f32 0x00000000#32 - _)) = _
  rw [Ideal.ofBits_zero_f32, zero_sub]
  unfold net
  refine congrArg (fun y : Ideal .f32 => FloatOps.divf (Ideal.ofBits .f32 0x3F800000#32) (Ideal.ofBits .f32 0x3F800000#32 + FloatOps.exp (-y))) ?_
  refine (body_affine (M := 1024) (K := 128) (N := 1) _ _ _ _ _ _ _).trans ?_
  refine congrArg (fun f : Fin 128 → Ideal .f32 => (∑ k : Fin 128, f k * W₄ (ix2 k 0)) + B₄ (ix2 0 0)) (funext fun n => ?_)
  refine (body_dense (M := 1024) (K := 256) (N := 128) _ _ _ _ _ _ _).trans ?_
  refine congrArg (fun f : Fin 256 → Ideal .f32 => dense f W₃ (fun n => B₃ (ix2 0 n)) n) (funext fun n => ?_)
  refine (body_dense (M := 1024) (K := 512) (N := 256) _ _ _ _ _ _ _).trans ?_
  refine congrArg (fun f : Fin 512 → Ideal .f32 => dense f W₂ (fun n => B₂ (ix2 0 n)) n) (funext fun n => ?_)
  refine (body_dense (M := 1024) (K := 292) (N := 512) _ _ _ _ _ _ _).trans ?_
  refine congrArg (fun f : Fin 292 → Ideal .f32 => dense f W₁ (fun n => B₁ (ix2 0 n)) n) (funext fun j => ?_)
  rw [shapeCast_self]
  rfl

end Cert.Proof.Gather
-- ==== Proof.Out.lean ====
/- What the program's run leaves in its result, over the ideal numbers: the network's score of every row. -/
module

public import proofs.«01_k».proof.Proof.Net
public import proofs.«01_k».proof.Proof.Kept
public import Idealize.ShloMosaic.Lib.Pipeline.ValueKit

@[expose] public section

noncomputable section

namespace Cert.Proof.Gather

open Idealize.ShloMosaic hiding ix1 ix2 ix3
open Idealize.ShloMosaic.StableHlo
open Idealize.ShloMosaic.Pipeline (Dat arrRef)
open Cert.KernelIdeal Cert.KernelIdeal.Gen
open Idealize.ShloMosaic.ValueIdx (ix1 ix2 ix3)

/-! ## The region -/

section Region

variable (B : Dev nD → Valuation τ sig (Elt Ideal)) (d : Dev nD)

theorem rows_concat : Shape.Concatenates [⟨2, ![16384, 32]⟩, ⟨2, ![16384, 32]⟩, ⟨2, ![16384, 32]⟩, ⟨2, ![16384, 32]⟩, ⟨2, ![16384, 32]⟩, ⟨2, ![16384, 32]⟩, ⟨2, ![16384, 32]⟩, ⟨2, ![16384, 32]⟩, ⟨2, ![16384, 32]⟩, ⟨2, ![16384, 4]⟩]
    ⟨2, ![16384, 292]⟩ 1 := by decide

theorem index0 : ∀ t : Fin cfg1.N, win1_0.index t = ![0, t.val, 0] := (by decide +kernel : ∀ t : Fin grid1.N, _)
theorem index1 : ∀ t : Fin cfg1.N, win1_1.index t = ![t.val, 0] := (by decide +kernel : ∀ t : Fin grid1.N, _)
theorem index10 : ∀ t : Fin cfg1.N, win1_10.index t = ![t.val, 0] := (by decide +kernel : ∀ t : Fin grid1.N, _)

theorem index2 : ∀ t : Fin cfg1.N, win1_2.index t = ![0, 0] := (by decide +kernel : ∀ t : Fin grid1.N, _)
theorem index3 : ∀ t : Fin cfg1.N, win1_3.index t = ![0, 0] := (by decide +kernel : ∀ t : Fin grid1.N, _)
theorem index4 : ∀ t : Fin cfg1.N, win1_4.index t = ![0, 0] := (by decide +kernel : ∀ t : Fin grid1.N, _)
theorem index5 : ∀ t : Fin cfg1.N, win1_5.index t = ![0, 0] := (by decide +kernel : ∀ t : Fin grid1.N, _)
theorem index6 : ∀ t : Fin cfg1.N, win1_6.index t = ![0, 0] := (by decide +kernel : ∀ t : Fin grid1.N, _)
theorem index7 : ∀ t : Fin cfg1.N, win1_7.index t = ![0, 0] := (by decide +kernel : ∀ t : Fin grid1.N, _)
theorem index8 : ∀ t : Fin cfg1.N, win1_8.index t = ![0, 0] := (by decide +kernel : ∀ t : Fin grid1.N, _)
theorem index9 : ∀ t : Fin cfg1.N, win1_9.index t = ![0, 0] := (by decide +kernel : ∀ t : Fin grid1.N, _)

theorem blk0 (t : Fin cfg1.N) (k : Fin 9) (r : Fin 1024) (c : Fin 32) (p : Fin 16384) (hp : p.val = t.val * 1024 + r.val) :
    (iblk B d 0 t : Vec Ideal S9x1024x32 .f32) (ix3 k r c) = (B d (at' main_v15) : Vec Ideal S9x16384x32 .f32) (ix3 k p c) := by
  blk_ext [iblk, index0 t]
  exact hp.symm

theorem blk1 (t : Fin cfg1.N) (r : Fin 1024) (c : Fin 4) (p : Fin 16384) (hp : p.val = t.val * 1024 + r.val) :
    (iblk B d 1 t : Vec Ideal S1024x4 .f32) (ix2 r c) = (B d (at' main_v20) : Vec Ideal S16384x4 .f32) (ix2 p c) := by
  blk_ext [iblk, index1 t]
  exact hp.symm

theorem blk2 (t : Fin cfg1.N) : (iblk B d 2 t : Vec Ideal S292x512 .f32) = B d (at' main_arg17) := by
  funext y
  blk_ext [iblk, index2 t]

theorem blk3 (t : Fin cfg1.N) : (iblk B d 3 t : Vec Ideal S1x512 .f32) = B d (at' main_v21) := by
  funext y
  blk_ext [iblk, index3 t]

theorem blk4 (t : Fin cfg1.N) : (iblk B d 4 t : Vec Ideal S512x256 .f32) = B d (at' main_arg19) := by
  funext y
  blk_ext [iblk, index4 t]

theorem blk5 (t : Fin cfg1.N) : (iblk B d 5 t : Vec Ideal S1x256 .f32) = B d (at' main_v22) := by
  funext y
  blk_ext [iblk, index5 t]

theorem blk6 (t : Fin cfg1.N) : (iblk B d 6 t : Vec Ideal S256x128 .f32) = B d (at' main_arg21) := by
  funext y
  blk_ext [iblk, index6 t]

theorem blk7 (t : Fin cfg1.N) : (iblk B d 7 t : Vec Ideal S1x128 .f32) = B d (at' main_v23) := by
  funext y
  blk_ext [iblk, index7 t]

theorem blk8 (t : Fin cfg1.N) : (iblk B d 8 t : Vec Ideal S128x1 .f32) = B d (at' main_arg23) := by
  funext y
  blk_ext [iblk, index8 t]

theorem blk9 (t : Fin cfg1.N) : (iblk B d 9 t : Vec Ideal S1x1 .f32) = B d (at' main_v24) := by
  funext y
  blk_ext [iblk, index9 t]

/-- The score of a row, from the arrays the region finds. -/
def scoreOf (p : Fin 16384) : Ideal .f32 :=
  net (fun j => feats (B d (at' main_v15) : Vec Ideal S9x16384x32 .f32) (B d (at' main_v20) : Vec Ideal S16384x4 .f32) rows_concat (ix2 p j))
    (B d (at' main_arg17)) (fun n => (B d (at' main_v21) : Vec Ideal S1x512 .f32) (ix2 0 n)) (B d (at' main_arg19)) (fun n => (B d (at' main_v22) : Vec Ideal S1x256 .f32) (ix2 0 n))
    (B d (at' main_arg21)) (fun n => (B d (at' main_v23) : Vec Ideal S1x128 .f32) (ix2 0 n)) (B d (at' main_arg23)) (fun n => (B d (at' main_v24) : Vec Ideal S1x1 .f32) (ix2 0 n))

/-- A block's scores are those of its rows. -/
theorem block_scores (t : Fin cfg1.N) (r : Fin 1024) (p : Fin 16384) (hp : p.val = t.val * 1024 + r.val) :
    score (iblk B d 0 t) (iblk B d 1 t) (iblk B d 2 t) (iblk B d 3 t) (iblk B d 4 t) (iblk B d 5 t) (iblk B d 6 t) (iblk B d 7 t) (iblk B d 8 t) (iblk B d 9 t) (ix2 r 0)
      = scoreOf B d p := by
  rw [score_row, blk2, blk3, blk4, blk5, blk6, blk7, blk8, blk9]
  unfold scoreOf
  refine congrArg (fun x : Fin 292 → Ideal .f32 => net x _ _ _ _ _ _ _ _) (funext fun j => ?_)
  exact parts_congr (fun k c => blk0 B d t (order k) r c p hp) (fun c => blk1 B d t r c p hp) j

/-- The region's result. -/
theorem result_eq : ((dats B 0 d).arrAt 10 cfg1.N : Vec Ideal S16384x1 .f32) = fun i => scoreOf B d (i 0) := by
  refine (dats B 0 d).arrAt_eq_of_covers 10 _ (by decide +kernel) fun t hf y => ?_
  obtain ⟨r, rfl⟩ : ∃ r : Fin 1024, y = (ix2 r 0 : S1024x1.Idx) := ⟨(y : S1024x1.Idx) 0, (ValueIdx.eq_ix2 (y : S1024x1.Idx)).trans (congrArg (ix2 _) (Subsingleton.elim (α := Fin 1) _ _))⟩
  blk_simp
  refine (block_scores B d t r _ ?_)
  blk_simp [index10 t]
  rfl

/-- A row of what the region leaves. -/
theorem leave_result (p : Fin 16384) : (leave B d (at' main_v25) : Vec Ideal S16384x1 .f32) (ix2 p 0) = scoreOf B d p := by
  have e : leave B d (at' main_v25) = (dats B 0 d).arrAt 10 cfg1.N := Pipeline.afterRegion_arr (dats B 0 d) (B d) arr_inj 10
  rw [e]
  exact congrFun (result_eq B d) (ix2 p 0)

end Region

/-! ## The arrays the region finds -/

variable (m : (ℓ : Loc nD τ sig) → Buf (Elt Ideal) ℓ) (d : Dev nD)

theorem numbers_eq : (atRegion m d (at' main_v20) : Vec Ideal S16384x4 .f32) =
    concatenate S16384x4 1 [⟨S16384x1, broadcastInDim S16384x1 ![0] bcast_S16384_S16384x1_0 (m ((tc d).loc main_arg9) : Vec Ideal S16384 .f32)⟩,
        ⟨S16384x1, broadcastInDim S16384x1 ![0] bcast_S16384_S16384x1_0 (m ((tc d).loc main_arg10) : Vec Ideal S16384 .f32)⟩,
        ⟨S16384x1, broadcastInDim S16384x1 ![0] bcast_S16384_S16384x1_0 (m ((tc d).loc main_arg11) : Vec Ideal S16384 .f32)⟩,
        ⟨S16384x1, broadcastInDim S16384x1 ![0] bcast_S16384_S16384x1_0 (m ((tc d).loc main_arg12) : Vec Ideal S16384 .f32)⟩]
      concatenates_S16384x1_S16384x1_S16384x1_S16384x1_S16384x4_d1 := by
  unfold atRegion opsB at'
  after_results
  rfl

end Cert.Proof.Gather
-- ==== Proof.Look.lean ====
/- A table's row at an index word: what the SparseCore call gathers from the table laid by groups of eight rows, and what the
reference takes from the table as it is. -/
module

public import proofs.«01_k».proof.Proof.Chunk
public import Idealize.ShloMosaic.Lib.Routing.Ops
public import Idealize.ShloMosaic.Lib.Routing.OpsPair
public import Idealize.ShloMosaic.Lib.ReduceAll

@[expose] public section

noncomputable section

namespace Cert.Proof.Gather

open Idealize.ShloMosaic hiding ix1 ix2 ix3
open Cert.KernelIdeal Cert.KernelIdeal.Gen
open Idealize.ShloMosaic.ValueIdx (ix1 ix2 ix3)

variable {F : FTy → Type} [FloatOps F]

/-- Row `w` of a table, at a column. -/
def look {n : ℕ} [NeZero n] (T : FVec F ⟨2, ![n, 32]⟩ .f32) (w : BitVec 32) (c : Fin 32) : F .f32 := T (ix2 (Fin.ofNat n w.toNat) c)

/-- The row picked from the table laid by groups of eight is the table's row. -/
theorem pick_eq {n n' : ℕ} [NeZero n] [NeZero n'] (hn : n' = 8 * n) (T : FVec F ⟨2, ![n', 32]⟩ .f32) (h : (⟨2, ![n', 32]⟩ : Shape).ShapeCasts (Tab n)) (w : BitVec 32) (hw : w.toNat < n') (c : Fin 32) :
    pick (shapeCast (Tab n) T h : Vec F (Tab n) .f32) w c = look T w c := by
  unfold pick look
  refine shapeCast_apply T h _ _ ?_
  rw [Shape.rowMajor_val_two, Shape.rowMajor_val_three]
  show (w.toNat % n') * 32 + c.val = ((w.toNat / 8 % n) * 8 + w.toNat % 8 % 8) * 32 + c.val
  rw [Nat.mod_eq_of_lt hw, Nat.mod_eq_of_lt (a := w.toNat / 8) (by omega)]
  omega

/-- A table's rows taken at an array of indices as the reference takes them: a negative index counted from the end, and a row outside the
table replaced. Within the table it is the row. -/
theorem take_row {n : ℕ} [NeZero n] (hn : n ≤ 1000000) (T : FVec F ⟨2, ![n, 32]⟩ .f32) (x : IVec ⟨1, ![16384]⟩ 32) (hx : ∀ p, (x p).toNat < n) (top wrap : BitVec 32) (ht : top = BitVec.ofNat 32 (n - 1))
    (d : GatherDims ⟨2, ![n, 32]⟩ ⟨2, ![16384, 1]⟩ ⟨2, ![16384, 32]⟩) (hoff : d.offsetDims = [1]) (hcoll : d.collapsedSliceDims = [0]) (hob : d.operandBatchingDims = []) (hsim : d.startIndexMap = [0]) (hivd : d.indexVectorDim = 1)
    (h0 h0' : (⟨0, ![]⟩ : Shape).BroadcastsInDim ⟨1, ![16384]⟩ ![]) (h1 : (⟨1, ![16384]⟩ : Shape).BroadcastsInDim ⟨2, ![16384, 1]⟩ ![0])
    (h2 : (⟨0, ![]⟩ : Shape).BroadcastsInDim ⟨2, ![16384, 1]⟩ ![]) (h3 : (⟨2, ![1, 1]⟩ : Shape).BroadcastsInDim ⟨2, ![16384, 1]⟩ ![0, 1]) (h4 : (⟨1, ![1]⟩ : Shape).BroadcastsInDim ⟨2, ![1, 1]⟩ ![1])
    (h5 : (⟨2, ![16384, 1]⟩ : Shape).ReducesTo [1] ⟨1, ![16384]⟩) (hu : 0 < (⟨0, ![]⟩ : Shape).numel) (h6 : (⟨1, ![16384]⟩ : Shape).BroadcastsInDim ⟨2, ![16384, 32]⟩ ![0]) (z : FVec F ⟨2, ![16384, 32]⟩ .f32)
    (i : IVec ⟨2, ![16384, 1]⟩ 32) (hi : i = broadcastInDim ⟨2, ![16384, 1]⟩ ![0] h1 (select (cmpi .slt x (broadcastInDim ⟨1, ![16384]⟩ ![] h0 (constantI ⟨0, ![]⟩ 32 0#32))) (addi x (broadcastInDim ⟨1, ![16384]⟩ ![] h0' (constantI ⟨0, ![]⟩ 32 wrap))) x))
    (p : Fin 16384) (c : Fin 32) :
    select (broadcastInDim ⟨2, ![16384, 32]⟩ ![0] h6 (Host.reduce IntOp.andi (andi (cmpi .sge i (broadcastInDim ⟨2, ![16384, 1]⟩ ![] h2 (constantI ⟨0, ![]⟩ 32 0#32)))
        (cmpi .sle i (broadcastInDim ⟨2, ![16384, 1]⟩ ![0, 1] h3 (broadcastInDim ⟨2, ![1, 1]⟩ ![1] h4 (constantI ⟨1, ![1]⟩ 32 top))))) (constantI ⟨0, ![]⟩ 1 1#1) h5 hu))
      (Host.gather d T i) z (ix2 p c) = look T (x (ix1 p)) c := by
  have e : ∀ j : (⟨2, ![16384, 1]⟩ : Shape).Idx, i j = x (ix1 (j 0)) := fun j => by
    rw [hi]
    refine (Routing.wrap_of_lt (x _) _ ?_).trans (congrArg x ?_)
    · have := hx (ix1 (j 0))
      exact (hx _).trans_le (by omega)
    · exact ValueIdx.eq_ix1 _
  have hm : ∀ j, (andi (cmpi .sge i (broadcastInDim ⟨2, ![16384, 1]⟩ ![] h2 (constantI ⟨0, ![]⟩ 32 0#32)))
        (cmpi .sle i (broadcastInDim ⟨2, ![16384, 1]⟩ ![0, 1] h3 (broadcastInDim ⟨2, ![1, 1]⟩ ![1] h4 (constantI ⟨1, ![1]⟩ 32 top))))) j = 1#1 := fun j => by
    show IntOp.andi (IntOp.cmpi .sge (i j) 0#32) (IntOp.cmpi .sle (i j) top) = 1#1
    rw [e]
    have h := hx (ix1 (j 0))
    have hp : 0 < n := Nat.pos_of_ne_zero (NeZero.ne n)
    have ht' : top.toNat = n - 1 := by rw [ht, BitVec.toNat_ofNat, Nat.mod_eq_of_lt (by omega)]
    rw [WordCmp.cmpi_sge_zero, WordCmp.cmpi_sle_of_lt (by omega) (by omega), decide_eq_true (by omega), decide_eq_true (by omega)]
    rfl
  have hr : Host.reduce IntOp.andi (andi (cmpi .sge i (broadcastInDim ⟨2, ![16384, 1]⟩ ![] h2 (constantI ⟨0, ![]⟩ 32 0#32)))
        (cmpi .sle i (broadcastInDim ⟨2, ![16384, 1]⟩ ![0, 1] h3 (broadcastInDim ⟨2, ![1, 1]⟩ ![1] h4 (constantI ⟨1, ![1]⟩ 32 top))))) (constantI ⟨0, ![]⟩ 1 1#1) h5 hu = fun _ => 1#1 :=
    funext fun q => Host.reduce_andi_one _ _ h5 hu q rfl hm
  rw [hr]
  show Scalar.select 1#1 (Host.gather d T i (ix2 p c)) _ = _
  refine (show Scalar.select (1#1 : BitVec 1) (Host.gather d T i (ix2 p c)) _ = Host.gather d T i (ix2 p c) from rfl).trans ?_
  refine (Routing.gather_row d hoff hcoll hob hsim hivd T i p c (Fin.ofNat n (x (ix1 p)).toNat) ?_ (by omega))
  rw [e]
  have h := hx (ix1 p)
  show x (ix1 p) = BitVec.ofNat 32 ((x (ix1 p)).toNat % n)
  rw [Nat.mod_eq_of_lt h, BitVec.ofNat_toNat, BitVec.setWidth_eq]

end Cert.Proof.Gather
-- ==== Proof.Answer.lean ====
/- The answer that both programs end with, from their arguments: every row is nine rows looked up in the four tables and four
numbers beside them, scored by the network. -/
module

public import proofs.«01_k».proof.Proof.Net
public import proofs.«01_k».proof.Proof.Look

@[expose] public section

noncomputable section

namespace Cert.Proof.Gather

open Idealize.ShloMosaic hiding ix1 ix2 ix3
open Idealize.ShloMosaic.ValueIdx (ix1 ix2 ix3)

variable (x : Fin 9 → IVec ⟨1, ![16384]⟩ 32) (TU : FVec Ideal ⟨2, ![100000, 32]⟩ .f32) (TI : FVec Ideal ⟨2, ![1000000, 32]⟩ .f32) (TC : FVec Ideal ⟨2, ![1000, 32]⟩ .f32) (TH : FVec Ideal ⟨2, ![1000000, 32]⟩ .f32)

/-- The nine rows looked up for row `p`: user, item, category, three of the history, three of its categories. -/
def looked (p : Fin 16384) : Fin 9 → Fin 32 → Ideal .f32 :=
  ![look TU (x 0 (ix1 p)), look TI (x 1 (ix1 p)), look TC (x 2 (ix1 p)), look TH (x 3 (ix1 p)), look TH (x 4 (ix1 p)), look TH (x 5 (ix1 p)),
    look TC (x 6 (ix1 p)), look TC (x 7 (ix1 p)), look TC (x 8 (ix1 p))]

/-- The indices within their tables. -/
def Within : Prop := ∀ p, (x 0 p).toNat < 100000 ∧ (x 1 p).toNat < 1000000 ∧ (x 2 p).toNat < 1000 ∧ (x 3 p).toNat < 1000000 ∧ (x 4 p).toNat < 1000000
  ∧ (x 5 p).toNat < 1000000 ∧ (x 6 p).toNat < 1000 ∧ (x 7 p).toNat < 1000 ∧ (x 8 p).toNat < 1000

theorem beside : Shape.Concatenates [⟨2, ![16384, 32]⟩, ⟨2, ![16384, 32]⟩, ⟨2, ![16384, 32]⟩, ⟨2, ![16384, 32]⟩, ⟨2, ![16384, 32]⟩, ⟨2, ![16384, 32]⟩, ⟨2, ![16384, 32]⟩, ⟨2, ![16384, 32]⟩, ⟨2, ![16384, 32]⟩, ⟨2, ![16384, 4]⟩] ⟨2, ![16384, 292]⟩ 1 := by decide

/-- The rows side by side, and the numbers. -/
def features (N : FVec Ideal ⟨2, ![16384, 4]⟩ .f32) : FVec Ideal ⟨2, ![16384, 292]⟩ .f32 :=
  concatenate ⟨2, ![16384, 292]⟩ 1 (parts (M := 16384) (fun k i => looked x TU TI TC TH (i 0) k (i 1)) N) beside

/-- The answer. -/
def answer (N : FVec Ideal ⟨2, ![16384, 4]⟩ .f32) (W₁ : FVec Ideal ⟨2, ![292, 512]⟩ .f32) (b₁ : FVec Ideal ⟨1, ![512]⟩ .f32) (W₂ : FVec Ideal ⟨2, ![512, 256]⟩ .f32) (b₂ : FVec Ideal ⟨1, ![256]⟩ .f32)
    (W₃ : FVec Ideal ⟨2, ![256, 128]⟩ .f32) (b₃ : FVec Ideal ⟨1, ![128]⟩ .f32) (W₄ : FVec Ideal ⟨2, ![128, 1]⟩ .f32) (b₄ : FVec Ideal ⟨1, ![1]⟩ .f32) (p : Fin 16384) : Ideal .f32 :=
  net (fun j => features x TU TI TC TH N (ix2 p j)) W₁ (fun n => b₁ (ix1 n)) W₂ (fun n => b₂ (ix1 n)) W₃ (fun n => b₃ (ix1 n)) W₄ (fun n => b₄ (ix1 n))

end Cert.Proof.Gather
-- ==== Proof.Value.lean ====
/- What the program leaves in its result, from its arguments: the answer. -/
module

public import proofs.«01_k».proof.Proof.Out
public import proofs.«01_k».proof.Proof.Answer

@[expose] public section

noncomputable section

namespace Cert.Proof.Gather

open Idealize.ShloMosaic hiding ix1 ix2 ix3
open Idealize.ShloMosaic.StableHlo
open Cert.KernelIdeal Cert.KernelIdeal.Gen
open Idealize.ShloMosaic.ValueIdx (ix1 ix2 ix3)

variable (m : (ℓ : Loc nD τ sig) → Buf (Elt Ideal) ℓ) (d : Dev nD)

/-- The index arrays, in the order of the arguments. -/
abbrev asked : Fin 9 → IVec S16384 32 :=
  ![m ((tc d).loc main_arg0), m ((tc d).loc main_arg1), m ((tc d).loc main_arg2), m ((tc d).loc main_arg3), m ((tc d).loc main_arg4), m ((tc d).loc main_arg5), m ((tc d).loc main_arg6), m ((tc d).loc main_arg7), m ((tc d).loc main_arg8)]

theorem table_u : (atCall m d (at' main_v11) : Vec Ideal S12500x8x32 .f32) = shapeCast S12500x8x32 (m ((tc d).loc main_arg13) : Vec Ideal S100000x32 .f32) shapeCasts_S100000x32_S12500x8x32 := by
  unfold atCall opsA at'
  after_results
  rfl
theorem table_i : (atCall m d (at' main_v12) : Vec Ideal S125000x8x32 .f32) = shapeCast S125000x8x32 (m ((tc d).loc main_arg14) : Vec Ideal S1000000x32 .f32) shapeCasts_S1000000x32_S125000x8x32 := by
  unfold atCall opsA at'
  after_results
  rfl
theorem table_c : (atCall m d (at' main_v13) : Vec Ideal S125x8x32 .f32) = shapeCast S125x8x32 (m ((tc d).loc main_arg15) : Vec Ideal S1000x32 .f32) shapeCasts_S1000x32_S125x8x32 := by
  unfold atCall opsA at'
  after_results
  rfl
theorem table_h : (atCall m d (at' main_v14) : Vec Ideal S125000x8x32 .f32) = shapeCast S125000x8x32 (m ((tc d).loc main_arg16) : Vec Ideal S1000000x32 .f32) shapeCasts_S1000000x32_S125000x8x32 := by
  unfold atCall opsA at'
  after_results
  rfl

/-- The planes the region finds are those the call gathers. -/
theorem planes_eq : (atRegion m d (at' main_v15) : Vec Ideal S9x16384x32 .f32) = rows (atCall m) d :=
  (after_unwritten opsBW opsB_writes (by decide) _).trans (gathered_self (atCall m) d)

/-- Row `p` of a slot, in the order the layers take them, from the tables laid by groups of eight rows: the row looked up. -/
theorem slot_looked (x : Fin 9 → IVec S16384 32) (TU : Vec Ideal S100000x32 .f32) (TI : Vec Ideal S1000000x32 .f32) (TC : Vec Ideal S1000x32 .f32) (TH : Vec Ideal S1000000x32 .f32)
    (h : Within x) (k : Fin 9) (p : Fin 16384) (c : Fin 32) :
    slotRow (shapeCast S12500x8x32 TU shapeCasts_S100000x32_S12500x8x32) (shapeCast S125000x8x32 TI shapeCasts_S1000000x32_S125000x8x32)
        (shapeCast S125x8x32 TC shapeCasts_S1000x32_S125x8x32) (shapeCast S125000x8x32 TH shapeCasts_S1000000x32_S125000x8x32) (order k)
        ((![x 0, x 1, x 2, x 6, x 7, x 8, x 3, x 4, x 5] : Fin 9 → IVec S16384 32) (order k) (ix1 p)) c
      = looked x TU TI TC TH p k c := by
  obtain ⟨h0, h1, h2, h3, h4, h5, h6, h7, h8⟩ := h (ix1 p)
  have u := fun (w : BitVec 32) hw => pick_eq (F := Ideal) (n := 12500) (n' := 100000) (by omega) TU shapeCasts_S100000x32_S12500x8x32 w hw c
  have i := fun (w : BitVec 32) hw => pick_eq (F := Ideal) (n := 125000) (n' := 1000000) (by omega) TI shapeCasts_S1000000x32_S125000x8x32 w hw c
  have t := fun (w : BitVec 32) hw => pick_eq (F := Ideal) (n := 125) (n' := 1000) (by omega) TC shapeCasts_S1000x32_S125x8x32 w hw c
  have g := fun (w : BitVec 32) hw => pick_eq (F := Ideal) (n := 125000) (n' := 1000000) (by omega) TH shapeCasts_S1000000x32_S125000x8x32 w hw c
  unfold slotRow looked order
  fin_cases k <;> simp only [Fin.zero_eta, Fin.mk_one, Fin.reduceFinMk, Matrix.cons_val]
  · exact u _ h0
  · exact i _ h1
  · exact t _ h2
  · exact g _ h3
  · exact g _ h4
  · exact g _ h5
  · exact t _ h6
  · exact t _ h7
  · exact t _ h8

/-- A row of a plane, in the order the layers take them, is the row looked up. -/
theorem plane_row (h : Within (asked m d)) (k : Fin 9) (p : Fin 16384) (c : Fin 32) :
    (atRegion m d (at' main_v15) : Vec Ideal S9x16384x32 .f32) (ix3 (order k) p c) = looked (asked m d) (m ((tc d).loc main_arg13) : FVec Ideal S100000x32 .f32) (m ((tc d).loc main_arg14) : FVec Ideal S1000000x32 .f32) (m ((tc d).loc main_arg15) : FVec Ideal S1000x32 .f32) (m ((tc d).loc main_arg16) : FVec Ideal S1000000x32 .f32) p k c := by
  rw [planes_eq]
  show slotRow (atCall m d (at' main_v11)) (atCall m d (at' main_v12)) (atCall m d (at' main_v13)) (atCall m d (at' main_v14)) (order k)
    ((atCall m d (at' main_v10) : Vec Ideal S288x4x128 .i32) (idxAt (order k) p)) c = _
  rw [word_at, table_u, table_i, table_c, table_h]
  exact slot_looked (asked m d) _ _ _ _ h k p c

/-- The score is the same of the same rows and biases. -/
theorem net_congr {x x' : Fin 292 → Ideal .f32} {W₁ : FVec Ideal ⟨2, ![292, 512]⟩ .f32} {b₁ b₁' : Fin 512 → Ideal .f32} {W₂ : FVec Ideal ⟨2, ![512, 256]⟩ .f32} {b₂ b₂' : Fin 256 → Ideal .f32}
    {W₃ : FVec Ideal ⟨2, ![256, 128]⟩ .f32} {b₃ b₃' : Fin 128 → Ideal .f32} {W₄ : FVec Ideal ⟨2, ![128, 1]⟩ .f32} {b₄ b₄' : Fin 1 → Ideal .f32} (hx : ∀ j, x j = x' j) (h₁ : ∀ n, b₁ n = b₁' n)
    (h₂ : ∀ n, b₂ n = b₂' n) (h₃ : ∀ n, b₃ n = b₃' n) (h₄ : ∀ n, b₄ n = b₄' n) : net x W₁ b₁ W₂ b₂ W₃ b₃ W₄ b₄ = net x' W₁ b₁' W₂ b₂' W₃ b₃' W₄ b₄' := by
  obtain rfl := funext hx; obtain rfl := funext h₁; obtain rfl := funext h₂; obtain rfl := funext h₃; obtain rfl := funext h₄
  rfl

/-- The rows the layers take. -/
theorem feats_row (h : Within (asked m d)) (p : Fin 16384) (j : Fin 292) :
    feats (atRegion m d (at' main_v15) : Vec Ideal S9x16384x32 .f32) (atRegion m d (at' main_v20) : Vec Ideal S16384x4 .f32) rows_concat (ix2 p j)
      = features (asked m d) (m ((tc d).loc main_arg13) : FVec Ideal S100000x32 .f32) (m ((tc d).loc main_arg14) : FVec Ideal S1000000x32 .f32) (m ((tc d).loc main_arg15) : FVec Ideal S1000x32 .f32) (m ((tc d).loc main_arg16) : FVec Ideal S1000000x32 .f32) (atRegion m d (at' main_v20)) (ix2 p j) :=
  parts_congr (fun k c => plane_row m d h k p c) (fun c => rfl) j

/-- A vector laid as one row. -/
theorem row_of {N : ℕ} (b : FVec Ideal ⟨1, ![N]⟩ .f32) (h : (⟨1, ![N]⟩ : Shape).ShapeCasts ⟨2, ![1, N]⟩) (n : Fin N) : (shapeCast ⟨2, ![1, N]⟩ b h) (ix2 0 n) = b (ix1 n) := by
  refine shapeCast_apply b h _ _ ?_
  rw [Shape.rowMajor_val_two, Shape.rowMajor_val_one]
  show n.val = 0 * N + n.val
  omega

theorem bias_512 (n : Fin 512) : (atRegion m d (at' main_v21) : Vec Ideal S1x512 .f32) (ix2 0 n) = (m ((tc d).loc main_arg18) : Vec Ideal S512 .f32) (ix1 n) := by
  have e : (atRegion m d (at' main_v21) : Vec Ideal S1x512 .f32) = shapeCast S1x512 (m ((tc d).loc main_arg18) : Vec Ideal S512 .f32) shapeCasts_S512_S1x512 := by
    unfold atRegion opsB at'
    after_results
    rfl
  rw [e]
  exact row_of (N := 512) _ _ n
theorem bias_256 (n : Fin 256) : (atRegion m d (at' main_v22) : Vec Ideal S1x256 .f32) (ix2 0 n) = (m ((tc d).loc main_arg20) : Vec Ideal S256 .f32) (ix1 n) := by
  have e : (atRegion m d (at' main_v22) : Vec Ideal S1x256 .f32) = shapeCast S1x256 (m ((tc d).loc main_arg20) : Vec Ideal S256 .f32) shapeCasts_S256_S1x256 := by
    unfold atRegion opsB at'
    after_results
    rfl
  rw [e]
  exact row_of (N := 256) _ _ n
theorem bias_128 (n : Fin 128) : (atRegion m d (at' main_v23) : Vec Ideal S1x128 .f32) (ix2 0 n) = (m ((tc d).loc main_arg22) : Vec Ideal S128 .f32) (ix1 n) := by
  have e : (atRegion m d (at' main_v23) : Vec Ideal S1x128 .f32) = shapeCast S1x128 (m ((tc d).loc main_arg22) : Vec Ideal S128 .f32) shapeCasts_S128_S1x128 := by
    unfold atRegion opsB at'
    after_results
    rfl
  rw [e]
  exact row_of (N := 128) _ _ n
theorem bias_1 (n : Fin 1) : (atRegion m d (at' main_v24) : Vec Ideal S1x1 .f32) (ix2 0 n) = (m ((tc d).loc main_arg24) : Vec Ideal S1 .f32) (ix1 n) := by
  have e : (atRegion m d (at' main_v24) : Vec Ideal S1x1 .f32) = shapeCast S1x1 (m ((tc d).loc main_arg24) : Vec Ideal S1 .f32) shapeCasts_S1_S1x1 := by
    unfold atRegion opsB at'
    after_results
    rfl
  rw [e]
  exact row_of (N := 1) _ _ n

/-- The program's result. -/
theorem end_row (h : Within (asked m d)) (p : Fin 16384) : (atEnd m d (at' main_v26) : Vec Ideal S16384 .f32) (ix1 p)
    = answer (asked m d) (m ((tc d).loc main_arg13) : FVec Ideal S100000x32 .f32) (m ((tc d).loc main_arg14) : FVec Ideal S1000000x32 .f32) (m ((tc d).loc main_arg15) : FVec Ideal S1000x32 .f32) (m ((tc d).loc main_arg16) : FVec Ideal S1000000x32 .f32) (atRegion m d (at' main_v20)) (m ((tc d).loc main_arg17) : FVec Ideal S292x512 .f32) (m ((tc d).loc main_arg18) : FVec Ideal S512 .f32) (m ((tc d).loc main_arg19) : FVec Ideal S512x256 .f32) (m ((tc d).loc main_arg20) : FVec Ideal S256 .f32) (m ((tc d).loc main_arg21) : FVec Ideal S256x128 .f32) (m ((tc d).loc main_arg22) : FVec Ideal S128 .f32) (m ((tc d).loc main_arg23) : FVec Ideal S128x1 .f32) (m ((tc d).loc main_arg24) : FVec Ideal S1 .f32) p := by
  have e : (atEnd m d (at' main_v26) : Vec Ideal S16384 .f32) = shapeCast S16384 (leave (atRegion m) d (at' main_v25) : Vec Ideal S16384x1 .f32) shapeCasts_S16384x1_S16384 := by
    unfold atEnd opsC at'
    after_results
    rfl
  rw [e]
  refine (shapeCast_apply _ _ _ (ix2 p 0) ?_).trans ((leave_result (atRegion m) d p).trans ?_)
  · rw [Shape.rowMajor_val_two, Shape.rowMajor_val_one]
    show p.val * 1 + 0 = p.val
    omega
  unfold scoreOf answer
  rw [atRegion_kept m d (r := main_arg17) (by decide) (by decide) (by decide), atRegion_kept m d (r := main_arg19) (by decide) (by decide) (by decide),
    atRegion_kept m d (r := main_arg21) (by decide) (by decide) (by decide), atRegion_kept m d (r := main_arg23) (by decide) (by decide) (by decide)]
  exact net_congr (feats_row m d h p) (bias_512 m d) (bias_256 m d) (bias_128 m d) (bias_1 m d)

end Cert.Proof.Gather
-- ==== Proof.Ref.lean ====
/- The reference's result over the ideal numbers, row by row: the network's score of the rows it takes. -/
module

public import proofs.«01_k».proof.Proof.Answer
public import proofs.«01_k».proof.Proof.Gen.ReferenceIdeal.Run

@[expose] public section

noncomputable section

namespace Cert.Proof.Gather

open Idealize.ShloMosaic hiding ix1 ix2 ix3
open Cert.ReferenceIdeal Cert.ReferenceIdeal.Gen
open Idealize.ShloMosaic.ValueIdx (ix1 ix2 ix3)

/-- The layers as the reference writes them, at a row. -/
theorem host_score (x : FVec Ideal S16384x292 .f32) (W₁ : FVec Ideal S292x512 .f32) (b₁ : FVec Ideal S512 .f32) (W₂ : FVec Ideal S512x256 .f32) (b₂ : FVec Ideal S256 .f32)
    (W₃ : FVec Ideal S256x128 .f32) (b₃ : FVec Ideal S128 .f32) (W₄ : FVec Ideal S128x1 .f32) (b₄ : FVec Ideal S1 .f32) (p : Fin 16384) :
    (shapeCast S16384 (Host.divf (broadcastInDim S16384x1 ![] bcast_S_S16384x1 (constant S_ .f32 0x3F800000#32)) (addf (broadcastInDim S16384x1 ![] bcast_S_S16384x1 (constant S_ .f32 0x3F800000#32)) (Host.exp (Host.negf (addf (Host.dotGeneral dot_S16384x128_S128x1_S16384x1_1_0_0_1_n_n none (maximumf (addf (Host.dotGeneral dot_S16384x256_S256x128_S16384x128_1_0_0_1_n_n none (maximumf (addf (Host.dotGeneral dot_S16384x512_S512x256_S16384x256_1_0_0_1_n_n none (maximumf (addf (Host.dotGeneral dot_S16384x292_S292x512_S16384x512_1_0_0_1_n_n none x W₁) (broadcastInDim S16384x512 ![0, 1] bcast_S1x512_S16384x512_0_1 (broadcastInDim S1x512 ![1] bcast_S512_S1x512_1 b₁))) (broadcastInDim S16384x512 ![] bcast_S_S16384x512 (constant S_ .f32 0x00000000#32))) W₂) (broadcastInDim S16384x256 ![0, 1] bcast_S1x256_S16384x256_0_1 (broadcastInDim S1x256 ![1] bcast_S256_S1x256_1 b₂))) (broadcastInDim S16384x256 ![] bcast_S_S16384x256 (constant S_ .f32 0x00000000#32))) W₃) (broadcastInDim S16384x128 ![0, 1] bcast_S1x128_S16384x128_0_1 (broadcastInDim S1x128 ![1] bcast_S128_S1x128_1 b₃))) (broadcastInDim S16384x128 ![] bcast_S_S16384x128 (constant S_ .f32 0x00000000#32))) W₄) (broadcastInDim S16384x1 ![0, 1] bcast_S1x1_S16384x1_0_1 (broadcastInDim S1x1 ![1] bcast_S1_S1x1_1 b₄))))))) shapeCasts_S16384x1_S16384 : FVec Ideal S16384 .f32) (ix1 p)
      = net (fun j => x (ix2 p j)) W₁ (fun n => b₁ (ix1 n)) W₂ (fun n => b₂ (ix1 n)) W₃ (fun n => b₃ (ix1 n)) W₄ (fun n => b₄ (ix1 n)) := by
  refine (shapeCast_apply _ _ _ (ix2 p 0) ?_).trans ?_
  · rw [Shape.rowMajor_val_two, Shape.rowMajor_val_one]
    show p.val * 1 + 0 = p.val
    omega
  unfold net
  refine congrArg (fun y : Ideal .f32 => FloatOps.divf (Ideal.ofBits .f32 0x3F800000#32) (Ideal.ofBits .f32 0x3F800000#32 + FloatOps.exp (-y))) ?_
  refine (host_affine (M := 16384) (K := 128) (N := 1) _ _ _ _ _ _ _).trans ?_
  refine congrArg (fun f : Fin 128 → Ideal .f32 => (∑ k : Fin 128, f k * W₄ (ix2 k 0)) + b₄ (ix1 0)) (funext fun n => ?_)
  refine (host_dense (M := 16384) (K := 256) (N := 128) _ _ _ _ _ _ _ _).trans ?_
  refine congrArg (fun f : Fin 256 → Ideal .f32 => dense f W₃ (fun n => b₃ (ix1 n)) n) (funext fun n => ?_)
  refine (host_dense (M := 16384) (K := 512) (N := 256) _ _ _ _ _ _ _ _).trans ?_
  refine congrArg (fun f : Fin 512 → Ideal .f32 => dense f W₂ (fun n => b₂ (ix1 n)) n) (funext fun n => ?_)
  exact host_dense (M := 16384) (K := 292) (N := 512) _ _ _ _ _ _ _ _

variable (V : Valuation τ sig (Elt Ideal))

/-- The index arrays. -/
abbrev indices : Fin 9 → IVec S16384 32 :=
  ![V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8)]

/-- The four number columns. -/
def numbers : FVec Ideal S16384x4 .f32 :=
  concatenate S16384x4 1 [⟨S16384x1, broadcastInDim S16384x1 ![0] bcast_S16384_S16384x1_0 (V (Proc.devRef .tc main_arg9) : FVec Ideal S16384 .f32)⟩,
      ⟨S16384x1, broadcastInDim S16384x1 ![0] bcast_S16384_S16384x1_0 (V (Proc.devRef .tc main_arg10) : FVec Ideal S16384 .f32)⟩,
      ⟨S16384x1, broadcastInDim S16384x1 ![0] bcast_S16384_S16384x1_0 (V (Proc.devRef .tc main_arg11) : FVec Ideal S16384 .f32)⟩,
      ⟨S16384x1, broadcastInDim S16384x1 ![0] bcast_S16384_S16384x1_0 (V (Proc.devRef .tc main_arg12) : FVec Ideal S16384 .f32)⟩]
    concatenates_S16384x1_S16384x1_S16384x1_S16384x1_S16384x4_d1

/-- One taking, at the indices `i` of a table. -/
def takeAt {n : ℕ} (T : FVec Ideal ⟨2, ![n, 32]⟩ .f32) (d : GatherDims ⟨2, ![n, 32]⟩ S16384x1 S16384x32) (i : IVec S16384x1 32) (top : BitVec 32) : FVec Ideal S16384x32 .f32 :=
  select (broadcastInDim S16384x32 ![0] bcast_S16384_S16384x32_0 (Host.reduce IntOp.andi (andi (cmpi .sge i (broadcastInDim S16384x1 ![] bcast_S_S16384x1 (constantI S_ 32 0#32)))
      (cmpi .sle i (broadcastInDim S16384x1 ![0, 1] bcast_S1x1_S16384x1_0_1 (broadcastInDim S1x1 ![1] bcast_S1_S1x1_1 (constantI S1 32 top))))) (constantI S_ 1 1#1) reducesTo_S16384x1_S16384_d1 h_S_))
    (Host.gather d T i) (broadcastInDim S16384x32 ![] bcast_S_S16384x32 (constant S_ .f32 0x7FC00000#32))

/-- The nine takings. -/
def takes : Fin 9 → FVec Ideal S16384x32 .f32 :=
  ![takeAt (V (Proc.devRef .tc main_arg13) : FVec Ideal S100000x32 .f32) gather_S100000x32_S16384x1_S16384x32_1_0_n_n_0_1_132 (Cert.ReferenceIdeal.Value.res_main_call0_v5 V) 99999#32,
    takeAt (V (Proc.devRef .tc main_arg14) : FVec Ideal S1000000x32 .f32) gather_S1000000x32_S16384x1_S16384x32_1_0_n_n_0_1_132 (Cert.ReferenceIdeal.Value.res_main_call1_v5 V) 999999#32,
    takeAt (V (Proc.devRef .tc main_arg15) : FVec Ideal S1000x32 .f32) gather_S1000x32_S16384x1_S16384x32_1_0_n_n_0_1_132 (Cert.ReferenceIdeal.Value.res_main_call2_v5 V) 999#32,
    takeAt (V (Proc.devRef .tc main_arg16) : FVec Ideal S1000000x32 .f32) gather_S1000000x32_S16384x1_S16384x32_1_0_n_n_0_1_132 (Cert.ReferenceIdeal.Value.res_main_call3_v5 V) 999999#32,
    takeAt (V (Proc.devRef .tc main_arg16) : FVec Ideal S1000000x32 .f32) gather_S1000000x32_S16384x1_S16384x32_1_0_n_n_0_1_132 (Cert.ReferenceIdeal.Value.res_main_call4_v5 V) 999999#32,
    takeAt (V (Proc.devRef .tc main_arg16) : FVec Ideal S1000000x32 .f32) gather_S1000000x32_S16384x1_S16384x32_1_0_n_n_0_1_132 (Cert.ReferenceIdeal.Value.res_main_call5_v5 V) 999999#32,
    takeAt (V (Proc.devRef .tc main_arg15) : FVec Ideal S1000x32 .f32) gather_S1000x32_S16384x1_S16384x32_1_0_n_n_0_1_132 (Cert.ReferenceIdeal.Value.res_main_call6_v5 V) 999#32,
    takeAt (V (Proc.devRef .tc main_arg15) : FVec Ideal S1000x32 .f32) gather_S1000x32_S16384x1_S16384x32_1_0_n_n_0_1_132 (Cert.ReferenceIdeal.Value.res_main_call7_v5 V) 999#32,
    takeAt (V (Proc.devRef .tc main_arg15) : FVec Ideal S1000x32 .f32) gather_S1000x32_S16384x1_S16384x32_1_0_n_n_0_1_132 (Cert.ReferenceIdeal.Value.res_main_call8_v5 V) 999#32]

set_option maxRecDepth 65536 in
/-- The rows the reference feeds its layers are those takings and the numbers, side by side. -/
theorem v14_eq : (Cert.ReferenceIdeal.Value.res_main_v14 V : FVec Ideal S16384x292 .f32)
    = concatenate S16384x292 1 [⟨S16384x32, takes V 0⟩, ⟨S16384x32, takes V 1⟩, ⟨S16384x32, takes V 2⟩, ⟨S16384x32, takes V 3⟩, ⟨S16384x32, takes V 4⟩, ⟨S16384x32, takes V 5⟩, ⟨S16384x32, takes V 6⟩, ⟨S16384x32, takes V 7⟩, ⟨S16384x32, takes V 8⟩, ⟨S16384x4, numbers V⟩]
      concatenates_S16384x32_S16384x32_S16384x32_S16384x32_S16384x32_S16384x32_S16384x32_S16384x32_S16384x32_S16384x4_S16384x292_d1 := by
  unfold Cert.ReferenceIdeal.Value.res_main_v14
  rfl

/-- Such a list is the list of parts. -/
theorem beside_eq (x : Fin 9 → FVec Ideal S16384x32 .f32) (y : FVec Ideal S16384x4 .f32) :
    concatenate S16384x292 1 [⟨S16384x32, x 0⟩, ⟨S16384x32, x 1⟩, ⟨S16384x32, x 2⟩, ⟨S16384x32, x 3⟩, ⟨S16384x32, x 4⟩, ⟨S16384x32, x 5⟩, ⟨S16384x32, x 6⟩, ⟨S16384x32, x 7⟩, ⟨S16384x32, x 8⟩, ⟨S16384x4, y⟩]
        concatenates_S16384x32_S16384x32_S16384x32_S16384x32_S16384x32_S16384x32_S16384x32_S16384x32_S16384x32_S16384x4_S16384x292_d1
      = concatenate ⟨2, ![16384, 292]⟩ 1 (parts x y) concatenates_S16384x32_S16384x32_S16384x32_S16384x32_S16384x32_S16384x32_S16384x32_S16384x32_S16384x32_S16384x4_S16384x292_d1 := rfl

/-- Within its table a taking is a look. -/
theorem takeAt_row {n : ℕ} [NeZero n] (hn : n ≤ 1000000) (T : FVec Ideal ⟨2, ![n, 32]⟩ .f32) (x : IVec S16384 32) (hx : ∀ p, (x p).toNat < n) (top wrap : BitVec 32) (ht : top = BitVec.ofNat 32 (n - 1))
    (d : GatherDims ⟨2, ![n, 32]⟩ S16384x1 S16384x32) (hoff : d.offsetDims = [1]) (hcoll : d.collapsedSliceDims = [0]) (hob : d.operandBatchingDims = []) (hsim : d.startIndexMap = [0]) (hivd : d.indexVectorDim = 1)
    (i : IVec S16384x1 32) (hi : i = broadcastInDim S16384x1 ![0] bcast_S16384_S16384x1_0 (select (cmpi .slt x (broadcastInDim S16384 ![] bcast_S_S16384 (constantI S_ 32 0#32))) (addi x (broadcastInDim S16384 ![] bcast_S_S16384 (constantI S_ 32 wrap))) x))
    (p : Fin 16384) (c : Fin 32) : takeAt T d i top (ix2 p c) = look T (x (ix1 p)) c :=
  take_row hn T x hx top wrap ht d hoff hcoll hob hsim hivd _ _ _ _ _ _ _ _ _ _ i hi p c

attribute [local irreducible] takeAt look

/-- All nine. -/
theorem takes_row (hV : Within (indices V)) (p : Fin 16384) (k : Fin 9) (c : Fin 32) : takes V k (ix2 p c) = looked (indices V) (V (Proc.devRef .tc main_arg13) : FVec Ideal S100000x32 .f32) (V (Proc.devRef .tc main_arg14) : FVec Ideal S1000000x32 .f32) (V (Proc.devRef .tc main_arg15) : FVec Ideal S1000x32 .f32) (V (Proc.devRef .tc main_arg16) : FVec Ideal S1000000x32 .f32) p k c := by
  fin_cases k
  · exact takeAt_row (n := 100000) (by omega) (V (Proc.devRef .tc main_arg13)) (V (Proc.devRef .tc main_arg0)) (fun q => (hV q).1) 99999#32 100000#32 (by rfl) gather_S100000x32_S16384x1_S16384x32_1_0_n_n_0_1_132 rfl rfl rfl rfl rfl _ (by rfl) p c
  · exact takeAt_row (n := 1000000) (by omega) (V (Proc.devRef .tc main_arg14)) (V (Proc.devRef .tc main_arg1)) (fun q => (hV q).2.1) 999999#32 1000000#32 (by rfl) gather_S1000000x32_S16384x1_S16384x32_1_0_n_n_0_1_132 rfl rfl rfl rfl rfl _ (by rfl) p c
  · exact takeAt_row (n := 1000) (by omega) (V (Proc.devRef .tc main_arg15)) (V (Proc.devRef .tc main_arg2)) (fun q => (hV q).2.2.1) 999#32 1000#32 (by rfl) gather_S1000x32_S16384x1_S16384x32_1_0_n_n_0_1_132 rfl rfl rfl rfl rfl _ (by rfl) p c
  · exact takeAt_row (n := 1000000) (by omega) (V (Proc.devRef .tc main_arg16)) (V (Proc.devRef .tc main_arg3)) (fun q => (hV q).2.2.2.1) 999999#32 1000000#32 (by rfl) gather_S1000000x32_S16384x1_S16384x32_1_0_n_n_0_1_132 rfl rfl rfl rfl rfl _ (by rfl) p c
  · exact takeAt_row (n := 1000000) (by omega) (V (Proc.devRef .tc main_arg16)) (V (Proc.devRef .tc main_arg4)) (fun q => (hV q).2.2.2.2.1) 999999#32 1000000#32 (by rfl) gather_S1000000x32_S16384x1_S16384x32_1_0_n_n_0_1_132 rfl rfl rfl rfl rfl _ (by rfl) p c
  · exact takeAt_row (n := 1000000) (by omega) (V (Proc.devRef .tc main_arg16)) (V (Proc.devRef .tc main_arg5)) (fun q => (hV q).2.2.2.2.2.1) 999999#32 1000000#32 (by rfl) gather_S1000000x32_S16384x1_S16384x32_1_0_n_n_0_1_132 rfl rfl rfl rfl rfl _ (by rfl) p c
  · exact takeAt_row (n := 1000) (by omega) (V (Proc.devRef .tc main_arg15)) (V (Proc.devRef .tc main_arg6)) (fun q => (hV q).2.2.2.2.2.2.1) 999#32 1000#32 (by rfl) gather_S1000x32_S16384x1_S16384x32_1_0_n_n_0_1_132 rfl rfl rfl rfl rfl _ (by rfl) p c
  · exact takeAt_row (n := 1000) (by omega) (V (Proc.devRef .tc main_arg15)) (V (Proc.devRef .tc main_arg7)) (fun q => (hV q).2.2.2.2.2.2.2.1) 999#32 1000#32 (by rfl) gather_S1000x32_S16384x1_S16384x32_1_0_n_n_0_1_132 rfl rfl rfl rfl rfl _ (by rfl) p c
  · exact takeAt_row (n := 1000) (by omega) (V (Proc.devRef .tc main_arg15)) (V (Proc.devRef .tc main_arg8)) (fun q => (hV q).2.2.2.2.2.2.2.2) 999#32 1000#32 (by rfl) gather_S1000x32_S16384x1_S16384x32_1_0_n_n_0_1_132 rfl rfl rfl rfl rfl _ (by rfl) p c

/-- The rows the reference feeds its layers, at a row. -/
theorem host_rows (hV : Within (indices V)) (p : Fin 16384) (j : Fin 292) :
    (Cert.ReferenceIdeal.Value.res_main_v14 V : FVec Ideal S16384x292 .f32) (ix2 p j)
      = features (indices V) (V (Proc.devRef .tc main_arg13) : FVec Ideal S100000x32 .f32) (V (Proc.devRef .tc main_arg14) : FVec Ideal S1000000x32 .f32) (V (Proc.devRef .tc main_arg15) : FVec Ideal S1000x32 .f32) (V (Proc.devRef .tc main_arg16) : FVec Ideal S1000000x32 .f32) (numbers V) (ix2 p j) := by
  rw [v14_eq, beside_eq]
  exact parts_congr (x := takes V) (fun k c => takes_row V hV p k c) (fun c => rfl) j

end Cert.Proof.Gather
-- ==== Proof.Algebraic.lean ====
/- The value claim: over the ideal numbers the program and the reference end with the same result. -/
module

public import proofs.«01_k».proof.Proof.Value
public import proofs.«01_k».proof.Proof.Ref
public import proofs.«01_k».proof.Proof.Frames

@[expose] public section

noncomputable section

namespace Cert.Proof.Gather

open Idealize.ShloMosaic hiding ix1 ix2 ix3
open Idealize.ShloMosaic.StableHlo
open Idealize.SL.Sem
open Idealize.ShloMosaic.ValueIdx (ix1 ix2 ix3)

/-- Two results that agree at every row are equal. -/
theorem ext_rows {f g : FVec Ideal ⟨1, ![16384]⟩ .f32} (h : ∀ p, f (ix1 p) = g (ix1 p)) : f = g :=
  funext fun q => by rw [ValueIdx.eq_ix1 q]; exact h _

/-- Answers from the same arguments. -/
theorem answer_congr {x x' : Fin 9 → IVec ⟨1, ![16384]⟩ 32} {TU TU' : FVec Ideal ⟨2, ![100000, 32]⟩ .f32} {TI TI' : FVec Ideal ⟨2, ![1000000, 32]⟩ .f32} {TC TC' : FVec Ideal ⟨2, ![1000, 32]⟩ .f32}
    {TH TH' : FVec Ideal ⟨2, ![1000000, 32]⟩ .f32} {N N' : FVec Ideal ⟨2, ![16384, 4]⟩ .f32}
    {W₁ W₁' : FVec Ideal ⟨2, ![292, 512]⟩ .f32} {b₁ b₁' : FVec Ideal ⟨1, ![512]⟩ .f32} {W₂ W₂' : FVec Ideal ⟨2, ![512, 256]⟩ .f32} {b₂ b₂' : FVec Ideal ⟨1, ![256]⟩ .f32}
    {W₃ W₃' : FVec Ideal ⟨2, ![256, 128]⟩ .f32} {b₃ b₃' : FVec Ideal ⟨1, ![128]⟩ .f32} {W₄ W₄' : FVec Ideal ⟨2, ![128, 1]⟩ .f32} {b₄ b₄' : FVec Ideal ⟨1, ![1]⟩ .f32} {p : Fin 16384}
    (hx : x = x') (hU : TU = TU') (hI : TI = TI') (hC : TC = TC') (hH : TH = TH') (hN : N = N') (h₁ : W₁ = W₁') (g₁ : b₁ = b₁') (h₂ : W₂ = W₂') (g₂ : b₂ = b₂') (h₃ : W₃ = W₃') (g₃ : b₃ = b₃')
    (h₄ : W₄ = W₄') (g₄ : b₄ = b₄') : answer x TU TI TC TH N W₁ b₁ W₂ b₂ W₃ b₃ W₄ b₄ p = answer x' TU' TI' TC' TH' N' W₁' b₁' W₂' b₂' W₃' b₃' W₄' b₄' p := by
  subst hx hU hI hC hH hN h₁ g₁ h₂ g₂ h₃ g₃ h₄ g₄
  rfl

/-- Nine arrays of the same nine. -/
theorem nine_congr {α : Type} {x0 x1 x2 x3 x4 x5 x6 x7 x8 y0 y1 y2 y3 y4 y5 y6 y7 y8 : α} (h0 : x0 = y0) (h1 : x1 = y1) (h2 : x2 = y2) (h3 : x3 = y3) (h4 : x4 = y4) (h5 : x5 = y5) (h6 : x6 = y6)
    (h7 : x7 = y7) (h8 : x8 = y8) : (![x0, x1, x2, x3, x4, x5, x6, x7, x8] : Fin 9 → α) = ![y0, y1, y2, y3, y4, y5, y6, y7, y8] := by
  rw [h0, h1, h2, h3, h4, h5, h6, h7, h8]

section
open Cert.ReferenceIdeal Cert.ReferenceIdeal.Gen

/-- Number columns side by side, of the same columns. -/
theorem columns_congr {a a' b b' c c' e e' : FVec Ideal S16384 .f32} (ha : a = a') (hb : b = b') (hc : c = c') (he : e = e') :
    concatenate S16384x4 1 [⟨S16384x1, broadcastInDim S16384x1 ![0] bcast_S16384_S16384x1_0 a⟩, ⟨S16384x1, broadcastInDim S16384x1 ![0] bcast_S16384_S16384x1_0 b⟩,
        ⟨S16384x1, broadcastInDim S16384x1 ![0] bcast_S16384_S16384x1_0 c⟩, ⟨S16384x1, broadcastInDim S16384x1 ![0] bcast_S16384_S16384x1_0 e⟩] concatenates_S16384x1_S16384x1_S16384x1_S16384x1_S16384x4_d1
      = concatenate S16384x4 1 [⟨S16384x1, broadcastInDim S16384x1 ![0] bcast_S16384_S16384x1_0 a'⟩, ⟨S16384x1, broadcastInDim S16384x1 ![0] bcast_S16384_S16384x1_0 b'⟩,
        ⟨S16384x1, broadcastInDim S16384x1 ![0] bcast_S16384_S16384x1_0 c'⟩, ⟨S16384x1, broadcastInDim S16384x1 ![0] bcast_S16384_S16384x1_0 e'⟩] concatenates_S16384x1_S16384x1_S16384x1_S16384x1_S16384x4_d1 := by
  subst ha hb hc he
  rfl

end

/-- `Cert.algebraic_KernelIdeal_ReferenceIdeal`: the result is the program's own at its end, and the reference's. -/
theorem algebraic : Cert.algebraic_KernelIdeal_ReferenceIdeal := fun m g m' g' h hm => by
  refine ⟨fun c => atEnd m c (at' Cert.KernelIdeal.main_v26), ?_, ?_⟩
  · exact (θ_run Cert.KernelIdeal.defs _ _).mono (fun r hs c => ⟨hs.1 c (at' Cert.KernelIdeal.main_v26) (Pipeline.devRef_mem_ucRefs rfl), args_kept m hs c⟩) (run_main (F := Ideal) m g (fits_of_pre m h))
  · refine (θ_run Cert.ReferenceIdeal.defs _ _).mono (fun r hs c => ⟨(hs c).1.trans ?_, (hs c).2⟩) (Cert.ReferenceIdeal.Value.run (F := Ideal) m' g')
    obtain ⟨e0, e1, e2, e3, e4, e5, e6, e7, e8, e9, e10, e11, e12, e13, e14, e15, e16, e17, e18, e19, e20, e21, e22, e23, e24⟩ := hm c
    have hK : Within (asked m c) := fun i => below_of_pre (h c) i
    have hx : indices (launchContents m' c) = asked m c := nine_congr e0 e1 e2 e3 e4 e5 e6 e7 e8
    refine ext_rows fun p => ?_
    refine (host_score _ _ _ _ _ _ _ _ _ p).trans ((net_congr (fun j => host_rows (launchContents m' c) (hx ▸ hK) p j) (fun _ => rfl) (fun _ => rfl) (fun _ => rfl) (fun _ => rfl)).trans ?_)
    refine Eq.trans ?_ (end_row m c hK p).symm
    exact answer_congr hx e13 e14 e15 e16 ((columns_congr e9 e10 e11 e12).trans (numbers_eq m c).symm) e17 e18 e19 e20 e21 e22 e23 e24

end Cert.Proof.Gather
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Gather.frame_kernel, Gather.frame_kernelIdeal, Gather.frame_reference, trivial, Gather.algebraic⟩

end Cert.Proof

end
